-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelOutS (m : (ℓ : Loc Cert.KernelOutS.nD Cert.KernelOutS.τ Cert.KernelOutS.sig) → Buf (Elt Bits) ℓ) : Prop :=
  True

def Pre_KernelOutSIdeal (m : (ℓ : Loc Cert.KernelOutSIdeal.nD Cert.KernelOutSIdeal.τ Cert.KernelOutSIdeal.sig) → Buf (Elt Ideal) ℓ) : Prop :=
  True

def Pre_ReferenceOutSIdeal (m : (ℓ : Loc Cert.ReferenceOutSIdeal.nD Cert.ReferenceOutSIdeal.τ Cert.ReferenceOutSIdeal.sig) → Buf (Elt Ideal) ℓ) : Prop :=
  True

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_KernelStepIdeal_forget_open [hPre_forget_open : Cert.Pre_forget_open.Facts] (m : (ℓ : Loc Cert.KernelStepIdeal.nD Cert.KernelStepIdeal.τ Cert.KernelStepIdeal.sig) → Buf (Elt Ideal) ℓ) : Prop :=
  ∀ c : Dev Cert.KernelStepIdeal.nD,
    (Cert.Pre_forget_open.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3)) (m ((c.tc : Thread Cert.KernelStepIdeal.nD Cert.KernelStepIdeal.τ).loc Cert.KernelStepIdeal.main_arg4)) (m ((c.tc : Thread Cert.KernelStepIdeal.nD Cert.KernelStepIdeal.τ).loc Cert.KernelStepIdeal.main_arg5)) (m ((c.tc : Thread Cert.KernelStepIdeal.nD Cert.KernelStepIdeal.τ).loc Cert.KernelStepIdeal.main_arg6)) (m ((c.tc : Thread Cert.KernelStepIdeal.nD Cert.KernelStepIdeal.τ).loc Cert.KernelStepIdeal.main_arg7)) (m ((c.tc : Thread Cert.KernelStepIdeal.nD Cert.KernelStepIdeal.τ).loc Cert.KernelStepIdeal.main_arg8)) (m ((c.tc : Thread Cert.KernelStepIdeal.nD Cert.KernelStepIdeal.τ).loc Cert.KernelStepIdeal.main_arg9))) = (fun _ => 1#1)

def Pre_ReferenceStepIdeal (m : (ℓ : Loc Cert.ReferenceStepIdeal.nD Cert.ReferenceStepIdeal.τ Cert.ReferenceStepIdeal.sig) → Buf (Elt Ideal) ℓ) : Prop :=
  True

def Pre_ReferenceStepIdeal_forget_open [hPre_forget_open : Cert.Pre_forget_open.Facts] (m : (ℓ : Loc Cert.ReferenceStepIdeal.nD Cert.ReferenceStepIdeal.τ Cert.ReferenceStepIdeal.sig) → Buf (Elt Ideal) ℓ) : Prop :=
  ∀ c : Dev Cert.ReferenceStepIdeal.nD,
    (Cert.Pre_forget_open.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3)) (m ((c.tc : Thread Cert.ReferenceStepIdeal.nD Cert.ReferenceStepIdeal.τ).loc Cert.ReferenceStepIdeal.main_arg4)) (m ((c.tc : Thread Cert.ReferenceStepIdeal.nD Cert.ReferenceStepIdeal.τ).loc Cert.ReferenceStepIdeal.main_arg5)) (m ((c.tc : Thread Cert.ReferenceStepIdeal.nD Cert.ReferenceStepIdeal.τ).loc Cert.ReferenceStepIdeal.main_arg6)) (m ((c.tc : Thread Cert.ReferenceStepIdeal.nD Cert.ReferenceStepIdeal.τ).loc Cert.ReferenceStepIdeal.main_arg7)) (m ((c.tc : Thread Cert.ReferenceStepIdeal.nD Cert.ReferenceStepIdeal.τ).loc Cert.ReferenceStepIdeal.main_arg8)) (m ((c.tc : Thread Cert.ReferenceStepIdeal.nD Cert.ReferenceStepIdeal.τ).loc Cert.ReferenceStepIdeal.main_arg9))) = (fun _ => 1#1)

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_KernelMemIdeal_gates_finite [hPre_gates_finite : Cert.Pre_gates_finite.Facts] (m : (ℓ : Loc Cert.KernelMemIdeal.nD Cert.KernelMemIdeal.τ Cert.KernelMemIdeal.sig) → Buf (Elt Ideal) ℓ) : Prop :=
  ∀ c : Dev Cert.KernelMemIdeal.nD,
    (Cert.Pre_gates_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3))) = (fun _ => 1#1)

def Pre_ReferenceMemIdeal (m : (ℓ : Loc Cert.ReferenceMemIdeal.nD Cert.ReferenceMemIdeal.τ Cert.ReferenceMemIdeal.sig) → Buf (Elt Ideal) ℓ) : Prop :=
  True

def Pre_ReferenceMemIdeal_gates_finite [hPre_gates_finite : Cert.Pre_gates_finite.Facts] (m : (ℓ : Loc Cert.ReferenceMemIdeal.nD Cert.ReferenceMemIdeal.τ Cert.ReferenceMemIdeal.sig) → Buf (Elt Ideal) ℓ) : Prop :=
  ∀ c : Dev Cert.ReferenceMemIdeal.nD,
    (Cert.Pre_gates_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelOutS [hKernelOutS : Cert.KernelOutS.Facts] : Prop :=
  ∀ (m : (ℓ : Loc Cert.KernelOutS.nD Cert.KernelOutS.τ Cert.KernelOutS.sig) → Buf (Elt Bits) ℓ) (g : Dev Cert.KernelOutS.nD → PrngReg), Pre_KernelOutS m →
    θ_run (Cert.KernelOutS.defs (F := Bits)) (onTc (τ := Cert.KernelOutS.τ) (Cert.KernelOutS.main (F := Bits))) ⟨m, fun _ => 0, g⟩ (fun r => (∀ c : Dev Cert.KernelOutS.nD,
      r.2.mem ((c.tc : Thread Cert.KernelOutS.nD Cert.KernelOutS.τ).loc Cert.KernelOutS.main_arg0) = m ((c.tc : Thread Cert.KernelOutS.nD Cert.KernelOutS.τ).loc Cert.KernelOutS.main_arg0)
      ∧ r.2.mem ((c.tc : Thread Cert.KernelOutS.nD Cert.KernelOutS.τ).loc Cert.KernelOutS.main_arg1) = m ((c.tc : Thread Cert.KernelOutS.nD Cert.KernelOutS.τ).loc Cert.KernelOutS.main_arg1)
      ∧ r.2.mem ((c.tc : Thread Cert.KernelOutS.nD Cert.KernelOutS.τ).loc Cert.KernelOutS.main_arg2) = m ((c.tc : Thread Cert.KernelOutS.nD Cert.KernelOutS.τ).loc Cert.KernelOutS.main_arg2)
      ∧ r.2.mem ((c.tc : Thread Cert.KernelOutS.nD Cert.KernelOutS.τ).loc Cert.KernelOutS.main_arg3) = m ((c.tc : Thread Cert.KernelOutS.nD Cert.KernelOutS.τ).loc Cert.KernelOutS.main_arg3)
      ∧ r.2.mem ((c.tc : Thread Cert.KernelOutS.nD Cert.KernelOutS.τ).loc Cert.KernelOutS.main_arg4) = m ((c.tc : Thread Cert.KernelOutS.nD Cert.KernelOutS.τ).loc Cert.KernelOutS.main_arg4))
      ∧ r.2.sem = fun _ => 0)

def quiescent_KernelOutSIdeal [hKernelOutSIdeal : Cert.KernelOutSIdeal.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg), Pre_KernelOutSIdeal m →
    θ_run (Cert.KernelOutSIdeal.defs (F := Ideal)) (onTc (τ := Cert.KernelOutSIdeal.τ) (Cert.KernelOutSIdeal.main (F := Ideal))) ⟨m, fun _ => 0, g⟩ (fun r => (∀ c : Dev Cert.KernelOutSIdeal.nD,
      r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
      ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
      ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
      ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
      ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4))
      ∧ r.2.sem = fun _ => 0)

def quiescent_ReferenceOutSIdeal [hReferenceOutSIdeal : Cert.ReferenceOutSIdeal.Facts] : Prop :=
  ∀ (m : (ℓ : Loc Cert.ReferenceOutSIdeal.nD Cert.ReferenceOutSIdeal.τ Cert.ReferenceOutSIdeal.sig) → Buf (Elt Ideal) ℓ) (g : Dev Cert.ReferenceOutSIdeal.nD → PrngReg), Pre_ReferenceOutSIdeal m →
    θ_run (Cert.ReferenceOutSIdeal.defs (F := Ideal)) (onTc (τ := Cert.ReferenceOutSIdeal.τ) (Cert.ReferenceOutSIdeal.main (F := Ideal))) ⟨m, fun _ => 0, g⟩ (fun r => (∀ c : Dev Cert.ReferenceOutSIdeal.nD,
      r.2.mem ((c.tc : Thread Cert.ReferenceOutSIdeal.nD Cert.ReferenceOutSIdeal.τ).loc Cert.ReferenceOutSIdeal.main_arg0) = m ((c.tc : Thread Cert.ReferenceOutSIdeal.nD Cert.ReferenceOutSIdeal.τ).loc Cert.ReferenceOutSIdeal.main_arg0)
      ∧ r.2.mem ((c.tc : Thread Cert.ReferenceOutSIdeal.nD Cert.ReferenceOutSIdeal.τ).loc Cert.ReferenceOutSIdeal.main_arg1) = m ((c.tc : Thread Cert.ReferenceOutSIdeal.nD Cert.ReferenceOutSIdeal.τ).loc Cert.ReferenceOutSIdeal.main_arg1)
      ∧ r.2.mem ((c.tc : Thread Cert.ReferenceOutSIdeal.nD Cert.ReferenceOutSIdeal.τ).loc Cert.ReferenceOutSIdeal.main_arg2) = m ((c.tc : Thread Cert.ReferenceOutSIdeal.nD Cert.ReferenceOutSIdeal.τ).loc Cert.ReferenceOutSIdeal.main_arg2)
      ∧ r.2.mem ((c.tc : Thread Cert.ReferenceOutSIdeal.nD Cert.ReferenceOutSIdeal.τ).loc Cert.ReferenceOutSIdeal.main_arg3) = m ((c.tc : Thread Cert.ReferenceOutSIdeal.nD Cert.ReferenceOutSIdeal.τ).loc Cert.ReferenceOutSIdeal.main_arg3)
      ∧ r.2.mem ((c.tc : Thread Cert.ReferenceOutSIdeal.nD Cert.ReferenceOutSIdeal.τ).loc Cert.ReferenceOutSIdeal.main_arg4) = m ((c.tc : Thread Cert.ReferenceOutSIdeal.nD Cert.ReferenceOutSIdeal.τ).loc Cert.ReferenceOutSIdeal.main_arg4))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1)
      ∧ r.2.mem ((c.tc : Thread Cert.KernelStep.nD Cert.KernelStep.τ).loc Cert.KernelStep.main_arg2) = m ((c.tc : Thread Cert.KernelStep.nD Cert.KernelStep.τ).loc Cert.KernelStep.main_arg2)
      ∧ r.2.mem ((c.tc : Thread Cert.KernelStep.nD Cert.KernelStep.τ).loc Cert.KernelStep.main_arg3) = m ((c.tc : Thread Cert.KernelStep.nD Cert.KernelStep.τ).loc Cert.KernelStep.main_arg3)
      ∧ r.2.mem ((c.tc : Thread Cert.KernelStep.nD Cert.KernelStep.τ).loc Cert.KernelStep.main_arg4) = m ((c.tc : Thread Cert.KernelStep.nD Cert.KernelStep.τ).loc Cert.KernelStep.main_arg4)
      ∧ r.2.mem ((c.tc : Thread Cert.KernelStep.nD Cert.KernelStep.τ).loc Cert.KernelStep.main_arg5) = m ((c.tc : Thread Cert.KernelStep.nD Cert.KernelStep.τ).loc Cert.KernelStep.main_arg5)
      ∧ r.2.mem ((c.tc : Thread Cert.KernelStep.nD Cert.KernelStep.τ).loc Cert.KernelStep.main_arg6) = m ((c.tc : Thread Cert.KernelStep.nD Cert.KernelStep.τ).loc Cert.KernelStep.main_arg6)
      ∧ r.2.mem ((c.tc : Thread Cert.KernelStep.nD Cert.KernelStep.τ).loc Cert.KernelStep.main_arg7) = m ((c.tc : Thread Cert.KernelStep.nD Cert.KernelStep.τ).loc Cert.KernelStep.main_arg7)
      ∧ r.2.mem ((c.tc : Thread Cert.KernelStep.nD Cert.KernelStep.τ).loc Cert.KernelStep.main_arg8) = m ((c.tc : Thread Cert.KernelStep.nD Cert.KernelStep.τ).loc Cert.KernelStep.main_arg8)
      ∧ r.2.mem ((c.tc : Thread Cert.KernelStep.nD Cert.KernelStep.τ).loc Cert.KernelStep.main_arg9) = m ((c.tc : Thread Cert.KernelStep.nD Cert.KernelStep.τ).loc Cert.KernelStep.main_arg9))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
      ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
      ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
      ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
      ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
      ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8)
      ∧ r.2.mem ((c.tc : Thread Cert.KernelStepIdeal.nD Cert.KernelStepIdeal.τ).loc Cert.KernelStepIdeal.main_arg9) = m ((c.tc : Thread Cert.KernelStepIdeal.nD Cert.KernelStepIdeal.τ).loc Cert.KernelStepIdeal.main_arg9))
      ∧ r.2.sem = fun _ => 0)

def quiescent_KernelStepIdeal_pre_forget_open [hKernelStepIdeal : Cert.KernelStepIdeal.Facts] [hPre_forget_open : Cert.Pre_forget_open.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal_forget_open m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
      ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
      ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
      ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
      ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
      ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8)
      ∧ r.2.mem ((c.tc : Thread Cert.KernelStepIdeal.nD Cert.KernelStepIdeal.τ).loc Cert.KernelStepIdeal.main_arg9) = m ((c.tc : Thread Cert.KernelStepIdeal.nD Cert.KernelStepIdeal.τ).loc Cert.KernelStepIdeal.main_arg9))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3)
      ∧ r.2.mem ((c.tc : Thread Cert.ReferenceStepIdeal.nD Cert.ReferenceStepIdeal.τ).loc Cert.ReferenceStepIdeal.main_arg4) = m ((c.tc : Thread Cert.ReferenceStepIdeal.nD Cert.ReferenceStepIdeal.τ).loc Cert.ReferenceStepIdeal.main_arg4)
      ∧ r.2.mem ((c.tc : Thread Cert.ReferenceStepIdeal.nD Cert.ReferenceStepIdeal.τ).loc Cert.ReferenceStepIdeal.main_arg5) = m ((c.tc : Thread Cert.ReferenceStepIdeal.nD Cert.ReferenceStepIdeal.τ).loc Cert.ReferenceStepIdeal.main_arg5)
      ∧ r.2.mem ((c.tc : Thread Cert.ReferenceStepIdeal.nD Cert.ReferenceStepIdeal.τ).loc Cert.ReferenceStepIdeal.main_arg6) = m ((c.tc : Thread Cert.ReferenceStepIdeal.nD Cert.ReferenceStepIdeal.τ).loc Cert.ReferenceStepIdeal.main_arg6)
      ∧ r.2.mem ((c.tc : Thread Cert.ReferenceStepIdeal.nD Cert.ReferenceStepIdeal.τ).loc Cert.ReferenceStepIdeal.main_arg7) = m ((c.tc : Thread Cert.ReferenceStepIdeal.nD Cert.ReferenceStepIdeal.τ).loc Cert.ReferenceStepIdeal.main_arg7)
      ∧ r.2.mem ((c.tc : Thread Cert.ReferenceStepIdeal.nD Cert.ReferenceStepIdeal.τ).loc Cert.ReferenceStepIdeal.main_arg8) = m ((c.tc : Thread Cert.ReferenceStepIdeal.nD Cert.ReferenceStepIdeal.τ).loc Cert.ReferenceStepIdeal.main_arg8)
      ∧ r.2.mem ((c.tc : Thread Cert.ReferenceStepIdeal.nD Cert.ReferenceStepIdeal.τ).loc Cert.ReferenceStepIdeal.main_arg9) = m ((c.tc : Thread Cert.ReferenceStepIdeal.nD Cert.ReferenceStepIdeal.τ).loc Cert.ReferenceStepIdeal.main_arg9))
      ∧ r.2.sem = fun _ => 0)

def quiescent_ReferenceStepIdeal_pre_forget_open [hReferenceStepIdeal : Cert.ReferenceStepIdeal.Facts] [hPre_forget_open : Cert.Pre_forget_open.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal_forget_open m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3)
      ∧ r.2.mem ((c.tc : Thread Cert.ReferenceStepIdeal.nD Cert.ReferenceStepIdeal.τ).loc Cert.ReferenceStepIdeal.main_arg4) = m ((c.tc : Thread Cert.ReferenceStepIdeal.nD Cert.ReferenceStepIdeal.τ).loc Cert.ReferenceStepIdeal.main_arg4)
      ∧ r.2.mem ((c.tc : Thread Cert.ReferenceStepIdeal.nD Cert.ReferenceStepIdeal.τ).loc Cert.ReferenceStepIdeal.main_arg5) = m ((c.tc : Thread Cert.ReferenceStepIdeal.nD Cert.ReferenceStepIdeal.τ).loc Cert.ReferenceStepIdeal.main_arg5)
      ∧ r.2.mem ((c.tc : Thread Cert.ReferenceStepIdeal.nD Cert.ReferenceStepIdeal.τ).loc Cert.ReferenceStepIdeal.main_arg6) = m ((c.tc : Thread Cert.ReferenceStepIdeal.nD Cert.ReferenceStepIdeal.τ).loc Cert.ReferenceStepIdeal.main_arg6)
      ∧ r.2.mem ((c.tc : Thread Cert.ReferenceStepIdeal.nD Cert.ReferenceStepIdeal.τ).loc Cert.ReferenceStepIdeal.main_arg7) = m ((c.tc : Thread Cert.ReferenceStepIdeal.nD Cert.ReferenceStepIdeal.τ).loc Cert.ReferenceStepIdeal.main_arg7)
      ∧ r.2.mem ((c.tc : Thread Cert.ReferenceStepIdeal.nD Cert.ReferenceStepIdeal.τ).loc Cert.ReferenceStepIdeal.main_arg8) = m ((c.tc : Thread Cert.ReferenceStepIdeal.nD Cert.ReferenceStepIdeal.τ).loc Cert.ReferenceStepIdeal.main_arg8)
      ∧ r.2.mem ((c.tc : Thread Cert.ReferenceStepIdeal.nD Cert.ReferenceStepIdeal.τ).loc Cert.ReferenceStepIdeal.main_arg9) = m ((c.tc : Thread Cert.ReferenceStepIdeal.nD Cert.ReferenceStepIdeal.τ).loc Cert.ReferenceStepIdeal.main_arg9))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2)
      ∧ r.2.mem ((c.tc : Thread Cert.KernelGates.nD Cert.KernelGates.τ).loc Cert.KernelGates.main_arg3) = m ((c.tc : Thread Cert.KernelGates.nD Cert.KernelGates.τ).loc Cert.KernelGates.main_arg3))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
      ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2)
      ∧ r.2.mem ((c.tc : Thread Cert.ReferenceGatesIdeal.nD Cert.ReferenceGatesIdeal.τ).loc Cert.ReferenceGatesIdeal.main_arg3) = m ((c.tc : Thread Cert.ReferenceGatesIdeal.nD Cert.ReferenceGatesIdeal.τ).loc Cert.ReferenceGatesIdeal.main_arg3))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_KernelMemIdeal_pre_gates_finite [hKernelMemIdeal : Cert.KernelMemIdeal.Facts] [hPre_gates_finite : Cert.Pre_gates_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal_gates_finite m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def quiescent_ReferenceMemIdeal_pre_gates_finite [hReferenceMemIdeal : Cert.ReferenceMemIdeal.Facts] [hPre_gates_finite : Cert.Pre_gates_finite.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal_gates_finite m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v17_0)) (v1 : (c : Dev Cert.KernelInIdeal.nD) → Buf (Elt Ideal) ((c.tc : Thread Cert.KernelInIdeal.nD Cert.KernelInIdeal.τ).loc Cert.KernelInIdeal.main_v17_1)) (v2 : (c : Dev Cert.KernelInIdeal.nD) → Buf (Elt Ideal) ((c.tc : Thread Cert.KernelInIdeal.nD Cert.KernelInIdeal.τ).loc Cert.KernelInIdeal.main_v17_2)) (v3 : (c : Dev Cert.KernelInIdeal.nD) → Buf (Elt Ideal) ((c.tc : Thread Cert.KernelInIdeal.nD Cert.KernelInIdeal.τ).loc Cert.KernelInIdeal.main_v17_3)) (v4 : (c : Dev Cert.KernelInIdeal.nD) → Buf (Elt Ideal) ((c.tc : Thread Cert.KernelInIdeal.nD Cert.KernelInIdeal.τ).loc Cert.KernelInIdeal.main_v17_4)) (v5 : (c : Dev Cert.KernelInIdeal.nD) → Buf (Elt Ideal) ((c.tc : Thread Cert.KernelInIdeal.nD Cert.KernelInIdeal.τ).loc Cert.KernelInIdeal.main_v17_5)) (v6 : (c : Dev Cert.KernelInIdeal.nD) → Buf (Elt Ideal) ((c.tc : Thread Cert.KernelInIdeal.nD Cert.KernelInIdeal.τ).loc Cert.KernelInIdeal.main_v17_6)) (v7 : (c : Dev Cert.KernelInIdeal.nD) → Buf (Elt Ideal) ((c.tc : Thread Cert.KernelInIdeal.nD Cert.KernelInIdeal.τ).loc Cert.KernelInIdeal.main_v17_7)) (v8 : (c : Dev Cert.KernelInIdeal.nD) → Buf (Elt Ideal) ((c.tc : Thread Cert.KernelInIdeal.nD Cert.KernelInIdeal.τ).loc Cert.KernelInIdeal.main_v17_8)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v17_0) = v0 c
          ∧ r.2.mem ((c.tc : Thread Cert.KernelInIdeal.nD Cert.KernelInIdeal.τ).loc Cert.KernelInIdeal.main_v17_1) = v1 c
          ∧ r.2.mem ((c.tc : Thread Cert.KernelInIdeal.nD Cert.KernelInIdeal.τ).loc Cert.KernelInIdeal.main_v17_2) = v2 c
          ∧ r.2.mem ((c.tc : Thread Cert.KernelInIdeal.nD Cert.KernelInIdeal.τ).loc Cert.KernelInIdeal.main_v17_3) = v3 c
          ∧ r.2.mem ((c.tc : Thread Cert.KernelInIdeal.nD Cert.KernelInIdeal.τ).loc Cert.KernelInIdeal.main_v17_4) = v4 c
          ∧ r.2.mem ((c.tc : Thread Cert.KernelInIdeal.nD Cert.KernelInIdeal.τ).loc Cert.KernelInIdeal.main_v17_5) = v5 c
          ∧ r.2.mem ((c.tc : Thread Cert.KernelInIdeal.nD Cert.KernelInIdeal.τ).loc Cert.KernelInIdeal.main_v17_6) = v6 c
          ∧ r.2.mem ((c.tc : Thread Cert.KernelInIdeal.nD Cert.KernelInIdeal.τ).loc Cert.KernelInIdeal.main_v17_7) = v7 c
          ∧ r.2.mem ((c.tc : Thread Cert.KernelInIdeal.nD Cert.KernelInIdeal.τ).loc Cert.KernelInIdeal.main_v17_8) = v8 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v34) = v0 c
          ∧ r.2.mem ((c.tc : Thread Cert.ReferenceInIdeal.nD Cert.ReferenceInIdeal.τ).loc Cert.ReferenceInIdeal.main_v35) = v1 c
          ∧ r.2.mem ((c.tc : Thread Cert.ReferenceInIdeal.nD Cert.ReferenceInIdeal.τ).loc Cert.ReferenceInIdeal.main_v36) = v2 c
          ∧ r.2.mem ((c.tc : Thread Cert.ReferenceInIdeal.nD Cert.ReferenceInIdeal.τ).loc Cert.ReferenceInIdeal.main_v37) = v3 c
          ∧ r.2.mem ((c.tc : Thread Cert.ReferenceInIdeal.nD Cert.ReferenceInIdeal.τ).loc Cert.ReferenceInIdeal.main_v38) = v4 c
          ∧ r.2.mem ((c.tc : Thread Cert.ReferenceInIdeal.nD Cert.ReferenceInIdeal.τ).loc Cert.ReferenceInIdeal.main_v16) = v5 c
          ∧ r.2.mem ((c.tc : Thread Cert.ReferenceInIdeal.nD Cert.ReferenceInIdeal.τ).loc Cert.ReferenceInIdeal.main_v15) = v6 c
          ∧ r.2.mem ((c.tc : Thread Cert.ReferenceInIdeal.nD Cert.ReferenceInIdeal.τ).loc Cert.ReferenceInIdeal.main_v39) = v7 c
          ∧ r.2.mem ((c.tc : Thread Cert.ReferenceInIdeal.nD Cert.ReferenceInIdeal.τ).loc Cert.ReferenceInIdeal.main_v32) = v8 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelOutS_KernelOutSIdeal : Prop :=
  True

def algebraic_KernelOutSIdeal_ReferenceOutSIdeal [hKernelOutSIdeal : Cert.KernelOutSIdeal.Facts] [hReferenceOutSIdeal : Cert.ReferenceOutSIdeal.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg)
    (m' : (ℓ : Loc Cert.ReferenceOutSIdeal.nD Cert.ReferenceOutSIdeal.τ Cert.ReferenceOutSIdeal.sig) → Buf (Elt Ideal) ℓ) (g' : Dev Cert.ReferenceOutSIdeal.nD → PrngReg), Pre_KernelOutSIdeal m →
    (∀ c : Dev Cert.KernelOutSIdeal.nD,
      m' ((c.tc : Thread Cert.ReferenceOutSIdeal.nD Cert.ReferenceOutSIdeal.τ).loc Cert.ReferenceOutSIdeal.main_arg0) = m ((c.tc : Thread Cert.KernelOutSIdeal.nD Cert.KernelOutSIdeal.τ).loc Cert.KernelOutSIdeal.main_arg0)
      ∧ m' ((c.tc : Thread Cert.ReferenceOutSIdeal.nD Cert.ReferenceOutSIdeal.τ).loc Cert.ReferenceOutSIdeal.main_arg1) = m ((c.tc : Thread Cert.KernelOutSIdeal.nD Cert.KernelOutSIdeal.τ).loc Cert.KernelOutSIdeal.main_arg1)
      ∧ m' ((c.tc : Thread Cert.ReferenceOutSIdeal.nD Cert.ReferenceOutSIdeal.τ).loc Cert.ReferenceOutSIdeal.main_arg2) = m ((c.tc : Thread Cert.KernelOutSIdeal.nD Cert.KernelOutSIdeal.τ).loc Cert.KernelOutSIdeal.main_arg2)
      ∧ m' ((c.tc : Thread Cert.ReferenceOutSIdeal.nD Cert.ReferenceOutSIdeal.τ).loc Cert.ReferenceOutSIdeal.main_arg3) = m ((c.tc : Thread Cert.KernelOutSIdeal.nD Cert.KernelOutSIdeal.τ).loc Cert.KernelOutSIdeal.main_arg3)
      ∧ m' ((c.tc : Thread Cert.ReferenceOutSIdeal.nD Cert.ReferenceOutSIdeal.τ).loc Cert.ReferenceOutSIdeal.main_arg4) = m ((c.tc : Thread Cert.KernelOutSIdeal.nD Cert.KernelOutSIdeal.τ).loc Cert.KernelOutSIdeal.main_arg4)) →
    ∃ (v0 : (c : Dev Cert.KernelOutSIdeal.nD) → Buf (Elt Ideal) ((c.tc : Thread Cert.KernelOutSIdeal.nD Cert.KernelOutSIdeal.τ).loc Cert.KernelOutSIdeal.main_v4)),
      θ_run (Cert.KernelOutSIdeal.defs (F := Ideal)) (onTc (τ := Cert.KernelOutSIdeal.τ) (Cert.KernelOutSIdeal.main (F := Ideal))) ⟨m, fun _ => 0, g⟩ (fun r => ∀ c : Dev Cert.KernelOutSIdeal.nD,
          r.2.mem ((c.tc : Thread Cert.KernelOutSIdeal.nD Cert.KernelOutSIdeal.τ).loc Cert.KernelOutSIdeal.main_v4) = v0 c
          ∧ r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
          ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
          ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
          ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
          ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4))
      ∧ θ_run (Cert.ReferenceOutSIdeal.defs (F := Ideal)) (onTc (τ := Cert.ReferenceOutSIdeal.τ) (Cert.ReferenceOutSIdeal.main (F := Ideal))) ⟨m', fun _ => 0, g'⟩ (fun r => ∀ c : Dev Cert.ReferenceOutSIdeal.nD,
          r.2.mem ((c.tc : Thread Cert.ReferenceOutSIdeal.nD Cert.ReferenceOutSIdeal.τ).loc Cert.ReferenceOutSIdeal.main_v15) = v0 c
          ∧ r.2.mem ((c.tc : Thread Cert.ReferenceOutSIdeal.nD Cert.ReferenceOutSIdeal.τ).loc Cert.ReferenceOutSIdeal.main_arg0) = m' ((c.tc : Thread Cert.ReferenceOutSIdeal.nD Cert.ReferenceOutSIdeal.τ).loc Cert.ReferenceOutSIdeal.main_arg0)
          ∧ r.2.mem ((c.tc : Thread Cert.ReferenceOutSIdeal.nD Cert.ReferenceOutSIdeal.τ).loc Cert.ReferenceOutSIdeal.main_arg1) = m' ((c.tc : Thread Cert.ReferenceOutSIdeal.nD Cert.ReferenceOutSIdeal.τ).loc Cert.ReferenceOutSIdeal.main_arg1)
          ∧ r.2.mem ((c.tc : Thread Cert.ReferenceOutSIdeal.nD Cert.ReferenceOutSIdeal.τ).loc Cert.ReferenceOutSIdeal.main_arg2) = m' ((c.tc : Thread Cert.ReferenceOutSIdeal.nD Cert.ReferenceOutSIdeal.τ).loc Cert.ReferenceOutSIdeal.main_arg2)
          ∧ r.2.mem ((c.tc : Thread Cert.ReferenceOutSIdeal.nD Cert.ReferenceOutSIdeal.τ).loc Cert.ReferenceOutSIdeal.main_arg3) = m' ((c.tc : Thread Cert.ReferenceOutSIdeal.nD Cert.ReferenceOutSIdeal.τ).loc Cert.ReferenceOutSIdeal.main_arg3)
          ∧ r.2.mem ((c.tc : Thread Cert.ReferenceOutSIdeal.nD Cert.ReferenceOutSIdeal.τ).loc Cert.ReferenceOutSIdeal.main_arg4) = m' ((c.tc : Thread Cert.ReferenceOutSIdeal.nD Cert.ReferenceOutSIdeal.τ).loc Cert.ReferenceOutSIdeal.main_arg4))

def preserves_KernelStep_KernelStepIdeal : Prop :=
  True

def algebraic_KernelStepIdeal_ReferenceStepIdeal_pre_forget_open [hKernelStepIdeal : Cert.KernelStepIdeal.Facts] [hReferenceStepIdeal : Cert.ReferenceStepIdeal.Facts] [hPre_forget_open : Cert.Pre_forget_open.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal_forget_open m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)
      ∧ m' ((c.tc : Thread Cert.ReferenceStepIdeal.nD Cert.ReferenceStepIdeal.τ).loc Cert.ReferenceStepIdeal.main_arg2) = m ((c.tc : Thread Cert.KernelStepIdeal.nD Cert.KernelStepIdeal.τ).loc Cert.KernelStepIdeal.main_arg2)
      ∧ m' ((c.tc : Thread Cert.ReferenceStepIdeal.nD Cert.ReferenceStepIdeal.τ).loc Cert.ReferenceStepIdeal.main_arg3) = m ((c.tc : Thread Cert.KernelStepIdeal.nD Cert.KernelStepIdeal.τ).loc Cert.KernelStepIdeal.main_arg3)
      ∧ m' ((c.tc : Thread Cert.ReferenceStepIdeal.nD Cert.ReferenceStepIdeal.τ).loc Cert.ReferenceStepIdeal.main_arg4) = m ((c.tc : Thread Cert.KernelStepIdeal.nD Cert.KernelStepIdeal.τ).loc Cert.KernelStepIdeal.main_arg4)
      ∧ m' ((c.tc : Thread Cert.ReferenceStepIdeal.nD Cert.ReferenceStepIdeal.τ).loc Cert.ReferenceStepIdeal.main_arg5) = m ((c.tc : Thread Cert.KernelStepIdeal.nD Cert.KernelStepIdeal.τ).loc Cert.KernelStepIdeal.main_arg5)
      ∧ m' ((c.tc : Thread Cert.ReferenceStepIdeal.nD Cert.ReferenceStepIdeal.τ).loc Cert.ReferenceStepIdeal.main_arg6) = m ((c.tc : Thread Cert.KernelStepIdeal.nD Cert.KernelStepIdeal.τ).loc Cert.KernelStepIdeal.main_arg6)
      ∧ m' ((c.tc : Thread Cert.ReferenceStepIdeal.nD Cert.ReferenceStepIdeal.τ).loc Cert.ReferenceStepIdeal.main_arg7) = m ((c.tc : Thread Cert.KernelStepIdeal.nD Cert.KernelStepIdeal.τ).loc Cert.KernelStepIdeal.main_arg7)
      ∧ m' ((c.tc : Thread Cert.ReferenceStepIdeal.nD Cert.ReferenceStepIdeal.τ).loc Cert.ReferenceStepIdeal.main_arg8) = m ((c.tc : Thread Cert.KernelStepIdeal.nD Cert.KernelStepIdeal.τ).loc Cert.KernelStepIdeal.main_arg8)
      ∧ m' ((c.tc : Thread Cert.ReferenceStepIdeal.nD Cert.ReferenceStepIdeal.τ).loc Cert.ReferenceStepIdeal.main_arg9) = m ((c.tc : Thread Cert.KernelStepIdeal.nD Cert.KernelStepIdeal.τ).loc Cert.KernelStepIdeal.main_arg9)) →
    ∃ (v0 : (c : Dev Cert.KernelStepIdeal.nD) → Buf (Elt Ideal) ((c.tc : Thread Cert.KernelStepIdeal.nD Cert.KernelStepIdeal.τ).loc Cert.KernelStepIdeal.main_v4_0)) (v1 : (c : Dev Cert.KernelStepIdeal.nD) → Buf (Elt Ideal) ((c.tc : Thread Cert.KernelStepIdeal.nD Cert.KernelStepIdeal.τ).loc Cert.KernelStepIdeal.main_v4_1)) (v2 : (c : Dev Cert.KernelStepIdeal.nD) → Buf (Elt Ideal) ((c.tc : Thread Cert.KernelStepIdeal.nD Cert.KernelStepIdeal.τ).loc Cert.KernelStepIdeal.main_v4_2)) (v3 : (c : Dev Cert.KernelStepIdeal.nD) → Buf (Elt Ideal) ((c.tc : Thread Cert.KernelStepIdeal.nD Cert.KernelStepIdeal.τ).loc Cert.KernelStepIdeal.main_v4_3)) (v4 : (c : Dev Cert.KernelStepIdeal.nD) → Buf (Elt Ideal) ((c.tc : Thread Cert.KernelStepIdeal.nD Cert.KernelStepIdeal.τ).loc Cert.KernelStepIdeal.main_v4_4)) (v5 : (c : Dev Cert.KernelStepIdeal.nD) → Buf (Elt Ideal) ((c.tc : Thread Cert.KernelStepIdeal.nD Cert.KernelStepIdeal.τ).loc Cert.KernelStepIdeal.main_v4_5)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v4_0) = v0 c
          ∧ r.2.mem ((c.tc : Thread Cert.KernelStepIdeal.nD Cert.KernelStepIdeal.τ).loc Cert.KernelStepIdeal.main_v4_1) = v1 c
          ∧ r.2.mem ((c.tc : Thread Cert.KernelStepIdeal.nD Cert.KernelStepIdeal.τ).loc Cert.KernelStepIdeal.main_v4_2) = v2 c
          ∧ r.2.mem ((c.tc : Thread Cert.KernelStepIdeal.nD Cert.KernelStepIdeal.τ).loc Cert.KernelStepIdeal.main_v4_3) = v3 c
          ∧ r.2.mem ((c.tc : Thread Cert.KernelStepIdeal.nD Cert.KernelStepIdeal.τ).loc Cert.KernelStepIdeal.main_v4_4) = v4 c
          ∧ r.2.mem ((c.tc : Thread Cert.KernelStepIdeal.nD Cert.KernelStepIdeal.τ).loc Cert.KernelStepIdeal.main_v4_5) = v5 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
          ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
          ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3)
          ∧ r.2.mem ((c.tc : Thread Cert.KernelStepIdeal.nD Cert.KernelStepIdeal.τ).loc Cert.KernelStepIdeal.main_arg4) = m ((c.tc : Thread Cert.KernelStepIdeal.nD Cert.KernelStepIdeal.τ).loc Cert.KernelStepIdeal.main_arg4)
          ∧ r.2.mem ((c.tc : Thread Cert.KernelStepIdeal.nD Cert.KernelStepIdeal.τ).loc Cert.KernelStepIdeal.main_arg5) = m ((c.tc : Thread Cert.KernelStepIdeal.nD Cert.KernelStepIdeal.τ).loc Cert.KernelStepIdeal.main_arg5)
          ∧ r.2.mem ((c.tc : Thread Cert.KernelStepIdeal.nD Cert.KernelStepIdeal.τ).loc Cert.KernelStepIdeal.main_arg6) = m ((c.tc : Thread Cert.KernelStepIdeal.nD Cert.KernelStepIdeal.τ).loc Cert.KernelStepIdeal.main_arg6)
          ∧ r.2.mem ((c.tc : Thread Cert.KernelStepIdeal.nD Cert.KernelStepIdeal.τ).loc Cert.KernelStepIdeal.main_arg7) = m ((c.tc : Thread Cert.KernelStepIdeal.nD Cert.KernelStepIdeal.τ).loc Cert.KernelStepIdeal.main_arg7)
          ∧ r.2.mem ((c.tc : Thread Cert.KernelStepIdeal.nD Cert.KernelStepIdeal.τ).loc Cert.KernelStepIdeal.main_arg8) = m ((c.tc : Thread Cert.KernelStepIdeal.nD Cert.KernelStepIdeal.τ).loc Cert.KernelStepIdeal.main_arg8)
          ∧ r.2.mem ((c.tc : Thread Cert.KernelStepIdeal.nD Cert.KernelStepIdeal.τ).loc Cert.KernelStepIdeal.main_arg9) = m ((c.tc : Thread Cert.KernelStepIdeal.nD Cert.KernelStepIdeal.τ).loc Cert.KernelStepIdeal.main_arg9))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v84) = v0 c
          ∧ r.2.mem ((c.tc : Thread Cert.ReferenceStepIdeal.nD Cert.ReferenceStepIdeal.τ).loc Cert.ReferenceStepIdeal.main_v89) = v1 c
          ∧ r.2.mem ((c.tc : Thread Cert.ReferenceStepIdeal.nD Cert.ReferenceStepIdeal.τ).loc Cert.ReferenceStepIdeal.main_v67) = v2 c
          ∧ r.2.mem ((c.tc : Thread Cert.ReferenceStepIdeal.nD Cert.ReferenceStepIdeal.τ).loc Cert.ReferenceStepIdeal.main_v117) = v3 c
          ∧ r.2.mem ((c.tc : Thread Cert.ReferenceStepIdeal.nD Cert.ReferenceStepIdeal.τ).loc Cert.ReferenceStepIdeal.main_v118) = v4 c
          ∧ r.2.mem ((c.tc : Thread Cert.ReferenceStepIdeal.nD Cert.ReferenceStepIdeal.τ).loc Cert.ReferenceStepIdeal.main_v119) = v5 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1)
          ∧ r.2.mem ((c.tc : Thread Cert.ReferenceStepIdeal.nD Cert.ReferenceStepIdeal.τ).loc Cert.ReferenceStepIdeal.main_arg2) = m' ((c.tc : Thread Cert.ReferenceStepIdeal.nD Cert.ReferenceStepIdeal.τ).loc Cert.ReferenceStepIdeal.main_arg2)
          ∧ r.2.mem ((c.tc : Thread Cert.ReferenceStepIdeal.nD Cert.ReferenceStepIdeal.τ).loc Cert.ReferenceStepIdeal.main_arg3) = m' ((c.tc : Thread Cert.ReferenceStepIdeal.nD Cert.ReferenceStepIdeal.τ).loc Cert.ReferenceStepIdeal.main_arg3)
          ∧ r.2.mem ((c.tc : Thread Cert.ReferenceStepIdeal.nD Cert.ReferenceStepIdeal.τ).loc Cert.ReferenceStepIdeal.main_arg4) = m' ((c.tc : Thread Cert.ReferenceStepIdeal.nD Cert.ReferenceStepIdeal.τ).loc Cert.ReferenceStepIdeal.main_arg4)
          ∧ r.2.mem ((c.tc : Thread Cert.ReferenceStepIdeal.nD Cert.ReferenceStepIdeal.τ).loc Cert.ReferenceStepIdeal.main_arg5) = m' ((c.tc : Thread Cert.ReferenceStepIdeal.nD Cert.ReferenceStepIdeal.τ).loc Cert.ReferenceStepIdeal.main_arg5)
          ∧ r.2.mem ((c.tc : Thread Cert.ReferenceStepIdeal.nD Cert.ReferenceStepIdeal.τ).loc Cert.ReferenceStepIdeal.main_arg6) = m' ((c.tc : Thread Cert.ReferenceStepIdeal.nD Cert.ReferenceStepIdeal.τ).loc Cert.ReferenceStepIdeal.main_arg6)
          ∧ r.2.mem ((c.tc : Thread Cert.ReferenceStepIdeal.nD Cert.ReferenceStepIdeal.τ).loc Cert.ReferenceStepIdeal.main_arg7) = m' ((c.tc : Thread Cert.ReferenceStepIdeal.nD Cert.ReferenceStepIdeal.τ).loc Cert.ReferenceStepIdeal.main_arg7)
          ∧ r.2.mem ((c.tc : Thread Cert.ReferenceStepIdeal.nD Cert.ReferenceStepIdeal.τ).loc Cert.ReferenceStepIdeal.main_arg8) = m' ((c.tc : Thread Cert.ReferenceStepIdeal.nD Cert.ReferenceStepIdeal.τ).loc Cert.ReferenceStepIdeal.main_arg8)
          ∧ r.2.mem ((c.tc : Thread Cert.ReferenceStepIdeal.nD Cert.ReferenceStepIdeal.τ).loc Cert.ReferenceStepIdeal.main_arg9) = m' ((c.tc : Thread Cert.ReferenceStepIdeal.nD Cert.ReferenceStepIdeal.τ).loc Cert.ReferenceStepIdeal.main_arg9))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)
      ∧ m' ((c.tc : Thread Cert.ReferenceGatesIdeal.nD Cert.ReferenceGatesIdeal.τ).loc Cert.ReferenceGatesIdeal.main_arg3) = m ((c.tc : Thread Cert.KernelGatesIdeal.nD Cert.KernelGatesIdeal.τ).loc Cert.KernelGatesIdeal.main_arg3)) →
    ∃ (v0 : (c : Dev Cert.KernelGatesIdeal.nD) → Buf (Elt Ideal) ((c.tc : Thread Cert.KernelGatesIdeal.nD Cert.KernelGatesIdeal.τ).loc Cert.KernelGatesIdeal.main_v3_2)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v3_2) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2)
          ∧ r.2.mem ((c.tc : Thread Cert.KernelGatesIdeal.nD Cert.KernelGatesIdeal.τ).loc Cert.KernelGatesIdeal.main_arg3) = m ((c.tc : Thread Cert.KernelGatesIdeal.nD Cert.KernelGatesIdeal.τ).loc Cert.KernelGatesIdeal.main_arg3))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v4) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2)
          ∧ r.2.mem ((c.tc : Thread Cert.ReferenceGatesIdeal.nD Cert.ReferenceGatesIdeal.τ).loc Cert.ReferenceGatesIdeal.main_arg3) = m' ((c.tc : Thread Cert.ReferenceGatesIdeal.nD Cert.ReferenceGatesIdeal.τ).loc Cert.ReferenceGatesIdeal.main_arg3))

def preserves_KernelMem_KernelMemIdeal : Prop :=
  True

def algebraic_KernelMemIdeal_ReferenceMemIdeal_pre_gates_finite [hKernelMemIdeal : Cert.KernelMemIdeal.Facts] [hReferenceMemIdeal : Cert.ReferenceMemIdeal.Facts] [hPre_gates_finite : Cert.Pre_gates_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal_gates_finite m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)) →
    ∃ (v0 : (c : Dev Cert.KernelMemIdeal.nD) → Buf (Elt Ideal) ((c.tc : Thread Cert.KernelMemIdeal.nD Cert.KernelMemIdeal.τ).loc Cert.KernelMemIdeal.main_v1_1)) (v1 : (c : Dev Cert.KernelMemIdeal.nD) → Buf (Elt Ideal) ((c.tc : Thread Cert.KernelMemIdeal.nD Cert.KernelMemIdeal.τ).loc Cert.KernelMemIdeal.main_v1_2)) (v2 : (c : Dev Cert.KernelMemIdeal.nD) → Buf (Elt Ideal) ((c.tc : Thread Cert.KernelMemIdeal.nD Cert.KernelMemIdeal.τ).loc Cert.KernelMemIdeal.main_v1_3)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v1_1) = v0 c
          ∧ r.2.mem ((c.tc : Thread Cert.KernelMemIdeal.nD Cert.KernelMemIdeal.τ).loc Cert.KernelMemIdeal.main_v1_2) = v1 c
          ∧ r.2.mem ((c.tc : Thread Cert.KernelMemIdeal.nD Cert.KernelMemIdeal.τ).loc Cert.KernelMemIdeal.main_v1_3) = v2 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v52) = v0 c
          ∧ r.2.mem ((c.tc : Thread Cert.ReferenceMemIdeal.nD Cert.ReferenceMemIdeal.τ).loc Cert.ReferenceMemIdeal.main_v54) = v1 c
          ∧ r.2.mem ((c.tc : Thread Cert.ReferenceMemIdeal.nD Cert.ReferenceMemIdeal.τ).loc Cert.ReferenceMemIdeal.main_v56) = v2 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelOutS : Cert.KernelOutS.Facts) (hKernelOutSIdeal : Cert.KernelOutSIdeal.Facts) (hReferenceOutSIdeal : Cert.ReferenceOutSIdeal.Facts) (hKernelStep : Cert.KernelStep.Facts) (hKernelStepIdeal : Cert.KernelStepIdeal.Facts) (hReferenceStepIdeal : Cert.ReferenceStepIdeal.Facts) (hKernelGates : Cert.KernelGates.Facts) (hKernelGatesIdeal : Cert.KernelGatesIdeal.Facts) (hReferenceGatesIdeal : Cert.ReferenceGatesIdeal.Facts) (hKernelMem : Cert.KernelMem.Facts) (hKernelMemIdeal : Cert.KernelMemIdeal.Facts) (hReferenceMemIdeal : Cert.ReferenceMemIdeal.Facts) (hPre_scores_finite : Cert.Pre_scores_finite.Facts) (hPre_forget_open : Cert.Pre_forget_open.Facts) (hPre_gates_finite : Cert.Pre_gates_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelOutS (hKernelOutS := hKernelOutS)
    ∧ quiescent_KernelOutSIdeal (hKernelOutSIdeal := hKernelOutSIdeal)
    ∧ quiescent_ReferenceOutSIdeal (hReferenceOutSIdeal := hReferenceOutSIdeal)
    ∧ quiescent_KernelStep (hKernelStep := hKernelStep)
    ∧ quiescent_KernelStepIdeal (hKernelStepIdeal := hKernelStepIdeal)
    ∧ quiescent_KernelStepIdeal_pre_forget_open (hKernelStepIdeal := hKernelStepIdeal) (hPre_forget_open := hPre_forget_open)
    ∧ quiescent_ReferenceStepIdeal (hReferenceStepIdeal := hReferenceStepIdeal)
    ∧ quiescent_ReferenceStepIdeal_pre_forget_open (hReferenceStepIdeal := hReferenceStepIdeal) (hPre_forget_open := hPre_forget_open)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelMem (hKernelMem := hKernelMem)
    ∧ quiescent_KernelMemIdeal (hKernelMemIdeal := hKernelMemIdeal)
    ∧ quiescent_KernelMemIdeal_pre_gates_finite (hKernelMemIdeal := hKernelMemIdeal) (hPre_gates_finite := hPre_gates_finite)
    ∧ quiescent_ReferenceMemIdeal (hReferenceMemIdeal := hReferenceMemIdeal)
    ∧ quiescent_ReferenceMemIdeal_pre_gates_finite (hReferenceMemIdeal := hReferenceMemIdeal) (hPre_gates_finite := hPre_gates_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelOutS_KernelOutSIdeal
    ∧ algebraic_KernelOutSIdeal_ReferenceOutSIdeal (hKernelOutSIdeal := hKernelOutSIdeal) (hReferenceOutSIdeal := hReferenceOutSIdeal)
    ∧ preserves_KernelStep_KernelStepIdeal
    ∧ algebraic_KernelStepIdeal_ReferenceStepIdeal_pre_forget_open (hKernelStepIdeal := hKernelStepIdeal) (hReferenceStepIdeal := hReferenceStepIdeal) (hPre_forget_open := hPre_forget_open)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelMem_KernelMemIdeal
    ∧ algebraic_KernelMemIdeal_ReferenceMemIdeal_pre_gates_finite (hKernelMemIdeal := hKernelMemIdeal) (hReferenceMemIdeal := hReferenceMemIdeal) (hPre_gates_finite := hPre_gates_finite)
-- ==== Pre_forget_open.lean ====
abbrev S32x8192 : Shape := ⟨2, ![32, 8192]⟩
abbrev S32x128 : Shape := ⟨2, ![32, 128]⟩
abbrev S8 : Shape := ⟨1, ![8]⟩
abbrev S4 : Shape := ⟨1, ![4]⟩
abbrev S32x1024 : Shape := ⟨2, ![32, 1024]⟩
abbrev S1024 : Shape := ⟨1, ![1024]⟩
abbrev S32x4x256x128 : Shape := ⟨4, ![32, 4, 256, 128]⟩
abbrev S32x4x128 : Shape := ⟨3, ![32, 4, 128]⟩
abbrev S32x4 : Shape := ⟨2, ![32, 4]⟩
abbrev S1x4 : Shape := ⟨2, ![1, 4]⟩
abbrev S_ : Shape := ⟨0, ![]⟩

class Facts : Prop where
  slices_S32x128_S32x4_0_8 : S32x128.Slices ![0, 8] S32x4
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)

variable [Facts]

def fn {F : FTy → Type} [FloatOps F] (main_arg0 : FVec F S32x8192 .f32) (main_arg1 : FVec F S32x128 .f32) (main_arg2 : FVec F S8 .f32) (main_arg3 : FVec F S4 .f32) (main_arg4 : FVec F S4 .f32) (main_arg5 : FVec F S32x1024 .f32) (main_arg6 : FVec F S1024 .f32) (main_arg7 : FVec F S32x4x256x128 .f32) (main_arg8 : FVec F S32x4x128 .f32) (main_arg9 : FVec F S32x4 .f32) : IVec S32x4 1 :=
  let main_v0 : FVec F S32x4 .f32 := (extractStridedSlice S32x4 ![0, 8] · slices_S32x128_S32x4_0_8) main_arg1
  let main_v1 : FVec F S1x4 .f32 := broadcastInDim S1x4 ![1] bcast_S4_S1x4_1 main_arg4
  let main_v2 : FVec F S32x4 .f32 := broadcastInDim S32x4 ![0, 1] bcast_S1x4_S32x4_0_1 main_v1
  let main_v3 : FVec F S32x4 .f32 := addf main_v0 main_v2
  let main_cst : FVec F S_ .f32 := constant S_ .f32 0xFF800000#32
  let main_v4 : FVec F S32x4 .f32 := broadcastInDim S32x4 ![] bcast_S_S32x4 main_cst
  let main_v5 : IVec S32x4 1 := cmpf .ogt main_v3 main_v4
  main_v5
-- ==== Pre_gates_finite.lean ====
abbrev S8320x5120 : Shape := ⟨2, ![8320, 5120]⟩
abbrev S8320x128 : Shape := ⟨2, ![8320, 128]⟩
abbrev S16x8320 : Shape := ⟨2, ![16, 8320]⟩
abbrev S1024 : Shape := ⟨1, ![1024]⟩
abbrev S8320x8 : Shape := ⟨2, ![8320, 8]⟩
abbrev S8x8320 : Shape := ⟨2, ![8, 8320]⟩
abbrev S8320x16 : Shape := ⟨2, ![8320, 16]⟩
abbrev S_ : Shape := ⟨0, ![]⟩

class Facts : Prop where
  slices_S8320x128_S8320x8_0_8 : S8320x128.Slices ![0, 8] S8320x8
  slices_S16x8320_S8x8320_8_0 : S16x8320.Slices ![8, 0] S8x8320
  transposes_S8x8320_S8320x8_1_0 : S8x8320.Transposes [1, 0] S8320x8
  concatenates_S8320x8_S8320x8_S8320x16_d1 : Shape.Concatenates [S8320x8, S8320x8] S8320x16 1
  bcast_S_S8320x16 : S_.BroadcastsInDim S8320x16 (![] : Fin 0 → Fin S8320x16.rank)

variable [Facts]

def fn {F : FTy → Type} [FloatOps F] (main_arg0 : FVec F S8320x5120 .f32) (main_arg1 : FVec F S8320x128 .f32) (main_arg2 : FVec F S16x8320 .f32) (main_arg3 : FVec F S1024 .f32) : IVec S8320x16 1 :=
  let main_v0 : FVec F S8320x8 .f32 := (extractStridedSlice S8320x8 ![0, 8] · slices_S8320x128_S8320x8_0_8) main_arg1
  let main_v1 : FVec F S8x8320 .f32 := (extractStridedSlice S8x8320 ![8, 0] · slices_S16x8320_S8x8320_8_0) main_arg2
  let main_v2 : FVec F S8320x8 .f32 := (transpose S8320x8 [1, 0] · transposes_S8x8320_S8320x8_1_0) main_v1
  let main_v3 : FVec F S8320x16 .f32 := (fun a b => concatenate S8320x16 1 [⟨S8320x8, a⟩, ⟨S8320x8, b⟩] concatenates_S8320x8_S8320x8_S8320x16_d1) main_v0 main_v2
  let main_v4 : FVec F S8320x16 .f32 := Host.absf main_v3
  let main_cst : FVec F S_ .f32 := constant S_ .f32 0x7F800000#32
  let main_v5 : FVec F S8320x16 .f32 := broadcastInDim S8320x16 ![] bcast_S_S8320x16 main_cst
  let main_v6 : IVec S8320x16 1 := cmpf .olt main_v4 main_v5
  main_v6
-- ==== Pre_scores_finite.lean ====
abbrev S8320x1024 : Shape := ⟨2, ![8320, 1024]⟩
abbrev S16x8320 : Shape := ⟨2, ![16, 8320]⟩
abbrev S8320x128 : Shape := ⟨2, ![8320, 128]⟩
abbrev S8320x5120 : Shape := ⟨2, ![8320, 5120]⟩
abbrev S8320x8 : Shape := ⟨2, ![8320, 8]⟩
abbrev S8x8320 : Shape := ⟨2, ![8, 8320]⟩
abbrev S8320x2064 : Shape := ⟨2, ![8320, 2064]⟩
abbrev S_ : Shape := ⟨0, ![]⟩

class Facts : Prop where
  bitsLt_bf16_f32 : FTy.bits .bf16 < FTy.bits .f32
  slices_S8320x128_S8320x8_0_0 : S8320x128.Slices ![0, 0] S8320x8
  slices_S16x8320_S8x8320_0_0 : S16x8320.Slices ![0, 0] S8x8320
  transposes_S8x8320_S8320x8_1_0 : S8x8320.Transposes [1, 0] S8320x8
  concatenates_S8320x1024_S8320x1024_S8320x8_S8320x8_S8320x2064_d1 : Shape.Concatenates [S8320x1024, S8320x1024, S8320x8, S8320x8] S8320x2064 1
  bcast_S_S8320x2064 : S_.BroadcastsInDim S8320x2064 (![] : Fin 0 → Fin S8320x2064.rank)

variable [Facts]

def fn {F : FTy → Type} [FloatOps F] (main_arg0 : FVec F S8320x1024 .bf16) (main_arg1 : FVec F S8320x1024 .bf16) (main_arg2 : FVec F S8320x1024 .bf16) (main_arg3 : FVec F S16x8320 .f32) (main_arg4 : FVec F S8320x128 .f32) (main_arg5 : FVec F S8320x5120 .f32) : IVec S8320x2064 1 :=
  let main_v0 : FVec F S8320x1024 .f32 := (extf .f32 · bitsLt_bf16_f32) main_arg0
  let main_v1 : FVec F S8320x1024 .f32 := (extf .f32 · bitsLt_bf16_f32) main_arg1
  let main_v2 : FVec F S8320x8 .f32 := (extractStridedSlice S8320x8 ![0, 0] · slices_S8320x128_S8320x8_0_0) main_arg4
  let main_v3 : FVec F S8x8320 .f32 := (extractStridedSlice S8x8320 ![0, 0] · slices_S16x8320_S8x8320_0_0) main_arg3
  let main_v4 : FVec F S8320x8 .f32 := (transpose S8320x8 [1, 0] · transposes_S8x8320_S8320x8_1_0) main_v3
  let main_v5 : FVec F S8320x2064 .f32 := concatenate S8320x2064 1 [⟨S8320x1024, main_v0⟩, ⟨S8320x1024, main_v1⟩, ⟨S8320x8, main_v2⟩, ⟨S8320x8, main_v4⟩] concatenates_S8320x1024_S8320x1024_S8320x8_S8320x8_S8320x2064_d1
  let main_v6 : FVec F S8320x2064 .f32 := Host.absf main_v5
  let main_cst : FVec F S_ .f32 := constant S_ .f32 0x7F800000#32
  let main_v7 : FVec F S8320x2064 .f32 := broadcastInDim S8320x2064 ![] bcast_S_S8320x2064 main_cst
  let main_v8 : IVec S8320x2064 1 := cmpf .olt main_v6 main_v7
  main_v8
-- ==== Kernel.lean ====
abbrev S8320x1024 : Shape := ⟨2, ![8320, 1024]⟩
abbrev S16x8320 : Shape := ⟨2, ![16, 8320]⟩
abbrev S8320x128 : Shape := ⟨2, ![8320, 128]⟩
abbrev S8320x5120 : Shape := ⟨2, ![8320, 5120]⟩
abbrev S640x1024 : Shape := ⟨2, ![640, 1024]⟩
abbrev S16x640 : Shape := ⟨2, ![16, 640]⟩
abbrev S640x128 : Shape := ⟨2, ![640, 128]⟩
abbrev S8x640x1 : Shape := ⟨3, ![8, 640, 1]⟩
abbrev S640x640 : Shape := ⟨2, ![640, 640]⟩
abbrev S1x640 : Shape := ⟨2, ![1, 640]⟩
abbrev S640x1 : Shape := ⟨2, ![640, 1]⟩
abbrev S1x640x1 : Shape := ⟨3, ![1, 640, 1]⟩
abbrev S640 : Shape := ⟨1, ![640]⟩

abbrev nBuf : Space → Nat
  | .hbm => 7
  | .vmem => 17
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S16x8320, .f32⟩
  | .hbm, ⟨4, _⟩ => ⟨S8320x128, .f32⟩
  | .hbm, ⟨5, _⟩ => ⟨S8320x5120, .f32⟩
  | .hbm, ⟨6, _⟩ => ⟨S8320x1024, .bf16⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S16x640, .f32⟩
  | .local _ .vmem, ⟨7, _⟩ => ⟨S16x640, .f32⟩
  | .local _ .vmem, ⟨8, _⟩ => ⟨S640x128, .f32⟩
  | .local _ .vmem, ⟨9, _⟩ => ⟨S640x128, .f32⟩
  | .local _ .vmem, ⟨10, _⟩ => ⟨S640x1024, .f32⟩
  | .local _ .vmem, ⟨11, _⟩ => ⟨S640x1024, .f32⟩
  | .local _ .vmem, ⟨12, _⟩ => ⟨S640x1024, .bf16⟩
  | .local _ .vmem, ⟨13, _⟩ => ⟨S640x1024, .bf16⟩
  | .local _ .vmem, ⟨14, _⟩ => ⟨S640x1024, .f32⟩
  | .local _ .vmem, ⟨15, _⟩ => ⟨S8x640x1, .f32⟩
  | .local _ .vmem, ⟨16, _⟩ => ⟨S8x640x1, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 13], ![false, false]⟩

def k0_cond3 (i : grid0.Coords) : BitVec 1 :=
  let arg1 : BitVec 32 := BitVec.ofNat 32 (i 1).val
  let arg0 : BitVec 32 := BitVec.ofNat 32 (i 0).val
  let v6 : BitVec 1 := Scalar.cmpi .eq arg1 arg0
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.minsi arg1 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8320x1024 : Shape := ⟨2, ![8320, 1024]⟩
abbrev S16x8320 : Shape := ⟨2, ![16, 8320]⟩
abbrev S8320x128 : Shape := ⟨2, ![8320, 128]⟩
abbrev S8320x5120 : Shape := ⟨2, ![8320, 5120]⟩
abbrev S8320x8x128 : Shape := ⟨3, ![8320, 8, 128]⟩
abbrev S8320x8 : Shape := ⟨2, ![8320, 8]⟩
abbrev S8x8320 : Shape := ⟨2, ![8, 8320]⟩
abbrev S8320 : Shape := ⟨1, ![8320]⟩
abbrev S8x8320x8320 : Shape := ⟨3, ![8, 8320, 8320]⟩
abbrev S_ : Shape := ⟨0, ![]⟩
abbrev S8x8320x1 : Shape := ⟨3, ![8, 8320, 1]⟩
abbrev S8x1x8320 : Shape := ⟨3, ![8, 1, 8320]⟩
abbrev S1x1x8320 : Shape := ⟨3, ![1, 1, 8320]⟩
abbrev S1x8320x1 : Shape := ⟨3, ![1, 8320, 1]⟩
abbrev S1x8320x8320 : Shape := ⟨3, ![1, 8320, 8320]⟩
abbrev S8x128x8320 : Shape := ⟨3, ![8, 128, 8320]⟩

abbrev nBuf : Space → Nat
  | .hbm => 65
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S8320x1024, .bf16⟩
  | .hbm, ⟨3, _⟩ => ⟨S16x8320, .f32⟩
  | .hbm, ⟨4, _⟩ => ⟨S8320x128, .f32⟩
  | .hbm, ⟨5, _⟩ => ⟨S8320x5120, .f32⟩
  | .hbm, ⟨6, _⟩ => ⟨S8320x1024, .f32⟩
  | .hbm, ⟨7, _⟩ => ⟨S8320x8x128, .f32⟩
  | .hbm, ⟨8, _⟩ => ⟨S8320x1024, .f32⟩
  | .hbm, ⟨9, _⟩ => ⟨S8320x8x128, .f32⟩
  | .hbm, ⟨10, _⟩ => ⟨S8320x1024, .f32⟩
  | .hbm, ⟨11, _⟩ => ⟨S8320x8x128, .f32⟩
  | .hbm, ⟨12, _⟩ => ⟨S8320x8, .f32⟩
  | .hbm, ⟨13, _⟩ => ⟨S8x8320, .f32⟩
  | .hbm, ⟨14, _⟩ => ⟨S8320, .i32⟩
  | .hbm, ⟨15, _⟩ => ⟨S8x8320x8320, .f32⟩
  | .hbm, ⟨16, _⟩ => ⟨S_, .f32⟩
  | .hbm, ⟨17, _⟩ => ⟨S8x8320x8320, .f32⟩
  | .hbm, ⟨18, _⟩ => ⟨S8x8320x8320, .f32⟩
  | .hbm, ⟨19, _⟩ => ⟨S8x8320, .f32⟩
  | .hbm, ⟨20, _⟩ => ⟨S8x8320x1, .f32⟩
  | .hbm, ⟨21, _⟩ => ⟨S8x8320x8320, .f32⟩
  | .hbm, ⟨22, _⟩ => ⟨S8x8320x8320, .f32⟩
  | .hbm, ⟨23, _⟩ => ⟨S8x1x8320, .f32⟩
  | .hbm, ⟨24, _⟩ => ⟨S8x8320x8320, .f32⟩
  | .hbm, ⟨25, _⟩ => ⟨S8x8320x8320, .f32⟩
  | .hbm, ⟨26, _⟩ => ⟨S1x1x8320, .i32⟩
  | .hbm, ⟨27, _⟩ => ⟨S1x8320x1, .i32⟩
  | .hbm, ⟨28, _⟩ => ⟨S1x8320x8320, .i32⟩
  | .hbm, ⟨29, _⟩ => ⟨S1x8320x8320, .i32⟩
  | .hbm, ⟨30, _⟩ => ⟨S1x8320x8320, .i1⟩
  | .hbm, ⟨31, _⟩ => ⟨S_, .f32⟩
  | .hbm, ⟨32, _⟩ => ⟨S_, .f32⟩
  | .hbm, ⟨33, _⟩ => ⟨S8x8320x8320, .i1⟩
  | .hbm, ⟨34, _⟩ => ⟨S8x8320x8320, .f32⟩
  | .hbm, ⟨35, _⟩ => ⟨S8x8320x8320, .f32⟩
  | .hbm, ⟨36, _⟩ => ⟨S_, .f32⟩
  | .hbm, ⟨37, _⟩ => ⟨S8x8320, .f32⟩
  | .hbm, ⟨38, _⟩ => ⟨S_, .f32⟩
  | .hbm, ⟨39, _⟩ => ⟨S8x8320, .f32⟩
  | .hbm, ⟨40, _⟩ => ⟨S8x8320, .f32⟩
  | .hbm, ⟨41, _⟩ => ⟨S8x8320x1, .f32⟩
  | .hbm, ⟨42, _⟩ => ⟨S8x8320x8320, .f32⟩
  | .hbm, ⟨43, _⟩ => ⟨S8x8320x8320, .f32⟩
  | .hbm, ⟨44, _⟩ => ⟨S8x8320x8320, .f32⟩
  | .hbm, ⟨45, _⟩ => ⟨S_, .f32⟩
  | .hbm, ⟨46, _⟩ => ⟨S8x8320, .f32⟩
  | .hbm, ⟨47, _⟩ => ⟨S8x8320x1, .f32⟩
  | .hbm, ⟨48, _⟩ => ⟨S8x8320x8320, .f32⟩
  | .hbm, ⟨49, _⟩ => ⟨S8x8320x8320, .f32⟩
  | .hbm, ⟨50, _⟩ => ⟨S8x128x8320, .f32⟩
  | .hbm, ⟨51, _⟩ => ⟨S8320x8x128, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S_, .f32⟩
  | .hbm, ⟨56, _⟩ => ⟨S8320x1024, .f32⟩
  | .hbm, ⟨57, _⟩ => ⟨S8320x1024, .f32⟩
  | .hbm, ⟨58, _⟩ => ⟨S_, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S8320x1024, .f32⟩
  | .hbm, ⟨63, _⟩ => ⟨S8320x1024, .f32⟩
  | .hbm, ⟨64, _⟩ => ⟨S8320x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== KernelIn.lean ====
abbrev S8320x2048 : Shape := ⟨2, ![8320, 2048]⟩
abbrev S32x2048 : Shape := ⟨2, ![32, 2048]⟩
abbrev S2048x8208 : Shape := ⟨2, ![2048, 8208]⟩
abbrev S2048x1024 : Shape := ⟨2, ![2048, 1024]⟩
abbrev S2048x8 : Shape := ⟨2, ![2048, 8]⟩
abbrev S2048x512 : Shape := ⟨2, ![2048, 512]⟩
abbrev S2048x4 : Shape := ⟨2, ![2048, 4]⟩
abbrev S2048x8192 : Shape := ⟨2, ![2048, 8192]⟩
abbrev S_ : Shape := ⟨0, ![]⟩
abbrev S2048x112 : Shape := ⟨2, ![2048, 112]⟩
abbrev S2048x128 : Shape := ⟨2, ![2048, 128]⟩
abbrev S8320x1024 : Shape := ⟨2, ![8320, 1024]⟩
abbrev S8208x1024 : Shape := ⟨2, ![8208, 1024]⟩
abbrev S8320x5120 : Shape := ⟨2, ![8320, 5120]⟩
abbrev S8320x128 : Shape := ⟨2, ![8320, 128]⟩
abbrev S32x8192 : Shape := ⟨2, ![32, 8192]⟩
abbrev S32x128 : Shape := ⟨2, ![32, 128]⟩
abbrev S640x2048 : Shape := ⟨2, ![640, 2048]⟩
abbrev S640x1024 : Shape := ⟨2, ![640, 1024]⟩
abbrev S640x128 : Shape := ⟨2, ![640, 128]⟩
abbrev S32x1024 : Shape := ⟨2, ![32, 1024]⟩

abbrev nBuf : Space → Nat
  | .hbm => 30
  | .vmem => 23
  | .smem => 0
  | _ => 0

abbrev bufTy : (tb : Table) → Fin (tcTables nBuf tb) → BufTy
  | .hbm, ⟨0, _⟩ => ⟨S8320x2048, .bf16⟩
  | .hbm, ⟨1, _⟩ => ⟨S32x2048, .bf16⟩
  | .hbm, ⟨2, _⟩ => ⟨S2048x8208, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x8, .f32⟩
  | .hbm, ⟨7, _⟩ => ⟨S2048x1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x4, .f32⟩
  | .hbm, ⟨12, _⟩ => ⟨S2048x4, .f32⟩
  | .hbm, ⟨13, _⟩ => ⟨S2048x1024, .f32⟩
  | .hbm, ⟨14, _⟩ => ⟨S2048x1024, .f32⟩
  | .hbm, ⟨15, _⟩ => ⟨S2048x8192, .f32⟩
  | .hbm, ⟨16, _⟩ => ⟨S2048x8192, .bf16⟩
  | .hbm, ⟨17, _⟩ => ⟨S_, .f32⟩
  | .hbm, ⟨18, _⟩ => ⟨S2048x112, .f32⟩
  | .hbm, ⟨19, _⟩ => ⟨S2048x128, .f32⟩
  | .hbm, ⟨20, _⟩ => ⟨S2048x128, .bf16⟩
  | .hbm, ⟨21, _⟩ => ⟨S8320x1024, .bf16⟩
  | .hbm, ⟨22, _⟩ => ⟨S8208x1024, .f32⟩
  | .hbm, ⟨23, _⟩ => ⟨S8320x1024, .bf16⟩
  | .hbm, ⟨24, _⟩ => ⟨S8208x1024, .f32⟩
  | .hbm, ⟨25, _⟩ => ⟨S8320x1024, .bf16⟩
  | .hbm, ⟨26, _⟩ => ⟨S8320x5120, .f32⟩
  | .hbm, ⟨27, _⟩ => ⟨S8320x128, .f32⟩
  | .hbm, ⟨28, _⟩ => ⟨S32x8192, .f32⟩
  | .hbm, ⟨29, _⟩ => ⟨S32x128, .f32⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S32x2048, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S640x1024, .f32⟩
  | .local _ .vmem, ⟨13, _⟩ => ⟨S640x1024, .f32⟩
  | .local _ .vmem, ⟨14, _⟩ => ⟨S640x1024, .bf16⟩
  | .local _ .vmem, ⟨15, _⟩ => ⟨S640x1024, .bf16⟩
  | .local _ .vmem, ⟨16, _⟩ => ⟨S640x1024, .f32⟩
  | .local _ .vmem, ⟨17, _⟩ => ⟨S640x1024, .f32⟩
  | .local _ .vmem, ⟨18, _⟩ => ⟨S640x128, .f32⟩
  | .local _ .vmem, ⟨19, _⟩ => ⟨S640x128, .f32⟩
  | .local _ .vmem, ⟨20, _⟩ => ⟨S32x1024, .f32⟩
  | .local _ .vmem, ⟨21, _⟩ => ⟨S32x1024, .f32⟩
  | .local _ .vmem, ⟨22, _⟩ => ⟨S32x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v17_3 : Ref sig .tc := ⟨.hbm, 24, rfl⟩
abbrev main_v17_4 : Ref sig .tc := ⟨.hbm, 25, rfl⟩
abbrev main_v17_5 : Ref sig .tc := ⟨.hbm, 26, rfl⟩
abbrev main_v17_6 : Ref sig .tc := ⟨.hbm, 27, rfl⟩
abbrev main_v17_7 : Ref sig .tc := ⟨.hbm, 28, rfl⟩
abbrev main_v17_8 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_5 : BitVec 32 := 0#32
  let v12 : BitVec 1 := Scalar.cmpi .ne v11 c0_i32_5
  v12

def k0_cond4 (i : grid0.Coords) : BitVec 1 :=
  let arg0 : BitVec 32 := BitVec.ofNat 32 (i 0).val
  let c3_i32 : BitVec 32 := 3#32
  let v13 : BitVec 1 := Scalar.cmpi .sge arg0 c3_i32
  let v14 : BitVec 32 := Scalar.extui v13
  let c0_i32_6 : BitVec 32 := 0#32
  let v15 : BitVec 1 := Scalar.cmpi .ne v14 c0_i32_6
  v15

def k0_cond5 (i : grid0.Coords) : BitVec 1 :=
  let arg1 : BitVec 32 := BitVec.ofNat 32 (i 1).val
  let c0_i32_7 : BitVec 32 := 0#32
  let v16 : BitVec 1 := Scalar.cmpi .eq arg1 c0_i32_7
  let v17 : BitVec 32 := Scalar.extui v16
  let c0_i32_8 : BitVec 32 := 0#32
  let v18 : BitVec 1 := Scalar.cmpi .ne v17 c0_i32_8
  v18

def k0_cond6 (i : grid0.Coords) : BitVec 1 :=
  let arg1 : BitVec 32 := BitVec.ofNat 32 (i 1).val
  let c0_i32_9 : BitVec 32 := 0#32
  let v19 : BitVec 1 := Scalar.cmpi .eq arg1 c0_i32_9
  let arg0 : BitVec 32 := BitVec.ofNat 32 (i 0).val
  let c0_i32_10 : BitVec 32 := 0#32
  let v20 : BitVec 1 := Scalar.cmpi .eq arg0 c0_i32_10
  let v21 : BitVec 1 := Scalar.andi v19 v20
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c12_i32 : BitVec 32 := 12#32
  let v2 : BitVec 32 := Scalar.select v1 c12_i32 arg1
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c12_i32 : BitVec 32 := 12#32
  let v2 : BitVec 32 := Scalar.select v1 c12_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c12_i32 : BitVec 32 := 12#32
  let v2 : BitVec 32 := Scalar.select v1 c12_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c12_i32 : BitVec 32 := 12#32
  let v2 : BitVec 32 := Scalar.select v1 c12_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 1 := Scalar.cmpi .sgt arg0 c2_i32_0
  let c12_i32 : BitVec 32 := 12#32
  let v2 : BitVec 32 := Scalar.select v1 c12_i32 arg1
  let c0_i32 : BitVec 32 := 0#32
  let v3 : BitVec 32 := Scalar.select v0 c0_i32 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c0_i32 : BitVec 32 := 0#32
  let v1 : BitVec 32 := Scalar.select v0 c0_i32 arg1
  let c3_i32_0 : BitVec 32 := 3#32
  let v2 : BitVec 32 := Scalar.subi arg0 c3_i32_0
  let c0_i32_1 : BitVec 32 := 0#32
  let v3 : BitVec 32 := Scalar.maxsi v2 c0_i32_1
  let c0_i32_2 : BitVec 32 := 0#32
  ![v1.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c12_i32 : BitVec 32 := 12#32
  let v2 : BitVec 32 := Scalar.select v1 c12_i32 arg1
  let c0_i32_1 : BitVec 32 := 0#32
  let v3 : BitVec 32 := Scalar.select v0 c0_i32_1 v2
  let c0_i32_2 : BitVec 32 := 0#32
  let c0_i32_3 : BitVec 32 := 0#32
  ![v3.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S640x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S640x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceInIdeal.lean ====
abbrev S8320x2048 : Shape := ⟨2, ![8320, 2048]⟩
abbrev S32x2048 : Shape := ⟨2, ![32, 2048]⟩
abbrev S2048x8208 : Shape := ⟨2, ![2048, 8208]⟩
abbrev S8320x8208 : Shape := ⟨2, ![8320, 8208]⟩
abbrev S8320x1024 : Shape := ⟨2, ![8320, 1024]⟩
abbrev S8320x8 : Shape := ⟨2, ![8320, 8]⟩
abbrev S8320x512 : Shape := ⟨2, ![8320, 512]⟩
abbrev S8320x4 : Shape := ⟨2, ![8320, 4]⟩
abbrev S_ : Shape := ⟨0, ![]⟩
abbrev S8320x112 : Shape := ⟨2, ![8320, 112]⟩
abbrev S8320x128 : Shape := ⟨2, ![8320, 128]⟩
abbrev S8320x5120 : Shape := ⟨2, ![8320, 5120]⟩
abbrev S32x8208 : Shape := ⟨2, ![32, 8208]⟩
abbrev S32x1024 : Shape := ⟨2, ![32, 1024]⟩
abbrev S32x8 : Shape := ⟨2, ![32, 8]⟩
abbrev S32x512 : Shape := ⟨2, ![32, 512]⟩
abbrev S32x4 : Shape := ⟨2, ![32, 4]⟩
abbrev S32x112 : Shape := ⟨2, ![32, 112]⟩
abbrev S32x128 : Shape := ⟨2, ![32, 128]⟩
abbrev S32x5120 : Shape := ⟨2, ![32, 5120]⟩
abbrev S8208x1024 : Shape := ⟨2, ![8208, 1024]⟩
abbrev S32x8192 : Shape := ⟨2, ![32, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S32x2048, .bf16⟩
  | .hbm, ⟨2, _⟩ => ⟨S2048x8208, .f32⟩
  | .hbm, ⟨3, _⟩ => ⟨S8320x2048, .f32⟩
  | .hbm, ⟨4, _⟩ => ⟨S8320x8208, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S8320x8, .f32⟩
  | .hbm, ⟨9, _⟩ => ⟨S8320x1024, .f32⟩
  | .hbm, ⟨10, _⟩ => ⟨S8320x512, .f32⟩
  | .hbm, ⟨11, _⟩ => ⟨S8320x512, .f32⟩
  | .hbm, ⟨12, _⟩ => ⟨S8320x1024, .f32⟩
  | .hbm, ⟨13, _⟩ => ⟨S8320x4, .f32⟩
  | .hbm, ⟨14, _⟩ => ⟨S8320x4, .f32⟩
  | .hbm, ⟨15, _⟩ => ⟨S8320x1024, .f32⟩
  | .hbm, ⟨16, _⟩ => ⟨S8320x1024, .f32⟩
  | .hbm, ⟨17, _⟩ => ⟨S_, .f32⟩
  | .hbm, ⟨18, _⟩ => ⟨S8320x112, .f32⟩
  | .hbm, ⟨19, _⟩ => ⟨S8320x128, .f32⟩
  | .hbm, ⟨20, _⟩ => ⟨S8320x5120, .f32⟩
  | .hbm, ⟨21, _⟩ => ⟨S32x2048, .f32⟩
  | .hbm, ⟨22, _⟩ => ⟨S32x8208, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x8, .f32⟩
  | .hbm, ⟨27, _⟩ => ⟨S32x1024, .f32⟩
  | .hbm, ⟨28, _⟩ => ⟨S32x512, .f32⟩
  | .hbm, ⟨29, _⟩ => ⟨S32x512, .f32⟩
  | .hbm, ⟨30, _⟩ => ⟨S32x1024, .f32⟩
  | .hbm, ⟨31, _⟩ => ⟨S32x4, .f32⟩
  | .hbm, ⟨32, _⟩ => ⟨S32x4, .f32⟩
  | .hbm, ⟨33, _⟩ => ⟨S32x1024, .f32⟩
  | .hbm, ⟨34, _⟩ => ⟨S32x1024, .f32⟩
  | .hbm, ⟨35, _⟩ => ⟨S_, .f32⟩
  | .hbm, ⟨36, _⟩ => ⟨S32x112, .f32⟩
  | .hbm, ⟨37, _⟩ => ⟨S32x128, .f32⟩
  | .hbm, ⟨38, _⟩ => ⟨S32x5120, .f32⟩
  | .hbm, ⟨39, _⟩ => ⟨S8320x1024, .bf16⟩
  | .hbm, ⟨40, _⟩ => ⟨S8208x1024, .f32⟩
  | .hbm, ⟨41, _⟩ => ⟨S8320x1024, .bf16⟩
  | .hbm, ⟨42, _⟩ => ⟨S8208x1024, .f32⟩
  | .hbm, ⟨43, _⟩ => ⟨S8320x1024, .bf16⟩
  | .hbm, ⟨44, _⟩ => ⟨S32x8192, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== KernelOut.lean ====
abbrev S8192x2048 : Shape := ⟨2, ![8192, 2048]⟩
abbrev S8320x1024 : Shape := ⟨2, ![8320, 1024]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S512x2048 : Shape := ⟨2, ![512, 2048]⟩
abbrev S512x1024 : Shape := ⟨2, ![512, 1024]⟩
abbrev S16x1024 : Shape := ⟨2, ![16, 1024]⟩
abbrev S496x1024 : Shape := ⟨2, ![496, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8320x1024, .bf16⟩
  | .hbm, ⟨2, _⟩ => ⟨S8320x1024, .bf16⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOutIdeal.lean ====
abbrev S8192x2048 : Shape := ⟨2, ![8192, 2048]⟩
abbrev S8320x1024 : Shape := ⟨2, ![8320, 1024]⟩
abbrev S2048x2048 : Shape := ⟨2, ![2048, 2048]⟩
abbrev S2048 : Shape := ⟨1, ![2048]⟩
abbrev S8320x2048 : Shape := ⟨2, ![8320, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8320x1024, .bf16⟩
  | .hbm, ⟨2, _⟩ => ⟨S8320x1024, .bf16⟩
  | .hbm, ⟨3, _⟩ => ⟨S2048x2048, .f32⟩
  | .hbm, ⟨4, _⟩ => ⟨S2048, .f32⟩
  | .hbm, ⟨5, _⟩ => ⟨S8320x2048, .bf16⟩
  | .hbm, ⟨6, _⟩ => ⟨S8320x2048, .f32⟩
  | .hbm, ⟨7, _⟩ => ⟨S8320x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelOutS.lean ====
abbrev S32x2048 : Shape := ⟨2, ![32, 2048]⟩
abbrev S32x1024 : Shape := ⟨2, ![32, 1024]⟩
abbrev S2048x2048 : Shape := ⟨2, ![2048, 2048]⟩
abbrev S2048 : Shape := ⟨1, ![2048]⟩
abbrev S1024x2048 : Shape := ⟨2, ![1024, 2048]⟩
abbrev S1x2048 : Shape := ⟨2, ![1, 2048]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S32x1024, .f32⟩
  | .hbm, ⟨2, _⟩ => ⟨S32x1024, .f32⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S1x2048, .f32⟩
  | .hbm, ⟨9, _⟩ => ⟨S32x2048, .f32⟩
  | .local _ .vmem, ⟨0, _⟩ => ⟨S32x2048, .f32⟩
  | .local _ .vmem, ⟨1, _⟩ => ⟨S32x1024, .f32⟩
  | .local _ .vmem, ⟨2, _⟩ => ⟨S32x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceOutSIdeal.lean ====
abbrev S32x2048 : Shape := ⟨2, ![32, 2048]⟩
abbrev S32x1024 : Shape := ⟨2, ![32, 1024]⟩
abbrev S2048x2048 : Shape := ⟨2, ![2048, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x1024, .f32⟩
  | .hbm, ⟨2, _⟩ => ⟨S32x1024, .f32⟩
  | .hbm, ⟨3, _⟩ => ⟨S2048x2048, .f32⟩
  | .hbm, ⟨4, _⟩ => ⟨S2048, .f32⟩
  | .hbm, ⟨5, _⟩ => ⟨S32x2048, .f32⟩
  | .hbm, ⟨6, _⟩ => ⟨S32x2048, .f32⟩
  | .hbm, ⟨7, _⟩ => ⟨S32x2048, .f32⟩
  | .hbm, ⟨8, _⟩ => ⟨S32x2048, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S_, .f32⟩
  | .hbm, ⟨16, _⟩ => ⟨S32x1, .f32⟩
  | .hbm, ⟨17, _⟩ => ⟨S32x1, .f32⟩
  | .hbm, ⟨18, _⟩ => ⟨S32x1, .f32⟩
  | .hbm, ⟨19, _⟩ => ⟨S32x2048, .f32⟩
  | .hbm, ⟨20, _⟩ => ⟨S32x2048, .f32⟩
  | .hbm, ⟨21, _⟩ => ⟨S1x2048, .f32⟩
  | .hbm, ⟨22, _⟩ => ⟨S32x2048, .f32⟩
  | .hbm, ⟨23, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelStep.lean ====
abbrev S32x8192 : Shape := ⟨2, ![32, 8192]⟩
abbrev S32x128 : Shape := ⟨2, ![32, 128]⟩
abbrev S8 : Shape := ⟨1, ![8]⟩
abbrev S4 : Shape := ⟨1, ![4]⟩
abbrev S32x1024 : Shape := ⟨2, ![32, 1024]⟩
abbrev S1024 : Shape := ⟨1, ![1024]⟩
abbrev S32x4x256x128 : Shape := ⟨4, ![32, 4, 256, 128]⟩
abbrev S32x4x128 : Shape := ⟨3, ![32, 4, 128]⟩
abbrev S32x4 : Shape := ⟨2, ![32, 4]⟩
abbrev S_ : Shape := ⟨0, ![]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S32x8 : Shape := ⟨2, ![32, 8]⟩
abbrev S8x1024 : Shape := ⟨2, ![8, 1024]⟩
abbrev S8x128 : Shape := ⟨2, ![8, 128]⟩
abbrev S8x4x256x128 : Shape := ⟨4, ![8, 4, 256, 128]⟩
abbrev S8x4x128 : Shape := ⟨3, ![8, 4, 128]⟩
abbrev S8x4 : Shape := ⟨2, ![8, 4]⟩
abbrev S8x8 : Shape := ⟨2, ![8, 8]⟩
abbrev S128x1 : Shape := ⟨2, ![128, 1]⟩
abbrev S1x256 : Shape := ⟨2, ![1, 256]⟩
abbrev S1x1 : Shape := ⟨2, ![1, 1]⟩
abbrev S1x1x256x128 : Shape := ⟨4, ![1, 1, 256, 128]⟩
abbrev S256x128 : Shape := ⟨2, ![256, 128]⟩
abbrev S1x1x128 : Shape := ⟨3, ![1, 1, 128]⟩
abbrev S1 : Shape := ⟨1, ![1]⟩
abbrev S128x256 : Shape := ⟨2, ![128, 256]⟩
abbrev S128x128 : Shape := ⟨2, ![128, 128]⟩

abbrev nBuf : Space → Nat
  | .hbm => 21
  | .vmem => 34
  | .smem => 0
  | _ => 0

abbrev bufTy : (tb : Table) → Fin (tcTables nBuf tb) → BufTy
  | .hbm, ⟨0, _⟩ => ⟨S32x8192, .f32⟩
  | .hbm, ⟨1, _⟩ => ⟨S32x128, .f32⟩
  | .hbm, ⟨2, _⟩ => ⟨S8, .f32⟩
  | .hbm, ⟨3, _⟩ => ⟨S4, .f32⟩
  | .hbm, ⟨4, _⟩ => ⟨S4, .f32⟩
  | .hbm, ⟨5, _⟩ => ⟨S32x1024, .f32⟩
  | .hbm, ⟨6, _⟩ => ⟨S1024, .f32⟩
  | .hbm, ⟨7, _⟩ => ⟨S32x4x256x128, .f32⟩
  | .hbm, ⟨8, _⟩ => ⟨S32x4x128, .f32⟩
  | .hbm, ⟨9, _⟩ => ⟨S32x4, .f32⟩
  | .hbm, ⟨10, _⟩ => ⟨S_, .f32⟩
  | .hbm, ⟨11, _⟩ => ⟨S112, .f32⟩
  | .hbm, ⟨12, _⟩ => ⟨S128, .f32⟩
  | .hbm, ⟨13, _⟩ => ⟨S1x128, .f32⟩
  | .hbm, ⟨14, _⟩ => ⟨S1x1024, .f32⟩
  | .hbm, ⟨15, _⟩ => ⟨S32x4x256x128, .f32⟩
  | .hbm, ⟨16, _⟩ => ⟨S32x4x128, .f32⟩
  | .hbm, ⟨17, _⟩ => ⟨S32x4, .f32⟩
  | .hbm, ⟨18, _⟩ => ⟨S32x8, .f32⟩
  | .hbm, ⟨19, _⟩ => ⟨S32x1024, .f32⟩
  | .hbm, ⟨20, _⟩ => ⟨S32x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S8x1024, .f32⟩
  | .local _ .vmem, ⟨14, _⟩ => ⟨S8x1024, .f32⟩
  | .local _ .vmem, ⟨15, _⟩ => ⟨S1x1024, .f32⟩
  | .local _ .vmem, ⟨16, _⟩ => ⟨S8x4x256x128, .f32⟩
  | .local _ .vmem, ⟨17, _⟩ => ⟨S8x4x256x128, .f32⟩
  | .local _ .vmem, ⟨18, _⟩ => ⟨S8x4x128, .f32⟩
  | .local _ .vmem, ⟨19, _⟩ => ⟨S8x4x128, .f32⟩
  | .local _ .vmem, ⟨20, _⟩ => ⟨S8x4, .f32⟩
  | .local _ .vmem, ⟨21, _⟩ => ⟨S8x4, .f32⟩
  | .local _ .vmem, ⟨22, _⟩ => ⟨S8x4x256x128, .f32⟩
  | .local _ .vmem, ⟨23, _⟩ => ⟨S8x4x256x128, .f32⟩
  | .local _ .vmem, ⟨24, _⟩ => ⟨S8x4x128, .f32⟩
  | .local _ .vmem, ⟨25, _⟩ => ⟨S8x4x128, .f32⟩
  | .local _ .vmem, ⟨26, _⟩ => ⟨S8x4, .f32⟩
  | .local _ .vmem, ⟨27, _⟩ => ⟨S8x4, .f32⟩
  | .local _ .vmem, ⟨28, _⟩ => ⟨S8x8, .f32⟩
  | .local _ .vmem, ⟨29, _⟩ => ⟨S8x8, .f32⟩
  | .local _ .vmem, ⟨30, _⟩ => ⟨S8x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x4x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceStepIdeal.lean ====
abbrev S32x8192 : Shape := ⟨2, ![32, 8192]⟩
abbrev S32x128 : Shape := ⟨2, ![32, 128]⟩
abbrev S8 : Shape := ⟨1, ![8]⟩
abbrev S4 : Shape := ⟨1, ![4]⟩
abbrev S32x1024 : Shape := ⟨2, ![32, 1024]⟩
abbrev S1024 : Shape := ⟨1, ![1024]⟩
abbrev S32x4x256x128 : Shape := ⟨4, ![32, 4, 256, 128]⟩
abbrev S32x4x128 : Shape := ⟨3, ![32, 4, 128]⟩
abbrev S32x4 : Shape := ⟨2, ![32, 4]⟩
abbrev S32x5120 : Shape := ⟨2, ![32, 5120]⟩
abbrev S32x1x5120 : Shape := ⟨3, ![32, 1, 5120]⟩
abbrev S32x1x1024 : Shape := ⟨3, ![32, 1, 1024]⟩
abbrev S32x1x512 : Shape := ⟨3, ![32, 1, 512]⟩
abbrev S32x1x128 : Shape := ⟨3, ![32, 1, 128]⟩
abbrev S32x1x8 : Shape := ⟨3, ![32, 1, 8]⟩
abbrev S1x1x8 : Shape := ⟨3, ![1, 1, 8]⟩
abbrev S_ : Shape := ⟨0, ![]⟩
abbrev S32x1x4 : Shape := ⟨3, ![32, 1, 4]⟩
abbrev S1x1x4 : Shape := ⟨3, ![1, 1, 4]⟩
abbrev S32x1x4x128 : Shape := ⟨4, ![32, 1, 4, 128]⟩
abbrev S32x1x4x256 : Shape := ⟨4, ![32, 1, 4, 256]⟩
abbrev S32x4x1 : Shape := ⟨3, ![32, 4, 1]⟩
abbrev S1x1 : Shape := ⟨2, ![1, 1]⟩
abbrev S32x4x1x1 : Shape := ⟨4, ![32, 4, 1, 1]⟩
abbrev S32x4x1x256 : Shape := ⟨4, ![32, 4, 1, 256]⟩
abbrev S32x1x4x1 : Shape := ⟨4, ![32, 1, 4, 1]⟩
abbrev S1x1x1024 : Shape := ⟨3, ![1, 1, 1024]⟩
abbrev S32x8 : Shape := ⟨2, ![32, 8]⟩

abbrev nBuf : Space → Nat
  | .hbm => 199
  | .vmem => 0
  | .smem => 0
  | _ => 0

abbrev hbmTy0_0 (i : Nat) : BufTy := match i % 128 with
  | 0 => ⟨S32x8192, .f32⟩
  | 1 => ⟨S32x128, .f32⟩
  | 2 => ⟨S8, .f32⟩
  | 3 => ⟨S4, .f32⟩
  | 4 => ⟨S4, .f32⟩
  | 5 => ⟨S32x1024, .f32⟩
  | 6 => ⟨S1024, .f32⟩
  | 7 => ⟨S32x4x256x128, .f32⟩
  | 8 => ⟨S32x4x128, .f32⟩
  | 9 => ⟨S32x4, .f32⟩
  | 10 => ⟨S32x5120, .f32⟩
  | 11 => ⟨S32x1x5120, .f32⟩
  | 12 => ⟨S32x1x1024, .f32⟩
  | 13 => ⟨S32x1x512, .f32⟩
  | 14 => ⟨S32x1x512, .f32⟩
  | 15 => ⟨S32x1x1024, .f32⟩
  | 16 => ⟨S32x1x1024, .f32⟩
  | 17 => ⟨S32x1x1024, .f32⟩
  | 18 => ⟨S32x1x128, .f32⟩
  | 19 => ⟨S32x1x8, .f32⟩
  | 20 => ⟨S1x1x8, .f32⟩
  | 21 => ⟨S32x1x8, .f32⟩
  | 22 => ⟨S32x1x8, .f32⟩
  | 23 => ⟨S32x1x8, .f32⟩
  | 24 => ⟨S_, .f32⟩
  | 25 => ⟨S32x1x8, .f32⟩
  | 26 => ⟨S32x1x8, .f32⟩
  | 27 => ⟨S32x1x8, .f32⟩
  | 28 => ⟨S32x1x8, .f32⟩
  | 29 => ⟨S32x1x8, .i1⟩
  | 30 => ⟨S32x1x8, .f32⟩
  | 31 => ⟨S32x1x8, .f32⟩
  | 32 => ⟨S32x1x8, .f32⟩
  | 33 => ⟨S32x1x8, .f32⟩
  | 34 => ⟨S32x1x8, .f32⟩
  | 35 => ⟨S32x1x8, .f32⟩
  | 36 => ⟨S32x1x8, .f32⟩
  | 37 => ⟨S32x1x8, .f32⟩
  | 38 => ⟨S32x1x8, .f32⟩
  | 39 => ⟨S32x1x4, .f32⟩
  | 40 => ⟨S1x1x4, .f32⟩
  | 41 => ⟨S32x1x4, .f32⟩
  | 42 => ⟨S32x1x4, .f32⟩
  | 43 => ⟨S32x1x4, .f32⟩
  | 44 => ⟨S_, .f32⟩
  | 45 => ⟨S32x1x4, .f32⟩
  | 46 => ⟨S32x1x4, .f32⟩
  | 47 => ⟨S32x1x4, .f32⟩
  | 48 => ⟨S32x1x4, .f32⟩
  | 49 => ⟨S32x1x4, .i1⟩
  | 50 => ⟨S32x1x4, .f32⟩
  | 51 => ⟨S32x1x4, .f32⟩
  | 52 => ⟨S32x1x4, .f32⟩
  | 53 => ⟨S32x1x4, .f32⟩
  | 54 => ⟨S32x1x4, .f32⟩
  | 55 => ⟨S32x1x4, .f32⟩
  | 56 => ⟨S32x1x4, .f32⟩
  | 57 => ⟨S32x1x4, .f32⟩
  | 58 => ⟨S32x1x4, .f32⟩
  | 59 => ⟨S32x1x4, .f32⟩
  | 60 => ⟨S1x1x4, .f32⟩
  | 61 => ⟨S32x1x4, .f32⟩
  | 62 => ⟨S32x1x4, .f32⟩
  | 63 => ⟨S32x1x4x128, .f32⟩
  | 64 => ⟨S32x1x4x128, .f32⟩
  | 65 => ⟨S_, .f32⟩
  | 66 => ⟨S32x1x4x128, .f32⟩
  | 67 => ⟨S32x1x4x128, .f32⟩
  | 68 => ⟨S32x1x4x256, .f32⟩
  | 69 => ⟨S_, .f32⟩
  | 70 => ⟨S_, .f32⟩
  | 71 => ⟨S32x1x4, .f32⟩
  | 72 => ⟨S32x4x1, .f32⟩
  | 73 => ⟨S32x4x1, .f32⟩
  | 74 => ⟨S_, .i1⟩
  | 75 => ⟨S1x1, .i1⟩
  | 76 => ⟨S1x1, .i32⟩
  | 77 => ⟨S_, .i32⟩
  | 78 => ⟨S1x1, .i32⟩
  | 79 => ⟨S1x1, .i32⟩
  | 80 => ⟨S1x1, .i32⟩
  | 81 => ⟨S1x1, .i1⟩
  | 82 => ⟨S_, .i1⟩
  | 83 => ⟨S1x1, .i1⟩
  | 84 => ⟨S1x1, .i1⟩
  | 85 => ⟨S32x4x1x1, .f32⟩
  | 86 => ⟨S32x4x1x1, .f32⟩
  | 87 => ⟨S32x4x1x1, .f32⟩
  | 88 => ⟨S32x4x1x1, .f32⟩
  | 89 => ⟨S32x4x1x1, .f32⟩
  | 90 => ⟨S_, .f32⟩
  | 91 => ⟨S_, .f32⟩
  | 92 => ⟨S32x4x1x1, .i1⟩
  | 93 => ⟨S32x4x1x1, .f32⟩
  | 94 => ⟨S32x4x1x1, .f32⟩
  | 95 => ⟨S32x4x1, .f32⟩
  | 96 => ⟨S32x4x1, .f32⟩
  | 97 => ⟨S_, .f32⟩
  | 98 => ⟨S32x4x1, .f32⟩
  | 99 => ⟨S32x4x1, .f32⟩
  | 100 => ⟨S32x4x1x1, .f32⟩
  | 101 => ⟨S32x4x1x1, .f32⟩
  | 102 => ⟨S32x4x1x1, .f32⟩
  | 103 => ⟨S32x4x1, .f32⟩
  | 104 => ⟨S32x4x1, .f32⟩
  | 105 => ⟨S32x4x1x1, .f32⟩
  | 106 => ⟨S32x4x1x1, .f32⟩
  | 107 => ⟨S32x4x1x256, .f32⟩
  | 108 => ⟨S32x4x1x1, .f32⟩
  | 109 => ⟨S32x4x1x256, .f32⟩
  | 110 => ⟨S32x4x1x256, .f32⟩
  | 111 => ⟨S32x4x1x256, .f32⟩
  | 112 => ⟨S32x4x1x256, .f32⟩
  | 113 => ⟨S_, .f32⟩
  | 114 => ⟨S32x4x1, .f32⟩
  | 115 => ⟨S32x4x1, .f32⟩
  | 116 => ⟨S32x4x1, .f32⟩
  | 117 => ⟨S32x4x1, .f32⟩
  | 118 => ⟨S32x4x1, .f32⟩
  | 119 => ⟨S32x4x1, .f32⟩
  | 120 => ⟨S32x4x1, .f32⟩
  | 121 => ⟨S32x4x1, .f32⟩
  | 122 => ⟨S32x4x1x1, .f32⟩
  | 123 => ⟨S32x4x1x256, .f32⟩
  | 124 => ⟨S32x4x1x256, .f32⟩
  | 125 => ⟨S32x4, .f32⟩
  | 126 => ⟨S32x4x1, .f32⟩
  | 127 => ⟨S32x4x1, .f32⟩
  | _ => ⟨S32x8192, .f32⟩

abbrev hbmTy0_1 (i : Nat) : BufTy := match i % 128 with
  | 0 => ⟨S32x4x1, .f32⟩
  | 1 => ⟨S32x4x1, .f32⟩
  | 2 => ⟨S32x4x1, .f32⟩
  | 3 => ⟨S32x4, .f32⟩
  | 4 => ⟨S32x4, .f32⟩
  | 5 => ⟨S32x4, .f32⟩
  | 6 => ⟨S32x4x1x1, .f32⟩
  | 7 => ⟨S32x4x256x128, .f32⟩
  | 8 => ⟨S32x4x256x128, .f32⟩
  | 9 => ⟨S32x4x1x1, .f32⟩
  | 10 => ⟨S32x4x1x256, .f32⟩
  | 11 => ⟨S32x4x1x256, .f32⟩
  | 12 => ⟨S32x4x1x256, .f32⟩
  | 13 => ⟨S32x4x256x128, .f32⟩
  | 14 => ⟨S32x4x256x128, .f32⟩
  | 15 => ⟨S32x4x1, .f32⟩
  | 16 => ⟨S32x4x128, .f32⟩
  | 17 => ⟨S32x4x128, .f32⟩
  | 18 => ⟨S32x4x128, .f32⟩
  | 19 => ⟨S32x4x128, .f32⟩
  | 20 => ⟨S32x1x4x256, .f32⟩
  | 21 => ⟨S32x1x1024, .f32⟩
  | 22 => ⟨S32x1x1024, .f32⟩
  | 23 => ⟨S_, .f32⟩
  | 24 => ⟨S32x1x1024, .f32⟩
  | 25 => ⟨S32x1x1024, .f32⟩
  | 26 => ⟨S_, .f32⟩
  | 27 => ⟨S32x1x1024, .f32⟩
  | 28 => ⟨S32x1x1024, .f32⟩
  | 29 => ⟨S32x1x1024, .f32⟩
  | 30 => ⟨S32x1x1024, .f32⟩
  | 31 => ⟨S32x1x1024, .f32⟩
  | 32 => ⟨S32x1x4x256, .f32⟩
  | 33 => ⟨S_, .f32⟩
  | 34 => ⟨S32x1x4, .f32⟩
  | 35 => ⟨S32x1x4x1, .f32⟩
  | 36 => ⟨S_, .f32⟩
  | 37 => ⟨S32x1x4x1, .f32⟩
  | 38 => ⟨S32x1x4x1, .f32⟩
  | 39 => ⟨S_, .f32⟩
  | 40 => ⟨S32x1x4x1, .f32⟩
  | 41 => ⟨S32x1x4x1, .f32⟩
  | 42 => ⟨S32x1x4x1, .f32⟩
  | 43 => ⟨S32x1x4x256, .f32⟩
  | 44 => ⟨S32x1x4x256, .f32⟩
  | 45 => ⟨S32x1x1024, .f32⟩
  | 46 => ⟨S1x1x1024, .f32⟩
  | 47 => ⟨S32x1x1024, .f32⟩
  | 48 => ⟨S32x1x1024, .f32⟩
  | 49 => ⟨S32x1x1024, .f32⟩
  | 50 => ⟨S32x1x1024, .f32⟩
  | 51 => ⟨S_, .f32⟩
  | 52 => ⟨S32x1x1024, .f32⟩
  | 53 => ⟨S32x1x1024, .f32⟩
  | 54 => ⟨S_, .f32⟩
  | 55 => ⟨S32x1x1024, .f32⟩
  | 56 => ⟨S32x1x1024, .f32⟩
  | 57 => ⟨S32x1x1024, .f32⟩
  | 58 => ⟨S32x1x1024, .f32⟩
  | 59 => ⟨S32x1x1024, .f32⟩
  | 60 => ⟨S_, .f32⟩
  | 61 => ⟨S32x1x1024, .f32⟩
  | 62 => ⟨S32x1x1024, .f32⟩
  | 63 => ⟨S_, .f32⟩
  | 64 => ⟨S32x1x1024, .f32⟩
  | 65 => ⟨S32x1x1024, .f32⟩
  | 66 => ⟨S32x1x1024, .f32⟩
  | 67 => ⟨S32x1x1024, .f32⟩
  | 68 => ⟨S32x8, .f32⟩
  | 69 => ⟨S32x1024, .f32⟩
  | 70 => ⟨S32x1024, .f32⟩
  | _ => ⟨S32x8192, .f32⟩

abbrev hbmTy (i : Nat) : BufTy := match i / 128 with
  | 0 => hbmTy0_0 i
  | 1 => hbmTy0_1 i
  | _ => ⟨S32x8192, .f32⟩

abbrev bufTy : (tb : Table) → Fin (tcTables nBuf tb) → BufTy
  | .hbm, ⟨i, _⟩ => hbmTy i
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_call2_call0_cst : Ref sig .tc := ⟨.hbm, 69, rfl⟩
abbrev main_call2_call0_v0 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_c : Ref sig .tc := ⟨.hbm, 74, rfl⟩
abbrev main_v31 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_0 : Ref sig .tc := ⟨.hbm, 82, rfl⟩
abbrev main_call3_v5 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_cst_0 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_cst_1 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_2 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_call5_v0 : Ref sig .tc := ⟨.hbm, 149, rfl⟩
abbrev main_call5_v1 : Ref sig .tc := ⟨.hbm, 150, rfl⟩
abbrev main_call5_cst : Ref sig .tc := ⟨.hbm, 151, rfl⟩
abbrev main_call5_v2 : Ref sig .tc := ⟨.hbm, 152, rfl⟩
abbrev main_call5_v3 : Ref sig .tc := ⟨.hbm, 153, rfl⟩
abbrev main_call5_cst_0 : Ref sig .tc := ⟨.hbm, 154, rfl⟩
abbrev main_call5_v4 : Ref sig .tc := ⟨.hbm, 155, rfl⟩
abbrev main_call5_v5 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_3 : Ref sig .tc := ⟨.hbm, 161, rfl⟩
abbrev main_v95 : Ref sig .tc := ⟨.hbm, 162, rfl⟩
abbrev main_v96 : Ref sig .tc := ⟨.hbm, 163, rfl⟩
abbrev main_cst_4 : Ref sig .tc := ⟨.hbm, 164, rfl⟩
abbrev main_v97 : Ref sig .tc := ⟨.hbm, 165, rfl⟩
abbrev main_v98 : Ref sig .tc := ⟨.hbm, 166, rfl⟩
abbrev main_cst_5 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_cst_6 : Ref sig .tc := ⟨.hbm, 188, rfl⟩
abbrev main_v111 : Ref sig .tc := ⟨.hbm, 189, rfl⟩
abbrev main_v112 : Ref sig .tc := ⟨.hbm, 190, rfl⟩
abbrev main_cst_7 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩

abbrev nD : Nat := 1
abbrev τ : Topo := Topo.v7x

variable {F : FTy → Type} [FloatOps F]
-- ==== KernelGates.lean ====
abbrev S8320x128 : Shape := ⟨2, ![8320, 128]⟩
abbrev S8 : Shape := ⟨1, ![8]⟩
abbrev S4 : Shape := ⟨1, ![4]⟩
abbrev S128x128 : Shape := ⟨2, ![128, 128]⟩
abbrev S_ : Shape := ⟨0, ![]⟩
abbrev S112 : Shape := ⟨1, ![112]⟩
abbrev S128 : Shape := ⟨1, ![128]⟩
abbrev S1x128 : Shape := ⟨2, ![1, 128]⟩
abbrev S16x8320 : Shape := ⟨2, ![16, 8320]⟩
abbrev S8208x8 : Shape := ⟨2, ![8208, 8]⟩
abbrev S16x128 : Shape := ⟨2, ![16, 128]⟩
abbrev S128x8 : Shape := ⟨2, ![128, 8]⟩

abbrev nBuf : Space → Nat
  | .hbm => 12
  | .vmem => 11
  | .smem => 0
  | _ => 0

abbrev bufTy : (tb : Table) → Fin (tcTables nBuf tb) → BufTy
  | .hbm, ⟨0, _⟩ => ⟨S8320x128, .f32⟩
  | .hbm, ⟨1, _⟩ => ⟨S8, .f32⟩
  | .hbm, ⟨2, _⟩ => ⟨S4, .f32⟩
  | .hbm, ⟨3, _⟩ => ⟨S4, .f32⟩
  | .hbm, ⟨4, _⟩ => ⟨S128x128, .bf16⟩
  | .hbm, ⟨5, _⟩ => ⟨S_, .f32⟩
  | .hbm, ⟨6, _⟩ => ⟨S112, .f32⟩
  | .hbm, ⟨7, _⟩ => ⟨S128, .f32⟩
  | .hbm, ⟨8, _⟩ => ⟨S1x128, .f32⟩
  | .hbm, ⟨9, _⟩ => ⟨S8320x128, .f32⟩
  | .hbm, ⟨10, _⟩ => ⟨S16x8320, .f32⟩
  | .hbm, ⟨11, _⟩ => ⟨S8208x8, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S128x128, .bf16⟩
  | .local _ .vmem, ⟨4, _⟩ => ⟨S128x128, .f32⟩
  | .local _ .vmem, ⟨5, _⟩ => ⟨S128x128, .f32⟩
  | .local _ .vmem, ⟨6, _⟩ => ⟨S16x128, .f32⟩
  | .local _ .vmem, ⟨7, _⟩ => ⟨S16x128, .f32⟩
  | .local _ .vmem, ⟨8, _⟩ => ⟨S128x8, .f32⟩
  | .local _ .vmem, ⟨9, _⟩ => ⟨S128x8, .f32⟩
  | .local _ .vmem, ⟨10, _⟩ => ⟨S1x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceGatesIdeal.lean ====
abbrev S8320x128 : Shape := ⟨2, ![8320, 128]⟩
abbrev S8 : Shape := ⟨1, ![8]⟩
abbrev S4 : Shape := ⟨1, ![4]⟩
abbrev S8208x8 : Shape := ⟨2, ![8208, 8]⟩
abbrev S1x8 : Shape := ⟨2, ![1, 8]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S8, .f32⟩
  | .hbm, ⟨2, _⟩ => ⟨S4, .f32⟩
  | .hbm, ⟨3, _⟩ => ⟨S4, .f32⟩
  | .hbm, ⟨4, _⟩ => ⟨S8208x8, .f32⟩
  | .hbm, ⟨5, _⟩ => ⟨S1x8, .f32⟩
  | .hbm, ⟨6, _⟩ => ⟨S8208x8, .f32⟩
  | .hbm, ⟨7, _⟩ => ⟨S8208x8, .f32⟩
  | .hbm, ⟨8, _⟩ => ⟨S8208x8, .f32⟩
  | .hbm, ⟨9, _⟩ => ⟨S_, .f32⟩
  | .hbm, ⟨10, _⟩ => ⟨S8208x8, .f32⟩
  | .hbm, ⟨11, _⟩ => ⟨S8208x8, .f32⟩
  | .hbm, ⟨12, _⟩ => ⟨S8208x8, .f32⟩
  | .hbm, ⟨13, _⟩ => ⟨S8208x8, .f32⟩
  | .hbm, ⟨14, _⟩ => ⟨S8208x8, .i1⟩
  | .hbm, ⟨15, _⟩ => ⟨S8208x8, .f32⟩
  | .hbm, ⟨16, _⟩ => ⟨S8208x8, .f32⟩
  | .hbm, ⟨17, _⟩ => ⟨S8208x8, .f32⟩
  | .hbm, ⟨18, _⟩ => ⟨S8208x8, .f32⟩
  | .hbm, ⟨19, _⟩ => ⟨S8208x8, .f32⟩
  | .hbm, ⟨20, _⟩ => ⟨S8208x8, .f32⟩
  | .hbm, ⟨21, _⟩ => ⟨S8208x8, .f32⟩
  | .hbm, ⟨22, _⟩ => ⟨S8208x8, .f32⟩
  | .hbm, ⟨23, _⟩ => ⟨S8208x8, .f32⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== KernelMem.lean ====
abbrev S8320x5120 : Shape := ⟨2, ![8320, 5120]⟩
abbrev S8320x128 : Shape := ⟨2, ![8320, 128]⟩
abbrev S16x8320 : Shape := ⟨2, ![16, 8320]⟩
abbrev S1024 : Shape := ⟨1, ![1024]⟩
abbrev S1x1024 : Shape := ⟨2, ![1, 1024]⟩
abbrev S8320x1024 : Shape := ⟨2, ![8320, 1024]⟩
abbrev S4x256x128 : Shape := ⟨3, ![4, 256, 128]⟩
abbrev S4x1x128 : Shape := ⟨3, ![4, 1, 128]⟩
abbrev S128x1024 : Shape := ⟨2, ![128, 1024]⟩
abbrev S128x128 : Shape := ⟨2, ![128, 128]⟩
abbrev S16x128 : Shape := ⟨2, ![16, 128]⟩
abbrev S128x256 : Shape := ⟨2, ![128, 256]⟩
abbrev S128x1 : Shape := ⟨2, ![128, 1]⟩
abbrev S1x128 : Shape := ⟨2, ![1, 128]⟩
abbrev S1x1x128 : Shape := ⟨3, ![1, 1, 128]⟩
abbrev S1x1 : Shape := ⟨2, ![1, 1]⟩
abbrev S128 : Shape := ⟨1, ![128]⟩
abbrev S1x256x128 : Shape := ⟨3, ![1, 256, 128]⟩
abbrev S256x128 : Shape := ⟨2, ![256, 128]⟩
abbrev S1x256 : Shape := ⟨2, ![1, 256]⟩

abbrev nBuf : Space → Nat
  | .hbm => 9
  | .vmem => 21
  | .smem => 0
  | _ => 0

abbrev bufTy : (tb : Table) → Fin (tcTables nBuf tb) → BufTy
  | .hbm, ⟨0, _⟩ => ⟨S8320x5120, .f32⟩
  | .hbm, ⟨1, _⟩ => ⟨S8320x128, .f32⟩
  | .hbm, ⟨2, _⟩ => ⟨S16x8320, .f32⟩
  | .hbm, ⟨3, _⟩ => ⟨S1024, .f32⟩
  | .hbm, ⟨4, _⟩ => ⟨S1x1024, .f32⟩
  | .hbm, ⟨5, _⟩ => ⟨S8320x1024, .bf16⟩
  | .hbm, ⟨6, _⟩ => ⟨S4x256x128, .f32⟩
  | .hbm, ⟨7, _⟩ => ⟨S4x1x128, .f32⟩
  | .hbm, ⟨8, _⟩ => ⟨S4x1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S16x128, .f32⟩
  | .local _ .vmem, ⟨11, _⟩ => ⟨S16x128, .f32⟩
  | .local _ .vmem, ⟨12, _⟩ => ⟨S1x1024, .f32⟩
  | .local _ .vmem, ⟨13, _⟩ => ⟨S128x1024, .bf16⟩
  | .local _ .vmem, ⟨14, _⟩ => ⟨S128x1024, .bf16⟩
  | .local _ .vmem, ⟨15, _⟩ => ⟨S4x256x128, .f32⟩
  | .local _ .vmem, ⟨16, _⟩ => ⟨S4x1x128, .f32⟩
  | .local _ .vmem, ⟨17, _⟩ => ⟨S4x1x128, .f32⟩
  | .local _ .vmem, ⟨18, _⟩ => ⟨S4x256x128, .f32⟩
  | .local _ .vmem, ⟨19, _⟩ => ⟨S4x1x128, .f32⟩
  | .local _ .vmem, ⟨20, _⟩ => ⟨S4x1x128, .f32⟩
  | _, _ => ⟨S8320x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v530 : BitVec 1 := Scalar.cmpi .eq arg0 c64_i32
  let v531 : BitVec 32 := Scalar.extui v530
  let c0_i32_221 : BitVec 32 := 0#32
  let v532 : BitVec 1 := Scalar.cmpi .ne v531 c0_i32_221
  v532

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceMemIdeal.lean ====
abbrev S8320x5120 : Shape := ⟨2, ![8320, 5120]⟩
abbrev S8320x128 : Shape := ⟨2, ![8320, 128]⟩
abbrev S16x8320 : Shape := ⟨2, ![16, 8320]⟩
abbrev S1024 : Shape := ⟨1, ![1024]⟩
abbrev S8320x512 : Shape := ⟨2, ![8320, 512]⟩
abbrev S8320x4x128 : Shape := ⟨3, ![8320, 4, 128]⟩
abbrev S_ : Shape := ⟨0, ![]⟩
abbrev S8320x1024 : Shape := ⟨2, ![8320, 1024]⟩
abbrev S8320x4x256 : Shape := ⟨3, ![8320, 4, 256]⟩
abbrev S8320x4 : Shape := ⟨2, ![8320, 4]⟩
abbrev S65x128x4 : Shape := ⟨3, ![65, 128, 4]⟩
abbrev S65 : Shape := ⟨1, ![65]⟩
abbrev S1x65 : Shape := ⟨2, ![1, 65]⟩
abbrev S65x1 : Shape := ⟨2, ![65, 1]⟩
abbrev S65x65 : Shape := ⟨2, ![65, 65]⟩
abbrev S65x65x1 : Shape := ⟨3, ![65, 65, 1]⟩
abbrev S65x1x4 : Shape := ⟨3, ![65, 1, 4]⟩
abbrev S65x4 : Shape := ⟨2, ![65, 4]⟩
abbrev S1x65x4 : Shape := ⟨3, ![1, 65, 4]⟩
abbrev S65x65x4 : Shape := ⟨3, ![65, 65, 4]⟩
abbrev S4x8320 : Shape := ⟨2, ![4, 8320]⟩
abbrev S4x65x128 : Shape := ⟨3, ![4, 65, 128]⟩
abbrev S4x65 : Shape := ⟨2, ![4, 65]⟩
abbrev S4x65x1 : Shape := ⟨3, ![4, 65, 1]⟩
abbrev S1x4 : Shape := ⟨2, ![1, 4]⟩
abbrev S4 : Shape := ⟨1, ![4]⟩
abbrev S4x1 : Shape := ⟨2, ![4, 1]⟩
abbrev S8320x4x1 : Shape := ⟨3, ![8320, 4, 1]⟩
abbrev S4x256x128 : Shape := ⟨3, ![4, 256, 128]⟩
abbrev S4x128 : Shape := ⟨2, ![4, 128]⟩
abbrev S4x1x128 : Shape := ⟨3, ![4, 1, 128]⟩
abbrev S4x1x1 : Shape := ⟨3, ![4, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8320x5120, .f32⟩
  | .hbm, ⟨1, _⟩ => ⟨S8320x128, .f32⟩
  | .hbm, ⟨2, _⟩ => ⟨S16x8320, .f32⟩
  | .hbm, ⟨3, _⟩ => ⟨S1024, .f32⟩
  | .hbm, ⟨4, _⟩ => ⟨S8320x512, .f32⟩
  | .hbm, ⟨5, _⟩ => ⟨S8320x4x128, .f32⟩
  | .hbm, ⟨6, _⟩ => ⟨S_, .f32⟩
  | .hbm, ⟨7, _⟩ => ⟨S8320x4x128, .f32⟩
  | .hbm, ⟨8, _⟩ => ⟨S8320x4x128, .f32⟩
  | .hbm, ⟨9, _⟩ => ⟨S8320x1024, .f32⟩
  | .hbm, ⟨10, _⟩ => ⟨S8320x4x256, .f32⟩
  | .hbm, ⟨11, _⟩ => ⟨S8320x4, .f32⟩
  | .hbm, ⟨12, _⟩ => ⟨S65x128x4, .f32⟩
  | .hbm, ⟨13, _⟩ => ⟨S65, .i32⟩
  | .hbm, ⟨14, _⟩ => ⟨S1x65, .i32⟩
  | .hbm, ⟨15, _⟩ => ⟨S65x1, .i32⟩
  | .hbm, ⟨16, _⟩ => ⟨S65x65, .i32⟩
  | .hbm, ⟨17, _⟩ => ⟨S65x65, .i32⟩
  | .hbm, ⟨18, _⟩ => ⟨S65x65, .i1⟩
  | .hbm, ⟨19, _⟩ => ⟨S65x65x1, .i1⟩
  | .hbm, ⟨20, _⟩ => ⟨S65x1x4, .f32⟩
  | .hbm, ⟨21, _⟩ => ⟨S65x4, .f32⟩
  | .hbm, ⟨22, _⟩ => ⟨S1x65x4, .f32⟩
  | .hbm, ⟨23, _⟩ => ⟨S_, .f32⟩
  | .hbm, ⟨24, _⟩ => ⟨S_, .f32⟩
  | .hbm, ⟨25, _⟩ => ⟨S65x65x4, .i1⟩
  | .hbm, ⟨26, _⟩ => ⟨S65x65x4, .f32⟩
  | .hbm, ⟨27, _⟩ => ⟨S65x65x4, .f32⟩
  | .hbm, ⟨28, _⟩ => ⟨S65x65x4, .f32⟩
  | .hbm, ⟨29, _⟩ => ⟨S_, .f32⟩
  | .hbm, ⟨30, _⟩ => ⟨S65x4, .f32⟩
  | .hbm, ⟨31, _⟩ => ⟨S65x1x4, .f32⟩
  | .hbm, ⟨32, _⟩ => ⟨S65x128x4, .f32⟩
  | .hbm, ⟨33, _⟩ => ⟨S65x128x4, .f32⟩
  | .hbm, ⟨34, _⟩ => ⟨S8320x4, .f32⟩
  | .hbm, ⟨35, _⟩ => ⟨S4x8320, .f32⟩
  | .hbm, ⟨36, _⟩ => ⟨S4x65x128, .f32⟩
  | .hbm, ⟨37, _⟩ => ⟨S4x65, .f32⟩
  | .hbm, ⟨38, _⟩ => ⟨S4x65x1, .f32⟩
  | .hbm, ⟨39, _⟩ => ⟨S4x65x128, .f32⟩
  | .hbm, ⟨40, _⟩ => ⟨S4x65x128, .f32⟩
  | .hbm, ⟨41, _⟩ => ⟨S4x8320, .f32⟩
  | .hbm, ⟨42, _⟩ => ⟨S1x4, .f32⟩
  | .hbm, ⟨43, _⟩ => ⟨S4, .f32⟩
  | .hbm, ⟨44, _⟩ => ⟨S4x1, .f32⟩
  | .hbm, ⟨45, _⟩ => ⟨S4x8320, .f32⟩
  | .hbm, ⟨46, _⟩ => ⟨S4x8320, .f32⟩
  | .hbm, ⟨47, _⟩ => ⟨S4x8320, .f32⟩
  | .hbm, ⟨48, _⟩ => ⟨S4x8320, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S1x4, .f32⟩
  | .hbm, ⟨53, _⟩ => ⟨S8320x4, .f32⟩
  | .hbm, ⟨54, _⟩ => ⟨S8320x4, .f32⟩
  | .hbm, ⟨55, _⟩ => ⟨S8320x4, .f32⟩
  | .hbm, ⟨56, _⟩ => ⟨S8320x4, .f32⟩
  | .hbm, ⟨57, _⟩ => ⟨S1x4, .f32⟩
  | .hbm, ⟨58, _⟩ => ⟨S8320x4, .f32⟩
  | .hbm, ⟨59, _⟩ => ⟨S8320x4, .f32⟩
  | .hbm, ⟨60, _⟩ => ⟨S8320x4, .f32⟩
  | .hbm, ⟨61, _⟩ => ⟨S8320x4x1, .f32⟩
  | .hbm, ⟨62, _⟩ => ⟨S8320x4x256, .f32⟩
  | .hbm, ⟨63, _⟩ => ⟨S8320x4x256, .f32⟩
  | .hbm, ⟨64, _⟩ => ⟨S4x256x128, .f32⟩
  | .hbm, ⟨65, _⟩ => ⟨S4x128, .f32⟩
  | .hbm, ⟨66, _⟩ => ⟨S4x1x128, .f32⟩
  | .hbm, ⟨67, _⟩ => ⟨S4x1x1, .f32⟩
  | .hbm, ⟨68, _⟩ => ⟨S4x1x128, .f32⟩
  | _, _ => ⟨S8320x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Proof.Fox.Conds.lean ====
/- What the runs of the attention kernel's body share: its three branch conditions over the grid points, the
   windows' staging buffers and the scratch buffers as memrefs. -/
module

public import proofs.«01_k».proof.Proof.Gen.KernelIdeal.Frame
public import proofs.«01_k».proof.Proof.Gen.KernelIdeal.Skeleton

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 13) — by arithmetic of the point. -/
theorem hcond0_0 : ∀ t : Fin cfg0.N, cond0_0 (grid0.coords t) ↔ t.val % 13 = 0 :=
  (fun t => by
    have ht : t.val < 169 := Nat.lt_of_lt_of_eq t.isLt N_0
    have e0 : (grid0.coords t 0).val = t.val / 13 % 13 := Pipeline.Grid.coords_val t 0 (by decide) rfl
    have e1 : (grid0.coords t 1).val = t.val / 1 % 13 := Pipeline.Grid.coords_val t 1 (by decide) rfl
    simp only [cond0_0, e0, e1]
    word_cmp
   : ∀ t : Fin grid0.N, cond0_0 (grid0.coords t) ↔ t.val % 13 = 0)

/-- The condition of the body's `scf.if` 1 (`k0_h2`), from the grid coordinates (the skeleton's scalar
    chain substituted). -/
abbrev cond0_1 (i : grid0.Coords) : Prop := (Scalar.cmpi .ne (Scalar.extui (Scalar.cmpi .slt (BitVec.ofNat 32 (i 1).val) (BitVec.ofNat 32 (i 0).val))) 0#32) = 1#1
/-- It holds at the points whose coordinates have i1 + 1 ≤ i0 — decided over the grid. -/
theorem hcond0_1 : ∀ t : Fin cfg0.N, cond0_1 (grid0.coords t) ↔ t.val % 13 + 1 ≤ t.val / 13 % 13 :=
  (by decide +kernel : ∀ t : Fin grid0.N, cond0_1 (grid0.coords t) ↔ t.val % 13 + 1 ≤ t.val / 13 % 13)

/-- The condition of the body's `scf.if` 2 (`k0_h3`), from the grid coordinates (the skeleton's scalar
    chain substituted). -/
abbrev cond0_2 (i : grid0.Coords) : Prop := k0_cond3 i = 1#1
/-- It holds at the points ≡ 0 (mod 14) — decided over the grid. -/
theorem hcond0_2 : ∀ t : Fin cfg0.N, cond0_2 (grid0.coords t) ↔ t.val % 14 = 0 :=
  (by decide +kernel : ∀ t : Fin grid0.N, cond0_2 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S640x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x1024 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S640x1024 .f32 := Memref.whole cc0_scratch0
abbrev scM0_1 : Memref sig .tc .vmem S8x640x1 .f32 := Memref.whole cc0_scratch1
abbrev scM0_2 : Memref sig .tc .vmem S8x640x1 .f32 := Memref.whole cc0_scratch2
/-- The scratch `arg9` the kernel carries between points, as a view: what it holds is stated through it. -/
abbrev VS0_0 : View sig .tc .vmem S640x1024 .f32 := scM0_0.view
/-- The scratch `arg10` the kernel carries between points, as a view: what it holds is stated through it. -/
abbrev VS0_1 : View sig .tc .vmem S8x640x1 .f32 := scM0_1.view
/-- The scratch `arg11` the kernel carries between points, as a view: what it holds is stated through it. -/
abbrev VS0_2 : View sig .tc .vmem S8x640x1 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Fox

end
-- ==== Proof.Fox.Head.lean ====
/- One head's arithmetic in a key block of the attention kernel, and the three scratch buffers after a block as
   functions of what they held before it: the same eight heads over the columns of the blocks. -/
module

public import proofs.«01_k».proof.Proof.Fox.Conds
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks of one head -/

/-- Head `h`'s 128 columns of a block. -/
abbrev cols {e : EltTy} (x : Vec F S640x1024 e) (h : Fin 8) : Vec F S640x128 e :=
  View.ld x (Rect.unit (s := S640x1024) ![0, 128 * h.val] S640x128.size
    (by intro a; have := h.isLt; fin_cases a <;> simp [S640x1024, S640x128] <;> omega))

/-- Head `h`'s row of the transposed gates' block. -/
abbrev ctRow (x : Vec F S16x640 .f32) (h : Fin 8) : Vec F S1x640 .f32 :=
  View.ld x (Rect.unit (s := S16x640) ![h.val, 0] S1x640.size
    (by intro a; have := h.isLt; fin_cases a <;> simp [S16x640, S1x640] <;> omega))

/-- Head `h`'s column of the gates' block. -/
abbrev gcCol (x : Vec F S640x128 .f32) (h : Fin 8) : Vec F S640x1 .f32 :=
  View.ld x (Rect.unit (s := S640x128) ![0, h.val] S640x1.size
    (by intro a; have := h.isLt; fin_cases a <;> simp [S640x128, S640x1] <;> omega))

/-- Head `h`'s slab of a running maximum or a running sum. -/
abbrev slab (x : Vec F S8x640x1 .f32) (h : Fin 8) : Vec F S1x640x1 .f32 :=
  View.ld x (Rect.unit (s := S8x640x1) ![h.val, 0, 0] S1x640x1.size
    (by intro a; have := h.isLt; fin_cases a <;> simp [S8x640x1, S1x640x1] <;> omega))

/-! ## One head -/

/-- The scaled scores of a query block against a key block, less the key's gate. -/
def score (q k : Vec F S640x128 .bf16) (ct : Vec F S1x640 .f32) : FVec F S640x640 .f32 :=
  subf (mulf (matmul dot_S640x128_S640x128_S640x640_1_1_0_0_n_n none q k (constant S640x640 .f32 0x00000000#32))
      (broadcast S640x640 (Scalar.ofBits .f32 0x3DB504F3#32)))
    (broadcastTo S640x640 ct broadcasts_S1x640_S640x640)

/-- Which keys of the diagonal block a query sees. -/
def keep : IVec S640x640 1 :=
  cmpi .sge (iota .tc S640x640 32 [0] iota_S640x640_d0_w32) (iota .tc S640x640 32 [1] iota_S640x640_d1_w32)

/-- The scores with the unseen keys at −∞. -/
def masked (t : FVec F S640x640 .f32) : FVec F S640x640 .f32 :=
  select keep t (broadcast S640x640 (Scalar.ofBits .f32 0xFF800000#32))

/-- The new running maximum. -/
def mHead (t : FVec F S640x640 .f32) (cq : Vec F S640x1 .f32) (mp : Vec F S1x640x1 .f32) : FVec F S640x1 .f32 :=
  maximumf (shapeCast S640x1 mp shapeCasts_S1x640x1_S640x1)
    (addf (shapeCast S640x1 (multiReduction .maximumf [1] S640 t 0xFF800000#32 reduces_S640x640_S640 (.inl rfl) rfl)
      shapeCasts_S640_S640x1) cq)

/-- The block's weights over the new maximum. -/
def pHead (t : FVec F S640x640 .f32) (cq : Vec F S640x1 .f32) (mp : Vec F S1x640x1 .f32) : FVec F S640x640 .f32 :=
  exp (subf t (broadcastTo S640x640 (subf (mHead t cq mp) cq) broadcasts_S640x1_S640x640))

/-- The factor that rescales what was summed before. -/
def aHead (t : FVec F S640x640 .f32) (cq : Vec F S640x1 .f32) (mp : Vec F S1x640x1 .f32) : FVec F S640x1 .f32 :=
  exp (subf (shapeCast S640x1 mp shapeCasts_S1x640x1_S640x1) (mHead t cq mp))

/-- The new running maximum as it is stored. -/
def mOut (t : FVec F S640x640 .f32) (cq : Vec F S640x1 .f32) (mp : Vec F S1x640x1 .f32) : FVec F S1x640x1 .f32 :=
  shapeCast S1x640x1 (mHead t cq mp) shapeCasts_S640x1_S1x640x1

/-- The new running sum as it is stored. -/
def lOut (t : FVec F S640x640 .f32) (cq : Vec F S640x1 .f32) (mp lp : Vec F S1x640x1 .f32) : FVec F S1x640x1 .f32 :=
  shapeCast S1x640x1 (addf (mulf (aHead t cq mp) (shapeCast S640x1 lp shapeCasts_S1x640x1_S640x1))
    (shapeCast S640x1 (multiReduction .add [1] S640 (pHead t cq mp) 0x00000000#32 reduces_S640x640_S640 (.inl rfl) rfl)
      shapeCasts_S640_S640x1)) shapeCasts_S640x1_S1x640x1

/-- The new weighted sum of the values as it is stored. -/
def accOut (t : FVec F S640x640 .f32) (cq : Vec F S640x1 .f32) (mp : Vec F S1x640x1 .f32) (v : Vec F S640x128 .bf16)
    (ap : Vec F S640x128 .f32) : FVec F S640x128 .f32 :=
  shapeCast S640x128 (addf (mulf (broadcastTo S640x128 (aHead t cq mp) broadcasts_S640x1_S640x128) ap)
    (matmul dot_S640x640_S640x128_S640x128_1_0_0_1_n_n none (truncf .bf16 (pHead t cq mp) bitsLt_bf16_f32) v
      (constant S640x128 .f32 0x00000000#32))) shapeCasts_S640x128_S640x128

/-- A head's result: the weighted sum over the sum of the weights, times the gate `z · 1/(1 + e^(−z))`. -/
def oOut (a : Vec F S640x128 .f32) (l : Vec F S1x640x1 .f32) (z : Vec F S640x128 .f32) : FVec F S640x128 .bf16 :=
  truncf .bf16 (mulf (mulf z (divf (broadcast S640x128 (Scalar.ofBits .f32 0x3F800000#32))
      (addf (broadcast S640x128 (Scalar.ofBits .f32 0x3F800000#32))
        (exp (subf (broadcast S640x128 (Scalar.ofBits .f32 0x00000000#32)) z)))))
    (divf a (broadcastTo S640x128 (shapeCast S640x1 l shapeCasts_S1x640x1_S640x1) broadcasts_S640x1_S640x128))) bitsLt_bf16_f32

/-! ## Eight heads side by side -/

/-- The head an index of a block's columns is in, and its place in that head's columns. -/
abbrev headOf (y : S640x1024.Idx) : Fin 8 := ⟨(y 1).val / 128, by have h : (y 1).val < 1024 := (y 1).isLt; omega⟩
abbrev laneOf (y : S640x1024.Idx) : S640x128.Idx :=
  ix2 (n0 := 640) (n1 := 128) (y 0) ⟨(y 1).val % 128, Nat.mod_lt _ (by decide)⟩

/-- Eight column blocks side by side. -/
def beside {e : EltTy} (f : Fin 8 → Vec F S640x128 e) : Vec F S640x1024 e := fun y => f (headOf y) (laneOf y)

/-- Eight slabs stacked. -/
def stack (f : Fin 8 → Vec F S1x640x1 .f32) : Vec F S8x640x1 .f32 := fun y => f (y 0) (ix3 (n0 := 1) (n1 := 640) (n2 := 1) 0 (y 1) (y 2))

/-- Stores that cover an index hide every earlier one there. -/
theorem canon_append {S : Shape} {e : EltTy} (y : S.Idx) (L : List (View.Piece (Elt F) S e)) :
    ∀ K : List (View.Piece (Elt F) S e), (∃ p ∈ K, y ∈ p.1.set) → View.canon (K ++ L) y = View.canon K y
  | [], h => by obtain ⟨_, hm, _⟩ := h; exact absurd hm List.not_mem_nil
  | p :: K, h => by
    by_cases hy : y ∈ p.1.set
    · obtain ⟨r, w⟩ := p
      obtain ⟨x, rfl⟩ := r.exists_idx_of_mem hy
      rw [List.cons_append, show r.idx x = r.emb x from rfl, View.canon_cons_emb, View.canon_cons_emb]
    · rw [List.cons_append, View.canon_cons_of_not_mem _ _ hy, View.canon_cons_of_not_mem _ _ hy]
      refine canon_append y L K ?_
      obtain ⟨q, hq, hyq⟩ := h
      rcases List.mem_cons.mp hq with rfl | hq
      · exact absurd hyq hy
      · exact ⟨q, hq, hyq⟩

/-- Eight stores of column blocks leave them side by side. -/
theorem canon_beside {e : EltTy} (f : Fin 8 → Vec F S640x128 e) (L : List (View.Piece (Elt F) S640x1024 e)) :
    View.canon (Val := Elt F) (s := S640x1024) (e := e)
      ([⟨Rect.unit ![0, 896] S640x128.size inb_S640x1024_S640x128_0_896, f 7⟩, ⟨Rect.unit ![0, 768] S640x128.size inb_S640x1024_S640x128_0_768, f 6⟩,
       ⟨Rect.unit ![0, 640] S640x128.size inb_S640x1024_S640x128_0_640, f 5⟩, ⟨Rect.unit ![0, 512] S640x128.size inb_S640x1024_S640x128_0_512, f 4⟩,
       ⟨Rect.unit ![0, 384] S640x128.size inb_S640x1024_S640x128_0_384, f 3⟩, ⟨Rect.unit ![0, 256] S640x128.size inb_S640x1024_S640x128_0_256, f 2⟩,
       ⟨Rect.unit ![0, 128] S640x128.size inb_S640x1024_S640x128_0_128, f 1⟩, ⟨Rect.unit ![0, 0] S640x128.size inb_S640x1024_S640x128_0_0, f 0⟩] ++ L) = beside f := by
  funext y
  have key : ∀ (h : Fin 8) (x : S640x128.Idx), (y 0).val = (x 0).val → (y 1).val = 128 * h.val + (x 1).val →
      f h x = beside f y := by
    intro h x h0 h1
    have hx : (x 1).val < 128 := (x 1).isLt
    have e1 : headOf y = h := Fin.ext (by show (y 1).val / 128 = h.val; omega)
    have e2 : laneOf y = x := by
      funext a; fin_cases a
      · exact Fin.ext h0
      · exact Fin.ext (by show (y 1).val % 128 = (x 1).val; omega)
    unfold beside; rw [e1, e2]
  have hc := View.cover_of_tiledL (Val := Elt F) (s := S640x1024) (e := e)
      [⟨Rect.unit ![0, 896] S640x128.size inb_S640x1024_S640x128_0_896, f 7⟩, ⟨Rect.unit ![0, 768] S640x128.size inb_S640x1024_S640x128_0_768, f 6⟩,
       ⟨Rect.unit ![0, 640] S640x128.size inb_S640x1024_S640x128_0_640, f 5⟩, ⟨Rect.unit ![0, 512] S640x128.size inb_S640x1024_S640x128_0_512, f 4⟩,
       ⟨Rect.unit ![0, 384] S640x128.size inb_S640x1024_S640x128_0_384, f 3⟩, ⟨Rect.unit ![0, 256] S640x128.size inb_S640x1024_S640x128_0_256, f 2⟩,
       ⟨Rect.unit ![0, 128] S640x128.size inb_S640x1024_S640x128_0_128, f 1⟩, ⟨Rect.unit ![0, 0] S640x128.size inb_S640x1024_S640x128_0_0, f 0⟩] S640x128.size (by sl_kernel_rfl) y
  rw [canon_append _ _ _ hc]
  canon_tiles x h using hc
  all_goals (refine key _ x ?_ ?_ <;> first | omega | (simp only [Fin.isValue]; norm_num; omega))

/-- Eight stores of slabs leave them stacked. -/
theorem canon_stack (f : Fin 8 → Vec F S1x640x1 .f32) (L : List (View.Piece (Elt F) S8x640x1 .f32)) :
    View.canon (Val := Elt F) (s := S8x640x1) (e := .f32)
      ([⟨Rect.unit ![7, 0, 0] S1x640x1.size inb_S8x640x1_S1x640x1_7_0_0, f 7⟩, ⟨Rect.unit ![6, 0, 0] S1x640x1.size inb_S8x640x1_S1x640x1_6_0_0, f 6⟩,
       ⟨Rect.unit ![5, 0, 0] S1x640x1.size inb_S8x640x1_S1x640x1_5_0_0, f 5⟩, ⟨Rect.unit ![4, 0, 0] S1x640x1.size inb_S8x640x1_S1x640x1_4_0_0, f 4⟩,
       ⟨Rect.unit ![3, 0, 0] S1x640x1.size inb_S8x640x1_S1x640x1_3_0_0, f 3⟩, ⟨Rect.unit ![2, 0, 0] S1x640x1.size inb_S8x640x1_S1x640x1_2_0_0, f 2⟩,
       ⟨Rect.unit ![1, 0, 0] S1x640x1.size inb_S8x640x1_S1x640x1_1_0_0, f 1⟩, ⟨Rect.unit ![0, 0, 0] S1x640x1.size inb_S8x640x1_S1x640x1_0_0_0, f 0⟩] ++ L) = stack f := by
  funext y
  have key : ∀ (h : Fin 8) (x : S1x640x1.Idx), (y 0).val = h.val + (x 0).val → (y 1).val = (x 1).val → (y 2).val = (x 2).val →
      f h x = stack f y := by
    intro h x h0 h1 h2
    have hx : (x 0).val < 1 := (x 0).isLt
    have e1 : y 0 = h := Fin.ext (by omega)
    have e2 : ix3 (n0 := 1) (n1 := 640) (n2 := 1) 0 (y 1) (y 2) = x := by
      funext a; fin_cases a
      · exact Fin.ext (by show 0 = (x 0).val; omega)
      · exact Fin.ext h1
      · exact Fin.ext h2
    unfold stack; rw [e1]; exact (congrArg (f h) e2).symm
  have hc := View.cover_of_tiledL (Val := Elt F) (s := S8x640x1) (e := .f32)
      [⟨Rect.unit ![7, 0, 0] S1x640x1.size inb_S8x640x1_S1x640x1_7_0_0, f 7⟩, ⟨Rect.unit ![6, 0, 0] S1x640x1.size inb_S8x640x1_S1x640x1_6_0_0, f 6⟩,
       ⟨Rect.unit ![5, 0, 0] S1x640x1.size inb_S8x640x1_S1x640x1_5_0_0, f 5⟩, ⟨Rect.unit ![4, 0, 0] S1x640x1.size inb_S8x640x1_S1x640x1_4_0_0, f 4⟩,
       ⟨Rect.unit ![3, 0, 0] S1x640x1.size inb_S8x640x1_S1x640x1_3_0_0, f 3⟩, ⟨Rect.unit ![2, 0, 0] S1x640x1.size inb_S8x640x1_S1x640x1_2_0_0, f 2⟩,
       ⟨Rect.unit ![1, 0, 0] S1x640x1.size inb_S8x640x1_S1x640x1_1_0_0, f 1⟩, ⟨Rect.unit ![0, 0, 0] S1x640x1.size inb_S8x640x1_S1x640x1_0_0_0, f 0⟩] S1x640x1.size (by sl_kernel_rfl) y
  rw [canon_append _ _ _ hc]
  canon_tiles x h using hc
  all_goals (refine key _ x ?_ ?_ ?_ <;> first | omega | (simp only [Fin.isValue]; norm_num; omega))

/-! ## The scratch buffers after a block -/

/-- The three scratch buffers: the weighted sums, the running maxima, the running sums. -/
structure State (F : FTy → Type) where
  acc : Vec F S640x1024 .f32
  m : Vec F S8x640x1 .f32
  l : Vec F S8x640x1 .f32

/-- The scratch at the start of a query block's row of key blocks. -/
def reset : State F := ⟨k0_pay3, k0_pay1, k0_pay2⟩

/-- The scratch after a key block with scores `t h` for head `h`. -/
def step (t : Fin 8 → FVec F S640x640 .f32) (v : Vec F S640x1024 .bf16) (gc : Vec F S640x128 .f32) (s : State F) : State F where
  acc := beside fun h => accOut (t h) (gcCol gc h) (slab s.m h) (cols v h) (cols s.acc h)
  m := stack fun h => mOut (t h) (gcCol gc h) (slab s.m h)
  l := stack fun h => lOut (t h) (gcCol gc h) (slab s.m h) (slab s.l h)

/-- The scores of a key block below the diagonal, and of the diagonal's. -/
def scores (q k : Vec F S640x1024 .bf16) (ct : Vec F S16x640 .f32) (h : Fin 8) : FVec F S640x640 .f32 :=
  score (cols q h) (cols k h) (ctRow ct h)
def scoresD (q k : Vec F S640x1024 .bf16) (ct : Vec F S16x640 .f32) (h : Fin 8) : FVec F S640x640 .f32 :=
  masked (scores q k ct h)

/-- The result block from the scratch after the diagonal block: head `h` from its stored sum and weighted sum. -/
def result (t : Fin 8 → FVec F S640x640 .f32) (v : Vec F S640x1024 .bf16) (gc : Vec F S640x128 .f32) (z : Vec F S640x1024 .f32)
    (s : State F) : Vec F S640x1024 .bf16 :=
  beside fun h => oOut (accOut (t h) (gcCol gc h) (slab s.m h) (cols v h) (cols s.acc h))
    (lOut (t h) (gcCol gc h) (slab s.m h) (slab s.l h)) (cols z h)

end Cert.Fox

end
-- ==== Proof.Fox.RunD.lean ====
/- The attention kernel's body run on the diagonal's block, not the first of its row. -/
module

public import proofs.«01_k».proof.Proof.Fox.Head

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body run on the diagonal's block, not the first of its row: the stores it leaves in the scratch buffers and in the result's block are found by the run. -/
noncomputable def runD (c : Dev nD) (i : grid0.Coords) (arg2 : Memref sig .tc .vmem S640x1024 .bf16) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S16x640 .f32) (harg5 : arg5.IsWhole) (arg6 : Memref sig .tc .vmem S640x128 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1024 .f32) (harg9 : arg9.IsWhole) (arg10 : Memref sig .tc .vmem S8x640x1 .f32) (harg10 : arg10.IsWhole) (arg11 : Memref sig .tc .vmem S8x640x1 .f32) (harg11 : arg11.IsWhole) (hc0 : ¬cond0_0 i) (hc1 : ¬cond0_1 i) (hc2 : cond0_2 i)
    (x0 : Vec F S640x1024 .bf16) (x1 : Vec F S640x1024 .bf16) (x2 : Vec F S640x1024 .bf16) (x3 : Vec F S16x640 .f32) (x4 : Vec F S640x128 .f32) (x5 : Vec F S640x1024 .f32) (xs0 : Vec F S640x1024 .f32) (xs1 : Vec F S8x640x1 .f32) (xs2 : Vec F S8x640x1 .f32) :
    Σ' (LO : List (View.Piece (Elt F) S640x1024 .bf16)), Σ' (LS0 : List (View.Piece (Elt F) S640x1024 .f32)), Σ' (LS1 : List (View.Piece (Elt F) S8x640x1 .f32)), { LS2 : List (View.Piece (Elt F) S8x640x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_fox_eq_skeleton]; unfold cc0_fox_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Fox

end
-- ==== Proof.Fox.RunA.lean ====
/- The attention kernel's body run on the first block of a row of key blocks that is the diagonal's. -/
module

public import proofs.«01_k».proof.Proof.Fox.RunD

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the first block of a row of key blocks that is the diagonal's: the stores it leaves in the scratch buffers and in the result's block are found by the run. -/
noncomputable def runA (c : Dev nD) (i : grid0.Coords) (arg2 : Memref sig .tc .vmem S640x1024 .bf16) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S16x640 .f32) (harg5 : arg5.IsWhole) (arg6 : Memref sig .tc .vmem S640x128 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1024 .f32) (harg9 : arg9.IsWhole) (arg10 : Memref sig .tc .vmem S8x640x1 .f32) (harg10 : arg10.IsWhole) (arg11 : Memref sig .tc .vmem S8x640x1 .f32) (harg11 : arg11.IsWhole) (hc0 : cond0_0 i) (hc1 : ¬cond0_1 i) (hc2 : cond0_2 i)
    (x0 : Vec F S640x1024 .bf16) (x1 : Vec F S640x1024 .bf16) (x2 : Vec F S640x1024 .bf16) (x3 : Vec F S16x640 .f32) (x4 : Vec F S640x128 .f32) (x5 : Vec F S640x1024 .f32) :
    Σ' (LO : List (View.Piece (Elt F) S640x1024 .bf16)), Σ' (LS0 : List (View.Piece (Elt F) S640x1024 .f32)), Σ' (LS1 : List (View.Piece (Elt F) S8x640x1 .f32)), { LS2 : List (View.Piece (Elt F) S8x640x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_fox_eq_skeleton]; unfold cc0_fox_skel
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Fox

end
-- ==== Proof.Fox.RunC.lean ====
/- The attention kernel's body run on the first block of a row, below the diagonal. -/
module

public import proofs.«01_k».proof.Proof.Fox.RunA

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body run on the first block of a row, below the diagonal: the stores it leaves in the scratch buffers are found by the run. -/
noncomputable def runC (c : Dev nD) (i : grid0.Coords) (arg2 : Memref sig .tc .vmem S640x1024 .bf16) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S16x640 .f32) (harg5 : arg5.IsWhole) (arg6 : Memref sig .tc .vmem S640x128 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1024 .f32) (harg9 : arg9.IsWhole) (arg10 : Memref sig .tc .vmem S8x640x1 .f32) (harg10 : arg10.IsWhole) (arg11 : Memref sig .tc .vmem S8x640x1 .f32) (harg11 : arg11.IsWhole) (hc0 : cond0_0 i) (hc1 : cond0_1 i) (hc2 : ¬cond0_2 i)
    (x0 : Vec F S640x1024 .bf16) (x1 : Vec F S640x1024 .bf16) (x2 : Vec F S640x1024 .bf16) (x3 : Vec F S16x640 .f32) (x4 : Vec F S640x128 .f32) (x5 : Vec F S640x1024 .f32) :
    Σ' (LS0 : List (View.Piece (Elt F) S640x1024 .f32)), Σ' (LS1 : List (View.Piece (Elt F) S8x640x1 .f32)), { LS2 : List (View.Piece (Elt F) S8x640x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_fox_eq_skeleton]; unfold cc0_fox_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Fox

end
-- ==== Proof.Fox.RunE.lean ====
/- The attention kernel's body run on a block below the diagonal, not the first of its row. -/
module

public import proofs.«01_k».proof.Proof.Fox.RunC

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- The body run on a block below the diagonal, not the first of its row: the stores it leaves in the scratch buffers are found by the run. -/
noncomputable def runE (c : Dev nD) (i : grid0.Coords) (arg2 : Memref sig .tc .vmem S640x1024 .bf16) (harg2 : arg2.IsWhole) (arg3 : Memref sig .tc .vmem S640x1024 .bf16) (harg3 : arg3.IsWhole) (arg4 : Memref sig .tc .vmem S640x1024 .bf16) (harg4 : arg4.IsWhole) (arg5 : Memref sig .tc .vmem S16x640 .f32) (harg5 : arg5.IsWhole) (arg6 : Memref sig .tc .vmem S640x128 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x1024 .f32) (harg9 : arg9.IsWhole) (arg10 : Memref sig .tc .vmem S8x640x1 .f32) (harg10 : arg10.IsWhole) (arg11 : Memref sig .tc .vmem S8x640x1 .f32) (harg11 : arg11.IsWhole) (hc0 : ¬cond0_0 i) (hc1 : cond0_1 i) (hc2 : ¬cond0_2 i)
    (x0 : Vec F S640x1024 .bf16) (x1 : Vec F S640x1024 .bf16) (x2 : Vec F S640x1024 .bf16) (x3 : Vec F S16x640 .f32) (x4 : Vec F S640x128 .f32) (x5 : Vec F S640x1024 .f32) (xs0 : Vec F S640x1024 .f32) (xs1 : Vec F S8x640x1 .f32) (xs2 : Vec F S8x640x1 .f32) :
    Σ' (LS0 : List (View.Piece (Elt F) S640x1024 .f32)), Σ' (LS1 : List (View.Piece (Elt F) S8x640x1 .f32)), { LS2 : List (View.Piece (Elt F) S8x640x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0_fox i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_fox_eq_skeleton]; unfold cc0_fox_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Fox

end
-- ==== Proof.Fox.Contents.lean ====
/- What each run of the attention kernel's body leaves, as functions of what it found: the scratch buffers after the
   block (`step`), from `reset` on a row's first block, and the result's block on the diagonal's. -/
module

public import proofs.«01_k».proof.Proof.Fox.RunE
public import Idealize.ShloMosaic.Lib.Pipeline.ReadBack
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S640x1024 .bf16) (harg2 : arg2.IsWhole)
  (arg3 : Memref sig .tc .vmem S640x1024 .bf16) (harg3 : arg3.IsWhole) (arg4 : Memref sig .tc .vmem S640x1024 .bf16) (harg4 : arg4.IsWhole)
  (arg5 : Memref sig .tc .vmem S16x640 .f32) (harg5 : arg5.IsWhole) (arg6 : Memref sig .tc .vmem S640x128 .f32) (harg6 : arg6.IsWhole)
  (arg7 : Memref sig .tc .vmem S640x1024 .f32) (harg7 : arg7.IsWhole) (arg8 : Memref sig .tc .vmem S640x1024 .bf16) (harg8 : arg8.IsWhole)
  (arg9 : Memref sig .tc .vmem S640x1024 .f32) (harg9 : arg9.IsWhole) (arg10 : Memref sig .tc .vmem S8x640x1 .f32) (harg10 : arg10.IsWhole)
  (arg11 : Memref sig .tc .vmem S8x640x1 .f32) (harg11 : arg11.IsWhole)
  (x0 x1 x2 : Vec F S640x1024 .bf16) (x3 : Vec F S16x640 .f32) (x4 : Vec F S640x128 .f32) (x5 : Vec F S640x1024 .f32)

/-! ## Case D -/

set_option maxHeartbeats 2000000 in
theorem acc_D (hc0 : ¬cond0_0 i) (hc1 : ¬cond0_1 i) (hc2 : cond0_2 i) (s : State F) :
    View.canon (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.1 = (step (scoresD x0 x1 x3) x2 x4 s).acc := by
  frame_open
  simp (disch := decide) only [↓ View.readCov_skip, ↓ View.readCov_cons_toLoadRect, ↓ View.readCov_fill]
  frame_out
  exact canon_beside (F := F) (e := .f32) (fun h => accOut (scoresD x0 x1 x3 h) (gcCol x4 h) (slab (s : State F).m h) (cols x2 h) (cols (s : State F).acc h)) []

set_option maxHeartbeats 2000000 in
theorem m_D (hc0 : ¬cond0_0 i) (hc1 : ¬cond0_1 i) (hc2 : cond0_2 i) (s : State F) :
    View.canon (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.1 = (step (scoresD x0 x1 x3) x2 x4 s).m := by
  frame_open
  simp (disch := decide) only [↓ View.readCov_skip, ↓ View.readCov_cons_toLoadRect, ↓ View.readCov_fill]
  frame_out
  exact canon_stack (F := F) (fun h => mOut (scoresD x0 x1 x3 h) (gcCol x4 h) (slab (s : State F).m h)) []

set_option maxHeartbeats 2000000 in
theorem l_D (hc0 : ¬cond0_0 i) (hc1 : ¬cond0_1 i) (hc2 : cond0_2 i) (s : State F) :
    View.canon (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.2.1 = (step (scoresD x0 x1 x3) x2 x4 s).l := by
  frame_open
  simp (disch := decide) only [↓ View.readCov_skip, ↓ View.readCov_cons_toLoadRect, ↓ View.readCov_fill]
  frame_out
  exact canon_stack (F := F) (fun h => lOut (scoresD x0 x1 x3 h) (gcCol x4 h) (slab (s : State F).m h) (slab (s : State F).l h)) []

set_option maxHeartbeats 2000000 in
theorem out_D (hc0 : ¬cond0_0 i) (hc1 : ¬cond0_1 i) (hc2 : cond0_2 i) (s : State F) :
    View.canon (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).1 = result (scoresD x0 x1 x3) x2 x4 x5 s := by
  frame_open
  simp (disch := decide) only [↓ View.readCov_skip, ↓ View.readCov_cons_toLoadRect, ↓ View.readCov_fill]
  frame_out
  exact canon_beside (F := F) (e := .bf16) (fun h => oOut (accOut (scoresD x0 x1 x3 h) (gcCol x4 h) (slab (s : State F).m h) (cols x2 h) (cols (s : State F).acc h)) (lOut (scoresD x0 x1 x3 h) (gcCol x4 h) (slab (s : State F).m h) (slab (s : State F).l h)) (cols x5 h)) []

/-! ## Case E -/

set_option maxHeartbeats 2000000 in
theorem acc_E (hc0 : ¬cond0_0 i) (hc1 : cond0_1 i) (hc2 : ¬cond0_2 i) (s : State F) :
    View.canon (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).1 = (step (scores x0 x1 x3) x2 x4 s).acc := by
  frame_open
  simp (disch := decide) only [↓ View.readCov_skip, ↓ View.readCov_cons_toLoadRect, ↓ View.readCov_fill]
  frame_out
  exact canon_beside (F := F) (e := .f32) (fun h => accOut (scores x0 x1 x3 h) (gcCol x4 h) (slab (s : State F).m h) (cols x2 h) (cols (s : State F).acc h)) []

set_option maxHeartbeats 2000000 in
theorem m_E (hc0 : ¬cond0_0 i) (hc1 : cond0_1 i) (hc2 : ¬cond0_2 i) (s : State F) :
    View.canon (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.1 = (step (scores x0 x1 x3) x2 x4 s).m := by
  frame_open
  simp (disch := decide) only [↓ View.readCov_skip, ↓ View.readCov_cons_toLoadRect, ↓ View.readCov_fill]
  frame_out
  exact canon_stack (F := F) (fun h => mOut (scores x0 x1 x3 h) (gcCol x4 h) (slab (s : State F).m h)) []

set_option maxHeartbeats 2000000 in
theorem l_E (hc0 : ¬cond0_0 i) (hc1 : cond0_1 i) (hc2 : ¬cond0_2 i) (s : State F) :
    View.canon (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.1 = (step (scores x0 x1 x3) x2 x4 s).l := by
  frame_open
  simp (disch := decide) only [↓ View.readCov_skip, ↓ View.readCov_cons_toLoadRect, ↓ View.readCov_fill]
  frame_out
  exact canon_stack (F := F) (fun h => lOut (scores x0 x1 x3 h) (gcCol x4 h) (slab (s : State F).m h) (slab (s : State F).l h)) []

/-! ## Case A -/

set_option maxHeartbeats 2000000 in
theorem acc_A (hc0 : cond0_0 i) (hc1 : ¬cond0_1 i) (hc2 : cond0_2 i) :
    View.canon (runA c i arg2 harg2 arg3 harg3 arg4 harg4 arg5 harg5 arg6 harg6 arg7 harg7 arg8 harg8 arg9 harg9 arg10 harg10 arg11 harg11 hc0 hc1 hc2 x0 x1 x2 x3 x4 x5).2.1 = (step (scoresD x0 x1 x3) x2 x4 reset).acc := by
  frame_open
  simp (disch := decide) only [↓ View.readCov_skip, ↓ View.readCov_cons_toLoadRect, ↓ View.readCov_fill]
  frame_out
  exact canon_beside (F := F) (e := .f32) (fun h => accOut (scoresD x0 x1 x3 h) (gcCol x4 h) (slab (reset : State F).m h) (cols x2 h) (cols (reset : State F).acc h)) [⟨Rect.unit (s := S640x1024) ![0, 0] S640x1024.size inb_S640x1024_S640x1024_0_0, k0_pay3⟩]

set_option maxHeartbeats 2000000 in
theorem m_A (hc0 : cond0_0 i) (hc1 : ¬cond0_1 i) (hc2 : cond0_2 i) :
    View.canon (runA c i arg2 harg2 arg3 harg3 arg4 harg4 arg5 harg5 arg6 harg6 arg7 harg7 arg8 harg8 arg9 harg9 arg10 harg10 arg11 harg11 hc0 hc1 hc2 x0 x1 x2 x3 x4 x5).2.2.1 = (step (scoresD x0 x1 x3) x2 x4 reset).m := by
  frame_open
  simp (disch := decide) only [↓ View.readCov_skip, ↓ View.readCov_cons_toLoadRect, ↓ View.readCov_fill]
  frame_out
  exact canon_stack (F := F) (fun h => mOut (scoresD x0 x1 x3 h) (gcCol x4 h) (slab (reset : State F).m h)) [⟨Rect.unit (s := S8x640x1) ![0, 0, 0] S8x640x1.size inb_S8x640x1_S8x640x1_0_0_0, k0_pay1⟩]

set_option maxHeartbeats 2000000 in
theorem l_A (hc0 : cond0_0 i) (hc1 : ¬cond0_1 i) (hc2 : cond0_2 i) :
    View.canon (runA c i arg2 harg2 arg3 harg3 arg4 harg4 arg5 harg5 arg6 harg6 arg7 harg7 arg8 harg8 arg9 harg9 arg10 harg10 arg11 harg11 hc0 hc1 hc2 x0 x1 x2 x3 x4 x5).2.2.2.1 = (step (scoresD x0 x1 x3) x2 x4 reset).l := by
  frame_open
  simp (disch := decide) only [↓ View.readCov_skip, ↓ View.readCov_cons_toLoadRect, ↓ View.readCov_fill]
  frame_out
  exact canon_stack (F := F) (fun h => lOut (scoresD x0 x1 x3 h) (gcCol x4 h) (slab (reset : State F).m h) (slab (reset : State F).l h)) [⟨Rect.unit (s := S8x640x1) ![0, 0, 0] S8x640x1.size inb_S8x640x1_S8x640x1_0_0_0, k0_pay2⟩]

set_option maxHeartbeats 2000000 in
theorem out_A (hc0 : cond0_0 i) (hc1 : ¬cond0_1 i) (hc2 : cond0_2 i) :
    View.canon (runA c i arg2 harg2 arg3 harg3 arg4 harg4 arg5 harg5 arg6 harg6 arg7 harg7 arg8 harg8 arg9 harg9 arg10 harg10 arg11 harg11 hc0 hc1 hc2 x0 x1 x2 x3 x4 x5).1 = result (scoresD x0 x1 x3) x2 x4 x5 reset := by
  frame_open
  simp (disch := decide) only [↓ View.readCov_skip, ↓ View.readCov_cons_toLoadRect, ↓ View.readCov_fill]
  frame_out
  exact canon_beside (F := F) (e := .bf16) (fun h => oOut (accOut (scoresD x0 x1 x3 h) (gcCol x4 h) (slab (reset : State F).m h) (cols x2 h) (cols (reset : State F).acc h)) (lOut (scoresD x0 x1 x3 h) (gcCol x4 h) (slab (reset : State F).m h) (slab (reset : State F).l h)) (cols x5 h)) []

/-! ## Case C -/

set_option maxHeartbeats 2000000 in
theorem acc_C (hc0 : cond0_0 i) (hc1 : cond0_1 i) (hc2 : ¬cond0_2 i) :
    View.canon (runC c i arg2 harg2 arg3 harg3 arg4 harg4 arg5 harg5 arg6 harg6 arg7 harg7 arg8 harg8 arg9 harg9 arg10 harg10 arg11 harg11 hc0 hc1 hc2 x0 x1 x2 x3 x4 x5).1 = (step (scores x0 x1 x3) x2 x4 reset).acc := by
  frame_open
  simp (disch := decide) only [↓ View.readCov_skip, ↓ View.readCov_cons_toLoadRect, ↓ View.readCov_fill]
  frame_out
  exact canon_beside (F := F) (e := .f32) (fun h => accOut (scores x0 x1 x3 h) (gcCol x4 h) (slab (reset : State F).m h) (cols x2 h) (cols (reset : State F).acc h)) [⟨Rect.unit (s := S640x1024) ![0, 0] S640x1024.size inb_S640x1024_S640x1024_0_0, k0_pay3⟩]

set_option maxHeartbeats 2000000 in
theorem m_C (hc0 : cond0_0 i) (hc1 : cond0_1 i) (hc2 : ¬cond0_2 i) :
    View.canon (runC c i arg2 harg2 arg3 harg3 arg4 harg4 arg5 harg5 arg6 harg6 arg7 harg7 arg8 harg8 arg9 harg9 arg10 harg10 arg11 harg11 hc0 hc1 hc2 x0 x1 x2 x3 x4 x5).2.1 = (step (scores x0 x1 x3) x2 x4 reset).m := by
  frame_open
  simp (disch := decide) only [↓ View.readCov_skip, ↓ View.readCov_cons_toLoadRect, ↓ View.readCov_fill]
  frame_out
  exact canon_stack (F := F) (fun h => mOut (scores x0 x1 x3 h) (gcCol x4 h) (slab (reset : State F).m h)) [⟨Rect.unit (s := S8x640x1) ![0, 0, 0] S8x640x1.size inb_S8x640x1_S8x640x1_0_0_0, k0_pay1⟩]

set_option maxHeartbeats 2000000 in
theorem l_C (hc0 : cond0_0 i) (hc1 : cond0_1 i) (hc2 : ¬cond0_2 i) :
    View.canon (runC c i arg2 harg2 arg3 harg3 arg4 harg4 arg5 harg5 arg6 harg6 arg7 harg7 arg8 harg8 arg9 harg9 arg10 harg10 arg11 harg11 hc0 hc1 hc2 x0 x1 x2 x3 x4 x5).2.2.1 = (step (scores x0 x1 x3) x2 x4 reset).l := by
  frame_open
  simp (disch := decide) only [↓ View.readCov_skip, ↓ View.readCov_cons_toLoadRect, ↓ View.readCov_fill]
  frame_out
  exact canon_stack (F := F) (fun h => lOut (scores x0 x1 x3 h) (gcCol x4 h) (slab (reset : State F).m h) (slab (reset : State F).l h)) [⟨Rect.unit (s := S8x640x1) ![0, 0, 0] S8x640x1.size inb_S8x640x1_S8x640x1_0_0_0, k0_pay2⟩]

end Cert.Fox

end
-- ==== Proof.Fox.Triples.lean ====
/- The body's triple in each case of the grid point, its effect on the scratch buffers and on the result's block stated by
   `step`, `reset` and `result`. -/
module

public import proofs.«01_k».proof.Proof.Fox.Contents
public import Idealize.ShloMosaic.Lib.Pipeline.ReadBack
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S640x1024 .bf16) (harg2 : arg2.IsWhole)
  (arg3 : Memref sig .tc .vmem S640x1024 .bf16) (harg3 : arg3.IsWhole) (arg4 : Memref sig .tc .vmem S640x1024 .bf16) (harg4 : arg4.IsWhole)
  (arg5 : Memref sig .tc .vmem S16x640 .f32) (harg5 : arg5.IsWhole) (arg6 : Memref sig .tc .vmem S640x128 .f32) (harg6 : arg6.IsWhole)
  (arg7 : Memref sig .tc .vmem S640x1024 .f32) (harg7 : arg7.IsWhole) (arg8 : Memref sig .tc .vmem S640x1024 .bf16) (harg8 : arg8.IsWhole)
  (arg9 : Memref sig .tc .vmem S640x1024 .f32) (harg9 : arg9.IsWhole) (arg10 : Memref sig .tc .vmem S8x640x1 .f32) (harg10 : arg10.IsWhole)
  (arg11 : Memref sig .tc .vmem S8x640x1 .f32) (harg11 : arg11.IsWhole)
  (x0 x1 x2 : Vec F S640x1024 .bf16) (x3 : Vec F S16x640 .f32) (x4 : Vec F S640x128 .f32) (x5 : Vec F S640x1024 .f32)

/-! ## Case B: a block above the diagonal -/

set_option maxHeartbeats 1000000 in
theorem triple_B (hc0 : ¬cond0_0 i) (hc1 : ¬cond0_1 i) (hc2 : ¬cond0_2 i) (E : Set ℕ) (K : PUnit → sProp 𝕄) :
    K ⟨⟩ ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  simp only [cc0_fox_eq_skeleton]; unfold cc0_fox_skel
  iintro Hk
  sl_exec (disch := first | sl_exact hc0 | sl_exact hc1 | sl_exact hc2)
  sl_step
  iexact Hk

/-! ## Case D -/

set_option maxHeartbeats 2000000 in
theorem triple_D (hc0 : ¬cond0_0 i) (hc1 : ¬cond0_1 i) (hc2 : cond0_2 i) (s : State F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s.acc ∗ owns (c : Thread nD τ) arg10 fullShare s.m ∗ owns (c : Thread nD τ) arg11 fullShare s.l
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (result (scoresD x0 x1 x3) x2 x4 x5 s) ∗ owns (c : Thread nD τ) arg9 fullShare (step (scoresD x0 x1 x3) x2 x4 s).acc ∗ owns (c : Thread nD τ) arg10 fullShare (step (scoresD x0 x1 x3) x2 x4 s).m ∗ owns (c : Thread nD τ) arg11 fullShare (step (scoresD x0 x1 x3) x2 x4 s).l) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  iintro ⟨H0, H1, H2, H3, H4, H5, H6, HS0, HS1, HS2, Hk⟩
  iapply ((runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, ⟨%eH6, H6⟩, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (fun y => View.cover_of_tiledL (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).1 S640x128.size (by sl_kernel_rfl) y)).trans (out_D c i arg2 harg2 arg3 harg3 arg4 harg4 arg5 harg5 arg6 harg6 arg7 harg7 arg8 harg8 arg9 harg9 arg10 harg10 arg11 harg11 x0 x1 x2 x3 x4 x5 hc0 hc1 hc2 s)
  isplitl [HS0]
  · unfold owns; iexists _; isplitr
    swap; · iexact HS0
    ipureintro; exact (View.read_writes_eq_canon _ _ _ (fun y => View.cover_of_tiledL (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.1 S640x128.size (by sl_kernel_rfl) y)).trans (acc_D c i arg2 harg2 arg3 harg3 arg4 harg4 arg5 harg5 arg6 harg6 arg7 harg7 arg8 harg8 arg9 harg9 arg10 harg10 arg11 harg11 x0 x1 x2 x3 x4 x5 hc0 hc1 hc2 s)
  isplitl [HS1]
  · unfold owns; iexists _; isplitr
    swap; · iexact HS1
    ipureintro; exact (View.read_writes_eq_canon _ _ _ (fun y => View.cover_of_tiledL (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.1 S1x640x1.size (by sl_kernel_rfl) y)).trans (m_D c i arg2 harg2 arg3 harg3 arg4 harg4 arg5 harg5 arg6 harg6 arg7 harg7 arg8 harg8 arg9 harg9 arg10 harg10 arg11 harg11 x0 x1 x2 x3 x4 x5 hc0 hc1 hc2 s)
  unfold owns; iexists _; isplitr
  swap; · iexact HS2
  ipureintro; exact (View.read_writes_eq_canon _ _ _ (fun y => View.cover_of_tiledL (runD c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.2.1 S1x640x1.size (by sl_kernel_rfl) y)).trans (l_D c i arg2 harg2 arg3 harg3 arg4 harg4 arg5 harg5 arg6 harg6 arg7 harg7 arg8 harg8 arg9 harg9 arg10 harg10 arg11 harg11 x0 x1 x2 x3 x4 x5 hc0 hc1 hc2 s)

/-! ## Case E -/

set_option maxHeartbeats 2000000 in
theorem triple_E (hc0 : ¬cond0_0 i) (hc1 : cond0_1 i) (hc2 : ¬cond0_2 i) (s : State F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare s.acc ∗ owns (c : Thread nD τ) arg10 fullShare s.m ∗ owns (c : Thread nD τ) arg11 fullShare s.l
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (step (scores x0 x1 x3) x2 x4 s).acc ∗ owns (c : Thread nD τ) arg10 fullShare (step (scores x0 x1 x3) x2 x4 s).m ∗ owns (c : Thread nD τ) arg11 fullShare (step (scores x0 x1 x3) x2 x4 s).l) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  iintro ⟨H0, H1, H2, H3, H4, H5, HS0, HS1, HS2, Hk⟩
  iapply ((runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (fun y => View.cover_of_tiledL (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).1 S640x128.size (by sl_kernel_rfl) y)).trans (acc_E c i arg2 harg2 arg3 harg3 arg4 harg4 arg5 harg5 arg6 harg6 arg7 harg7 arg8 harg8 arg9 harg9 arg10 harg10 arg11 harg11 x0 x1 x2 x3 x4 x5 hc0 hc1 hc2 s)
  isplitl [HS1]
  · unfold owns; iexists _; isplitr
    swap; · iexact HS1
    ipureintro; exact (View.read_writes_eq_canon _ _ _ (fun y => View.cover_of_tiledL (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.1 S1x640x1.size (by sl_kernel_rfl) y)).trans (m_E c i arg2 harg2 arg3 harg3 arg4 harg4 arg5 harg5 arg6 harg6 arg7 harg7 arg8 harg8 arg9 harg9 arg10 harg10 arg11 harg11 x0 x1 x2 x3 x4 x5 hc0 hc1 hc2 s)
  unfold owns; iexists _; isplitr
  swap; · iexact HS2
  ipureintro; exact (View.read_writes_eq_canon _ _ _ (fun y => View.cover_of_tiledL (runE c i arg2 harg2 arg3 harg3 arg4 harg4 arg5 harg5 arg6 harg6 arg7 harg7 arg8 harg8 arg9 harg9 arg10 harg10 arg11 harg11 hc0 hc1 hc2 x0 x1 x2 x3 x4 x5 s.acc s.m s.l).2.2.1 S1x640x1.size (by sl_kernel_rfl) y)).trans (l_E c i arg2 harg2 arg3 harg3 arg4 harg4 arg5 harg5 arg6 harg6 arg7 harg7 arg8 harg8 arg9 harg9 arg10 harg10 arg11 harg11 x0 x1 x2 x3 x4 x5 hc0 hc1 hc2 s)

/-! ## Case A -/

set_option maxHeartbeats 2000000 in
theorem triple_A (hc0 : cond0_0 i) (hc1 : ¬cond0_1 i) (hc2 : cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (result (scoresD x0 x1 x3) x2 x4 x5 reset) ∗ owns (c : Thread nD τ) arg9 fullShare (step (scoresD x0 x1 x3) x2 x4 reset).acc ∗ owns (c : Thread nD τ) arg10 fullShare (step (scoresD x0 x1 x3) x2 x4 reset).m ∗ owns (c : Thread nD τ) arg11 fullShare (step (scoresD x0 x1 x3) x2 x4 reset).l) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  iintro ⟨H0, H1, H2, H3, H4, H5, H6, HS0, HS1, HS2, Hk⟩
  iapply ((runA c i arg2 harg2 arg3 harg3 arg4 harg4 arg5 harg5 arg6 harg6 arg7 harg7 arg8 harg8 arg9 harg9 arg10 harg10 arg11 harg11 hc0 hc1 hc2 x0 x1 x2 x3 x4 x5).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, H5, ⟨%eH6, H6⟩, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (fun y => View.cover_of_tiledL (runA c i arg2 harg2 arg3 harg3 arg4 harg4 arg5 harg5 arg6 harg6 arg7 harg7 arg8 harg8 arg9 harg9 arg10 harg10 arg11 harg11 hc0 hc1 hc2 x0 x1 x2 x3 x4 x5).1 S640x128.size (by sl_kernel_rfl) y)).trans (out_A c i arg2 harg2 arg3 harg3 arg4 harg4 arg5 harg5 arg6 harg6 arg7 harg7 arg8 harg8 arg9 harg9 arg10 harg10 arg11 harg11 x0 x1 x2 x3 x4 x5 hc0 hc1 hc2)
  isplitl [HS0]
  · unfold owns; iexists _; isplitr
    swap; · iexact HS0
    ipureintro; exact (View.read_writes_eq_canon _ _ _ (fun y => View.cover_of_tiledL (runA c i arg2 harg2 arg3 harg3 arg4 harg4 arg5 harg5 arg6 harg6 arg7 harg7 arg8 harg8 arg9 harg9 arg10 harg10 arg11 harg11 hc0 hc1 hc2 x0 x1 x2 x3 x4 x5).2.1 S640x128.size (by sl_kernel_rfl) y)).trans (acc_A c i arg2 harg2 arg3 harg3 arg4 harg4 arg5 harg5 arg6 harg6 arg7 harg7 arg8 harg8 arg9 harg9 arg10 harg10 arg11 harg11 x0 x1 x2 x3 x4 x5 hc0 hc1 hc2)
  isplitl [HS1]
  · unfold owns; iexists _; isplitr
    swap; · iexact HS1
    ipureintro; exact (View.read_writes_eq_canon _ _ _ (fun y => View.cover_of_tiledL (runA c i arg2 harg2 arg3 harg3 arg4 harg4 arg5 harg5 arg6 harg6 arg7 harg7 arg8 harg8 arg9 harg9 arg10 harg10 arg11 harg11 hc0 hc1 hc2 x0 x1 x2 x3 x4 x5).2.2.1 S1x640x1.size (by sl_kernel_rfl) y)).trans (m_A c i arg2 harg2 arg3 harg3 arg4 harg4 arg5 harg5 arg6 harg6 arg7 harg7 arg8 harg8 arg9 harg9 arg10 harg10 arg11 harg11 x0 x1 x2 x3 x4 x5 hc0 hc1 hc2)
  unfold owns; iexists _; isplitr
  swap; · iexact HS2
  ipureintro; exact (View.read_writes_eq_canon _ _ _ (fun y => View.cover_of_tiledL (runA c i arg2 harg2 arg3 harg3 arg4 harg4 arg5 harg5 arg6 harg6 arg7 harg7 arg8 harg8 arg9 harg9 arg10 harg10 arg11 harg11 hc0 hc1 hc2 x0 x1 x2 x3 x4 x5).2.2.2.1 S1x640x1.size (by sl_kernel_rfl) y)).trans (l_A c i arg2 harg2 arg3 harg3 arg4 harg4 arg5 harg5 arg6 harg6 arg7 harg7 arg8 harg8 arg9 harg9 arg10 harg10 arg11 harg11 x0 x1 x2 x3 x4 x5 hc0 hc1 hc2)

/-! ## Case C -/

set_option maxHeartbeats 2000000 in
theorem triple_C (hc0 : cond0_0 i) (hc1 : cond0_1 i) (hc2 : ¬cond0_2 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (step (scores x0 x1 x3) x2 x4 reset).acc ∗ owns (c : Thread nD τ) arg10 fullShare (step (scores x0 x1 x3) x2 x4 reset).m ∗ owns (c : Thread nD τ) arg11 fullShare (step (scores x0 x1 x3) x2 x4 reset).l) -∗ K ⟨⟩))
      ⊢ wp frame (wpE (defs₀ (F := F)) Variants.none c none) E (cc0_fox i arg2 harg2 arg3 harg3 arg4 harg4 arg5 harg5 arg6 harg6 arg7 harg7 arg8 harg8 arg9 harg9 arg10 harg10 arg11 harg11) K := by
  iintro ⟨H0, H1, H2, H3, H4, H5, HS0, HS1, HS2, Hk⟩
  iapply ((runC c i arg2 harg2 arg3 harg3 arg4 harg4 arg5 harg5 arg6 harg6 arg7 harg7 arg8 harg8 arg9 harg9 arg10 harg10 arg11 harg11 hc0 hc1 hc2 x0 x1 x2 x3 x4 x5).2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, ⟨%eHS0, HS0⟩, ⟨%eHS1, HS1⟩, ⟨%eHS2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [HS0]
  · unfold owns; iexists _; isplitr
    swap; · iexact HS0
    ipureintro; exact (View.read_writes_eq_canon _ _ _ (fun y => View.cover_of_tiledL (runC c i arg2 harg2 arg3 harg3 arg4 harg4 arg5 harg5 arg6 harg6 arg7 harg7 arg8 harg8 arg9 harg9 arg10 harg10 arg11 harg11 hc0 hc1 hc2 x0 x1 x2 x3 x4 x5).1 S640x128.size (by sl_kernel_rfl) y)).trans (acc_C c i arg2 harg2 arg3 harg3 arg4 harg4 arg5 harg5 arg6 harg6 arg7 harg7 arg8 harg8 arg9 harg9 arg10 harg10 arg11 harg11 x0 x1 x2 x3 x4 x5 hc0 hc1 hc2)
  isplitl [HS1]
  · unfold owns; iexists _; isplitr
    swap; · iexact HS1
    ipureintro; exact (View.read_writes_eq_canon _ _ _ (fun y => View.cover_of_tiledL (runC c i arg2 harg2 arg3 harg3 arg4 harg4 arg5 harg5 arg6 harg6 arg7 harg7 arg8 harg8 arg9 harg9 arg10 harg10 arg11 harg11 hc0 hc1 hc2 x0 x1 x2 x3 x4 x5).2.1 S1x640x1.size (by sl_kernel_rfl) y)).trans (m_C c i arg2 harg2 arg3 harg3 arg4 harg4 arg5 harg5 arg6 harg6 arg7 harg7 arg8 harg8 arg9 harg9 arg10 harg10 arg11 harg11 x0 x1 x2 x3 x4 x5 hc0 hc1 hc2)
  unfold owns; iexists _; isplitr
  swap; · iexact HS2
  ipureintro; exact (View.read_writes_eq_canon _ _ _ (fun y => View.cover_of_tiledL (runC c i arg2 harg2 arg3 harg3 arg4 harg4 arg5 harg5 arg6 harg6 arg7 harg7 arg8 harg8 arg9 harg9 arg10 harg10 arg11 harg11 hc0 hc1 hc2 x0 x1 x2 x3 x4 x5).2.2.1 S1x640x1.size (by sl_kernel_rfl) y)).trans (l_C c i arg2 harg2 arg3 harg3 arg4 harg4 arg5 harg5 arg6 harg6 arg7 harg7 arg8 harg8 arg9 harg9 arg10 harg10 arg11 harg11 x0 x1 x2 x3 x4 x5 hc0 hc1 hc2)

end Cert.Fox

end
-- ==== Proof.Fox.Frame.lean ====
/- The attention kernel's frame with its result named: the scratch buffers' contents along the grid (`St`), the pipeline's
   proof data, the body's obligation at every grid point, and the run. -/
module

public import proofs.«01_k».proof.Proof.Fox.Triples
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers along the grid -/

/-- The scratch a point starts from: reset on a row's first key block. -/
def start (n : ℕ) (s : State F) : State F := if n % 13 = 0 then reset else s

/-- The scratch a point leaves: a step with the key block's scores at or below the diagonal, unchanged above. -/
def next (c : Dev nD) (t : Fin cfg0.N) (s : State F) : State F :=
  if t.val % 13 + 1 ≤ t.val / 13 % 13 then
    step (scores (iblk m c 0 t) (iblk m c 1 t) (iblk m c 3 t)) (iblk m c 2 t) (iblk m c 4 t) (start t.val s)
  else if t.val % 14 = 0 then
    step (scoresD (iblk m c 0 t) (iblk m c 1 t) (iblk m c 3 t)) (iblk m c 2 t) (iblk m c 4 t) (start t.val s)
  else s

/-- The scratch before position `n`. -/
def St (c : Dev nD) : (n : ℕ) → n ≤ cfg0.N → State F
  | 0, _ => reset
  | n + 1, h => next m c ⟨n, h⟩ (St c n (Nat.le_of_succ_le h))

theorem St_succ (c : Dev nD) (t : Fin cfg0.N) :
    St m c (t.val + 1) t.isLt = next m c t (St m c t.val (Nat.le_of_lt t.isLt)) := rfl

/-- The diagonal point of a point's row. -/
def diag (t : Fin cfg0.N) : Fin cfg0.N := ⟨14 * (t.val / 13), by
  have h : t.val < 169 := lt_of_lt_of_eq t.isLt N_0
  exact lt_of_lt_of_eq (by omega) N_0.symm⟩

/-- The result block stored at a diagonal point. -/
def resAt (c : Dev nD) (t : Fin cfg0.N) : Vec F S640x1024 .bf16 :=
  result (scoresD (iblk m c 0 t) (iblk m c 1 t) (iblk m c 3 t)) (iblk m c 2 t) (iblk m c 4 t) (iblk m c 5 t)
    (start t.val (St m c t.val (Nat.le_of_lt t.isLt)))

/-- The invariant before position `n`: the scratch at anything before the first point, then at `St`. -/
def PhiS (c : Dev nD) : (n : ℕ) → n ≤ cfg0.N → sProp 𝕄
  | 0, _ => Pipeline.ΦA spec0 c
  | n + 1, hn => iprop(iprop(owns (c : Thread nD τ) scM0_0 fullShare (St m c (n + 1) hn).acc ∗ owns (c : Thread nD τ) scM0_1 fullShare (St m c (n + 1) hn).m ∗ owns (c : Thread nD τ) scM0_2 fullShare (St m c (n + 1) hn).l) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (St m c (n + 1) hn).acc ∗ owns (c : Thread nD τ) scM0_1 fullShare (St m c (n + 1) hn).m ∗ owns (c : Thread nD τ) scM0_2 fullShare (St m c (n + 1) hn).l) ∗ (∃ r, prngReg c r)) := rfl

theorem PhiS_pos (c : Dev nD) (n : ℕ) (h : n ≤ cfg0.N) (hz : n ≠ 0) :
    PhiS m c n h = iprop(iprop(owns (c : Thread nD τ) scM0_0 fullShare (St m c n h).acc ∗ owns (c : Thread nD τ) scM0_1 fullShare (St m c n h).m ∗ owns (c : Thread nD τ) scM0_2 fullShare (St m c n h).l) ∗ (∃ r, prngReg c r)) := by
  cases n with
  | zero => exact absurd rfl hz
  | succ n => rfl

/-! ## The pipeline's proof data -/

/-- The proof data of the one pipeline on core `c`: each input's buffer at its block after every point, the output's at
    the result block of the point's row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resAt m c (diag t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = resAt m c (diag t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The result's buffer through the points that store nothing into it -/

theorem idle6 (t : Fin cfg0.N) : cfg0.idle 6 (grid0.coords t) = !decide (t.val % 14 = 0) := by
  show (!(k0_cond3 (grid0.coords t) == 1#1)) = _
  congr 1
  have h := hcond0_2 t
  by_cases h2 : t.val % 14 = 0
  · rw [decide_eq_true h2, beq_iff_eq]; exact h.mpr h2
  · rw [decide_eq_false h2]; exact beq_false_of_ne fun e => h2 (h.mp e)

theorem flush6 (t : Fin cfg0.N) : (cfg0.win 6).flush t = decide (t.val % 13 = 12) := by
  by_cases h : t.val % 13 = 12
  · rw [decide_eq_true h]; exact (flush0_6 t).mpr h
  · rw [decide_eq_false h, ← Bool.not_eq_true]; exact fun e => h ((flush0_6 t).mp e)

theorem fresh_step : ∀ n < 169, ((n + 1) % 13 ≤ (n + 1) / 13 ↔ n % 13 = 12 ∨ ¬n % 14 = 0 ∧ n % 13 ≤ n / 13) := by decide +kernel

/-- Nothing has been stored into the result's buffer for the row until its diagonal point has run. -/
theorem fresh6 : ∀ n, n ≤ cfg0.N → cfg0.fresh 6 n = decide (n % 13 ≤ n / 13) :=
  Pipeline.Cfg.fresh_tab cfg0 6 _ rfl fun t => by
    have hN : t.val < 169 := lt_of_lt_of_eq t.isLt N_0
    rw [flush6, idle6, Bool.eq_iff_iff]
    simp only [decide_eq_true_eq, Bool.or_eq_true, Bool.and_eq_true, Bool.not_eq_true', decide_eq_false_iff_not]
    exact fresh_step t.val hN

theorem diag_pred (t : Fin cfg0.N) (h : t.val / 13 < t.val % 13) (p : t.val - 1 < cfg0.N) : diag ⟨t.val - 1, p⟩ = diag t :=
  Fin.ext (by unfold diag; simp only; omega)

/-- Past the diagonal the result's buffer holds the row's result block. -/
theorem before6 (c : Dev nD) (t : Fin cfg0.N) (h : t.val / 13 < t.val % 13) (d) :
    (dats m 0 c).before 6 t d = resAt m c (diag t) := by
  have hN : t.val < 169 := lt_of_lt_of_eq t.isLt N_0
  rw [Pipeline.Dat.before_out_traj (dats m 0 c) 6 rfl (fun _ _ => rfl) (fun t ht hi hf => by
      rw [fresh6 _ (Nat.le_of_lt t.isLt), decide_eq_false_iff_not] at hf
      rw [after0_6, after0_6, diag_pred t (by omega)]) t.val t rfl d,
    fresh6 _ (Nat.le_of_lt t.isLt), decide_eq_false (by omega), if_neg Bool.false_ne_true, after0_6, diag_pred t h]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t = owns (c : Thread nD τ) (ms0_4 t) fullShare (iblk m c 4 t) := by
  unfold Dat.leavesExact; rw [liveAt0_4 t, after0_4]
theorem leaves5 (c : Dev nD) (t : Fin cfg0.N) : (dats m 0 c).leavesExact 5 t = owns (c : Thread nD τ) (ms0_5 t) fullShare (iblk m c 5 t) := by
  unfold Dat.leavesExact; rw [liveAt0_5 t, after0_5]

/-- At a diagonal point the body leaves the row's result block. -/
theorem leaves6_diag (c : Dev nD) (t : Fin cfg0.N) (h : t.val % 14 = 0) :
    (dats m 0 c).leavesExact 6 t = owns (c : Thread nD τ) (ms0_6 t) fullShare (resAt m c t) := by
  have e : diag t = t := Fin.ext (by
    have hN : t.val < 169 := lt_of_lt_of_eq t.isLt N_0
    unfold diag; simp only; omega)
  unfold Dat.leavesExact
  rw [show cfg0.idle 6 (cfg0.grid.coords t) = false from by rw [idle6, decide_eq_true h]; rfl, after0_6, e]

/-- Elsewhere it leaves the buffer as it found it. -/
theorem leaves6_idle (c : Dev nD) (t : Fin cfg0.N) (h : ¬t.val % 14 = 0) :
    iprop(∃ d, owns (c : Thread nD τ) (ms0_6 t) fullShare ((dats m 0 c).before 6 t d)) ⊢ ((dats m 0 c).leavesExact 6 t : sProp 𝕄) := by
  have hN : t.val < 169 := lt_of_lt_of_eq t.isLt N_0
  have hi : cfg0.idle 6 (cfg0.grid.coords t) = true := by rw [idle6, decide_eq_false h]; rfl
  by_cases hf : t.val % 13 = 12
  · have e : (dats m 0 c).leavesExact 6 t = owns (c : Thread nD τ) (ms0_6 t) fullShare (resAt m c (diag t)) := by
      unfold Dat.leavesExact; rw [hi, show (cfg0.win 6).flush t = true from (flush6 t).trans (decide_eq_true hf), after0_6]
    rw [e]
    iintro ⟨%d, H⟩
    rw [before6 m c t (by omega)]
    iexact H
  · rw [Dat.leavesExact_idle _ 6 t hi ((flush6 t).trans (decide_eq_false hf))]

set_option maxHeartbeats 4000000 in
theorem sound_A (c : Dev nD) (t : Fin cfg0.N) (h0 : t.val % 13 = 0) (h1 : ¬t.val % 13 + 1 ≤ t.val / 13 % 13) (h2 : t.val % 14 = 0) :
    bodyPre m c t ⊢ wp frame (wpE (defs₀ (F := F)) Variants.none c none) Set.univ (bodyAt0 t) (fun _ => bodyPost m c t) := by
  have hN : t.val < 169 := lt_of_lt_of_eq t.isLt N_0
  unfold bodyPre bodyPost bodyAt0
  simp only [before0_0, before0_1, before0_2, before0_3, before0_4, before0_5, leaves0, leaves1, leaves2, leaves3, leaves4, leaves5]
  rw [show (dats m 0 c).owesAt () t.succ = (dats m 0 c).owesAt () t.castSucc from rfl]
  rw [show (dats m 0 c).Φ t.succ = PhiS m c (t.val + 1) t.isLt from rfl, PhiS_succ]
  have hz : t.val = 0 := by omega
  rw [PhiS_castSucc m c t, PhiS_zero m c _ _ hz, PhiA0_eq]
  rw [show St m c (t.val + 1) t.isLt = _ from (St_succ m c t).trans ((if_neg h1).trans (if_pos h2)), leaves6_diag m c t h2]; unfold resAt
  rw [show start t.val (St m c t.val (Nat.le_of_lt t.isLt)) = reset from if_pos h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (triple_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h)) ((hcond0_2 t).mpr h2) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound_C (c : Dev nD) (t : Fin cfg0.N) (h0 : t.val % 13 = 0) (h1 : t.val % 13 + 1 ≤ t.val / 13 % 13) (h2 : ¬t.val % 14 = 0) :
    bodyPre m c t ⊢ wp frame (wpE (defs₀ (F := F)) Variants.none c none) Set.univ (bodyAt0 t) (fun _ => bodyPost m c t) := by
  have hN : t.val < 169 := lt_of_lt_of_eq t.isLt N_0
  unfold bodyPre bodyPost bodyAt0
  simp only [before0_0, before0_1, before0_2, before0_3, before0_4, before0_5, leaves0, leaves1, leaves2, leaves3, leaves4, leaves5]
  rw [show (dats m 0 c).owesAt () t.succ = (dats m 0 c).owesAt () t.castSucc from rfl]
  rw [show (dats m 0 c).Φ t.succ = PhiS m c (t.val + 1) t.isLt from rfl, PhiS_succ]
  have hz : t.val ≠ 0 := by omega
  rw [PhiS_castSucc m c t, PhiS_pos m c _ _ hz]
  rw [show St m c (t.val + 1) t.isLt = _ from (St_succ m c t).trans (if_pos h1)]
  rw [show start t.val (St m c t.val (Nat.le_of_lt t.isLt)) = reset from if_pos h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6⟩
  iapply (triple_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) ((hcond0_1 t).mpr h1) (fun h => h2 ((hcond0_2 t).mp h)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HS2]; · iexists _; iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6_idle m c t h2); iexact H6

set_option maxHeartbeats 4000000 in
theorem sound_D (c : Dev nD) (t : Fin cfg0.N) (h0 : ¬t.val % 13 = 0) (h1 : ¬t.val % 13 + 1 ≤ t.val / 13 % 13) (h2 : t.val % 14 = 0) :
    bodyPre m c t ⊢ wp frame (wpE (defs₀ (F := F)) Variants.none c none) Set.univ (bodyAt0 t) (fun _ => bodyPost m c t) := by
  have hN : t.val < 169 := lt_of_lt_of_eq t.isLt N_0
  unfold bodyPre bodyPost bodyAt0
  simp only [before0_0, before0_1, before0_2, before0_3, before0_4, before0_5, leaves0, leaves1, leaves2, leaves3, leaves4, leaves5]
  rw [show (dats m 0 c).owesAt () t.succ = (dats m 0 c).owesAt () t.castSucc from rfl]
  rw [show (dats m 0 c).Φ t.succ = PhiS m c (t.val + 1) t.isLt from rfl, PhiS_succ]
  have hz : t.val ≠ 0 := by omega
  rw [PhiS_castSucc m c t, PhiS_pos m c _ _ hz]
  rw [show St m c (t.val + 1) t.isLt = _ from (St_succ m c t).trans ((if_neg h1).trans (if_pos h2)), leaves6_diag m c t h2]; unfold resAt
  rw [show start t.val (St m c t.val (Nat.le_of_lt t.isLt)) = St m c t.val (Nat.le_of_lt t.isLt) from if_neg h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (triple_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) (fun h => h1 ((hcond0_1 t).mp h)) ((hcond0_2 t).mpr h2) (St m c t.val (Nat.le_of_lt t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 4000000 in
theorem sound_E (c : Dev nD) (t : Fin cfg0.N) (h0 : ¬t.val % 13 = 0) (h1 : t.val % 13 + 1 ≤ t.val / 13 % 13) (h2 : ¬t.val % 14 = 0) :
    bodyPre m c t ⊢ wp frame (wpE (defs₀ (F := F)) Variants.none c none) Set.univ (bodyAt0 t) (fun _ => bodyPost m c t) := by
  have hN : t.val < 169 := lt_of_lt_of_eq t.isLt N_0
  unfold bodyPre bodyPost bodyAt0
  simp only [before0_0, before0_1, before0_2, before0_3, before0_4, before0_5, leaves0, leaves1, leaves2, leaves3, leaves4, leaves5]
  rw [show (dats m 0 c).owesAt () t.succ = (dats m 0 c).owesAt () t.castSucc from rfl]
  rw [show (dats m 0 c).Φ t.succ = PhiS m c (t.val + 1) t.isLt from rfl, PhiS_succ]
  have hz : t.val ≠ 0 := by omega
  rw [PhiS_castSucc m c t, PhiS_pos m c _ _ hz]
  rw [show St m c (t.val + 1) t.isLt = _ from (St_succ m c t).trans (if_pos h1)]
  rw [show start t.val (St m c t.val (Nat.le_of_lt t.isLt)) = St m c t.val (Nat.le_of_lt t.isLt) from if_neg h0]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6⟩
  iapply (triple_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (fun h => h0 ((hcond0_0 t).mp h)) ((hcond0_1 t).mpr h1) (fun h => h2 ((hcond0_2 t).mp h)) (St m c t.val (Nat.le_of_lt t.isLt)) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6_idle m c t h2); iexact H6

set_option maxHeartbeats 4000000 in
theorem sound_B (c : Dev nD) (t : Fin cfg0.N) (h0 : ¬t.val % 13 = 0) (h1 : ¬t.val % 13 + 1 ≤ t.val / 13 % 13) (h2 : ¬t.val % 14 = 0) :
    bodyPre m c t ⊢ wp frame (wpE (defs₀ (F := F)) Variants.none c none) Set.univ (bodyAt0 t) (fun _ => bodyPost m c t) := by
  have hN : t.val < 169 := lt_of_lt_of_eq t.isLt N_0
  unfold bodyPre bodyPost bodyAt0
  simp only [before0_0, before0_1, before0_2, before0_3, before0_4, before0_5, leaves0, leaves1, leaves2, leaves3, leaves4, leaves5]
  rw [show (dats m 0 c).owesAt () t.succ = (dats m 0 c).owesAt () t.castSucc from rfl]
  rw [show (dats m 0 c).Φ t.succ = PhiS m c (t.val + 1) t.isLt from rfl, PhiS_succ]
  have hz : t.val ≠ 0 := by omega
  rw [PhiS_castSucc m c t, PhiS_pos m c _ _ hz]
  rw [show St m c (t.val + 1) t.isLt = _ from (St_succ m c t).trans ((if_neg h1).trans (if_neg h2))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, H6⟩
  iapply (triple_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) Set.univ _)
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6_idle m c t h2); iexact H6

/-- A point below the diagonal is not on it. -/
theorem below : ∀ n < 169, n % 13 + 1 ≤ n / 13 % 13 → ¬n % 14 = 0 := by decide +kernel

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 169 := lt_of_lt_of_eq t.isLt N_0
  by_cases h0 : t.val % 13 = 0
  · by_cases h1 : t.val % 13 + 1 ≤ t.val / 13 % 13
    · exact sound_C m c t h0 h1 (below t.val hN h1)
    · exact sound_A m c t h0 h1 (by omega)
  · by_cases h1 : t.val % 13 + 1 ≤ t.val / 13 % 13
    · exact sound_E m c t h0 h1 (below t.val hN h1)
    · by_cases h2 : t.val % 14 = 0
      · exact sound_D m c t h0 h1 h2
      · exact sound_B m c t h0 h1 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hz : (Fin.last cfg0.N).val ≠ 0 := by rw [Fin.val_last]; have : cfg0.N = 169 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
/-- Every weakly fair execution ends with every array at what the write-backs leave and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Fox

end
-- ==== Proof.Fox.Math.lean ====
/- The mathematics of a softmax taken a block of keys at a time, over the extended reals: the running maximum, the
   running sum of the weights and the running weighted sum, rescaled whenever the maximum grows, are those of all the
   keys seen so far; their quotient is the softmax's weighted mean. -/
module

public import Idealize.ShloMosaic.PureOps.Ideal
public import Mathlib.Data.EReal.Inv
public import Mathlib.Algebra.BigOperators.Intervals

@[expose] public section

noncomputable section

namespace Cert.Fox

open Idealize.ShloMosaic

/-! ## The exponential and the products -/

theorem exp_bot : Ideal.exp ⊥ = 0 := rfl
theorem exp_coe (r : ℝ) : Ideal.exp (r : EReal) = (Real.exp r : ℝ) := rfl

/-- The exponential is not negative. -/
theorem exp_nonneg (x : EReal) : 0 ≤ Ideal.exp x := by
  induction x with
  | bot => exact le_rfl
  | top => exact le_top
  | coe r => rw [exp_coe]; exact_mod_cast (Real.exp_pos r).le

/-- Below `⊤` it is not `⊤`. -/
theorem exp_ne_top {x : EReal} (h : x ≠ ⊤) : Ideal.exp x ≠ ⊤ := by
  induction x with
  | bot => exact EReal.zero_ne_top
  | top => exact absurd rfl h
  | coe r => rw [exp_coe]; exact EReal.coe_ne_top _

/-- A finite nonnegative factor goes into a sum. -/
theorem mul_sum_of {ι : Type*} (c : EReal) (h0 : 0 ≤ c) (h1 : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top h0 h1, ih]

/-- A finite sum of reals, as an extended real. -/
theorem coe_sum_real {ι : Type*} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A weight over an old maximum, rescaled, is the weight over the new. -/
theorem exp_rescale {s a b : EReal} (hsa : s ≤ a) (hab : a ≤ b) (ha : a ≠ ⊤) (hb : b ≠ ⊤) :
    Ideal.exp (a - b) * Ideal.exp (s - a) = Ideal.exp (s - b) := by
  induction a with
  | top => exact absurd rfl ha
  | bot =>
    have hs : s = ⊥ := le_bot_iff.mp hsa
    subst hs
    have e : ∀ x : EReal, (⊥ : EReal) - x = ⊥ := fun x => by rw [sub_eq_add_neg, EReal.bot_add]
    rw [e, e, exp_bot, mul_zero]
  | coe a =>
    induction b with
    | top => exact absurd rfl hb
    | bot => exact absurd hab (by simp)
    | coe b =>
      induction s with
      | top => exact absurd hsa (by simp)
      | bot =>
        have e : ∀ x : EReal, (⊥ : EReal) - x = ⊥ := fun x => by rw [sub_eq_add_neg, EReal.bot_add]
        rw [e, e, exp_bot, mul_zero]
      | coe s =>
        rw [← EReal.coe_sub, ← EReal.coe_sub, ← EReal.coe_sub, exp_coe, exp_coe, exp_coe, ← EReal.coe_mul, ← Real.exp_add]
        congr 2; ring

/-- Taking a finite shift out of a difference. -/
theorem sub_sub_coe (t b : EReal) (c : ℝ) : t - (b - c) = t + c - b := by
  induction t with
  | bot => rw [EReal.bot_add]; simp [sub_eq_add_neg, EReal.bot_add]
  | top =>
    induction b with
    | bot => rfl
    | top => rfl
    | coe b => rw [← EReal.coe_sub, EReal.top_add_coe, EReal.top_sub_coe, EReal.top_sub_coe]
  | coe t =>
    induction b with
    | bot => rfl
    | top => rfl
    | coe b => rw [← EReal.coe_sub, ← EReal.coe_sub, ← EReal.coe_add, ← EReal.coe_sub]; congr 1; ring

/-! ## The running triple -/

/-- The maximum, the sum of the weights and the weighted sum of `v` over the first `n` keys with scores `w`. -/
structure Run (w : ℕ → EReal) (n : ℕ) (m l : EReal) : Prop where
  max : m = (Finset.range n).sup w
  sum : l = ∑ j ∈ Finset.range n, Ideal.exp (w j - m)

/-- The running weighted sum over the first `n` keys. -/
def wsum (w v : ℕ → EReal) (n : ℕ) (m : EReal) : EReal := ∑ j ∈ Finset.range n, Ideal.exp (w j - m) * v j

theorem run_zero (w : ℕ → EReal) : Run w 0 ⊥ 0 := ⟨by simp, by simp⟩
theorem wsum_zero (w v : ℕ → EReal) (m : EReal) : wsum w v 0 m = 0 := by simp [wsum]

theorem sup_ne_top {w : ℕ → EReal} (hw : ∀ j, w j ≠ ⊤) (n : ℕ) : (Finset.range n).sup w ≠ ⊤ := by
  rw [← lt_top_iff_ne_top, Finset.sup_lt_iff (bot_lt_top)]
  exact fun j _ => lt_top_iff_ne_top.mpr (hw j)

/-- A sum over the first `n + 640` keys is that over the first `n` and that over the block. -/
theorem sum_block (f : ℕ → EReal) (n B : ℕ) :
    ∑ j ∈ Finset.range (n + B), f j = ∑ j ∈ Finset.range n, f j + ∑ b : Fin B, f (n + b.val) := by
  rw [Finset.sum_range_add, Finset.sum_range (fun x => f (n + x))]

/-- The maximum over the first `n + B` keys. -/
theorem sup_block (f : ℕ → EReal) (n B : ℕ) :
    (Finset.range (n + B)).sup f = max ((Finset.range n).sup f) (Finset.univ.sup fun b : Fin B => f (n + b.val)) := by
  apply le_antisymm
  · refine Finset.sup_le fun j hj => ?_
    rw [Finset.mem_range] at hj
    by_cases h : j < n
    · exact le_max_of_le_left (Finset.le_sup (f := f) (Finset.mem_range.mpr h))
    · refine le_max_of_le_right ?_
      have := Finset.le_sup (f := fun b : Fin B => f (n + b.val)) (Finset.mem_univ ⟨j - n, by omega⟩)
      simpa [show n + (j - n) = j by omega] using this
  · refine max_le (Finset.sup_le fun j hj => ?_) (Finset.sup_le fun b _ => ?_)
    · exact Finset.le_sup (f := f) (Finset.mem_range.mpr (by have := Finset.mem_range.mp hj; omega))
    · exact Finset.le_sup (f := f) (Finset.mem_range.mpr (by have := b.isLt; omega))

/-- A finite shift comes out of a block's maximum. -/
theorem sup_add_coe (B : ℕ) (t : Fin B → EReal) (c : ℝ) :
    (Finset.univ.sup fun b => t b + (c : EReal)) = Finset.univ.sup t + (c : EReal) := by
  apply le_antisymm
  · exact Finset.sup_le fun b _ => add_le_add_left (Finset.le_sup (Finset.mem_univ b)) _
  · have h : Finset.univ.sup t ≤ (Finset.univ.sup fun b => t b + (c : EReal)) - (c : EReal) :=
      Finset.sup_le fun b _ => by
        have := Finset.le_sup (f := fun b => t b + (c : EReal)) (Finset.mem_univ b)
        calc t b = t b + (c : EReal) - (c : EReal) := EReal.add_sub_cancel_right.symm
          _ ≤ _ := EReal.sub_le_sub this le_rfl
    calc Finset.univ.sup t + (c : EReal) ≤ (Finset.univ.sup fun b => t b + (c : EReal)) - (c : EReal) + (c : EReal) :=
          add_le_add_left h _
      _ = _ := by rw [EReal.sub_add_cancel]

section Step

variable {w : ℕ → EReal} {n B : ℕ} {m l : EReal} {t : Fin B → EReal} {c : ℝ}

/-- The maximum after a block whose scores, without the query's gate `c`, are `t`. -/
theorem max_step (hr : Run w n m l) (ht : ∀ b : Fin B, w (n + b.val) = t b + (c : EReal)) :
    max m (Finset.univ.sup t + (c : EReal)) = (Finset.range (n + B)).sup w := by
  rw [sup_block, hr.max, ← sup_add_coe]
  congr 1
  exact Finset.sup_congr rfl fun b _ => (ht b).symm

/-- The old sum, rescaled, and the block's are the sum over both. -/
theorem weighted_step (hw : ∀ j, w j ≠ ⊤) (hm : m = (Finset.range n).sup w)
    (ht : ∀ b : Fin B, w (n + b.val) = t b + (c : EReal)) (v : ℕ → EReal) {m' : EReal}
    (hm' : m' = (Finset.range (n + B)).sup w) :
    Ideal.exp (m - m') * (∑ j ∈ Finset.range n, Ideal.exp (w j - m) * v j)
      + ∑ b : Fin B, Ideal.exp (t b - (m' - (c : EReal))) * v (n + b.val)
    = ∑ j ∈ Finset.range (n + B), Ideal.exp (w j - m') * v j := by
  have hm1 : m ≠ ⊤ := hm ▸ sup_ne_top hw n
  have hm2 : m' ≠ ⊤ := hm' ▸ sup_ne_top hw _
  have hle : m ≤ m' := by
    rw [hm, hm']
    exact Finset.sup_mono (Finset.range_subset_range.mpr (Nat.le_add_right n B))
  rw [sum_block, mul_sum_of _ (exp_nonneg _) (exp_ne_top ?_)]
  · congr 1
    · refine Finset.sum_congr rfl fun j hj => ?_
      have hj' : w j ≤ m := hm ▸ Finset.le_sup hj
      rw [← mul_assoc, exp_rescale hj' hle hm1 hm2]
    · refine Finset.sum_congr rfl fun b _ => ?_
      rw [sub_sub_coe, ht]
  · rw [sub_eq_add_neg]
    by_cases hb : m = ⊥
    · rw [hb, EReal.bot_add]; exact bot_ne_top
    · refine EReal.add_ne_top hm1 ?_
      rw [Ne, EReal.neg_eq_top_iff]
      exact fun h => hb (le_bot_iff.mp (h ▸ hle))

/-- The triple after a block. -/
theorem run_step (hw : ∀ j, w j ≠ ⊤) (hr : Run w n m l) (ht : ∀ b : Fin B, w (n + b.val) = t b + (c : EReal)) :
    Run w (n + B) (max m (Finset.univ.sup t + (c : EReal)))
      (Ideal.exp (m - max m (Finset.univ.sup t + (c : EReal))) * l
        + ∑ b : Fin B, Ideal.exp (t b - (max m (Finset.univ.sup t + (c : EReal)) - (c : EReal)))) := by
  have hm' := max_step hr ht
  refine ⟨hm', ?_⟩
  have h := weighted_step hw hr.max ht (fun _ => 1) hm'
  simp only [mul_one] at h
  rw [hr.sum]; exact h

/-- The weighted sum after a block. -/
theorem wsum_step (hw : ∀ j, w j ≠ ⊤) (hr : Run w n m l) (ht : ∀ b : Fin B, w (n + b.val) = t b + (c : EReal))
    (v : ℕ → EReal) :
    Ideal.exp (m - max m (Finset.univ.sup t + (c : EReal))) * wsum w v n m
        + ∑ b : Fin B, Ideal.exp (t b - (max m (Finset.univ.sup t + (c : EReal)) - (c : EReal))) * v (n + b.val)
    = wsum w v (n + B) (max m (Finset.univ.sup t + (c : EReal))) :=
  weighted_step hw hr.max ht v (max_step hr ht)

end Step

/-! ## The mean at the end -/

/-- The quotient of the running sums over the keys seen is the softmax's weighted mean over all, the unseen at `⊥`. -/
theorem mean_eq {w : ℕ → EReal} {n N : ℕ} {m l : EReal} (hw : ∀ j, w j ≠ ⊤) (hr : Run w n m l) (hn : n ≤ N)
    (hbot : ∀ j, n ≤ j → w j = ⊥) {i : ℕ} (hi : i < n) (hfin : w i ≠ ⊥) (v : ℕ → EReal) :
    Ideal.div (wsum w v n m) l
      = ∑ j : Fin N, v j.val * Ideal.div (Ideal.exp (w j.val - max ⊥ (Finset.univ.sup fun j : Fin N => w j.val)))
          (0 + ∑ j : Fin N, Ideal.exp (w j.val - max ⊥ (Finset.univ.sup fun j : Fin N => w j.val))) := by
  obtain ⟨B, rfl⟩ := Nat.exists_eq_add_of_le hn
  -- the maximum over all the keys is that over the seen
  have hM : (Finset.univ.sup fun j : Fin (n + B) => w j.val) = m := by
    have h1 := sup_block w 0 (n + B)
    simp only [Nat.zero_add, Finset.range_zero, Finset.sup_empty, bot_le, sup_of_le_right] at h1
    rw [← h1, sup_block, hr.max, max_eq_left]
    exact Finset.sup_le fun b _ => by rw [hbot _ (Nat.le_add_right n b.val)]; exact bot_le
  have hmtop : m ≠ ⊤ := hr.max ▸ sup_ne_top hw n
  have hwi : w i ≤ m := hr.max ▸ Finset.le_sup (Finset.mem_range.mpr hi)
  have hmbot : m ≠ ⊥ := fun h => hfin (le_bot_iff.mp (h ▸ hwi))
  rw [hM, max_eq_right bot_le, zero_add]
  lift m to ℝ using ⟨hmtop, hmbot⟩
  -- a weight of an unseen key is zero
  have hz : ∀ j, n ≤ j → Ideal.exp (w j - (m : EReal)) = 0 := fun j hj => by
    rw [hbot j hj, sub_eq_add_neg, EReal.bot_add, exp_bot]
  have hL : (∑ j : Fin (n + B), Ideal.exp (w j.val - (m : EReal))) = l := by
    rw [← Finset.sum_range (fun j => Ideal.exp (w j - (m : EReal))), sum_block, hr.sum]
    rw [Finset.sum_eq_zero (s := Finset.univ) fun b _ => hz _ (Nat.le_add_right n _), add_zero]
  rw [hL]
  -- every weight is finite and that of a seen finite key positive
  have hreal : ∀ j, ∃ r : ℝ, 0 ≤ r ∧ Ideal.exp (w j - (m : EReal)) = (r : EReal) := fun j => by
    have h1 : w j - (m : EReal) ≠ ⊤ := by
      rw [sub_eq_add_neg]
      refine EReal.add_ne_top (hw j) ?_
      rw [← EReal.coe_neg]; exact EReal.coe_ne_top _
    refine ⟨(Ideal.exp (w j - (m : EReal))).toReal, EReal.toReal_nonneg (exp_nonneg _), ?_⟩
    rw [EReal.coe_toReal (exp_ne_top h1)]
    exact fun h => absurd (exp_nonneg (w j - (m : EReal))) (by rw [h]; simp)
  choose r hr0 hre using hreal
  have hri : 0 < r i := by
    have h := hre i
    lift w i to ℝ using ⟨hw i, hfin⟩ with x
    rw [← EReal.coe_sub, exp_coe] at h
    rw [← EReal.coe_eq_coe_iff.mp h]; exact Real.exp_pos _
  have hl : l = ((∑ j ∈ Finset.range n, r j : ℝ) : EReal) := by
    rw [hr.sum, coe_sum_real]
    exact Finset.sum_congr rfl fun j _ => hre j
  have hlpos : 0 < ∑ j ∈ Finset.range n, r j :=
    Finset.sum_pos' (fun j _ => hr0 j) ⟨i, Finset.mem_range.mpr hi, hri⟩
  rw [hl]
  simp only [Ideal.div_coe hlpos.ne']
  unfold wsum
  rw [mul_comm, mul_sum_of _ (by exact_mod_cast (one_div_pos.mpr hlpos).le) (EReal.coe_ne_top _)]
  rw [← Finset.sum_range (fun j => v j * (Ideal.exp (w j - (m : EReal)) * ((1 / ∑ j ∈ Finset.range n, r j : ℝ) : EReal))), sum_block,
    Finset.sum_eq_zero (s := Finset.univ) fun b _ => by rw [hz _ (Nat.le_add_right n _), zero_mul, mul_zero], add_zero]
  refine Finset.sum_congr rfl fun j _ => ?_
  rw [mul_comm (v j), mul_comm, mul_right_comm]

end Cert.Fox

end
-- ==== Proof.Fox.Pointwise.lean ====
/- The attention kernel's arithmetic at the extended reals, an element at a time. -/
module

public import proofs.«01_k».proof.Proof.Fox.Head
public import proofs.«01_k».proof.Proof.Fox.Math
public import Idealize.ShloMosaic.Lib.Pointwise

@[expose] public section

set_option maxRecDepth 16384

noncomputable section

namespace Cert.Fox

open Cert.KernelIdeal Cert.KernelIdeal.Gen
open Idealize.ShloMosaic Idealize.ShloMosaic.TcCoe Idealize.ShloMosaic.Tactic

/-- The literal of `1/√128`. -/
abbrev scale : EReal := Ideal.ofBits .f32 0x3DB504F3#32

/-- The word of −∞. -/
theorem ofBits_neg_inf : Ideal.ofBits .f32 0xFF800000#32 = ⊥ := by
  show Ideal.ieee 8 23 (0xFF800000#32 : BitVec 32) = _
  have h : (0xFF800000#32 : BitVec 32).extractLsb' 23 8 = 255#8 := by decide
  have h0 : (0xFF800000#32 : BitVec 32).extractLsb' 0 23 = 0#23 := by decide
  have h1 : (0xFF800000#32 : BitVec 32).extractLsb' 31 1 = 1#1 := by decide
  simp [Ideal.ieee, h, h0, h1]

/-- The word of +∞. -/
theorem ofBits_pos_inf : Ideal.ofBits .f32 0x7F800000#32 = ⊤ := by
  show Ideal.ieee 8 23 (0x7F800000#32 : BitVec 32) = _
  have h : (0x7F800000#32 : BitVec 32).extractLsb' 23 8 = 255#8 := by decide
  have h0 : (0x7F800000#32 : BitVec 32).extractLsb' 0 23 = 0#23 := by decide
  have h1 : (0x7F800000#32 : BitVec 32).extractLsb' 31 1 = 0#1 := by decide
  simp [Ideal.ieee, h, h0, h1]

/-- The literal of `1/√128` is a real number. -/
theorem scale_real : ∃ r : ℝ, scale = (r : EReal) := by
  show ∃ r : ℝ, Ideal.ieee 8 23 (0x3DB504F3#32 : BitVec 32) = _
  have h : (0x3DB504F3#32 : BitVec 32).extractLsb' 23 8 = 123#8 := by decide
  unfold Ideal.ieee
  simp only [h]
  exact ⟨_, rfl⟩

/-- A maximum folded from −∞ is the supremum. -/
theorem fold_max_eq_sup {ι : Type*} (S : Finset ι) (f : ι → EReal) :
    Finset.fold max (Ideal.ofBits .f32 0xFF800000#32) f S = S.sup f := by
  rw [ofBits_neg_inf]; rfl

theorem cols_apply {e : EltTy} (x : Vec Ideal S640x1024 e) (h : Fin 8) (r : Fin 640) (d : Fin 128) :
    cols x h (ix2 (n0 := 640) (n1 := 128) r d) = x (ix2 (n0 := 640) (n1 := 1024) r ⟨128 * h.val + d.val, by omega⟩) := by
  unfold cols; pointwise

theorem ctRow_apply (x : Vec Ideal S16x640 .f32) (h : Fin 8) (b : Fin 640) :
    ctRow x h (ix2 (n0 := 1) (n1 := 640) 0 b) = x (ix2 (n0 := 16) (n1 := 640) ⟨h.val, by omega⟩ b) := by
  unfold ctRow; pointwise

theorem gcCol_apply (x : Vec Ideal S640x128 .f32) (h : Fin 8) (r : Fin 640) :
    gcCol x h (ix2 (n0 := 640) (n1 := 1) r 0) = x (ix2 (n0 := 640) (n1 := 128) r ⟨h.val, by omega⟩) := by
  unfold gcCol; pointwise

theorem slab_apply (x : Vec Ideal S8x640x1 .f32) (h : Fin 8) (r : Fin 640) :
    slab x h (ix3 (n0 := 1) (n1 := 640) (n2 := 1) 0 r 0) = x (ix3 (n0 := 8) (n1 := 640) (n2 := 1) h r 0) := by
  unfold slab; pointwise

/-- A key block's score without the query's gate. -/
theorem scores_apply (q k : Vec Ideal S640x1024 .bf16) (ct : Vec Ideal S16x640 .f32) (h : Fin 8) (r b : Fin 640) :
    scores q k ct h (ix2 (n0 := 640) (n1 := 640) r b)
      = (∑ d : Fin 128, q (ix2 (n0 := 640) (n1 := 1024) r ⟨128 * h.val + d.val, by omega⟩)
            * k (ix2 (n0 := 640) (n1 := 1024) b ⟨128 * h.val + d.val, by omega⟩)) * scale
          - ct (ix2 (n0 := 16) (n1 := 640) ⟨h.val, by omega⟩ b) := by
  unfold scores score
  pointwise
  rw [ctRow_apply]
  congr 2
  refine Finset.sum_congr rfl fun d _ => ?_
  rw [cols_apply, cols_apply]

theorem mHead_apply (t : FVec Ideal S640x640 .f32) (cq : Vec Ideal S640x1 .f32) (mp : Vec Ideal S1x640x1 .f32) (r : Fin 640) :
    mHead t cq mp (ix2 (n0 := 640) (n1 := 1) r 0)
      = max (mp (ix3 (n0 := 1) (n1 := 640) (n2 := 1) 0 r 0))
          (Finset.univ.sup (fun b : Fin 640 => t (ix2 (n0 := 640) (n1 := 640) r b)) + cq (ix2 (n0 := 640) (n1 := 1) r 0)) := by
  unfold mHead
  pointwise
  rw [fold_max_eq_sup]

theorem lOut_apply (t : FVec Ideal S640x640 .f32) (cq : Vec Ideal S640x1 .f32) (mp lp : Vec Ideal S1x640x1 .f32) (r : Fin 640) :
    lOut t cq mp lp (ix3 (n0 := 1) (n1 := 640) (n2 := 1) 0 r 0)
      = Ideal.exp (mp (ix3 (n0 := 1) (n1 := 640) (n2 := 1) 0 r 0) - mHead t cq mp (ix2 (n0 := 640) (n1 := 1) r 0))
          * lp (ix3 (n0 := 1) (n1 := 640) (n2 := 1) 0 r 0)
        + ∑ b : Fin 640, Ideal.exp (t (ix2 (n0 := 640) (n1 := 640) r b)
            - (mHead t cq mp (ix2 (n0 := 640) (n1 := 1) r 0) - cq (ix2 (n0 := 640) (n1 := 1) r 0))) := by
  unfold lOut aHead pHead
  pointwise

theorem accOut_apply (t : FVec Ideal S640x640 .f32) (cq : Vec Ideal S640x1 .f32) (mp : Vec Ideal S1x640x1 .f32)
    (v : Vec Ideal S640x128 .bf16) (ap : Vec Ideal S640x128 .f32) (r : Fin 640) (d : Fin 128) :
    accOut t cq mp v ap (ix2 (n0 := 640) (n1 := 128) r d)
      = Ideal.exp (mp (ix3 (n0 := 1) (n1 := 640) (n2 := 1) 0 r 0) - mHead t cq mp (ix2 (n0 := 640) (n1 := 1) r 0))
          * ap (ix2 (n0 := 640) (n1 := 128) r d)
        + ∑ b : Fin 640, Ideal.exp (t (ix2 (n0 := 640) (n1 := 640) r b)
            - (mHead t cq mp (ix2 (n0 := 640) (n1 := 1) r 0) - cq (ix2 (n0 := 640) (n1 := 1) r 0)))
            * v (ix2 (n0 := 640) (n1 := 128) b d) := by
  unfold accOut aHead pHead
  pointwise

theorem oOut_apply (a : Vec Ideal S640x128 .f32) (l : Vec Ideal S1x640x1 .f32) (z : Vec Ideal S640x128 .f32) (r : Fin 640) (d : Fin 128) :
    oOut a l z (ix2 (n0 := 640) (n1 := 128) r d)
      = z (ix2 (n0 := 640) (n1 := 128) r d) * Ideal.div 1 (1 + Ideal.exp (0 - z (ix2 (n0 := 640) (n1 := 128) r d)))
          * Ideal.div (a (ix2 (n0 := 640) (n1 := 128) r d)) (l (ix3 (n0 := 1) (n1 := 640) (n2 := 1) 0 r 0)) := by
  unfold oOut
  pointwise

theorem masked_apply (t : FVec Ideal S640x640 .f32) (r b : Fin 640) :
    masked t (ix2 (n0 := 640) (n1 := 640) r b) = if b.val ≤ r.val then t (ix2 (n0 := 640) (n1 := 640) r b) else ⊥ := by
  unfold masked keep
  pointwise
  rw [ofBits_neg_inf]
  have hc : IntOp.cmpi CmpIPredicate.sge (BitVec.ofNat 32 r.val) (BitVec.ofNat 32 b.val) = if b.val ≤ r.val then 1#1 else 0#1 := by
    have key : (BitVec.ofNat 32 b.val).sle (BitVec.ofNat 32 r.val) = decide (b.val ≤ r.val) := by
      have hb := b.isLt; have hr := r.isLt
      rw [BitVec.sle_eq_decide]
      rw [BitVec.toInt_eq_toNat_of_lt (by rw [BitVec.toNat_ofNat]; omega), BitVec.toInt_eq_toNat_of_lt (by rw [BitVec.toNat_ofNat]; omega)]
      rw [BitVec.toNat_ofNat, BitVec.toNat_ofNat, Nat.mod_eq_of_lt (by omega), Nat.mod_eq_of_lt (by omega)]
      simp
    unfold IntOp.cmpi
    simp only [key]
    by_cases h : b.val ≤ r.val <;> simp [h]
  rw [hc]
  by_cases h : b.val ≤ r.val <;> simp [h, Scalar.select]

theorem reset_apply (h : Fin 8) (r : Fin 640) (col : Fin 1024) :
    (reset (F := Ideal)).m (ix3 (n0 := 8) (n1 := 640) (n2 := 1) h r 0) = ⊥
    ∧ (reset (F := Ideal)).l (ix3 (n0 := 8) (n1 := 640) (n2 := 1) h r 0) = 0
    ∧ (reset (F := Ideal)).acc (ix2 (n0 := 640) (n1 := 1024) r col) = 0 := by
  unfold reset k0_pay3 k0_pay1 k0_pay2
  refine ⟨?_, ?_, ?_⟩
  all_goals pointwise
  exact ofBits_neg_inf

/-! ## The stored buffers at an index -/

theorem beside_apply {e : EltTy} (f : Fin 8 → Vec Ideal S640x128 e) (h : Fin 8) (r : Fin 640) (d : Fin 128) :
    beside f (ix2 (n0 := 640) (n1 := 1024) r ⟨128 * h.val + d.val, by omega⟩) = f h (ix2 (n0 := 640) (n1 := 128) r d) := by
  have e1 : headOf (ix2 (n0 := 640) (n1 := 1024) r ⟨128 * h.val + d.val, by omega⟩) = h :=
    Fin.ext (by show (128 * h.val + d.val) / 128 = h.val; omega)
  have e2 : laneOf (ix2 (n0 := 640) (n1 := 1024) r ⟨128 * h.val + d.val, by omega⟩) = ix2 (n0 := 640) (n1 := 128) r d := by
    funext a; fin_cases a
    · rfl
    · exact Fin.ext (by show (128 * h.val + d.val) % 128 = d.val; omega)
  unfold beside; rw [e1, e2]

theorem stack_apply (f : Fin 8 → Vec Ideal S1x640x1 .f32) (h : Fin 8) (r : Fin 640) :
    stack f (ix3 (n0 := 8) (n1 := 640) (n2 := 1) h r 0) = f h (ix3 (n0 := 1) (n1 := 640) (n2 := 1) 0 r 0) := rfl

theorem mOut_apply (t : FVec Ideal S640x640 .f32) (cq : Vec Ideal S640x1 .f32) (mp : Vec Ideal S1x640x1 .f32) (r : Fin 640) :
    mOut t cq mp (ix3 (n0 := 1) (n1 := 640) (n2 := 1) 0 r 0) = mHead t cq mp (ix2 (n0 := 640) (n1 := 1) r 0) := by
  unfold mOut; pointwise

/-! ## A row of the scratch and the triple of the keys seen -/

/-- A row of the scratch holds the triple of the first `n` keys, with scores `w h` and values `v` (by column). -/
structure RowIs (s : State Ideal) (r : Fin 640) (w : Fin 8 → ℕ → EReal) (v : Fin 1024 → ℕ → EReal) (n : ℕ) : Prop where
  run : ∀ h : Fin 8, Run (w h) n (s.m (ix3 (n0 := 8) (n1 := 640) (n2 := 1) h r 0)) (s.l (ix3 (n0 := 8) (n1 := 640) (n2 := 1) h r 0))
  acc : ∀ (h : Fin 8) (d : Fin 128), s.acc (ix2 (n0 := 640) (n1 := 1024) r ⟨128 * h.val + d.val, by omega⟩)
    = wsum (w h) (v ⟨128 * h.val + d.val, by omega⟩) n (s.m (ix3 (n0 := 8) (n1 := 640) (n2 := 1) h r 0))

theorem rowIs_reset (r : Fin 640) (w : Fin 8 → ℕ → EReal) (v : Fin 1024 → ℕ → EReal) : RowIs reset r w v 0 := by
  refine ⟨fun h => ?_, fun h d => ?_⟩
  · rw [(reset_apply h r 0).1, (reset_apply h r 0).2.1]; exact run_zero _
  · rw [(reset_apply h r _).2.2, wsum_zero]

section

variable {s : State Ideal} {r : Fin 640} {w : Fin 8 → ℕ → EReal} {v : Fin 1024 → ℕ → EReal} {n : ℕ}
  {t : Fin 8 → FVec Ideal S640x640 .f32} {vb : Vec Ideal S640x1024 .bf16} {gc : Vec Ideal S640x128 .f32}

/-- A block takes a row's triple from the first `n` keys to the first `n + 640`. -/
theorem rowIs_step (hw : ∀ h j, w h j ≠ ⊤) (hs : RowIs s r w v n)
    (hg : ∀ h : Fin 8, ∃ c : ℝ, gc (ix2 (n0 := 640) (n1 := 128) r ⟨h.val, by omega⟩) = (c : EReal))
    (ht : ∀ (h : Fin 8) (b : Fin 640), w h (n + b.val)
      = t h (ix2 (n0 := 640) (n1 := 640) r b) + gc (ix2 (n0 := 640) (n1 := 128) r ⟨h.val, by omega⟩))
    (hv : ∀ (col : Fin 1024) (b : Fin 640), v col (n + b.val) = vb (ix2 (n0 := 640) (n1 := 1024) b col)) :
    RowIs (step t vb gc s) r w v (n + 640) := by
  refine ⟨fun h => ?_, fun h d => ?_⟩
  · obtain ⟨c, hc⟩ := hg h
    have h1 := run_step (hw h) (hs.run h) (B := 640) (t := fun b => t h (ix2 (n0 := 640) (n1 := 640) r b)) (c := c)
      (fun b => by rw [ht, hc])
    simp only [step, stack_apply, mOut_apply, lOut_apply, mHead_apply]
    rw [slab_apply, slab_apply, gcCol_apply, hc]
    exact h1
  · obtain ⟨c, hc⟩ := hg h
    have h1 := wsum_step (hw h) (hs.run h) (B := 640) (t := fun b => t h (ix2 (n0 := 640) (n1 := 640) r b)) (c := c)
      (fun b => by rw [ht, hc]) (v ⟨128 * h.val + d.val, by omega⟩)
    simp only [step, beside_apply, stack_apply, mOut_apply, accOut_apply, mHead_apply]
    rw [slab_apply, gcCol_apply, hc, cols_apply, hs.acc, ← h1]
    congr 1
    refine Finset.sum_congr rfl fun b _ => ?_
    rw [cols_apply, hv]

/-- A row of the result is its gate times the quotient of the row's sums after the block. -/
theorem result_apply (z : Vec Ideal S640x1024 .f32) (h : Fin 8) (d : Fin 128) :
    result t vb gc z s (ix2 (n0 := 640) (n1 := 1024) r ⟨128 * h.val + d.val, by omega⟩)
      = z (ix2 (n0 := 640) (n1 := 1024) r ⟨128 * h.val + d.val, by omega⟩)
          * Ideal.div 1 (1 + Ideal.exp (0 - z (ix2 (n0 := 640) (n1 := 1024) r ⟨128 * h.val + d.val, by omega⟩)))
        * Ideal.div ((step t vb gc s).acc (ix2 (n0 := 640) (n1 := 1024) r ⟨128 * h.val + d.val, by omega⟩))
            ((step t vb gc s).l (ix3 (n0 := 8) (n1 := 640) (n2 := 1) h r 0)) := by
  simp only [result, step, beside_apply, stack_apply, oOut_apply]
  rw [cols_apply]

end

end Cert.Fox

end
-- ==== Proof.Fox.Row.lean ====
/- A row of queries along the grid, over the extended reals: before key block `ki` the scratch holds the triple of the
   first `640·ki` keys, and the result block stored on the diagonal is the gated softmax mean over all the keys. -/
module

public import proofs.«01_k».proof.Proof.Fox.Frame
public import proofs.«01_k».proof.Proof.Fox.Pointwise

@[expose] public section

set_option maxRecDepth 16384

noncomputable section

namespace Cert.Fox

open Cert.KernelIdeal Cert.KernelIdeal.Gen
open Idealize.ShloMosaic Idealize.ShloMosaic.TcCoe Idealize.ShloMosaic.Tactic
open Idealize.ShloMosaic.Pipeline (Dat Cfg Window cellOf)

/-! ## The blocks as rows of the arguments -/

section Blocks

variable (m : (ℓ : Loc nD τ sig) → Buf (Elt Ideal) ℓ) (c : Dev nD)

theorem index_facts : ∀ t : Fin cfg0.N,
    win0_0.index t = ![t.val / 13, 0] ∧ win0_1.index t = ![min (t.val % 13) (t.val / 13), 0]
    ∧ win0_2.index t = ![min (t.val % 13) (t.val / 13), 0] ∧ win0_3.index t = ![0, min (t.val % 13) (t.val / 13)]
    ∧ win0_4.index t = ![t.val / 13, 0] ∧ win0_5.index t = ![t.val / 13, 0] ∧ win0_6.index t = ![t.val / 13, 0] := by
  decide +kernel

theorem qi_lt (t : Fin cfg0.N) : t.val / 13 < 13 := by
  have h : t.val < 169 := lt_of_lt_of_eq t.isLt N_0
  omega

theorem iblk_q (t : Fin cfg0.N) (r : Fin 640) (col : Fin 1024) :
    (iblk m c 0 t : Vec Ideal S640x1024 .bf16) (ix2 (n0 := 640) (n1 := 1024) r col)
      = m ((c : Thread nD τ).loc main_arg0) (ix2 (n0 := 8320) (n1 := 1024) ⟨640 * (t.val / 13) + r.val, by have := qi_lt t; omega⟩ col) := by
  have e := (index_facts t).1
  blk_ext [iblk, V, e]

theorem iblk_k (t : Fin cfg0.N) (h : t.val % 13 ≤ t.val / 13) (r : Fin 640) (col : Fin 1024) :
    (iblk m c 1 t : Vec Ideal S640x1024 .bf16) (ix2 (n0 := 640) (n1 := 1024) r col)
      = m ((c : Thread nD τ).loc main_arg1) (ix2 (n0 := 8320) (n1 := 1024) ⟨640 * (t.val % 13) + r.val, by omega⟩ col) := by
  have e := (index_facts t).2.1
  rw [min_eq_left h] at e
  blk_ext [iblk, V, e]

theorem iblk_v (t : Fin cfg0.N) (h : t.val % 13 ≤ t.val / 13) (r : Fin 640) (col : Fin 1024) :
    (iblk m c 2 t : Vec Ideal S640x1024 .bf16) (ix2 (n0 := 640) (n1 := 1024) r col)
      = m ((c : Thread nD τ).loc main_arg2) (ix2 (n0 := 8320) (n1 := 1024) ⟨640 * (t.val % 13) + r.val, by omega⟩ col) := by
  have e := (index_facts t).2.2.1
  rw [min_eq_left h] at e
  blk_ext [iblk, V, e]

theorem iblk_ct (t : Fin cfg0.N) (h : t.val % 13 ≤ t.val / 13) (a : Fin 16) (b : Fin 640) :
    (iblk m c 3 t : Vec Ideal S16x640 .f32) (ix2 (n0 := 16) (n1 := 640) a b)
      = m ((c : Thread nD τ).loc main_arg3) (ix2 (n0 := 16) (n1 := 8320) a ⟨640 * (t.val % 13) + b.val, by omega⟩) := by
  have e := (index_facts t).2.2.2.1
  rw [min_eq_left h] at e
  blk_ext [iblk, V, e]

theorem iblk_gc (t : Fin cfg0.N) (r : Fin 640) (col : Fin 128) :
    (iblk m c 4 t : Vec Ideal S640x128 .f32) (ix2 (n0 := 640) (n1 := 128) r col)
      = m ((c : Thread nD τ).loc main_arg4) (ix2 (n0 := 8320) (n1 := 128) ⟨640 * (t.val / 13) + r.val, by have := qi_lt t; omega⟩ col) := by
  have e := (index_facts t).2.2.2.2.1
  blk_ext [iblk, V, e]

theorem iblk_z (t : Fin cfg0.N) (r : Fin 640) (col : Fin 1024) :
    (iblk m c 5 t : Vec Ideal S640x1024 .f32) (ix2 (n0 := 640) (n1 := 1024) r col)
      = m ((c : Thread nD τ).loc main_arg5) (ix2 (n0 := 8320) (n1 := 5120) ⟨640 * (t.val / 13) + r.val, by have := qi_lt t; omega⟩
          ⟨col.val, by omega⟩) := by
  have e := (index_facts t).2.2.2.2.2.1
  blk_ext [iblk, V, e]

end Blocks

/-! ## The scores and the values of a query's row -/

section Row

variable (x0 x1 x2 : Vec Ideal S8320x1024 .bf16) (x3 : Vec Ideal S16x8320 .f32) (x4 : Vec Ideal S8320x128 .f32)

/-- Query `i`'s score of key `j` in head `h`. -/
def sc (h : Fin 8) (i j : Fin 8320) : EReal :=
  (∑ d : Fin 128, x0 (ix2 (n0 := 8320) (n1 := 1024) i ⟨128 * h.val + d.val, by omega⟩)
      * x1 (ix2 (n0 := 8320) (n1 := 1024) j ⟨128 * h.val + d.val, by omega⟩)) * scale
    - x3 (ix2 (n0 := 16) (n1 := 8320) ⟨h.val, by omega⟩ j) + x4 (ix2 (n0 := 8320) (n1 := 128) i ⟨h.val, by omega⟩)

/-- The scores with the keys after the query at −∞. -/
def wt (i : Fin 8320) (h : Fin 8) (j : ℕ) : EReal :=
  if hj : j < 8320 ∧ j ≤ i.val then sc x0 x1 x3 x4 h i ⟨j, hj.1⟩ else ⊥

/-- The values, a column by key. -/
def vl (col : Fin 1024) (j : ℕ) : EReal := if hj : j < 8320 then x2 (ix2 (n0 := 8320) (n1 := 1024) ⟨j, hj⟩ col) else 0

/-- What the claim asks of the arguments: queries, keys and gates are real numbers. -/
structure Finite : Prop where
  q : ∀ i col, ∃ r : ℝ, x0 (ix2 (n0 := 8320) (n1 := 1024) i col) = (r : EReal)
  k : ∀ i col, ∃ r : ℝ, x1 (ix2 (n0 := 8320) (n1 := 1024) i col) = (r : EReal)
  ct : ∀ (h : Fin 8) j, ∃ r : ℝ, x3 (ix2 (n0 := 16) (n1 := 8320) ⟨h.val, by omega⟩ j) = (r : EReal)
  gc : ∀ i (h : Fin 8), ∃ r : ℝ, x4 (ix2 (n0 := 8320) (n1 := 128) i ⟨h.val, by omega⟩) = (r : EReal)

variable {x0 x1 x3 x4} (hf : Finite x0 x1 x3 x4)

include hf in
theorem sc_real (h : Fin 8) (i j : Fin 8320) : ∃ r : ℝ, sc x0 x1 x3 x4 h i j = (r : EReal) := by
  choose q hq using hf.q
  choose k hk using hf.k
  obtain ⟨ct, hct⟩ := hf.ct h j
  obtain ⟨gc, hgc⟩ := hf.gc i h
  obtain ⟨s, hs⟩ := scale_real
  unfold sc
  simp only [hq, hk, hct, hgc, hs, ← EReal.coe_mul]
  rw [← coe_sum_real, ← EReal.coe_mul, ← EReal.coe_sub, ← EReal.coe_add]
  exact ⟨_, rfl⟩

include hf in
theorem wt_ne_top (i : Fin 8320) (h : Fin 8) (j : ℕ) : wt x0 x1 x3 x4 i h j ≠ ⊤ := by
  unfold wt
  split
  · obtain ⟨r, hr⟩ := sc_real hf h i ⟨j, by omega⟩
    rw [hr]; exact EReal.coe_ne_top _
  · exact bot_ne_top

include hf in
theorem wt_self (i : Fin 8320) (h : Fin 8) : wt x0 x1 x3 x4 i h i.val ≠ ⊥ := by
  unfold wt
  rw [dif_pos ⟨i.isLt, le_rfl⟩]
  obtain ⟨r, hr⟩ := sc_real hf h i ⟨i.val, i.isLt⟩
  rw [hr]; exact EReal.coe_ne_bot _

end Row

/-! ## Along a row of key blocks -/

/-- The arguments of the call on a device. -/
abbrev A0 (m : (ℓ : Loc nD τ sig) → Buf (Elt Ideal) ℓ) (c : Dev nD) : Vec Ideal S8320x1024 .bf16 := m ((c : Thread nD τ).loc main_arg0)
abbrev A1 (m : (ℓ : Loc nD τ sig) → Buf (Elt Ideal) ℓ) (c : Dev nD) : Vec Ideal S8320x1024 .bf16 := m ((c : Thread nD τ).loc main_arg1)
abbrev A2 (m : (ℓ : Loc nD τ sig) → Buf (Elt Ideal) ℓ) (c : Dev nD) : Vec Ideal S8320x1024 .bf16 := m ((c : Thread nD τ).loc main_arg2)
abbrev A3 (m : (ℓ : Loc nD τ sig) → Buf (Elt Ideal) ℓ) (c : Dev nD) : Vec Ideal S16x8320 .f32 := m ((c : Thread nD τ).loc main_arg3)
abbrev A4 (m : (ℓ : Loc nD τ sig) → Buf (Elt Ideal) ℓ) (c : Dev nD) : Vec Ideal S8320x128 .f32 := m ((c : Thread nD τ).loc main_arg4)
abbrev A5 (m : (ℓ : Loc nD τ sig) → Buf (Elt Ideal) ℓ) (c : Dev nD) : Vec Ideal S8320x5120 .f32 := m ((c : Thread nD τ).loc main_arg5)

section Along

variable (m : (ℓ : Loc nD τ sig) → Buf (Elt Ideal) ℓ) (c : Dev nD)

variable {m c}
variable (hf : Finite (A0 m c) (A1 m c) (A3 m c) (A4 m c))

/-- The point of query block `qi` and key block `ki`. -/
def pt (qi ki : ℕ) (hq : qi < 13) (hk : ki ≤ qi) : Fin cfg0.N := ⟨13 * qi + ki, lt_of_lt_of_eq (by omega) N_0.symm⟩

/-- A block's scores below the diagonal, with the query's gate, are the row's. -/
theorem scores_wt (qi ki : ℕ) (hq : qi < 13) (hk : ki ≤ qi) (r : Fin 640) (h : Fin 8) (b : Fin 640) :
    scores (iblk m c 0 (pt qi ki hq hk)) (iblk m c 1 (pt qi ki hq hk)) (iblk m c 3 (pt qi ki hq hk)) h (ix2 (n0 := 640) (n1 := 640) r b)
        + (iblk m c 4 (pt qi ki hq hk) : Vec Ideal S640x128 .f32) (ix2 (n0 := 640) (n1 := 128) r ⟨h.val, by omega⟩)
      = sc (A0 m c) (A1 m c) (A3 m c) (A4 m c) h ⟨640 * qi + r.val, by omega⟩ ⟨640 * ki + b.val, by omega⟩ := by
  have e1 : (pt qi ki hq hk).val / 13 = qi := by show (13 * qi + ki) / 13 = qi; omega
  have e2 : (pt qi ki hq hk).val % 13 = ki := by show (13 * qi + ki) % 13 = ki; omega
  have hle : (pt qi ki hq hk).val % 13 ≤ (pt qi ki hq hk).val / 13 := by omega
  rw [scores_apply, iblk_gc, iblk_ct _ _ _ hle]
  simp only [iblk_q, iblk_k _ _ _ hle, e1, e2]
  rfl

theorem values_vl (qi ki : ℕ) (hq : qi < 13) (hk : ki ≤ qi) (col : Fin 1024) (b : Fin 640) :
    vl (A2 m c) col (640 * ki + b.val) = (iblk m c 2 (pt qi ki hq hk) : Vec Ideal S640x1024 .bf16) (ix2 (n0 := 640) (n1 := 1024) b col) := by
  have e1 : (pt qi ki hq hk).val / 13 = qi := by show (13 * qi + ki) / 13 = qi; omega
  have e2 : (pt qi ki hq hk).val % 13 = ki := by show (13 * qi + ki) % 13 = ki; omega
  rw [iblk_v _ _ _ (by omega)]
  unfold vl
  rw [dif_pos (by omega)]
  simp only [e2]

include hf in
theorem gates_real (t : Fin cfg0.N) (r : Fin 640) (h : Fin 8) :
    ∃ g : ℝ, (iblk m c 4 t : Vec Ideal S640x128 .f32) (ix2 (n0 := 640) (n1 := 128) r ⟨h.val, by omega⟩) = (g : EReal) := by
  rw [iblk_gc]; exact hf.gc _ h

include hf in
/-- Before key block `ki` the scratch holds the triple of the first `640·ki` keys. -/
theorem row_before (qi : ℕ) (hq : qi < 13) (r : Fin 640) : ∀ (ki : ℕ) (hk : ki ≤ qi),
    RowIs (start (13 * qi + ki) (St m c (13 * qi + ki) (Nat.le_of_lt (pt qi ki hq hk).isLt))) r
      (wt (A0 m c) (A1 m c) (A3 m c) (A4 m c) ⟨640 * qi + r.val, by omega⟩) (vl (A2 m c)) (640 * ki)
  | 0, hk => by
    unfold start
    rw [if_pos (by omega)]
    exact rowIs_reset _ _ _
  | ki + 1, hk => by
    have ih := row_before qi hq r ki (by omega)
    have es : St m c (13 * qi + (ki + 1)) (Nat.le_of_lt (pt qi (ki + 1) hq hk).isLt)
        = next m c (pt qi ki hq (by omega)) (St m c (13 * qi + ki) (Nat.le_of_lt (pt qi ki hq (by omega)).isLt)) := rfl
    have e1 : (pt qi ki hq (by omega)).val / 13 = qi := by show (13 * qi + ki) / 13 = qi; omega
    have e2 : (pt qi ki hq (by omega)).val % 13 = ki := by show (13 * qi + ki) % 13 = ki; omega
    unfold start
    rw [if_neg (by omega), es]
    unfold next
    rw [if_pos (by rw [e1, e2]; omega)]
    refine rowIs_step (n := 640 * ki) (wt_ne_top hf _) ih (fun h => gates_real hf _ r h) (fun h b => ?_)
      (fun col b => values_vl qi ki hq (by omega) col b)
    rw [scores_wt qi ki hq (by omega)]
    unfold wt
    rw [dif_pos ⟨by omega, by show 640 * ki + b.val ≤ 640 * qi + r.val; omega⟩]

include hf in
/-- After the diagonal block it holds that of the first `640·(qi+1)`. -/
theorem row_after (qi : ℕ) (hq : qi < 13) (r : Fin 640) :
    RowIs (step (scoresD (iblk m c 0 (pt qi qi hq le_rfl)) (iblk m c 1 (pt qi qi hq le_rfl)) (iblk m c 3 (pt qi qi hq le_rfl)))
        (iblk m c 2 (pt qi qi hq le_rfl)) (iblk m c 4 (pt qi qi hq le_rfl))
        (start (13 * qi + qi) (St m c (13 * qi + qi) (Nat.le_of_lt (pt qi qi hq le_rfl).isLt)))) r
      (wt (A0 m c) (A1 m c) (A3 m c) (A4 m c) ⟨640 * qi + r.val, by omega⟩) (vl (A2 m c)) (640 * qi + 640) := by
  refine rowIs_step (n := 640 * qi) (wt_ne_top hf _) (row_before hf qi hq r qi le_rfl) (fun h => gates_real hf _ r h) (fun h b => ?_)
    (fun col b => values_vl qi qi hq le_rfl col b)
  unfold scoresD
  rw [masked_apply]
  unfold wt
  by_cases hb : b.val ≤ r.val
  · rw [if_pos hb, scores_wt qi qi hq le_rfl, dif_pos ⟨by omega, by show 640 * qi + b.val ≤ 640 * qi + r.val; omega⟩]
  · rw [if_neg hb, dif_neg (by show ¬(_ ∧ 640 * qi + b.val ≤ 640 * qi + r.val); omega), EReal.bot_add]

/-- The softmax's weighted mean of a column of values for query `i`. -/
def mean (x0 x1 x2 : Vec Ideal S8320x1024 .bf16) (x3 : Vec Ideal S16x8320 .f32) (x4 : Vec Ideal S8320x128 .f32)
    (i : Fin 8320) (h : Fin 8) (col : Fin 1024) : EReal :=
  ∑ j : Fin 8320, vl x2 col j.val
    * Ideal.div (Ideal.exp (wt x0 x1 x3 x4 i h j.val - max ⊥ (Finset.univ.sup fun j : Fin 8320 => wt x0 x1 x3 x4 i h j.val)))
        (0 + ∑ j : Fin 8320, Ideal.exp (wt x0 x1 x3 x4 i h j.val - max ⊥ (Finset.univ.sup fun j : Fin 8320 => wt x0 x1 x3 x4 i h j.val)))

/-- A gate times that mean. -/
def gated (x0 x1 x2 : Vec Ideal S8320x1024 .bf16) (x3 : Vec Ideal S16x8320 .f32) (x4 : Vec Ideal S8320x128 .f32)
    (x5 : Vec Ideal S8320x5120 .f32) (i : Fin 8320) (h : Fin 8) (d : Fin 128) : EReal :=
  x5 (ix2 (n0 := 8320) (n1 := 5120) i ⟨128 * h.val + d.val, by omega⟩)
      * Ideal.div 1 (1 + Ideal.exp (0 - x5 (ix2 (n0 := 8320) (n1 := 5120) i ⟨128 * h.val + d.val, by omega⟩)))
    * mean x0 x1 x2 x3 x4 i h ⟨128 * h.val + d.val, by omega⟩

include hf in
/-- The block stored on the diagonal. -/
theorem resAt_apply (qi : ℕ) (hq : qi < 13) (r : Fin 640) (h : Fin 8) (d : Fin 128) :
    resAt m c (pt qi qi hq le_rfl) (ix2 (n0 := 640) (n1 := 1024) r ⟨128 * h.val + d.val, by omega⟩)
      = gated (A0 m c) (A1 m c) (A2 m c) (A3 m c) (A4 m c) (A5 m c) ⟨640 * qi + r.val, by omega⟩ h d := by
  have e1 : (pt qi qi hq le_rfl).val / 13 = qi := by show (13 * qi + qi) / 13 = qi; omega
  have hr := row_after hf qi hq r
  unfold resAt
  rw [result_apply, iblk_z]
  unfold gated
  simp only [e1]
  congr 1
  refine Eq.trans ?_ (mean_eq (w := wt (A0 m c) (A1 m c) (A3 m c) (A4 m c) ⟨640 * qi + r.val, by omega⟩ h) (N := 8320) (wt_ne_top hf _ h) (hr.run h) (by omega)
    (fun j hj => ?_) (i := 640 * qi + r.val) (by omega) (wt_self hf ⟨640 * qi + r.val, by omega⟩ h) (vl (A2 m c) ⟨128 * h.val + d.val, by omega⟩))
  · rw [← hr.acc h d]; rfl
  · unfold wt
    rw [dif_neg (by show ¬(_ ∧ j ≤ 640 * qi + r.val); omega)]

end Along

end Cert.Fox

end
-- ==== Proof.Fox.Final.lean ====
/- The attention kernel's result array after the run, and its run with that array named. -/
module

public import proofs.«01_k».proof.Proof.Fox.Row

@[expose] public section

set_option maxRecDepth 16384

noncomputable section

namespace Cert.Fox

open Cert.KernelIdeal Cert.KernelIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ) (ρ : Dev nD → PrngReg)

/-- The attention's result: at query `i` and column `128·h + d` the gated mean of head `h`. -/
def attn (x0 x1 x2 : Vec Ideal S8320x1024 .bf16) (x3 : Vec Ideal S16x8320 .f32) (x4 : Vec Ideal S8320x128 .f32)
    (x5 : Vec Ideal S8320x5120 .f32) : Vec Ideal S8320x1024 .bf16 := fun i =>
  gated x0 x1 x2 x3 x4 x5 (i 0) ⟨(i 1).val / 128, by have h : (i 1).val < 1024 := (i 1).isLt; omega⟩
    ⟨(i 1).val % 128, Nat.mod_lt _ (by decide)⟩

theorem diag_eq (t : Fin cfg0.N) : diag t = pt (t.val / 13) (t.val / 13) (qi_lt t) le_rfl :=
  Fin.ext (by show 14 * (t.val / 13) = 13 * (t.val / 13) + t.val / 13; omega)

theorem final6 (c : Dev nD) (hf : Finite (A0 m c) (A1 m c) (A3 m c) (A4 m c)) :
    (dats m 0 c).arrAt 6 (cfgs 0).N = attn (A0 m c) (A1 m c) (A2 m c) (A3 m c) (A4 m c) (A5 m c) := by
  refine (dats m 0 c).arrAt_eq_of_covers 6 _ (by decide +kernel) fun t hfl y => ?_
  blk_simp
  rw [after0_6, diag_eq]
  have e := (index_facts t).2.2.2.2.2.2
  idx_vars y
  have hq := qi_lt t
  have h := resAt_apply hf (t.val / 13) hq y0 ⟨y1.val / 128, by omega⟩ ⟨y1.val % 128, by omega⟩
  have hy : (⟨128 * (y1.val / 128) + y1.val % 128, by omega⟩ : Fin 1024) = y1 := Fin.ext (by show 128 * (y1.val / 128) + y1.val % 128 = y1.val; omega)
  simp only [hy] at h
  refine Eq.trans h ?_
  have e0 : (((cfg0.win 6).blk t).view.emb (ix2 (n0 := 640) (n1 := 1024) y0 y1) 0).val = 640 * (t.val / 13) + y0.val := by
    blk_simp [e]; omega
  have e1 : (((cfg0.win 6).blk t).view.emb (ix2 (n0 := 640) (n1 := 1024) y0 y1) 1).val = y1.val := by
    blk_simp [e]
  unfold attn
  congr 1
  · exact Fin.ext e0.symm
  · exact Fin.ext (congrArg (· / 128) e1.symm)
  · exact Fin.ext (congrArg (· % 128) e1.symm)

end Cert.Fox

end
-- ==== Proof.Fox.Reference.lean ====
/- The plain attention's result at the extended reals, an element at a time. -/
module

public import proofs.«01_k».proof.Proof.Fox.Row
public import proofs.«01_k».proof.Proof.Gen.ReferenceIdeal.Run
public import proofs.«01_k».proof.Proof.Gen.ReferenceIdeal.Read

@[expose] public section

set_option maxRecDepth 16384

noncomputable section

namespace Cert.Fox.Plain

open Cert.ReferenceIdeal Cert.ReferenceIdeal.Gen Cert.ReferenceIdeal.Read
open Idealize.ShloMosaic Idealize.ShloMosaic.TcCoe Idealize.ShloMosaic.Tactic

variable (x0 x1 x2 : Vec Ideal S8320x1024 .bf16) (x3 : Vec Ideal S16x8320 .f32) (x4 : Vec Ideal S8320x128 .f32)
  (x5 : Vec Ideal S8320x5120 .f32)

theorem mul_of_eq {a b c d : EReal} (h : a = b) (h' : c = d) : a * c = b * d := by rw [h, h']

theorem sub_add_eq_add_sub' (a a' b c : EReal) (h : a = a') : a * scale - b + c = a' * scale + c - b := by
  rw [h, sub_eq_add_neg, sub_eq_add_neg, add_right_comm]

/-- The scores, the query's gate added before the key's is taken away. -/
theorem v18_apply (h : Fin 8) (i j : Fin 8320) :
    val_main_v18 x0 x1 x3 x4 (ix3 (n0 := 8) (n1 := 8320) (n2 := 8320) h i j) = sc x0 x1 x3 x4 h i j := by
  unfold val_main_v18 val_main_v17 val_main_v16 val_main_v7 val_main_v15 val_main_v14 val_main_v13 val_main_v12 val_main_v6 val_main_v11 val_main_v10 val_main_cst
  unfold val_main_v9 val_main_v1 val_main_v3 val_main_v0 val_main_v2
  pointwise
  unfold sc
  refine (sub_add_eq_add_sub' _ _ _ _ ?_).symm
  refine Finset.sum_congr rfl fun d _ => ?_
  have e : (⟨128 * h.val + d.val, by omega⟩ : Fin 1024) = ⟨h.val * 128 + d.val, by omega⟩ := Fin.ext (by show 128 * h.val + d.val = h.val * 128 + d.val; omega)
  rw [e]

/-- Whether a key comes no later than the query. -/
theorem sle_iff (i j : Fin 8320) :
    IntOp.cmpi CmpIPredicate.sle (BitVec.ofNat 32 j.val) (BitVec.ofNat 32 i.val) = if j.val ≤ i.val then 1#1 else 0#1 := by
  have key : (BitVec.ofNat 32 j.val).sle (BitVec.ofNat 32 i.val) = decide (j.val ≤ i.val) := by
    have hb := j.isLt; have hr := i.isLt
    rw [BitVec.sle_eq_decide]
    rw [BitVec.toInt_eq_toNat_of_lt (by rw [BitVec.toNat_ofNat]; omega), BitVec.toInt_eq_toNat_of_lt (by rw [BitVec.toNat_ofNat]; omega)]
    rw [BitVec.toNat_ofNat, BitVec.toNat_ofNat, Nat.mod_eq_of_lt (by omega), Nat.mod_eq_of_lt (by omega)]
    simp
  unfold IntOp.cmpi
  simp only [key]
  by_cases h : j.val ≤ i.val <;> simp [h]

/-- The masked scores. -/
theorem v24_apply (h : Fin 8) (i j : Fin 8320) :
    val_main_v24 x0 x1 x3 x4 (ix3 (n0 := 8) (n1 := 8320) (n2 := 8320) h i j) = wt x0 x1 x3 x4 i h j.val := by
  have hs := v18_apply x0 x1 x3 x4 h i j
  unfold val_main_v24 val_main_call0_v1 val_main_call0_v2 val_main_v23 val_main_v21 val_main_v22 val_main_v20 val_main_v19 val_main_v8
    val_main_call0_v0 val_main_cst_0
  generalize val_main_v18 x0 x1 x3 x4 = y at hs ⊢
  pointwise
  rw [hs, sle_iff]
  unfold wt
  by_cases hj : j.val ≤ i.val
  · rw [if_pos hj, dif_pos ⟨j.isLt, hj⟩]; rfl
  · rw [if_neg hj, dif_neg (fun h => hj h.2)]; exact ofBits_neg_inf

/-- A maximum over the last axis of three. -/
theorem reduce_last (a b n : ℕ) (x : FVec Ideal ⟨3, ![a, b, n]⟩ .f32) (c : FVec Ideal ⟨0, ![]⟩ .f32)
    (h : (⟨3, ![a, b, n]⟩ : Shape).ReducesTo [2] ⟨2, ![a, b]⟩) (hu : 0 < (⟨0, ![]⟩ : Shape).numel) (i : Fin a) (j : Fin b) :
    Host.reduce FloatOps.maximumf x c h hu (ix2 (n0 := a) (n1 := b) i j)
      = Finset.univ.fold max (c (Shape.Idx.first hu)) fun k : Fin n => x (ix3 (n0 := a) (n1 := b) (n2 := n) i j k) := by
  simp only [pointwise]

theorem v25_apply (h : Fin 8) (i : Fin 8320) :
    val_main_v25 x0 x1 x3 x4 (ix2 (n0 := 8) (n1 := 8320) h i) = Finset.univ.sup fun j : Fin 8320 => wt x0 x1 x3 x4 i h j.val := by
  have hs := v24_apply x0 x1 x3 x4 h i
  unfold val_main_v25
  generalize val_main_v24 x0 x1 x3 x4 = y at hs ⊢
  refine (reduce_last 8 8320 8320 y _ _ _ h i).trans ?_
  refine (fold_max_eq_sup _ _).trans ?_
  simp only [hs]

/-- The row's maximum. -/
theorem v27_apply (h : Fin 8) (i : Fin 8320) :
    val_main_v27 x0 x1 x3 x4 (ix2 (n0 := 8) (n1 := 8320) h i) = max ⊥ (Finset.univ.sup fun j : Fin 8320 => wt x0 x1 x3 x4 i h j.val) := by
  refine (val_main_v27_apply x0 x1 x3 x4 _).trans ?_
  rw [v25_apply, val_main_v26_apply, val_main_cst_2_apply]
  exact congrArg (fun z : EReal => max z (Finset.univ.sup fun j : Fin 8320 => wt x0 x1 x3 x4 i h j.val)) ofBits_neg_inf

/-- A weight before it is divided. -/
theorem v31_apply (h : Fin 8) (i j : Fin 8320) :
    val_main_v31 x0 x1 x3 x4 (ix3 (n0 := 8) (n1 := 8320) (n2 := 8320) h i j)
      = Ideal.exp (wt x0 x1 x3 x4 i h j.val - max ⊥ (Finset.univ.sup fun j : Fin 8320 => wt x0 x1 x3 x4 i h j.val)) := by
  have h1 := v24_apply x0 x1 x3 x4 h i j
  have h2 := v27_apply x0 x1 x3 x4 h i
  unfold val_main_v31 val_main_v30 val_main_v29 val_main_v28
  generalize val_main_v24 x0 x1 x3 x4 = y at h1 ⊢
  generalize val_main_v27 x0 x1 x3 x4 = z at h2 ⊢
  pointwise
  rw [h1, h2]

/-- The weight. -/
theorem v35_apply (h : Fin 8) (i j : Fin 8320) :
    val_main_v35 x0 x1 x3 x4 (ix3 (n0 := 8) (n1 := 8320) (n2 := 8320) h i j)
      = Ideal.div (Ideal.exp (wt x0 x1 x3 x4 i h j.val - max ⊥ (Finset.univ.sup fun j : Fin 8320 => wt x0 x1 x3 x4 i h j.val)))
        (0 + ∑ j : Fin 8320, Ideal.exp (wt x0 x1 x3 x4 i h j.val - max ⊥ (Finset.univ.sup fun j : Fin 8320 => wt x0 x1 x3 x4 i h j.val))) := by
  have h1 := v31_apply x0 x1 x3 x4 h i
  unfold val_main_v35 val_main_v34 val_main_v33 val_main_v32 val_main_cst_3
  generalize val_main_v31 x0 x1 x3 x4 = y at h1 ⊢
  pointwise
  simp only [h1, zero_add]

/-- The result. -/
theorem v42_apply (i : Fin 8320) (col : Fin 1024) :
    val_main_v42 x0 x1 x2 x3 x4 x5 (ix2 (n0 := 8320) (n1 := 1024) i col)
      = gated x0 x1 x2 x3 x4 x5 i ⟨col.val / 128, by omega⟩ ⟨col.val % 128, by omega⟩ := by
  have h1 := v35_apply x0 x1 x3 x4 ⟨col.val / 128, by omega⟩ i
  unfold val_main_v42 val_main_v41 val_main_v40 val_main_v37 val_main_v36 val_main_v5 val_main_v4 val_main_v39
    val_main_call1_v5 val_main_call1_v4 val_main_call1_v3 val_main_call1_v2 val_main_call1_v1 val_main_call1_v0 val_main_call1_cst val_main_call1_cst_0
    val_main_v38
  generalize val_main_v35 x0 x1 x3 x4 = y at h1 ⊢
  pointwise
  simp only [h1]
  have hy : (⟨128 * (col.val / 128) + col.val % 128, by omega⟩ : Fin 1024) = col :=
    Fin.ext (by show 128 * (col.val / 128) + col.val % 128 = col.val; omega)
  unfold gated mean
  simp only [hy, zero_sub]
  refine mul_of_eq (by
    have e : (⟨128 * (col.val / 128) + col.val % 128, by omega⟩ : Fin 5120) = ⟨col.val, by omega⟩ :=
      Fin.ext (by show 128 * (col.val / 128) + col.val % 128 = col.val; omega)
    rw [e]) (Finset.sum_congr rfl fun j _ => ?_)
  refine mul_of_eq ?_ rfl
  unfold vl
  rw [dif_pos j.isLt]

end Cert.Fox.Plain

end
-- ==== Proof.Fox.Finite.lean ====
/- The precondition read: the queries, the keys and the gates are real numbers. -/
module

public import proofs.«01_k».proof.Proof.Fox.Row
public import proofs.«01_k».proof.Pre_scores_finite
public import Idealize.ShloMosaic.Lib.Decide

@[expose] public section

set_option maxRecDepth 16384

noncomputable section

namespace Cert.Fox.Pre

open Cert.Pre_scores_finite
open Idealize.ShloMosaic Idealize.ShloMosaic.TcCoe Idealize.ShloMosaic.Tactic

/-- The side conditions of the precondition's operations. -/
instance facts : Cert.Pre_scores_finite.Facts where
  bitsLt_bf16_f32 := by decide
  slices_S8320x128_S8320x8_0_0 := by decide
  slices_S16x8320_S8x8320_0_0 := by decide
  transposes_S8x8320_S8320x8_1_0 := by decide
  concatenates_S8320x1024_S8320x1024_S8320x8_S8320x8_S8320x2064_d1 := by decide
  bcast_S_S8320x2064 := by decide

/-- A number whose absolute value is below `⊤` is real. -/
theorem real_of_abs {x : EReal} (h : max x (-x) < ⊤) : ∃ r : ℝ, x = (r : EReal) := by
  induction x with
  | bot => simp at h
  | top => simp at h
  | coe r => exact ⟨r, rfl⟩

theorem bit_true : ∀ {b : Bool}, BitVec.ofBool b = 1#1 → b = true := by
  decide

theorem finite (x0 x1 x2 : Vec Ideal S8320x1024 .bf16) (x3 : Vec Ideal S16x8320 .f32) (x4 : Vec Ideal S8320x128 .f32)
    (x5 : Vec Ideal S8320x5120 .f32) (h : Cert.Pre_scores_finite.fn (F := Ideal) x0 x1 x2 x3 x4 x5 = fun _ => 1#1) :
    Cert.Fox.Finite x0 x1 x3 x4 := by
  have key : ∀ (i : Fin 8320) (j : Fin 2064), (if h : j.val < 1024 then x0 (ix2 (n0 := 8320) (n1 := 1024) i ⟨j.val, h⟩)
      else if h : j.val - 1024 < 1024 then x1 (ix2 (n0 := 8320) (n1 := 1024) i ⟨j.val - 1024, h⟩)
      else if h : j.val - 1024 - 1024 < 8 then x4 (ix2 (n0 := 8320) (n1 := 128) i ⟨j.val - 1024 - 1024, by omega⟩)
      else x3 (ix2 (n0 := 16) (n1 := 8320) ⟨j.val - 1024 - 1024 - 8, by omega⟩ i) : EReal) ∈ Set.range ((↑) : ℝ → EReal) := fun i j => by
    have h1 := congrFun h (ix2 (n0 := 8320) (n1 := 2064) i j)
    unfold Cert.Pre_scores_finite.fn at h1
    pointwise at h1
    rw [ofBits_pos_inf] at h1
    obtain ⟨r, hr⟩ := real_of_abs (of_decide_eq_true (bit_true h1))
    exact ⟨r, hr.symm⟩
  refine ⟨fun i col => ?_, fun i col => ?_, fun h j => ?_, fun i h => ?_⟩
  · obtain ⟨r, hr⟩ := key i ⟨col.val, by omega⟩
    rw [dif_pos col.isLt] at hr
    exact ⟨r, hr.symm⟩
  · obtain ⟨r, hr⟩ := key i ⟨1024 + col.val, by omega⟩
    have e : 1024 + col.val - 1024 = col.val := by omega
    rw [dif_neg (by show ¬ 1024 + col.val < 1024; omega), dif_pos (by show 1024 + col.val - 1024 < 1024; omega)] at hr
    simp only [e] at hr
    exact ⟨r, hr.symm⟩
  · obtain ⟨r, hr⟩ := key j ⟨2056 + h.val, by omega⟩
    have e : 2056 + h.val - 1024 - 1024 - 8 = h.val := by omega
    rw [dif_neg (by show ¬ 2056 + h.val < 1024; omega), dif_neg (by show ¬ 2056 + h.val - 1024 < 1024; omega),
      dif_neg (by show ¬ 2056 + h.val - 1024 - 1024 < 8; omega)] at hr
    simp only [e] at hr
    exact ⟨r, hr.symm⟩
  · obtain ⟨r, hr⟩ := key i ⟨2048 + h.val, by omega⟩
    have e : 2048 + h.val - 1024 - 1024 = h.val := by omega
    rw [dif_neg (by show ¬ 2048 + h.val < 1024; omega), dif_neg (by show ¬ 2048 + h.val - 1024 < 1024; omega),
      dif_pos (by show 2048 + h.val - 1024 - 1024 < 8; omega)] at hr
    simp only [e] at hr
    exact ⟨r, hr.symm⟩

end Cert.Fox.Pre

end
-- ==== Proof.Fox.Algebraic.lean ====
/- The attention's value claim: where the queries, keys and forget gates are finite, the kernel and the plain reference
   end holding the same array, `attn` of the arguments. -/
module

public import proofs.«01_k».proof.Proof.Fox.Final
public import proofs.«01_k».proof.Proof.Fox.Reference
public import proofs.«01_k».proof.Proof.Fox.Finite
public import proofs.«01_k».proof.Proof.Gen.ReferenceIdeal.Run
public import proofs.«01_k».proof.Proof.Gen.ReferenceIdeal.Read
public import proofs.«01_k».proof.Defs
public import Idealize.ShloMosaic.Lib.Claim

@[expose] public section

noncomputable section

namespace Cert.Fox

open Idealize.ShloMosaic Idealize.ShloMosaic.TcCoe Idealize.SL.Sem

/-- The reference's result is `attn` of its arguments. -/
theorem plain_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v42 m c
      = attn (m ((c.tc : Thread _ _).loc Cert.ReferenceIdeal.main_arg0)) (m ((c.tc : Thread _ _).loc Cert.ReferenceIdeal.main_arg1))
        (m ((c.tc : Thread _ _).loc Cert.ReferenceIdeal.main_arg2)) (m ((c.tc : Thread _ _).loc Cert.ReferenceIdeal.main_arg3))
        (m ((c.tc : Thread _ _).loc Cert.ReferenceIdeal.main_arg4)) (m ((c.tc : Thread _ _).loc Cert.ReferenceIdeal.main_arg5)) := by
  rw [Cert.ReferenceIdeal.Read.val_main_v42_eq]
  funext i
  obtain ⟨a, b, rfl⟩ : ∃ (a : Fin 8320) (b : Fin 1024), i = ix2 (n0 := 8320) (n1 := 1024) a b := ⟨i 0, i 1, by funext k; fin_cases k <;> rfl⟩
  exact Plain.v42_apply _ _ _ _ _ _ a b

theorem algebraic : Cert.algebraic_KernelIdeal_ReferenceIdeal_pre_scores_finite (hPre_scores_finite := Pre.facts) := by
  intro m g m' g' hpre hagree
  refine ⟨fun c => attn (A0 m c) (A1 m c) (A2 m c) (A3 m c) (A4 m c) (A5 m c), ?_, ?_⟩
  · refine θ_run_mono (θ_run_and (run_main m g) (frame m g)) fun r h c => ?_
    exact ⟨(h.1.out_eq c 6).trans (final6 m c (Pre.finite _ _ _ _ _ _ (hpre c))), h.2.1 c⟩
  · refine θ_run_mono (Cert.ReferenceIdeal.Value.run m' g') fun r h c => ?_
    refine ⟨(h c).1.trans ?_, (h c).2⟩
    rw [plain_eq, (hagree c).1, (hagree c).2.1, (hagree c).2.2.1, (hagree c).2.2.2.1, (hagree c).2.2.2.2.1, (hagree c).2.2.2.2.2]

end Cert.Fox

end
-- ==== Proof.Fox.Twin.lean ====
/- The attention kernel as printed and the one read at the ideal instance are the same program, printed twice under two
   names: no operation was rewritten between them. The body tables are shown equal here, so the frame proved about one is
   the frame of the other. -/
module

public import proofs.«01_k».proof.Proof.Fox.Frame
public import proofs.«01_k».proof.Defs
public import proofs.«01_k».proof.Proof.Gen.Kernel

@[expose] public section

noncomputable section

namespace Cert.Fox

open Idealize.ShloMosaic

variable {F : FTy → Type} [FloatOps F]

/-- The two prints of the kernel's body. -/
theorem body_eq : @Cert.Kernel.cc0_fox F _ _ = @Cert.KernelIdeal.cc0_fox F _ _ := rfl

/-- The two prints of the body table. -/
theorem table_eq : @Cert.Kernel.defs₀ F _ _ = @Cert.KernelIdeal.defs₀ F _ _ := by
  unfold Cert.Kernel.defs₀ Cert.KernelIdeal.defs₀
  with_unfolding_all refine congrArg Defs.onTc ?_
  funext l a
  match l, a with
  | ⟨0, _⟩, (t, s) =>
    dsimp only
    rw [body_eq]
    rfl

/-- The frame of the kernel as printed. -/
theorem frame_printed : Cert.quiescent_Kernel := fun m ρ _ => by
  have h := frame (F := Bits) m ρ
  unfold Cert.Kernel.defs
  rw [table_eq]
  exact h

end Cert.Fox

end
-- ==== Proof.In.Body.lean ====
/- The input projections' body, run at any grid point: which result block it stores, and what it stores there. -/
module

public import proofs.«01_k».proof.Proof.Gen.KernelInIdeal.Frame
public import proofs.«01_k».proof.Proof.Gen.KernelInIdeal.Skeleton
public import Idealize.ShloMosaic.Lib.Pipeline.ReadBack
public import Idealize.ShloMosaic.Lib.Pipeline.ValueKit

@[expose] public section

set_option maxRecDepth 16384

noncomputable section

namespace Cert.In

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A whole-buffer store covers the buffer. -/
theorem cover_whole {Val : EltTy → Type} {s : Shape} {e : EltTy} {off : Fin s.rank → ℕ} (hoff : off = fun _ => 0)
    (inb : ∀ a, off a + s.size a ≤ s.size a) (Z : s.Idx → Val e) (y : s.Idx) :
    ∃ p ∈ [(⟨Rect.unit off s.size inb, Z⟩ : View.Piece Val s e)], y ∈ p.1.set := by
  subst hoff
  refine ⟨_, List.mem_singleton_self _, ?_⟩
  rw [Rect.mem_set_unit]
  exact fun a => ⟨Nat.zero_le _, (Nat.zero_add _).symm ▸ (y a).isLt⟩

/-- A store over a whole buffer leaves what was stored. -/
theorem read_whole_store {Val : EltTy → Type} [∀ e, Nonempty (Val e)] {sp : Space} {s : Shape} {e : EltTy} (v : View sig .tc sp s e)
    (f : v.ty.Contents Val) {off : Fin s.rank → ℕ} (hoff : off = fun _ => 0) (inb : ∀ a, off a + s.size a ≤ s.size a) (Z : s.Idx → Val e) :
    v.read Val (v.writes Val f [(⟨Rect.unit off s.size inb, Z⟩ : View.Piece Val s e)]) = Z :=
  (View.read_writes_eq_canon v f _ (cover_whole hoff inb Z)).trans (View.canon_unit_zero hoff inb Z)

/-- Which of the first four results a point stores, by the column block: exactly one condition holds. -/
def OneCol (i : grid0.Coords) : Prop :=
  (k0_cond1 i = 1#1 ∧ ¬k0_cond2 i = 1#1 ∧ ¬k0_cond3 i = 1#1 ∧ ¬k0_cond4 i = 1#1)
  ∨ (¬k0_cond1 i = 1#1 ∧ k0_cond2 i = 1#1 ∧ ¬k0_cond3 i = 1#1 ∧ ¬k0_cond4 i = 1#1)
  ∨ (¬k0_cond1 i = 1#1 ∧ ¬k0_cond2 i = 1#1 ∧ k0_cond3 i = 1#1 ∧ ¬k0_cond4 i = 1#1)
  ∨ (¬k0_cond1 i = 1#1 ∧ ¬k0_cond2 i = 1#1 ∧ ¬k0_cond3 i = 1#1 ∧ k0_cond4 i = 1#1)

/-- The sample rows' gate columns are stored where both the first column block's and the sample rows' are. -/
def Both (i : grid0.Coords) : Prop :=
  (k0_cond5 i = 1#1 ∧ k0_cond6 i = 1#1 ∧ k0_cond1 i = 1#1) ∨ (k0_cond5 i = 1#1 ∧ ¬k0_cond6 i = 1#1 ∧ ¬k0_cond1 i = 1#1)
  ∨ (¬k0_cond5 i = 1#1 ∧ ¬k0_cond6 i = 1#1)

variable (c : Dev nD) (i : grid0.Coords)
  (arg2 : Memref sig .tc .vmem S640x2048 .bf16) (harg2 : arg2.IsWhole)
  (arg3 : Memref sig .tc .vmem S2048x1024 .bf16) (harg3 : arg3.IsWhole)
  (arg4 : Memref sig .tc .vmem S2048x128 .bf16) (harg4 : arg4.IsWhole)
  (arg5 : Memref sig .tc .vmem S32x2048 .bf16) (harg5 : arg5.IsWhole)
  (arg6 : Memref sig .tc .vmem S640x1024 .bf16) (harg6 : arg6.IsWhole)
  (arg7 : Memref sig .tc .vmem S640x1024 .f32) (harg7 : arg7.IsWhole)
  (arg8 : Memref sig .tc .vmem S640x1024 .bf16) (harg8 : arg8.IsWhole)
  (arg9 : Memref sig .tc .vmem S640x1024 .f32) (harg9 : arg9.IsWhole)
  (arg10 : Memref sig .tc .vmem S640x1024 .bf16) (harg10 : arg10.IsWhole)
  (arg11 : Memref sig .tc .vmem S640x1024 .f32) (harg11 : arg11.IsWhole)
  (arg12 : Memref sig .tc .vmem S640x128 .f32) (harg12 : arg12.IsWhole)
  (arg13 : Memref sig .tc .vmem S32x1024 .f32) (harg13 : arg13.IsWhole)
  (arg14 : Memref sig .tc .vmem S32x128 .f32) (harg14 : arg14.IsWhole)
  (x0 : Vec F S640x2048 .bf16) (x1 : Vec F S2048x1024 .bf16) (x2 : Vec F S2048x128 .bf16) (x3 : Vec F S32x2048 .bf16)
  (y4 : Vec F S640x1024 .bf16) (y5 : Vec F S640x1024 .f32) (y6 : Vec F S640x1024 .bf16) (y7 : Vec F S640x1024 .f32) (y8 : Vec F S640x1024 .bf16) (y9 : Vec F S640x1024 .f32) (y10 : Vec F S640x128 .f32) (y11 : Vec F S32x1024 .f32) (y12 : Vec F S32x128 .f32)

set_option maxHeartbeats 8000000 in
/-- The body at a grid point: each result's buffer is left at the point's product where the point stores it, and as it
    was found elsewhere. -/
theorem triple (hcol : OneCol i) (hb : Both i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare y10 ∗ owns (c : Thread nD τ) arg13 fullShare y11 ∗ owns (c : Thread nD τ) arg14 fullShare y12
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (if k0_cond1 i = 1#1 then k0_pay2 x0 x1 else y4) ∗ owns (c : Thread nD τ) arg7 fullShare (if k0_cond2 i = 1#1 then k0_pay1 x0 x1 else y5) ∗ owns (c : Thread nD τ) arg8 fullShare (if k0_cond2 i = 1#1 then k0_pay4 x0 x1 else y6) ∗ owns (c : Thread nD τ) arg9 fullShare (if k0_cond3 i = 1#1 then k0_pay1 x0 x1 else y7) ∗ owns (c : Thread nD τ) arg10 fullShare (if k0_cond3 i = 1#1 then k0_pay5 x0 x1 else y8) ∗ owns (c : Thread nD τ) arg11 fullShare (if k0_cond4 i = 1#1 then k0_pay1 x0 x1 else y9) ∗ owns (c : Thread nD τ) arg12 fullShare (if k0_cond1 i = 1#1 then k0_pay3 x0 x2 else y10) ∗ owns (c : Thread nD τ) arg13 fullShare (if k0_cond5 i = 1#1 then k0_pay6 x3 x1 else y11) ∗ owns (c : Thread nD τ) arg14 fullShare (if k0_cond6 i = 1#1 then k0_pay7 x3 x2 else y12)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14) K := by
  simp only [cc0_in_proj_eq_skeleton]; unfold cc0_in_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  rcases hcol with ⟨h1, h2, h3, h4⟩ | ⟨h1, h2, h3, h4⟩ | ⟨h1, h2, h3, h4⟩ | ⟨h1, h2, h3, h4⟩ <;>
  rcases hb with ⟨h5, h6, h1'⟩ | ⟨h5, h6, h1'⟩ | ⟨h5, h6⟩
  all_goals try (exact absurd h1 h1')
  all_goals try (exact absurd h1' h1)
  all_goals
    sl_exec (disch := first | sl_exact h1 | sl_exact h2 | sl_exact h3 | sl_exact h4 | sl_exact h5 | sl_exact h6)
    sl_step
    iapply Hk
    simp only [h1, h2, h3, h4, h5, h6, if_true, if_false]
    isplitl [H2]
    · iexists _; isplitr; swap; iexact H2; ipureintro; exact harg2.read_unread _
    isplitl [H3]
    · iexists _; isplitr; swap; iexact H3; ipureintro; exact harg3.read_unread _
    isplitl [H4]
    · iexists _; isplitr; swap; iexact H4; ipureintro; exact harg4.read_unread _
    isplitl [H5]
    · iexists _; isplitr; swap; iexact H5; ipureintro; exact harg5.read_unread _
    isplitl [H6]
    · iexists _; isplitr; swap; iexact H6; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg6.read_unread _
    isplitl [H7]
    · iexists _; isplitr; swap; iexact H7; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg7.read_unread _
    isplitl [H8]
    · iexists _; isplitr; swap; iexact H8; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg8.read_unread _
    isplitl [H9]
    · iexists _; isplitr; swap; iexact H9; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg9.read_unread _
    isplitl [H10]
    · iexists _; isplitr; swap; iexact H10; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg10.read_unread _
    isplitl [H11]
    · iexists _; isplitr; swap; iexact H11; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg11.read_unread _
    isplitl [H12]
    · iexists _; isplitr; swap; iexact H12; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg12.read_unread _
    isplitl [H13]
    · iexists _; isplitr; swap; iexact H13; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg13.read_unread _
    · iexists _; isplitr; swap; iexact H14; ipureintro
      first
        | (rw [read_whole_store _ _ hz]; simp only [View.readAt_eq_ld, harg2.read_unread, harg3.read_unread, harg4.read_unread, harg5.read_unread, View.ld_unit_zero (S := S640x2048) hz, View.ld_unit_zero (S := S2048x1024) hz, View.ld_unit_zero (S := S2048x128) hz, View.ld_unit_zero (S := S32x2048) hz])
        | exact harg14.read_unread _

end Cert.In

end
-- ==== Proof.In.Idle.lean ====
/- What an output's staging buffer holds through the points that store nothing into it, also for a window whose last
   block overhangs its array: the part a write-back moves keeps the last stored contents. -/
module

public import Idealize.ShloMosaic.Lib.Pipeline.TableIdle
public import Idealize.ShloMosaic.Lib.Pipeline.Frame
public import Idealize.ShloMosaic.Lib.Tactic

@[expose] public section

noncomputable section

namespace Cert.In

open Idealize.ShloMosaic Idealize.ShloMosaic.Pipeline
open Idealize.SL Idealize.SL.RA Idealize.SL.BI
open scoped Idealize.SL.BI
open Idealize.SL.BI.BIBase Idealize.SL.BI.Laws Idealize.SL.ProofMode Idealize.SL.Sem
open TcCoe

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Labels} {cfg : Pipeline.Cfg sig Λ₀} {c : Dev nD} (dat : Pipeline.Dat τ Val Ix Name U Lvl cfg c)

/-- Contents put back over other contents, element by element: the moved part is the contents', the rest the others'. -/
theorem fill_cut_apply {G : Grid} (w : Pipeline.Window sig G) {α : Type} (i : G.Coords) (d X : w.block.Idx → α) (j : w.block.Idx) :
    w.fill i d (w.cut i X) j = if w.moved i j = true then X j else d j := by
  unfold Pipeline.Window.fill
  split
  · exact congrArg X (funext fun a => Fin.ext rfl)
  · rfl

/-- What is kept of a point's contents depends on the contents and on the cut. -/
theorem kept_congr (w : Fin cfg.W) (t t' : Fin cfg.N) (ha : dat.after w t = dat.after w t')
    (hc : (cfg.win w).clip (cfg.grid.coords t) = (cfg.win w).clip (cfg.grid.coords t')) (d) :
    dat.kept w t d = dat.kept w t' d := by
  funext j
  have hm : (cfg.win w).moved (cfg.grid.coords t) j = (cfg.win w).moved (cfg.grid.coords t') j := by
    unfold Pipeline.Window.moved; rw [hc]
  unfold Dat.kept
  rw [fill_cut_apply, fill_cut_apply, hm, ha]

/-- The point before. -/
def prev (t : Fin cfg.N) : Fin cfg.N := ⟨t.val - 1, Nat.lt_of_le_of_lt (Nat.sub_le _ _) t.isLt⟩

/-- What the proof data says through a window's idle points: the contents and the cut of the point before. -/
def Carries (w : Fin cfg.W) : Prop :=
  ∀ (t : Fin cfg.N) (_ : t.val ≠ 0), cfg.idle w (cfg.grid.coords t) = true → cfg.fresh w t.val = false →
    dat.after w t = dat.after w (prev t)
      ∧ (cfg.win w).clip (cfg.grid.coords t) = (cfg.win w).clip (cfg.grid.coords (prev t))

/-- An output's buffer before a point: anything where nothing is stored since the last write-back, else what is kept of
    the point before. -/
theorem before_kept (w : Fin cfg.W) (hw : (cfg.win w).isOut = true) (hcarry : Carries dat w) :
    ∀ (n : ℕ) (t : Fin cfg.N) (_ : t.val = n) (d : (cfg.win w).block.Idx → Val (cfg.win w).elt),
      dat.before w t d = if cfg.fresh w t.val then d else dat.kept w (prev t) d
  | 0, t, ht, d => by
    rw [show cfg.fresh w t.val = true from by rw [ht]; exact Cfg.fresh_zero cfg w, if_pos rfl]
    unfold Dat.before
    rw [if_neg (by rw [(cfg.win w).fetch_out hw]; exact Bool.false_ne_true), if_pos ht]
  | n + 1, t, ht, d => by
    have hN : n < cfg.N := by have := t.isLt; omega
    have e : prev t = ⟨n, hN⟩ := Fin.ext (by unfold prev; simp only; omega)
    rw [dat.before_of_pos w t (by omega) ((cfg.win w).fetch_out hw t) d,
      show cfg.fresh w t.val = _ from (congrArg (cfg.fresh w) ht).trans (Cfg.fresh_succ cfg w n hN)]
    show (if (cfg.win w).flush (prev t) = true then d else dat.left w (prev t) d) = _
    rw [e]
    have ih := before_kept w hw hcarry n ⟨n, hN⟩ rfl d
    by_cases hfl : (cfg.win w).flush ⟨n, hN⟩ = true
    · rw [if_pos hfl, hfl, Bool.true_or, if_pos rfl]
    · rw [if_neg hfl, Bool.eq_false_iff.mpr hfl, Bool.false_or]
      unfold Dat.left
      by_cases hi : cfg.idle w (cfg.grid.coords ⟨n, hN⟩) = true
      · rw [hi, Bool.true_and]
        show dat.before w ⟨n, hN⟩ d = _
        rw [ih]
        by_cases hfr : cfg.fresh w n = true
        · rw [if_pos hfr, if_pos hfr]
        · rw [if_neg hfr, if_neg hfr]
          have hn0 : n ≠ 0 := fun h => hfr (by rw [h]; exact Cfg.fresh_zero cfg w)
          have hc := hcarry ⟨n, hN⟩ hn0 hi (Bool.eq_false_iff.mpr hfr)
          exact (kept_congr dat w _ _ hc.1 hc.2 d).symm
      · rw [Bool.eq_false_iff.mpr hi, Bool.false_and, if_neg Bool.false_ne_true]

/-- A point that stores nothing into an output's buffer leaves it as the pipeline needs it. -/
theorem leaves_of_idle (w : Fin cfg.W) (hw : (cfg.win w).isOut = true) (hcarry : Carries dat w)
    (hloose : cfg.loose w = false → ∀ (i : cfg.grid.Coords) a, (cfg.win w).clip i a = none)
    (t : Fin cfg.N) (hi : cfg.idle w (cfg.grid.coords t) = true) (hfr : (cfg.win w).flush t = true → cfg.fresh w t.val = false) (d) :
    owns (c : Thread nD τ) ((cfg.win w).stage (cfg.slots t w)) fullShare (dat.before w t d) ⊢ (dat.leaves w t : sProp 𝕄) := by
  unfold Dat.leaves
  rw [hi]
  by_cases hfl : (cfg.win w).flush t = true
  · have hf := hfr hfl
    have h0 : t.val ≠ 0 := fun h => Bool.false_ne_true (hf.symm.trans (by rw [h]; exact Cfg.fresh_zero cfg w))
    have hc := hcarry t h0 hi hf
    rw [hfl, before_kept dat w hw hcarry _ t rfl d, hf, if_neg Bool.false_ne_true, ← kept_congr dat w _ _ hc.1 hc.2 d]
    by_cases hl : cfg.loose w = true
    · rw [hl]
      show _ ⊢ iprop(∃ d, owns (c : Thread nD τ) ((cfg.win w).stage (cfg.slots t w)) fullShare (dat.kept w t d))
      iintro H; iexists d; iexact H
    · have hl' := Bool.eq_false_iff.mpr hl
      rw [hl']
      unfold Dat.kept
      rw [fill_of_clip_none w _ (hloose hl' _) d (dat.after w _), Window.fill_cut]
  · rw [Bool.eq_false_iff.mpr hfl]
    show _ ⊢ iprop(∃ d, owns (c : Thread nD τ) ((cfg.win w).stage (cfg.slots t w)) fullShare (dat.before w t d))
    iintro H; iexists d; iexact H

/-- A point that stores an output's buffer under a condition leaves it as the pipeline needs it. -/
theorem leaves_out (w : Fin cfg.W) (hw : (cfg.win w).isOut = true) (hcarry : Carries dat w)
    (hloose : cfg.loose w = false → ∀ (i : cfg.grid.Coords) a, (cfg.win w).clip i a = none)
    (t : Fin cfg.N) (hfr : cfg.idle w (cfg.grid.coords t) = true → (cfg.win w).flush t = true → cfg.fresh w t.val = false)
    (P : Prop) [Decidable P] (hi : cfg.idle w (cfg.grid.coords t) = !decide P)
    (Z : (cfg.win w).block.Idx → Val (cfg.win w).elt) (hZ : P → Z = dat.after w t) (d) :
    owns (c : Thread nD τ) ((cfg.win w).stage (cfg.slots t w)) fullShare (if P then Z else dat.before w t d) ⊢ (dat.leaves w t : sProp 𝕄) := by
  by_cases h : P
  · rw [if_pos h, hZ h]
    refine BIBase.Entails.trans ?_ (dat.leaves_intro w t)
    unfold Dat.leavesExact
    rw [hi, decide_eq_true h]
    exact .rfl
  · have hi' : cfg.idle w (cfg.grid.coords t) = true := by rw [hi, decide_eq_false h]; rfl
    rw [if_neg h]
    exact leaves_of_idle dat w hw hcarry hloose t hi' (hfr hi') d

end Cert.In

end
-- ==== Proof.In.Frame.lean ====
/- The input projections' frame with its results named: what each result's buffer holds along the grid, the pipeline's
   proof data, the body's obligation at every grid point, and the run. -/
module

public import proofs.«01_k».proof.Proof.In.Body
public import proofs.«01_k».proof.Proof.In.Idle
public import Idealize.ShloMosaic.Lib.Pipeline.TableIdle
public import Idealize.ShloMosaic.Lib.Pipeline.ReadBack
public import Idealize.ShloMosaic.Lib.Pipeline.ValueKit

@[expose] public section

set_option maxRecDepth 16384

noncomputable section

namespace Cert.In

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which results a grid point stores -/

theorem oneCol : ∀ t : Fin grid0.N, OneCol (grid0.coords t) := by unfold OneCol; decide +kernel
theorem both : ∀ t : Fin grid0.N, Both (grid0.coords t) := by unfold Both; decide +kernel

theorem cond1 : ∀ t : Fin grid0.N, k0_cond1 (grid0.coords t) = 1#1 ↔ t.val ≤ 12 := by decide +kernel
theorem cond2 : ∀ t : Fin grid0.N, k0_cond2 (grid0.coords t) = 1#1 ↔ 13 ≤ t.val ∧ t.val ≤ 25 := by decide +kernel
theorem cond3 : ∀ t : Fin grid0.N, k0_cond3 (grid0.coords t) = 1#1 ↔ 26 ≤ t.val ∧ t.val ≤ 38 := by decide +kernel
theorem cond4 : ∀ t : Fin grid0.N, k0_cond4 (grid0.coords t) = 1#1 ↔ 39 ≤ t.val := by decide +kernel
theorem cond5 : ∀ t : Fin grid0.N, k0_cond5 (grid0.coords t) = 1#1 ↔ t.val % 13 = 0 := by decide +kernel
theorem cond6 : ∀ t : Fin grid0.N, k0_cond6 (grid0.coords t) = 1#1 ↔ t.val = 0 := by decide +kernel

/-- The last point from `lo` to `hi` that is not after `t`; `lo` before them. -/
def pt (lo hi : ℕ) (t : Fin cfg0.N) : Fin cfg0.N :=
  if h : max lo (min t.val hi) < cfg0.N then ⟨max lo (min t.val hi), h⟩ else t

theorem pt_self {lo hi : ℕ} {t : Fin cfg0.N} (h : lo ≤ t.val ∧ t.val ≤ hi) : pt lo hi t = t := by
  unfold pt
  split
  · exact Fin.ext (by simp only; omega)
  · rfl

theorem pt_late {lo hi : ℕ} (hlo : lo ≤ hi) {t : Fin cfg0.N} (h : hi < t.val) : pt lo hi t = pt lo hi (prev t) := by
  have ht := t.isLt
  have e : (prev t).val = t.val - 1 := rfl
  unfold pt
  rw [dif_pos (by omega), dif_pos (by rw [e]; omega)]
  exact Fin.ext (by simp only; rw [e]; omega)

/-- The first point of a point's column block. -/
def row (t : Fin cfg0.N) : Fin cfg0.N := ⟨13 * (t.val / 13), by have := t.isLt; omega⟩

theorem row_self {t : Fin cfg0.N} (h : t.val % 13 = 0) : row t = t := Fin.ext (by unfold row; simp only; omega)

theorem row_late {t : Fin cfg0.N} (h : ¬t.val % 13 = 0) : row t = row (prev t) := Fin.ext (by unfold row prev; simp only; omega)

/-! ## The pipeline's proof data -/

/-- The proof data of the one pipeline on core `c`: each input's buffer at its block after every point, each output's at
    the product of the point that stored it last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 0 (pt 0 12 t)) (iblk m c 1 (pt 0 12 t))
    | ⟨5, _⟩ => k0_pay1 (iblk m c 0 (pt 13 25 t)) (iblk m c 1 (pt 13 25 t))
    | ⟨6, _⟩ => k0_pay4 (iblk m c 0 (pt 13 25 t)) (iblk m c 1 (pt 13 25 t))
    | ⟨7, _⟩ => k0_pay1 (iblk m c 0 (pt 26 38 t)) (iblk m c 1 (pt 26 38 t))
    | ⟨8, _⟩ => k0_pay5 (iblk m c 0 (pt 26 38 t)) (iblk m c 1 (pt 26 38 t))
    | ⟨9, _⟩ => k0_pay1 (iblk m c 0 (pt 39 103 t)) (iblk m c 1 (pt 39 103 t))
    | ⟨10, _⟩ => k0_pay3 (iblk m c 0 (pt 0 12 t)) (iblk m c 2 (pt 0 12 t))
    | ⟨11, _⟩ => k0_pay6 (iblk m c 3 (row t)) (iblk m c 1 (row t))
    | ⟨12, _⟩ => k0_pay7 (iblk m c 3 (pt 0 0 t)) (iblk m c 2 (pt 0 0 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (iblk m c 0 (pt 0 12 t)) (iblk m c 1 (pt 0 12 t)) := by dsimp only [dats]
theorem after0_5 (c : Dev nD) (t : Fin cfg0.N) : (dats m 0 c).after 5 t = k0_pay1 (iblk m c 0 (pt 13 25 t)) (iblk m c 1 (pt 13 25 t)) := by dsimp only [dats]
theorem after0_6 (c : Dev nD) (t : Fin cfg0.N) : (dats m 0 c).after 6 t = k0_pay4 (iblk m c 0 (pt 13 25 t)) (iblk m c 1 (pt 13 25 t)) := by dsimp only [dats]
theorem after0_7 (c : Dev nD) (t : Fin cfg0.N) : (dats m 0 c).after 7 t = k0_pay1 (iblk m c 0 (pt 26 38 t)) (iblk m c 1 (pt 26 38 t)) := by dsimp only [dats]
theorem after0_8 (c : Dev nD) (t : Fin cfg0.N) : (dats m 0 c).after 8 t = k0_pay5 (iblk m c 0 (pt 26 38 t)) (iblk m c 1 (pt 26 38 t)) := by dsimp only [dats]
theorem after0_9 (c : Dev nD) (t : Fin cfg0.N) : (dats m 0 c).after 9 t = k0_pay1 (iblk m c 0 (pt 39 103 t)) (iblk m c 1 (pt 39 103 t)) := by dsimp only [dats]
theorem after0_10 (c : Dev nD) (t : Fin cfg0.N) : (dats m 0 c).after 10 t = k0_pay3 (iblk m c 0 (pt 0 12 t)) (iblk m c 2 (pt 0 12 t)) := by dsimp only [dats]
theorem after0_11 (c : Dev nD) (t : Fin cfg0.N) : (dats m 0 c).after 11 t = k0_pay6 (iblk m c 3 (row t)) (iblk m c 1 (row t)) := by dsimp only [dats]
theorem after0_12 (c : Dev nD) (t : Fin cfg0.N) : (dats m 0 c).after 12 t = k0_pay7 (iblk m c 3 (pt 0 0 t)) (iblk m c 2 (pt 0 0 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The results' buffers through the points that store nothing into them -/

theorem idle4 (t : Fin cfg0.N) : cfg0.idle 4 (grid0.coords t) = !decide (k0_cond1 (grid0.coords t) = 1#1) := rfl
theorem fresh4 : ∀ n, n ≤ cfg0.N → cfg0.fresh 4 n = (fun n => decide (n ≤ 12 ∨ 104 ≤ n)) n :=
  Pipeline.Cfg.fresh_tab cfg0 4 _ rfl (by decide +kernel : ∀ t : Fin grid0.N, _)
theorem idle5 (t : Fin cfg0.N) : cfg0.idle 5 (grid0.coords t) = !decide (k0_cond2 (grid0.coords t) = 1#1) := rfl
theorem fresh5 : ∀ n, n ≤ cfg0.N → cfg0.fresh 5 n = (fun n => decide (n ≤ 25 ∨ 104 ≤ n)) n :=
  Pipeline.Cfg.fresh_tab cfg0 5 _ rfl (by decide +kernel : ∀ t : Fin grid0.N, _)
theorem idle6 (t : Fin cfg0.N) : cfg0.idle 6 (grid0.coords t) = !decide (k0_cond2 (grid0.coords t) = 1#1) := rfl
theorem fresh6 : ∀ n, n ≤ cfg0.N → cfg0.fresh 6 n = (fun n => decide (n ≤ 25 ∨ 104 ≤ n)) n :=
  Pipeline.Cfg.fresh_tab cfg0 6 _ rfl (by decide +kernel : ∀ t : Fin grid0.N, _)
theorem idle7 (t : Fin cfg0.N) : cfg0.idle 7 (grid0.coords t) = !decide (k0_cond3 (grid0.coords t) = 1#1) := rfl
theorem fresh7 : ∀ n, n ≤ cfg0.N → cfg0.fresh 7 n = (fun n => decide (n ≤ 38 ∨ 104 ≤ n)) n :=
  Pipeline.Cfg.fresh_tab cfg0 7 _ rfl (by decide +kernel : ∀ t : Fin grid0.N, _)
theorem idle8 (t : Fin cfg0.N) : cfg0.idle 8 (grid0.coords t) = !decide (k0_cond3 (grid0.coords t) = 1#1) := rfl
theorem fresh8 : ∀ n, n ≤ cfg0.N → cfg0.fresh 8 n = (fun n => decide (n ≤ 38 ∨ 104 ≤ n)) n :=
  Pipeline.Cfg.fresh_tab cfg0 8 _ rfl (by decide +kernel : ∀ t : Fin grid0.N, _)
theorem idle9 (t : Fin cfg0.N) : cfg0.idle 9 (grid0.coords t) = !decide (k0_cond4 (grid0.coords t) = 1#1) := rfl
theorem fresh9 : ∀ n, n ≤ cfg0.N → cfg0.fresh 9 n = (fun n => decide (n ≤ 103 ∨ 104 ≤ n)) n :=
  Pipeline.Cfg.fresh_tab cfg0 9 _ rfl (by decide +kernel : ∀ t : Fin grid0.N, _)
theorem idle10 (t : Fin cfg0.N) : cfg0.idle 10 (grid0.coords t) = !decide (k0_cond1 (grid0.coords t) = 1#1) := rfl
theorem fresh10 : ∀ n, n ≤ cfg0.N → cfg0.fresh 10 n = (fun n => decide (n ≤ 12 ∨ 104 ≤ n)) n :=
  Pipeline.Cfg.fresh_tab cfg0 10 _ rfl (by decide +kernel : ∀ t : Fin grid0.N, _)
theorem idle11 (t : Fin cfg0.N) : cfg0.idle 11 (grid0.coords t) = !decide (k0_cond5 (grid0.coords t) = 1#1) := rfl
theorem fresh11 : ∀ n, n ≤ cfg0.N → cfg0.fresh 11 n = (fun n => decide (n % 13 = 0)) n :=
  Pipeline.Cfg.fresh_tab cfg0 11 _ rfl (by decide +kernel : ∀ t : Fin grid0.N, _)
theorem idle12 (t : Fin cfg0.N) : cfg0.idle 12 (grid0.coords t) = !decide (k0_cond6 (grid0.coords t) = 1#1) := rfl
theorem fresh12 : ∀ n, n ≤ cfg0.N → cfg0.fresh 12 n = (fun n => decide (n ≤ 0 ∨ 104 ≤ n)) n :=
  Pipeline.Cfg.fresh_tab cfg0 12 _ rfl (by decide +kernel : ∀ t : Fin grid0.N, _)

theorem index5 : ∀ t : Fin grid0.N, 25 < t.val → ∀ a, cc0_transform_5 (grid0.coords t) a = cc0_transform_5 (grid0.coords (prev (cfg := cfg0) t)) a := by
  decide +kernel

/-- The cut of the last block stays while the block does. -/
theorem clip5 (t : Fin cfg0.N) (h : 25 < t.val) :
    (cfg0.win 5).clip (cfg0.grid.coords t) = (cfg0.win 5).clip (cfg0.grid.coords (prev t)) :=
  funext fun a => congrArg (fun n => Pipeline.Clip.of n _ _) (index5 t h a)

theorem index7 : ∀ t : Fin grid0.N, 38 < t.val → ∀ a, cc0_transform_7 (grid0.coords t) a = cc0_transform_7 (grid0.coords (prev (cfg := cfg0) t)) a := by
  decide +kernel

/-- The cut of the last block stays while the block does. -/
theorem clip7 (t : Fin cfg0.N) (h : 38 < t.val) :
    (cfg0.win 7).clip (cfg0.grid.coords t) = (cfg0.win 7).clip (cfg0.grid.coords (prev t)) :=
  funext fun a => congrArg (fun n => Pipeline.Clip.of n _ _) (index7 t h a)

theorem carries4 (c : Dev nD) : Carries (dats m 0 c) 4 := fun t h0 hi hf => by
  have hN : t.val < 104 := t.isLt
  rw [fresh4 _ (Nat.le_of_lt t.isLt), decide_eq_false_iff_not] at hf
  exact ⟨by rw [after0_4, after0_4, pt_late (by decide) (by omega)], rfl⟩
theorem flushed4 : ∀ t : Fin grid0.N, cfg0.idle 4 (grid0.coords t) = true → (cfg0.win 4).flush t = true → cfg0.fresh 4 t.val = false := fun t => by
  rw [fresh4 _ (Nat.le_of_lt t.isLt)]
  revert t; decide +kernel
theorem carries5 (c : Dev nD) : Carries (dats m 0 c) 5 := fun t h0 hi hf => by
  have hN : t.val < 104 := t.isLt
  rw [fresh5 _ (Nat.le_of_lt t.isLt), decide_eq_false_iff_not] at hf
  exact ⟨by rw [after0_5, after0_5, pt_late (by decide) (by omega)], clip5 t (by omega)⟩
theorem flushed5 : ∀ t : Fin grid0.N, cfg0.idle 5 (grid0.coords t) = true → (cfg0.win 5).flush t = true → cfg0.fresh 5 t.val = false := fun t => by
  rw [fresh5 _ (Nat.le_of_lt t.isLt)]
  revert t; decide +kernel
theorem carries6 (c : Dev nD) : Carries (dats m 0 c) 6 := fun t h0 hi hf => by
  have hN : t.val < 104 := t.isLt
  rw [fresh6 _ (Nat.le_of_lt t.isLt), decide_eq_false_iff_not] at hf
  exact ⟨by rw [after0_6, after0_6, pt_late (by decide) (by omega)], rfl⟩
theorem flushed6 : ∀ t : Fin grid0.N, cfg0.idle 6 (grid0.coords t) = true → (cfg0.win 6).flush t = true → cfg0.fresh 6 t.val = false := fun t => by
  rw [fresh6 _ (Nat.le_of_lt t.isLt)]
  revert t; decide +kernel
theorem carries7 (c : Dev nD) : Carries (dats m 0 c) 7 := fun t h0 hi hf => by
  have hN : t.val < 104 := t.isLt
  rw [fresh7 _ (Nat.le_of_lt t.isLt), decide_eq_false_iff_not] at hf
  exact ⟨by rw [after0_7, after0_7, pt_late (by decide) (by omega)], clip7 t (by omega)⟩
theorem flushed7 : ∀ t : Fin grid0.N, cfg0.idle 7 (grid0.coords t) = true → (cfg0.win 7).flush t = true → cfg0.fresh 7 t.val = false := fun t => by
  rw [fresh7 _ (Nat.le_of_lt t.isLt)]
  revert t; decide +kernel
theorem carries8 (c : Dev nD) : Carries (dats m 0 c) 8 := fun t h0 hi hf => by
  have hN : t.val < 104 := t.isLt
  rw [fresh8 _ (Nat.le_of_lt t.isLt), decide_eq_false_iff_not] at hf
  exact ⟨by rw [after0_8, after0_8, pt_late (by decide) (by omega)], rfl⟩
theorem flushed8 : ∀ t : Fin grid0.N, cfg0.idle 8 (grid0.coords t) = true → (cfg0.win 8).flush t = true → cfg0.fresh 8 t.val = false := fun t => by
  rw [fresh8 _ (Nat.le_of_lt t.isLt)]
  revert t; decide +kernel
theorem carries9 (c : Dev nD) : Carries (dats m 0 c) 9 := fun t h0 hi hf => by
  have hN : t.val < 104 := t.isLt
  rw [fresh9 _ (Nat.le_of_lt t.isLt), decide_eq_false_iff_not] at hf
  exact ⟨by rw [after0_9, after0_9, pt_late (by decide) (by omega)], rfl⟩
theorem flushed9 : ∀ t : Fin grid0.N, cfg0.idle 9 (grid0.coords t) = true → (cfg0.win 9).flush t = true → cfg0.fresh 9 t.val = false := fun t => by
  rw [fresh9 _ (Nat.le_of_lt t.isLt)]
  revert t; decide +kernel
theorem carries10 (c : Dev nD) : Carries (dats m 0 c) 10 := fun t h0 hi hf => by
  have hN : t.val < 104 := t.isLt
  rw [fresh10 _ (Nat.le_of_lt t.isLt), decide_eq_false_iff_not] at hf
  exact ⟨by rw [after0_10, after0_10, pt_late (by decide) (by omega)], rfl⟩
theorem flushed10 : ∀ t : Fin grid0.N, cfg0.idle 10 (grid0.coords t) = true → (cfg0.win 10).flush t = true → cfg0.fresh 10 t.val = false := fun t => by
  rw [fresh10 _ (Nat.le_of_lt t.isLt)]
  revert t; decide +kernel
theorem carries11 (c : Dev nD) : Carries (dats m 0 c) 11 := fun t h0 hi hf => by
  have hN : t.val < 104 := t.isLt
  rw [fresh11 _ (Nat.le_of_lt t.isLt), decide_eq_false_iff_not] at hf
  exact ⟨by rw [after0_11, after0_11, row_late hf], rfl⟩
theorem flushed11 : ∀ t : Fin grid0.N, cfg0.idle 11 (grid0.coords t) = true → (cfg0.win 11).flush t = true → cfg0.fresh 11 t.val = false := fun t => by
  rw [fresh11 _ (Nat.le_of_lt t.isLt)]
  revert t; decide +kernel
theorem carries12 (c : Dev nD) : Carries (dats m 0 c) 12 := fun t h0 hi hf => by
  have hN : t.val < 104 := t.isLt
  rw [fresh12 _ (Nat.le_of_lt t.isLt), decide_eq_false_iff_not] at hf
  exact ⟨by rw [after0_12, after0_12, pt_late (by decide) (by omega)], rfl⟩
theorem flushed12 : ∀ t : Fin grid0.N, cfg0.idle 12 (grid0.coords t) = true → (cfg0.win 12).flush t = true → cfg0.fresh 12 t.val = false := fun t => by
  rw [fresh12 _ (Nat.le_of_lt t.isLt)]
  revert t; decide +kernel

/-! ## The body's obligation -/

theorem leaves4 (c : Dev nD) (t : Fin cfg0.N) (d) :
    owns (c : Thread nD τ) (st0_4 t) fullShare (if k0_cond1 (grid0.coords t) = 1#1 then k0_pay2 (iblk m c 0 t) (iblk m c 1 t) else (dats m 0 c).before 4 t d) ⊢ ((dats m 0 c).leaves 4 t : sProp 𝕄) :=
  leaves_out (dats m 0 c) 4 rfl (carries4 m c) (fun _ _ _ => rfl) t (flushed4 t) _ (idle4 t) _
    (fun h => by have H := (cond1 t).mp h; rw [after0_4, pt_self ⟨Nat.zero_le _, H⟩]) d
theorem leaves5 (c : Dev nD) (t : Fin cfg0.N) (d) :
    owns (c : Thread nD τ) (st0_5 t) fullShare (if k0_cond2 (grid0.coords t) = 1#1 then k0_pay1 (iblk m c 0 t) (iblk m c 1 t) else (dats m 0 c).before 5 t d) ⊢ ((dats m 0 c).leaves 5 t : sProp 𝕄) :=
  leaves_out (dats m 0 c) 5 rfl (carries5 m c) (fun h => absurd h (by decide)) t (flushed5 t) _ (idle5 t) _
    (fun h => by have H := (cond2 t).mp h; rw [after0_5, pt_self H]) d
theorem leaves6 (c : Dev nD) (t : Fin cfg0.N) (d) :
    owns (c : Thread nD τ) (st0_6 t) fullShare (if k0_cond2 (grid0.coords t) = 1#1 then k0_pay4 (iblk m c 0 t) (iblk m c 1 t) else (dats m 0 c).before 6 t d) ⊢ ((dats m 0 c).leaves 6 t : sProp 𝕄) :=
  leaves_out (dats m 0 c) 6 rfl (carries6 m c) (fun _ _ _ => rfl) t (flushed6 t) _ (idle6 t) _
    (fun h => by have H := (cond2 t).mp h; rw [after0_6, pt_self H]) d
theorem leaves7 (c : Dev nD) (t : Fin cfg0.N) (d) :
    owns (c : Thread nD τ) (st0_7 t) fullShare (if k0_cond3 (grid0.coords t) = 1#1 then k0_pay1 (iblk m c 0 t) (iblk m c 1 t) else (dats m 0 c).before 7 t d) ⊢ ((dats m 0 c).leaves 7 t : sProp 𝕄) :=
  leaves_out (dats m 0 c) 7 rfl (carries7 m c) (fun h => absurd h (by decide)) t (flushed7 t) _ (idle7 t) _
    (fun h => by have H := (cond3 t).mp h; rw [after0_7, pt_self H]) d
theorem leaves8 (c : Dev nD) (t : Fin cfg0.N) (d) :
    owns (c : Thread nD τ) (st0_8 t) fullShare (if k0_cond3 (grid0.coords t) = 1#1 then k0_pay5 (iblk m c 0 t) (iblk m c 1 t) else (dats m 0 c).before 8 t d) ⊢ ((dats m 0 c).leaves 8 t : sProp 𝕄) :=
  leaves_out (dats m 0 c) 8 rfl (carries8 m c) (fun _ _ _ => rfl) t (flushed8 t) _ (idle8 t) _
    (fun h => by have H := (cond3 t).mp h; rw [after0_8, pt_self H]) d
theorem leaves9 (c : Dev nD) (t : Fin cfg0.N) (d) :
    owns (c : Thread nD τ) (st0_9 t) fullShare (if k0_cond4 (grid0.coords t) = 1#1 then k0_pay1 (iblk m c 0 t) (iblk m c 1 t) else (dats m 0 c).before 9 t d) ⊢ ((dats m 0 c).leaves 9 t : sProp 𝕄) :=
  leaves_out (dats m 0 c) 9 rfl (carries9 m c) (fun _ _ _ => rfl) t (flushed9 t) _ (idle9 t) _
    (fun h => by have H := (cond4 t).mp h; rw [after0_9, pt_self ⟨H, by have : t.val < 104 := t.isLt; omega⟩]) d
theorem leaves10 (c : Dev nD) (t : Fin cfg0.N) (d) :
    owns (c : Thread nD τ) (st0_10 t) fullShare (if k0_cond1 (grid0.coords t) = 1#1 then k0_pay3 (iblk m c 0 t) (iblk m c 2 t) else (dats m 0 c).before 10 t d) ⊢ ((dats m 0 c).leaves 10 t : sProp 𝕄) :=
  leaves_out (dats m 0 c) 10 rfl (carries10 m c) (fun _ _ _ => rfl) t (flushed10 t) _ (idle10 t) _
    (fun h => by have H := (cond1 t).mp h; rw [after0_10, pt_self ⟨Nat.zero_le _, H⟩]) d
theorem leaves11 (c : Dev nD) (t : Fin cfg0.N) (d) :
    owns (c : Thread nD τ) (st0_11 t) fullShare (if k0_cond5 (grid0.coords t) = 1#1 then k0_pay6 (iblk m c 3 t) (iblk m c 1 t) else (dats m 0 c).before 11 t d) ⊢ ((dats m 0 c).leaves 11 t : sProp 𝕄) :=
  leaves_out (dats m 0 c) 11 rfl (carries11 m c) (fun _ _ _ => rfl) t (flushed11 t) _ (idle11 t) _
    (fun h => by have H := (cond5 t).mp h; rw [after0_11, row_self H]) d
theorem leaves12 (c : Dev nD) (t : Fin cfg0.N) (d) :
    owns (c : Thread nD τ) (st0_12 t) fullShare (if k0_cond6 (grid0.coords t) = 1#1 then k0_pay7 (iblk m c 3 t) (iblk m c 2 t) else (dats m 0 c).before 12 t d) ⊢ ((dats m 0 c).leaves 12 t : sProp 𝕄) :=
  leaves_out (dats m 0 c) 12 rfl (carries12 m c) (fun _ _ _ => rfl) t (flushed12 t) _ (idle12 t) _
    (fun h => by have H := (cond6 t).mp h; rw [after0_12, pt_self ⟨Nat.zero_le _, le_of_eq H⟩]) d
theorem leaves0 (c : Dev nD) (t : Fin cfg0.N) :
    owns (c : Thread nD τ) (st0_0 t) fullShare (iblk m c 0 t) ⊢ ((dats m 0 c).leaves 0 t : sProp 𝕄) := by
  unfold Dat.leaves; rw [show cfg0.idle 0 (cfg0.grid.coords t) = false from rfl, show cfg0.loose 0 = false from rfl, after0_0]
theorem leaves1 (c : Dev nD) (t : Fin cfg0.N) :
    owns (c : Thread nD τ) (st0_1 t) fullShare (iblk m c 1 t) ⊢ ((dats m 0 c).leaves 1 t : sProp 𝕄) := by
  unfold Dat.leaves; rw [show cfg0.idle 1 (cfg0.grid.coords t) = false from rfl, show cfg0.loose 1 = false from rfl, after0_1]
theorem leaves2 (c : Dev nD) (t : Fin cfg0.N) :
    owns (c : Thread nD τ) (st0_2 t) fullShare (iblk m c 2 t) ⊢ ((dats m 0 c).leaves 2 t : sProp 𝕄) := by
  unfold Dat.leaves; rw [show cfg0.idle 2 (cfg0.grid.coords t) = false from rfl, show cfg0.loose 2 = false from rfl, after0_2]
theorem leaves3 (c : Dev nD) (t : Fin cfg0.N) :
    owns (c : Thread nD τ) (st0_3 t) fullShare (iblk m c 3 t) ⊢ ((dats m 0 c).leaves 3 t : sProp 𝕄) := by
  unfold Dat.leaves; rw [show cfg0.idle 3 (cfg0.grid.coords t) = false from rfl, show cfg0.loose 3 = false from rfl, after0_3]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t
    ∗ (dats m 0 c).leaves 10 t
    ∗ (dats m 0 c).leaves 11 t
    ∗ (dats m 0 c).leaves 12 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = (dats m 0 c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (triple c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12))
    (iblk m c 0 t) (iblk m c 1 t) (iblk m c 2 t) (iblk m c 3 t) ((dats m 0 c).before 4 t d4) ((dats m 0 c).before 5 t d5) ((dats m 0 c).before 6 t d6) ((dats m 0 c).before 7 t d7) ((dats m 0 c).before 8 t d8) ((dats m 0 c).before 9 t d9) ((dats m 0 c).before 10 t d10) ((dats m 0 c).before 11 t d11) ((dats m 0 c).before 12 t d12) (oneCol t) (both t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iapply (leaves0 m c t); iexact H0
  isplitl [H1]; · iapply (leaves1 m c t); iexact H1
  isplitl [H2]; · iapply (leaves2 m c t); iexact H2
  isplitl [H3]; · iapply (leaves3 m c t); iexact H3
  isplitl [H4]; · iapply (leaves4 m c t d4); iexact H4
  isplitl [H5]; · iapply (leaves5 m c t d5); iexact H5
  isplitl [H6]; · iapply (leaves6 m c t d6); iexact H6
  isplitl [H7]; · iapply (leaves7 m c t d7); iexact H7
  isplitl [H8]; · iapply (leaves8 m c t d8); iexact H8
  isplitl [H9]; · iapply (leaves9 m c t d9); iexact H9
  isplitl [H10]; · iapply (leaves10 m c t d10); iexact H10
  isplitl [H11]; · iapply (leaves11 m c t d11); iexact H11
  iapply (leaves12 m c t d12); iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every weakly fair execution ends with every array at what the write-backs leave and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.In

end
-- ==== Proof.In.Weights.lean ====
/- The two weight operands the host line lays out for the input projections: the packed columns and the gates' columns. -/
module

public import proofs.«01_k».proof.Proof.In.Frame

@[expose] public section

set_option maxRecDepth 16384

noncomputable section

namespace Cert.In

open Cert.KernelInIdeal Cert.KernelInIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ) (c : Dev nD)

abbrev A0 : Vec Ideal S8320x2048 .bf16 := m ((c : Thread nD τ).loc main_arg0)
abbrev A1 : Vec Ideal S32x2048 .bf16 := m ((c : Thread nD τ).loc main_arg1)
abbrev A2 : Vec Ideal S2048x8208 .f32 := m ((c : Thread nD τ).loc main_arg2)

/-- The gates' columns, as the host line lays them out, -/
def gateCols (w : Vec Ideal S2048x8208 .f32) : Vec Ideal S2048x128 .f32 :=
  concatenate S2048x128 1
    [⟨S2048x8, extractStridedSlice S2048x8 ![0, 3072] w slices_S2048x8208_S2048x8_0_3072⟩,
     ⟨S2048x4, extractStridedSlice S2048x4 ![0, 6156] w slices_S2048x8208_S2048x4_0_6156⟩,
     ⟨S2048x4, extractStridedSlice S2048x4 ![0, 6152] w slices_S2048x8208_S2048x4_0_6152⟩,
     ⟨S2048x112, broadcastInDim S2048x112 ![] bcast_S_S2048x112 (constant (F := Ideal) S_ .f32 0x00000000#32)⟩]
    concatenates_S2048x8_S2048x4_S2048x4_S2048x112_S2048x128_d1

/-- the packed columns, -/
def mainCols (w : Vec Ideal S2048x8208 .f32) : Vec Ideal S2048x8192 .f32 :=
  concatenate S2048x8192 1
    [⟨S2048x1024, extractStridedSlice S2048x1024 ![0, 0] w slices_S2048x8208_S2048x1024_0_0⟩,
     ⟨S2048x1024, extractStridedSlice S2048x1024 ![0, 1024] w slices_S2048x8208_S2048x1024_0_1024⟩,
     ⟨S2048x1024, extractStridedSlice S2048x1024 ![0, 2048] w slices_S2048x8208_S2048x1024_0_2048⟩,
     ⟨S2048x1024, extractStridedSlice S2048x1024 ![0, 3080] w slices_S2048x8208_S2048x1024_0_3080⟩,
     ⟨S2048x512, extractStridedSlice S2048x512 ![0, 4104] w slices_S2048x8208_S2048x512_0_4104⟩,
     ⟨S2048x512, extractStridedSlice S2048x512 ![0, 4616] w slices_S2048x8208_S2048x512_0_4616⟩,
     ⟨S2048x1024, extractStridedSlice S2048x1024 ![0, 5128] w slices_S2048x8208_S2048x1024_0_5128⟩,
     ⟨S2048x1024, extractStridedSlice S2048x1024 ![0, 6160] w slices_S2048x8208_S2048x1024_0_6160⟩,
     ⟨S2048x1024, extractStridedSlice S2048x1024 ![0, 7184] w slices_S2048x8208_S2048x1024_0_7184⟩]
    concatenates_S2048x1024_S2048x1024_S2048x1024_S2048x1024_S2048x512_S2048x512_S2048x1024_S2048x1024_S2048x1024_S2048x8192_d1

set_option maxHeartbeats 4000000 in
theorem V_gate : (V m c main_v16 : Vec Ideal S2048x128 .bf16)
    = truncf (F := Ideal) (s := S2048x128) (φ := .f32) .bf16 (gateCols (A2 m c)) bitsLt_bf16_f32 := by
  unfold V
  after_results_simp
  rfl

set_option maxHeartbeats 4000000 in
theorem V_main : (V m c main_v13 : Vec Ideal S2048x8192 .bf16)
    = truncf (F := Ideal) (s := S2048x8192) (φ := .f32) .bf16 (mainCols (A2 m c)) bitsLt_bf16_f32 := by
  unfold V
  after_results_simp
  rfl

/-- Where a packed column stands in the input weights: the eight forget columns are stepped over, then the eight of the
    other two gates. -/
def col (j : ℕ) : ℕ := if j < 3072 then j else if j < 6144 then j + 8 else j + 16

/-- The input weights at a packed column, -/
def packed (w : Vec Ideal S2048x8208 .f32) (k : Fin 2048) (j : Fin 8192) : EReal :=
  w (ix2 (n0 := 2048) (n1 := 8208) k ⟨col j.val, by unfold col; split_ifs <;> omega⟩)

/-- and at a gate's column, zero beyond the sixteen gates. -/
def gate (w : Vec Ideal S2048x8208 .f32) (k : Fin 2048) (j : Fin 128) : EReal :=
  if h : j.val < 16 then
    w (ix2 (n0 := 2048) (n1 := 8208) k
      ⟨if j.val < 8 then 3072 + j.val else if j.val < 12 then 6148 + j.val else 6140 + j.val, by split_ifs <;> omega⟩)
  else 0

theorem gateCols_apply (w : Vec Ideal S2048x8208 .f32) (k : Fin 2048) (j : Fin 128) :
    gateCols w (ix2 (n0 := 2048) (n1 := 128) k j) = gate w k j := by
  unfold gateCols
  pointwise
  have e : ∀ {l : Fin 8208}, j.val < 16 →
      l.val = (if j.val < 8 then 3072 + j.val else if j.val < 12 then 6148 + j.val else 6140 + j.val) →
      w (ix2 (n0 := 2048) (n1 := 8208) k l) = gate w k j := fun h h' => by
    unfold gate
    rw [dif_pos h]
    exact congrArg (fun l => w (ix2 (n0 := 2048) (n1 := 8208) k l)) (Fin.ext h')
  split_ifs <;> first
    | exact absurd rfl ‹¬_ = _›
    | exact e (by omega) (by simp only; split_ifs <;> omega)
    | (unfold gate; rw [dif_neg (by omega)])

theorem mainCols_apply (w : Vec Ideal S2048x8208 .f32) (k : Fin 2048) (j : Fin 8192) :
    mainCols w (ix2 (n0 := 2048) (n1 := 8192) k j) = packed w k j := by
  unfold mainCols
  pointwise
  have hj := j.isLt
  have e : ∀ {l : Fin 8208}, l.val = col j.val → w (ix2 (n0 := 2048) (n1 := 8208) k l) = packed w k j := fun h =>
    congrArg (fun l => w (ix2 (n0 := 2048) (n1 := 8208) k l)) (Fin.ext h)
  split_ifs <;> exact e (by simp only [col]; split_ifs <;> omega)

end Cert.In

end
-- ==== Proof.In.Final.lean ====
/- What the input projections' result arrays end holding over the reals: each row's products with the packed columns of
   the input weights, and with the gates' columns. -/
module

public import proofs.«01_k».proof.Proof.In.Weights

@[expose] public section

set_option maxRecDepth 16384

noncomputable section

namespace Cert.In

open Cert.KernelInIdeal Cert.KernelInIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ) (c : Dev nD)

/-- A row's product with a packed column, -/
def proj (x : Fin 2048 → EReal) (w : Vec Ideal S2048x8208 .f32) (j : Fin 8192) : EReal := ∑ k : Fin 2048, x k * packed w k j

/-- and with a gate's column. -/
def gates (x : Fin 2048 → EReal) (w : Vec Ideal S2048x8208 .f32) (j : Fin 128) : EReal := ∑ k : Fin 2048, x k * gate w k j

theorem in_facts : ∀ t : Fin cfg0.N,
    win0_0.index t = ![t.val % 13, 0] ∧ win0_1.index t = ![0, t.val / 13] ∧ win0_2.index t = ![0, 0] ∧ win0_3.index t = ![0, 0] := by
  decide +kernel

theorem t_lt (t : Fin cfg0.N) : t.val < 104 := t.isLt

theorem iblk_x (t : Fin cfg0.N) (r : Fin 640) (k : Fin 2048) :
    (iblk m c 0 t : Vec Ideal S640x2048 .bf16) (ix2 (n0 := 640) (n1 := 2048) r k)
      = A0 m c (ix2 (n0 := 8320) (n1 := 2048) ⟨640 * (t.val % 13) + r.val, by omega⟩ k) := by
  have e := (in_facts t).1
  have h := V_main_arg0 m c
  blk_ext [iblk, h, e]

theorem iblk_xs (t : Fin cfg0.N) (r : Fin 32) (k : Fin 2048) :
    (iblk m c 3 t : Vec Ideal S32x2048 .bf16) (ix2 (n0 := 32) (n1 := 2048) r k) = A1 m c (ix2 (n0 := 32) (n1 := 2048) r k) := by
  have e := (in_facts t).2.2.2
  have h := V_main_arg1 m c
  blk_ext [iblk, h, e]

theorem iblk_wg (t : Fin cfg0.N) (k : Fin 2048) (j : Fin 128) :
    (iblk m c 2 t : Vec Ideal S2048x128 .bf16) (ix2 (n0 := 2048) (n1 := 128) k j) = gate (A2 m c) k j := by
  have e := (in_facts t).2.2.1
  refine Eq.trans ?_ (gateCols_apply (A2 m c) k j)
  refine Eq.trans ?_ (congrFun (V_gate m c) (ix2 (n0 := 2048) (n1 := 128) k j))
  blk_ext [iblk, e]

theorem iblk_w (t : Fin cfg0.N) (k : Fin 2048) (j : Fin 1024) :
    (iblk m c 1 t : Vec Ideal S2048x1024 .bf16) (ix2 (n0 := 2048) (n1 := 1024) k j)
      = packed (A2 m c) k ⟨1024 * (t.val / 13) + j.val, by have := t_lt t; omega⟩ := by
  have e := (in_facts t).2.1
  refine Eq.trans ?_ (mainCols_apply (A2 m c) k _)
  refine Eq.trans ?_ (congrFun (V_main m c) (ix2 (n0 := 2048) (n1 := 8192) k _))
  blk_ext [iblk, e]

theorem pay1_apply (x : Vec Ideal S640x2048 .bf16) (w : Vec Ideal S2048x1024 .bf16) (r : Fin 640) (j : Fin 1024) :
    k0_pay1 x w (ix2 (n0 := 640) (n1 := 1024) r j)
      = ∑ k : Fin 2048, x (ix2 (n0 := 640) (n1 := 2048) r k) * w (ix2 (n0 := 2048) (n1 := 1024) k j) := by
  unfold k0_pay1
  pointwise

theorem pay3_apply (x : Vec Ideal S640x2048 .bf16) (w : Vec Ideal S2048x128 .bf16) (r : Fin 640) (j : Fin 128) :
    k0_pay3 x w (ix2 (n0 := 640) (n1 := 128) r j)
      = ∑ k : Fin 2048, x (ix2 (n0 := 640) (n1 := 2048) r k) * w (ix2 (n0 := 2048) (n1 := 128) k j) := by
  unfold k0_pay3
  pointwise

theorem pay6_apply (x : Vec Ideal S32x2048 .bf16) (w : Vec Ideal S2048x1024 .bf16) (r : Fin 32) (j : Fin 1024) :
    k0_pay6 x w (ix2 (n0 := 32) (n1 := 1024) r j)
      = ∑ k : Fin 2048, x (ix2 (n0 := 32) (n1 := 2048) r k) * w (ix2 (n0 := 2048) (n1 := 1024) k j) := by
  unfold k0_pay6
  pointwise

theorem pay7_apply (x : Vec Ideal S32x2048 .bf16) (w : Vec Ideal S2048x128 .bf16) (r : Fin 32) (j : Fin 128) :
    k0_pay7 x w (ix2 (n0 := 32) (n1 := 128) r j)
      = ∑ k : Fin 2048, x (ix2 (n0 := 32) (n1 := 2048) r k) * w (ix2 (n0 := 2048) (n1 := 128) k j) := by
  unfold k0_pay7
  pointwise

/-! ## A grid point's four products -/

theorem main_at (t : Fin cfg0.N) (r : Fin 640) (j : Fin 1024) :
    k0_pay1 (iblk m c 0 t) (iblk m c 1 t) (ix2 (n0 := 640) (n1 := 1024) r j)
      = proj (fun k => A0 m c (ix2 (n0 := 8320) (n1 := 2048) ⟨640 * (t.val % 13) + r.val, by omega⟩ k)) (A2 m c)
          ⟨1024 * (t.val / 13) + j.val, by have := t_lt t; omega⟩ := by
  refine (pay1_apply _ _ r j).trans (Finset.sum_congr rfl fun k _ => ?_)
  exact congrArg₂ (· * ·) (iblk_x m c t r k) (iblk_w m c t k j)

theorem gate_at (t : Fin cfg0.N) (r : Fin 640) (j : Fin 128) :
    k0_pay3 (iblk m c 0 t) (iblk m c 2 t) (ix2 (n0 := 640) (n1 := 128) r j)
      = gates (fun k => A0 m c (ix2 (n0 := 8320) (n1 := 2048) ⟨640 * (t.val % 13) + r.val, by omega⟩ k)) (A2 m c) j := by
  refine (pay3_apply _ _ r j).trans (Finset.sum_congr rfl fun k _ => ?_)
  exact congrArg₂ (· * ·) (iblk_x m c t r k) (iblk_wg m c t k j)

theorem sample_at (t : Fin cfg0.N) (r : Fin 32) (j : Fin 1024) :
    k0_pay6 (iblk m c 3 t) (iblk m c 1 t) (ix2 (n0 := 32) (n1 := 1024) r j)
      = proj (fun k => A1 m c (ix2 (n0 := 32) (n1 := 2048) r k)) (A2 m c) ⟨1024 * (t.val / 13) + j.val, by have := t_lt t; omega⟩ := by
  refine (pay6_apply _ _ r j).trans (Finset.sum_congr rfl fun k _ => ?_)
  exact congrArg₂ (· * ·) (iblk_xs m c t r k) (iblk_w m c t k j)

theorem sampleGate_at (t : Fin cfg0.N) (r : Fin 32) (j : Fin 128) :
    k0_pay7 (iblk m c 3 t) (iblk m c 2 t) (ix2 (n0 := 32) (n1 := 128) r j)
      = gates (fun k => A1 m c (ix2 (n0 := 32) (n1 := 2048) r k)) (A2 m c) j := by
  refine (pay7_apply _ _ r j).trans (Finset.sum_congr rfl fun k _ => ?_)
  exact congrArg₂ (· * ·) (iblk_xs m c t r k) (iblk_wg m c t k j)

/-! ## The results -/

/-- A row of the prompt's normed rows. -/
def rowOf (x : Vec Ideal S8320x2048 .bf16) (r : ℕ) (h : r < 8320) : Fin 2048 → EReal :=
  fun k => x (ix2 (n0 := 8320) (n1 := 2048) ⟨r, h⟩ k)

/-- The prompt's rows against a thousand and twenty-four packed columns from `off`, -/
def block (off : ℕ) (h : off ≤ 7168) (x : Vec Ideal S8320x2048 .bf16) (w : Vec Ideal S2048x8208 .f32) : S8320x1024.Idx → EReal :=
  fun i => proj (rowOf x (i 0).val (i 0).isLt) w ⟨off + (i 1).val, lt_of_lt_of_le (Nat.add_lt_add_left (i 1).isLt off) (by show off + 1024 ≤ 8192; omega)⟩

/-- the real rows alone, -/
def blockReal (off : ℕ) (h : off ≤ 7168) (x : Vec Ideal S8320x2048 .bf16) (w : Vec Ideal S2048x8208 .f32) : S8208x1024.Idx → EReal :=
  fun i => proj (rowOf x (i 0).val (lt_of_lt_of_le (i 0).isLt (by decide))) w
    ⟨off + (i 1).val, lt_of_lt_of_le (Nat.add_lt_add_left (i 1).isLt off) (by show off + 1024 ≤ 8192; omega)⟩

/-- the packed columns beyond the attention's, -/
def rest (x : Vec Ideal S8320x2048 .bf16) (w : Vec Ideal S2048x8208 .f32) : S8320x5120.Idx → EReal :=
  fun i => proj (rowOf x (i 0).val (i 0).isLt) w ⟨3072 + (i 1).val, Nat.add_lt_add_left (i 1).isLt 3072⟩

/-- the gates' columns, -/
def gateRows (x : Vec Ideal S8320x2048 .bf16) (w : Vec Ideal S2048x8208 .f32) : S8320x128.Idx → EReal :=
  fun i => gates (rowOf x (i 0).val (i 0).isLt) w (i 1)

/-- and the sample rows against every packed column, -/
def sampleRows (x : Vec Ideal S32x2048 .bf16) (w : Vec Ideal S2048x8208 .f32) : S32x8192.Idx → EReal :=
  fun i => proj (fun k => x (ix2 (n0 := 32) (n1 := 2048) (i 0) k)) w (i 1)

/-- and against the gates'. -/
def sampleGates (x : Vec Ideal S32x2048 .bf16) (w : Vec Ideal S2048x8208 .f32) : S32x128.Idx → EReal :=
  fun i => gates (fun k => x (ix2 (n0 := 32) (n1 := 2048) (i 0) k)) w (i 1)

theorem facts4 : ∀ t : Fin cfg0.N, (cfg0.win 4).flush t = true →
    win0_4.index t = ![(pt 0 12 t).val % 13, 0] ∧ (pt 0 12 t).val / 13 = 0 := by decide +kernel
theorem facts5 : ∀ t : Fin cfg0.N, (cfg0.win 5).flush t = true →
    win0_5.index t = ![(pt 13 25 t).val % 13, 0] ∧ (pt 13 25 t).val / 13 = 1 := by decide +kernel
theorem facts6 : ∀ t : Fin cfg0.N, (cfg0.win 6).flush t = true →
    win0_6.index t = ![(pt 13 25 t).val % 13, 0] ∧ (pt 13 25 t).val / 13 = 1 := by decide +kernel
theorem facts7 : ∀ t : Fin cfg0.N, (cfg0.win 7).flush t = true →
    win0_7.index t = ![(pt 26 38 t).val % 13, 0] ∧ (pt 26 38 t).val / 13 = 2 := by decide +kernel
theorem facts8 : ∀ t : Fin cfg0.N, (cfg0.win 8).flush t = true →
    win0_8.index t = ![(pt 26 38 t).val % 13, 0] ∧ (pt 26 38 t).val / 13 = 2 := by decide +kernel
theorem facts9 : ∀ t : Fin cfg0.N, (cfg0.win 9).flush t = true →
    win0_9.index t = ![(pt 39 103 t).val % 13, (pt 39 103 t).val / 13 - 3] ∧ 3 ≤ (pt 39 103 t).val / 13 := by decide +kernel
theorem facts10 : ∀ t : Fin cfg0.N, (cfg0.win 10).flush t = true → win0_10.index t = ![(pt 0 12 t).val % 13, 0] := by decide +kernel
theorem facts11 : ∀ t : Fin cfg0.N, (cfg0.win 11).flush t = true → win0_11.index t = ![0, (row t).val / 13] := by decide +kernel
theorem facts12 : ∀ t : Fin cfg0.N, win0_12.index t = ![0, 0] := by decide +kernel

/-- A row's product with a packed column depends on the row's and the column's numbers alone. -/
theorem proj_congr (x : Vec Ideal S8320x2048 .bf16) (w : Vec Ideal S2048x8208 .f32) {r r' : ℕ} {h h'} {j j' : Fin 8192} (hr : r = r') (hj : j.val = j'.val) :
    proj (rowOf x r h) w j = proj (rowOf x r' h') w j' := by
  subst hr
  rw [Fin.ext hj]

/-- The same of a gate's column. -/
theorem gates_congr (x : Vec Ideal S8320x2048 .bf16) (w : Vec Ideal S2048x8208 .f32) {r r' : ℕ} {h h'} {j j' : Fin 128} (hr : r = r') (hj : j.val = j'.val) :
    gates (rowOf x r h) w j = gates (rowOf x r' h') w j' := by
  subst hr
  rw [Fin.ext hj]

theorem final4 : (dats m 0 c).arrAt 4 (cfgs 0).N = block 0 (by decide) (A0 m c) (A2 m c) := by
  refine (dats m 0 c).arrAt_eq_of_covers 4 _ (by decide +kernel) fun t hfl y => ?_
  obtain ⟨e, e'⟩ := facts4 t hfl
  have h0 : (((cfg0.win 4).blk t).view.emb y 0).val = win0_4.index t 0 * 640 + (y 0).val := Window.rect_emb_val win0_4 t y 0 rfl
  have h1 : (((cfg0.win 4).blk t).view.emb y 1).val = win0_4.index t 1 * 1024 + (y 1).val := Window.rect_emb_val win0_4 t y 1 rfl
  rw [e] at h0 h1
  blk_simp
  rw [after0_4]
  idx_vars y
  refine (main_at m c (pt 0 12 t) y0 y1).trans (proj_congr _ _ (Eq.trans ?_ h0.symm) (Eq.trans ?_ (congrArg (0 + ·) h1.symm)))
  · show 640 * ((pt 0 12 t).val % 13) + y0.val = (pt 0 12 t).val % 13 * 640 + y0.val
    omega
  · show 1024 * ((pt 0 12 t).val / 13) + y1.val = 0 + (0 * 1024 + y1.val)
    omega

theorem final5 : (dats m 0 c).arrAt 5 (cfgs 0).N = blockReal 1024 (by decide) (A0 m c) (A2 m c) := by
  refine (dats m 0 c).arrAt_eq_of_covers 5 _ (by decide +kernel) fun t hfl y => ?_
  obtain ⟨e, e'⟩ := facts5 t hfl
  have h0 : (((cfg0.win 5).blk t).view.emb y 0).val = win0_5.index t 0 * 640 + (y 0).val := Window.rect_emb_val win0_5 t y 0 rfl
  have h1 : (((cfg0.win 5).blk t).view.emb y 1).val = win0_5.index t 1 * 1024 + (y 1).val := Window.rect_emb_val win0_5 t y 1 rfl
  rw [e] at h0 h1
  blk_simp
  rw [after0_5]
  obtain ⟨r, j, hx⟩ : ∃ (r : Fin 640) (j : Fin 1024), (cfg0.win 5).xinj (cfg0.grid.coords t) y = ix2 (n0 := 640) (n1 := 1024) r j :=
    ⟨(cfg0.win 5).xinj (cfg0.grid.coords t) y 0, (cfg0.win 5).xinj (cfg0.grid.coords t) y 1, by funext k; fin_cases k <;> rfl⟩
  have hr : (y 0).val = r.val := congrArg Fin.val (congrFun hx 0)
  have hj : (y 1).val = j.val := congrArg Fin.val (congrFun hx 1)
  rw [hx]
  refine (main_at m c (pt 13 25 t) r j).trans (proj_congr _ _ (Eq.trans ?_ h0.symm) (Eq.trans ?_ (congrArg (1024 + ·) h1.symm)))
  · show 640 * ((pt 13 25 t).val % 13) + r.val = (pt 13 25 t).val % 13 * 640 + (y 0).val
    omega
  · show 1024 * ((pt 13 25 t).val / 13) + j.val = 1024 + (0 * 1024 + (y 1).val)
    omega

theorem final6 : (dats m 0 c).arrAt 6 (cfgs 0).N = block 1024 (by decide) (A0 m c) (A2 m c) := by
  refine (dats m 0 c).arrAt_eq_of_covers 6 _ (by decide +kernel) fun t hfl y => ?_
  obtain ⟨e, e'⟩ := facts6 t hfl
  have h0 : (((cfg0.win 6).blk t).view.emb y 0).val = win0_6.index t 0 * 640 + (y 0).val := Window.rect_emb_val win0_6 t y 0 rfl
  have h1 : (((cfg0.win 6).blk t).view.emb y 1).val = win0_6.index t 1 * 1024 + (y 1).val := Window.rect_emb_val win0_6 t y 1 rfl
  rw [e] at h0 h1
  blk_simp
  rw [after0_6]
  idx_vars y
  refine (main_at m c (pt 13 25 t) y0 y1).trans (proj_congr _ _ (Eq.trans ?_ h0.symm) (Eq.trans ?_ (congrArg (1024 + ·) h1.symm)))
  · show 640 * ((pt 13 25 t).val % 13) + y0.val = (pt 13 25 t).val % 13 * 640 + y0.val
    omega
  · show 1024 * ((pt 13 25 t).val / 13) + y1.val = 1024 + (0 * 1024 + y1.val)
    omega

theorem final7 : (dats m 0 c).arrAt 7 (cfgs 0).N = blockReal 2048 (by decide) (A0 m c) (A2 m c) := by
  refine (dats m 0 c).arrAt_eq_of_covers 7 _ (by decide +kernel) fun t hfl y => ?_
  obtain ⟨e, e'⟩ := facts7 t hfl
  have h0 : (((cfg0.win 7).blk t).view.emb y 0).val = win0_7.index t 0 * 640 + (y 0).val := Window.rect_emb_val win0_7 t y 0 rfl
  have h1 : (((cfg0.win 7).blk t).view.emb y 1).val = win0_7.index t 1 * 1024 + (y 1).val := Window.rect_emb_val win0_7 t y 1 rfl
  rw [e] at h0 h1
  blk_simp
  rw [after0_7]
  obtain ⟨r, j, hx⟩ : ∃ (r : Fin 640) (j : Fin 1024), (cfg0.win 7).xinj (cfg0.grid.coords t) y = ix2 (n0 := 640) (n1 := 1024) r j :=
    ⟨(cfg0.win 7).xinj (cfg0.grid.coords t) y 0, (cfg0.win 7).xinj (cfg0.grid.coords t) y 1, by funext k; fin_cases k <;> rfl⟩
  have hr : (y 0).val = r.val := congrArg Fin.val (congrFun hx 0)
  have hj : (y 1).val = j.val := congrArg Fin.val (congrFun hx 1)
  rw [hx]
  refine (main_at m c (pt 26 38 t) r j).trans (proj_congr _ _ (Eq.trans ?_ h0.symm) (Eq.trans ?_ (congrArg (2048 + ·) h1.symm)))
  · show 640 * ((pt 26 38 t).val % 13) + r.val = (pt 26 38 t).val % 13 * 640 + (y 0).val
    omega
  · show 1024 * ((pt 26 38 t).val / 13) + j.val = 2048 + (0 * 1024 + (y 1).val)
    omega

theorem final8 : (dats m 0 c).arrAt 8 (cfgs 0).N = block 2048 (by decide) (A0 m c) (A2 m c) := by
  refine (dats m 0 c).arrAt_eq_of_covers 8 _ (by decide +kernel) fun t hfl y => ?_
  obtain ⟨e, e'⟩ := facts8 t hfl
  have h0 : (((cfg0.win 8).blk t).view.emb y 0).val = win0_8.index t 0 * 640 + (y 0).val := Window.rect_emb_val win0_8 t y 0 rfl
  have h1 : (((cfg0.win 8).blk t).view.emb y 1).val = win0_8.index t 1 * 1024 + (y 1).val := Window.rect_emb_val win0_8 t y 1 rfl
  rw [e] at h0 h1
  blk_simp
  rw [after0_8]
  idx_vars y
  refine (main_at m c (pt 26 38 t) y0 y1).trans (proj_congr _ _ (Eq.trans ?_ h0.symm) (Eq.trans ?_ (congrArg (2048 + ·) h1.symm)))
  · show 640 * ((pt 26 38 t).val % 13) + y0.val = (pt 26 38 t).val % 13 * 640 + y0.val
    omega
  · show 1024 * ((pt 26 38 t).val / 13) + y1.val = 2048 + (0 * 1024 + y1.val)
    omega

theorem final9 : (dats m 0 c).arrAt 9 (cfgs 0).N = rest (A0 m c) (A2 m c) := by
  refine (dats m 0 c).arrAt_eq_of_covers 9 _ (by decide +kernel) fun t hfl y => ?_
  obtain ⟨e, e'⟩ := facts9 t hfl
  have h0 : (((cfg0.win 9).blk t).view.emb y 0).val = win0_9.index t 0 * 640 + (y 0).val := Window.rect_emb_val win0_9 t y 0 rfl
  have h1 : (((cfg0.win 9).blk t).view.emb y 1).val = win0_9.index t 1 * 1024 + (y 1).val := Window.rect_emb_val win0_9 t y 1 rfl
  rw [e] at h0 h1
  blk_simp
  rw [after0_9]
  idx_vars y
  refine (main_at m c (pt 39 103 t) y0 y1).trans (proj_congr _ _ (Eq.trans ?_ h0.symm) (Eq.trans ?_ (congrArg (3072 + ·) h1.symm)))
  · show 640 * ((pt 39 103 t).val % 13) + y0.val = (pt 39 103 t).val % 13 * 640 + y0.val
    omega
  · show 1024 * ((pt 39 103 t).val / 13) + y1.val = 3072 + (((pt 39 103 t).val / 13 - 3) * 1024 + y1.val)
    omega

theorem final10 : (dats m 0 c).arrAt 10 (cfgs 0).N = gateRows (A0 m c) (A2 m c) := by
  refine (dats m 0 c).arrAt_eq_of_covers 10 _ (by decide +kernel) fun t hfl y => ?_
  have e := facts10 t hfl
  have h0 : (((cfg0.win 10).blk t).view.emb y 0).val = win0_10.index t 0 * 640 + (y 0).val := Window.rect_emb_val win0_10 t y 0 rfl
  have h1 : (((cfg0.win 10).blk t).view.emb y 1).val = win0_10.index t 1 * 128 + (y 1).val := Window.rect_emb_val win0_10 t y 1 rfl
  rw [e] at h0 h1
  blk_simp
  rw [after0_10]
  idx_vars y
  refine (gate_at m c (pt 0 12 t) y0 y1).trans (gates_congr _ _ (Eq.trans ?_ h0.symm) (Eq.trans ?_ h1.symm))
  · show 640 * ((pt 0 12 t).val % 13) + y0.val = (pt 0 12 t).val % 13 * 640 + y0.val
    omega
  · show y1.val = 0 * 128 + y1.val
    omega

theorem final11 : (dats m 0 c).arrAt 11 (cfgs 0).N = sampleRows (A1 m c) (A2 m c) := by
  refine (dats m 0 c).arrAt_eq_of_covers 11 _ (by decide +kernel) fun t hfl y => ?_
  have e := facts11 t hfl
  have h0 : (((cfg0.win 11).blk t).view.emb y 0).val = win0_11.index t 0 * 32 + (y 0).val := Window.rect_emb_val win0_11 t y 0 rfl
  have h1 : (((cfg0.win 11).blk t).view.emb y 1).val = win0_11.index t 1 * 1024 + (y 1).val := Window.rect_emb_val win0_11 t y 1 rfl
  rw [e] at h0 h1
  blk_simp
  rw [after0_11]
  idx_vars y
  have hy : y1.val < 1024 := y1.isLt
  refine (sample_at m c (row t) y0 y1).trans ?_
  have i0 : y0 = ((cfg0.win 11).blk t).view.emb (ix2 (n0 := 32) (n1 := 1024) y0 y1) 0 := Fin.ext (Eq.trans (by show y0.val = 0 * 32 + y0.val; omega) h0.symm)
  have i1 : (⟨1024 * ((row t).val / 13) + y1.val, by have := t_lt (row t); have : y1.val < 1024 := y1.isLt; omega⟩ : Fin 8192) = ((cfg0.win 11).blk t).view.emb (ix2 (n0 := 32) (n1 := 1024) y0 y1) 1 :=
    Fin.ext (Eq.trans (by show 1024 * ((row t).val / 13) + y1.val = (row t).val / 13 * 1024 + y1.val; omega) h1.symm)
  exact congrArg₂ (fun (a : Fin 32) (b : Fin 8192) => proj (fun k => A1 m c (ix2 (n0 := 32) (n1 := 2048) a k)) (A2 m c) b) i0 i1

theorem final12 : (dats m 0 c).arrAt 12 (cfgs 0).N = sampleGates (A1 m c) (A2 m c) := by
  refine (dats m 0 c).arrAt_eq_of_covers 12 _ (by decide +kernel) fun t hfl y => ?_
  have e := facts12 t
  have h0 : (((cfg0.win 12).blk t).view.emb y 0).val = win0_12.index t 0 * 32 + (y 0).val := Window.rect_emb_val win0_12 t y 0 rfl
  have h1 : (((cfg0.win 12).blk t).view.emb y 1).val = win0_12.index t 1 * 128 + (y 1).val := Window.rect_emb_val win0_12 t y 1 rfl
  rw [e] at h0 h1
  blk_simp
  rw [after0_12]
  idx_vars y
  refine (sampleGate_at m c (pt 0 0 t) y0 y1).trans ?_
  have i0 : y0 = ((cfg0.win 12).blk t).view.emb (ix2 (n0 := 32) (n1 := 128) y0 y1) 0 := Fin.ext (Eq.trans (by show y0.val = 0 * 32 + y0.val; omega) h0.symm)
  have i1 : y1 = ((cfg0.win 12).blk t).view.emb (ix2 (n0 := 32) (n1 := 128) y0 y1) 1 := Fin.ext (Eq.trans (by show y1.val = 0 * 128 + y1.val; omega) h1.symm)
  exact congrArg₂ (fun (a : Fin 32) (b : Fin 128) => gates (fun k => A1 m c (ix2 (n0 := 32) (n1 := 2048) a k)) (A2 m c) b) i0 i1

end Cert.In

end
-- ==== Proof.In.Reference.lean ====
/- The plain input projections' results at the extended reals: the same products, one after another. -/
module

public import proofs.«01_k».proof.Proof.In.Final
public import proofs.«01_k».proof.Proof.Gen.ReferenceInIdeal.Run
public import proofs.«01_k».proof.Proof.Gen.ReferenceInIdeal.Read

@[expose] public section

set_option maxRecDepth 16384

noncomputable section

namespace Cert.In.Plain

open Cert.ReferenceInIdeal Cert.ReferenceInIdeal.Gen Cert.ReferenceInIdeal.Read
open Idealize.ShloMosaic Idealize.ShloMosaic.TcCoe Idealize.ShloMosaic.Tactic

variable (x0 : Vec Ideal S8320x2048 .bf16) (x1 : Vec Ideal S32x2048 .bf16) (x2 : Vec Ideal S2048x8208 .f32)

/-- A row's product with a column of the weights, where the column is a packed one, -/
theorem dot_packed (x : Fin 2048 → EReal) {l : Fin 8208} {j : Fin 8192} (h : l.val = col j.val) :
    (∑ k : Fin 2048, x k * x2 (ix2 (n0 := 2048) (n1 := 8208) k l)) = proj x x2 j :=
  Finset.sum_congr rfl fun k _ => congrArg (x k * ·) (congrArg (fun l => x2 (ix2 (n0 := 2048) (n1 := 8208) k l)) (Fin.ext h))

/-- where it is a gate's, -/
theorem dot_gate (x : Fin 2048 → EReal) {l : Fin 8208} {j : Fin 128} (hj : j.val < 16)
    (h : l.val = (if j.val < 8 then 3072 + j.val else if j.val < 12 then 6148 + j.val else 6140 + j.val)) :
    (∑ k : Fin 2048, x k * x2 (ix2 (n0 := 2048) (n1 := 8208) k l)) = gates x x2 j :=
  Finset.sum_congr rfl fun k _ => congrArg (x k * ·) (by
    unfold gate
    rw [dif_pos hj]
    exact congrArg (fun l => x2 (ix2 (n0 := 2048) (n1 := 8208) k l)) (Fin.ext h))

/-- and beyond the sixteen gates. -/
theorem gates_zero (x : Fin 2048 → EReal) {j : Fin 128} (hj : ¬j.val < 16) : (0 : EReal) = gates x x2 j := by
  refine (Finset.sum_eq_zero fun k _ => ?_).symm
  unfold gate
  rw [dif_neg hj, mul_zero]

theorem v1_apply (i : Fin 8320) (j : Fin 8208) :
    val_main_v1 x0 x2 (ix2 (n0 := 8320) (n1 := 8208) i j)
      = ∑ k : Fin 2048, rowOf x0 i.val i.isLt k * x2 (ix2 (n0 := 2048) (n1 := 8208) k j) := by
  unfold val_main_v1 val_main_v0
  pointwise
  rfl

theorem v18_apply (i : Fin 32) (j : Fin 8208) :
    val_main_v18 x1 x2 (ix2 (n0 := 32) (n1 := 8208) i j)
      = ∑ k : Fin 2048, x1 (ix2 (n0 := 32) (n1 := 2048) i k) * x2 (ix2 (n0 := 2048) (n1 := 8208) k j) := by
  unfold val_main_v18 val_main_v17
  pointwise

theorem v34_eq : val_main_v34 x0 x2 = block 0 (by decide) x0 x2 := by
  funext i
  obtain ⟨a, b, rfl⟩ : ∃ (a : Fin 8320) (b : Fin 1024), i = ix2 (n0 := 8320) (n1 := 1024) a b := ⟨i 0, i 1, by funext k; fin_cases k <;> rfl⟩
  show _ = proj (rowOf x0 a.val (by omega)) x2 ⟨0 + b.val, by omega⟩
  have h := v1_apply x0 x2 a
  unfold val_main_v34 val_main_v2
  generalize val_main_v1 x0 x2 = y at h ⊢
  pointwise
  rw [h]
  exact dot_packed x2 _ (by simp only [col]; split_ifs <;> omega)

theorem v35_eq : val_main_v35 x0 x2 = blockReal 1024 (by decide) x0 x2 := by
  funext i
  obtain ⟨a, b, rfl⟩ : ∃ (a : Fin 8208) (b : Fin 1024), i = ix2 (n0 := 8208) (n1 := 1024) a b := ⟨i 0, i 1, by funext k; fin_cases k <;> rfl⟩
  show _ = proj (rowOf x0 a.val (by omega)) x2 ⟨1024 + b.val, by omega⟩
  have h := v1_apply x0 x2 ⟨a.val, by omega⟩
  unfold val_main_v35 val_main_v3
  generalize val_main_v1 x0 x2 = y at h ⊢
  pointwise
  rw [h]
  exact dot_packed x2 _ (by simp only [col]; split_ifs <;> omega)

theorem v36_eq : val_main_v36 x0 x2 = block 1024 (by decide) x0 x2 := by
  funext i
  obtain ⟨a, b, rfl⟩ : ∃ (a : Fin 8320) (b : Fin 1024), i = ix2 (n0 := 8320) (n1 := 1024) a b := ⟨i 0, i 1, by funext k; fin_cases k <;> rfl⟩
  show _ = proj (rowOf x0 a.val (by omega)) x2 ⟨1024 + b.val, by omega⟩
  have h := v1_apply x0 x2 a
  unfold val_main_v36 val_main_v3
  generalize val_main_v1 x0 x2 = y at h ⊢
  pointwise
  rw [h]
  exact dot_packed x2 _ (by simp only [col]; split_ifs <;> omega)

theorem v37_eq : val_main_v37 x0 x2 = blockReal 2048 (by decide) x0 x2 := by
  funext i
  obtain ⟨a, b, rfl⟩ : ∃ (a : Fin 8208) (b : Fin 1024), i = ix2 (n0 := 8208) (n1 := 1024) a b := ⟨i 0, i 1, by funext k; fin_cases k <;> rfl⟩
  show _ = proj (rowOf x0 a.val (by omega)) x2 ⟨2048 + b.val, by omega⟩
  have h := v1_apply x0 x2 ⟨a.val, by omega⟩
  unfold val_main_v37 val_main_v4
  generalize val_main_v1 x0 x2 = y at h ⊢
  pointwise
  rw [h]
  exact dot_packed x2 _ (by simp only [col]; split_ifs <;> omega)

theorem v38_eq : val_main_v38 x0 x2 = block 2048 (by decide) x0 x2 := by
  funext i
  obtain ⟨a, b, rfl⟩ : ∃ (a : Fin 8320) (b : Fin 1024), i = ix2 (n0 := 8320) (n1 := 1024) a b := ⟨i 0, i 1, by funext k; fin_cases k <;> rfl⟩
  show _ = proj (rowOf x0 a.val (by omega)) x2 ⟨2048 + b.val, by omega⟩
  have h := v1_apply x0 x2 a
  unfold val_main_v38 val_main_v4
  generalize val_main_v1 x0 x2 = y at h ⊢
  pointwise
  rw [h]
  exact dot_packed x2 _ (by simp only [col]; split_ifs <;> omega)

theorem v16_eq : val_main_v16 x0 x2 = rest x0 x2 := by
  funext i
  obtain ⟨a, b, rfl⟩ : ∃ (a : Fin 8320) (b : Fin 5120), i = ix2 (n0 := 8320) (n1 := 5120) a b := ⟨i 0, i 1, by funext k; fin_cases k <;> rfl⟩
  show _ = proj (rowOf x0 a.val (by omega)) x2 ⟨3072 + b.val, by omega⟩
  have h := v1_apply x0 x2 a
  unfold val_main_v16 val_main_v6 val_main_v7 val_main_v8 val_main_v9 val_main_v12 val_main_v13
  generalize val_main_v1 x0 x2 = y at h ⊢
  pointwise
  simp only [h]
  split_ifs <;> exact dot_packed x2 _ (by simp only [col]; split_ifs <;> omega)

theorem v15_eq : val_main_v15 x0 x2 = gateRows x0 x2 := by
  funext i
  obtain ⟨a, b, rfl⟩ : ∃ (a : Fin 8320) (b : Fin 128), i = ix2 (n0 := 8320) (n1 := 128) a b := ⟨i 0, i 1, by funext k; fin_cases k <;> rfl⟩
  show _ = gates (rowOf x0 a.val (by omega)) x2 b
  have h := v1_apply x0 x2 a
  unfold val_main_v15 val_main_v5 val_main_v10 val_main_v11 val_main_v14 val_main_cst
  generalize val_main_v1 x0 x2 = y at h ⊢
  pointwise
  simp only [h]
  split_ifs <;> first
    | exact absurd rfl ‹¬_ = _›
    | exact dot_gate x2 _ (by omega) (by simp only; split_ifs <;> omega)
    | exact gates_zero x2 _ (by omega)

theorem v39_eq : val_main_v39 x1 x2 = sampleRows x1 x2 := by
  funext i
  obtain ⟨a, b, rfl⟩ : ∃ (a : Fin 32) (b : Fin 8192), i = ix2 (n0 := 32) (n1 := 8192) a b := ⟨i 0, i 1, by funext k; fin_cases k <;> rfl⟩
  show _ = proj (fun k => x1 (ix2 (n0 := 32) (n1 := 2048) a k)) x2 b
  have h := v18_apply x1 x2 a
  unfold val_main_v39 val_main_v33 val_main_v19 val_main_v20 val_main_v21 val_main_v23 val_main_v24 val_main_v25 val_main_v26 val_main_v29 val_main_v30
  generalize val_main_v18 x1 x2 = y at h ⊢
  pointwise
  simp only [h]
  split_ifs <;> exact dot_packed x2 _ (by simp only [col]; split_ifs <;> omega)

theorem v32_eq : val_main_v32 x1 x2 = sampleGates x1 x2 := by
  funext i
  obtain ⟨a, b, rfl⟩ : ∃ (a : Fin 32) (b : Fin 128), i = ix2 (n0 := 32) (n1 := 128) a b := ⟨i 0, i 1, by funext k; fin_cases k <;> rfl⟩
  show _ = gates (fun k => x1 (ix2 (n0 := 32) (n1 := 2048) a k)) x2 b
  have h := v18_apply x1 x2 a
  unfold val_main_v32 val_main_v22 val_main_v27 val_main_v28 val_main_v31 val_main_cst_0
  generalize val_main_v18 x1 x2 = y at h ⊢
  pointwise
  simp only [h]
  split_ifs <;> first
    | exact absurd rfl ‹¬_ = _›
    | exact dot_gate x2 _ (by omega) (by simp only; split_ifs <;> omega)
    | exact gates_zero x2 _ (by omega)

end Cert.In.Plain

end
-- ==== Proof.In.Algebraic.lean ====
/- The input projections' value claim: the kernel and the plain reference end holding the same nine arrays. -/
module

public import proofs.«01_k».proof.Proof.In.Final
public import proofs.«01_k».proof.Proof.In.Reference
public import proofs.«01_k».proof.Defs
public import Idealize.ShloMosaic.Lib.Claim

@[expose] public section

noncomputable section

namespace Cert.In

open Idealize.ShloMosaic Idealize.ShloMosaic.TcCoe Idealize.SL.Sem

theorem algebraic : Cert.algebraic_KernelInIdeal_ReferenceInIdeal := by
  intro m g m' g' _ hagree
  refine ⟨fun c => block 0 (by decide) (A0 m c) (A2 m c), fun c => blockReal 1024 (by decide) (A0 m c) (A2 m c),
    fun c => block 1024 (by decide) (A0 m c) (A2 m c), fun c => blockReal 2048 (by decide) (A0 m c) (A2 m c),
    fun c => block 2048 (by decide) (A0 m c) (A2 m c), fun c => rest (A0 m c) (A2 m c), fun c => gateRows (A0 m c) (A2 m c),
    fun c => sampleRows (A1 m c) (A2 m c), fun c => sampleGates (A1 m c) (A2 m c), ?_, ?_⟩
  · refine θ_run_mono (θ_run_and (run_main m g) (frame m g)) fun r h c => ?_
    exact ⟨(h.1.out_eq c 4).trans (final4 m c), (h.1.out_eq c 5).trans (final5 m c), (h.1.out_eq c 6).trans (final6 m c),
      (h.1.out_eq c 7).trans (final7 m c), (h.1.out_eq c 8).trans (final8 m c), (h.1.out_eq c 9).trans (final9 m c),
      (h.1.out_eq c 10).trans (final10 m c), (h.1.out_eq c 11).trans (final11 m c), (h.1.out_eq c 12).trans (final12 m c), h.2.1 c⟩
  · refine θ_run_mono (Cert.ReferenceInIdeal.Value.run m' g') fun r h c => ?_
    obtain ⟨r0, r1, r2, r3, r4, r5, r6, r7, r8, hargs⟩ := h c
    refine ⟨r0.trans ?_, r1.trans ?_, r2.trans ?_, r3.trans ?_, r4.trans ?_, r5.trans ?_, r6.trans ?_, r7.trans ?_, r8.trans ?_, hargs⟩
    · refine (Cert.ReferenceInIdeal.Read.val_main_v34_eq _ _).trans ?_
      rw [Plain.v34_eq, (hagree c).1, (hagree c).2.2]
    · refine (Cert.ReferenceInIdeal.Read.val_main_v35_eq _ _).trans ?_
      rw [Plain.v35_eq, (hagree c).1, (hagree c).2.2]
    · refine (Cert.ReferenceInIdeal.Read.val_main_v36_eq _ _).trans ?_
      rw [Plain.v36_eq, (hagree c).1, (hagree c).2.2]
    · refine (Cert.ReferenceInIdeal.Read.val_main_v37_eq _ _).trans ?_
      rw [Plain.v37_eq, (hagree c).1, (hagree c).2.2]
    · refine (Cert.ReferenceInIdeal.Read.val_main_v38_eq _ _).trans ?_
      rw [Plain.v38_eq, (hagree c).1, (hagree c).2.2]
    · refine (Cert.ReferenceInIdeal.Read.val_main_v16_eq _ _).trans ?_
      rw [Plain.v16_eq, (hagree c).1, (hagree c).2.2]
    · refine (Cert.ReferenceInIdeal.Read.val_main_v15_eq _ _).trans ?_
      rw [Plain.v15_eq, (hagree c).1, (hagree c).2.2]
    · refine (Cert.ReferenceInIdeal.Read.val_main_v39_eq _ _).trans ?_
      rw [Plain.v39_eq, (hagree c).2.1, (hagree c).2.2]
    · refine (Cert.ReferenceInIdeal.Read.val_main_v32_eq _ _).trans ?_
      rw [Plain.v32_eq, (hagree c).2.1, (hagree c).2.2]

end Cert.In

end
-- ==== Proof.In.Twin.lean ====
/- The input projections as printed and the one read at the ideal instance are the same program, printed twice under two
   names: no operation was rewritten between them. The body tables are shown equal here, so the frame proved about one is
   the frame of the other. -/
module

public import proofs.«01_k».proof.Proof.In.Frame
public import proofs.«01_k».proof.Defs
public import proofs.«01_k».proof.Proof.Gen.KernelIn

@[expose] public section

noncomputable section

namespace Cert.In

open Idealize.ShloMosaic

variable {F : FTy → Type} [FloatOps F]

/-- The two prints of the kernel's body. -/
theorem body_eq : @Cert.KernelIn.cc0_in_proj F _ _ = @Cert.KernelInIdeal.cc0_in_proj F _ _ := rfl

set_option maxHeartbeats 4000000 in
/-- The two prints of the body table. -/
theorem table_eq : @Cert.KernelIn.defs₀ F _ _ = @Cert.KernelInIdeal.defs₀ F _ _ := by
  unfold Cert.KernelIn.defs₀ Cert.KernelInIdeal.defs₀
  with_unfolding_all refine congrArg Defs.onTc ?_
  funext l a
  match l, a with
  | ⟨0, _⟩, (t, s) =>
    rfl

/-- The frame of the input projections as printed. -/
theorem frame_printed : Cert.quiescent_KernelIn := fun m ρ _ => by
  have h := frame (F := Bits) m ρ
  unfold Cert.KernelIn.defs
  rw [table_eq]
  exact h

end Cert.In

end
-- ==== Proof.Out.Block.lean ====
/- The output projection's body: the block it stores, as a function of the blocks it reads. -/
module

public import proofs.«01_k».proof.Proof.Gen.KernelOutIdeal.Value
public import Idealize.ShloMosaic.Lib.Pipeline.ValueKit
public import Idealize.ShloMosaic.Lib.Pointwise
public import Idealize.ShloMosaic.PureOps.Ideal

@[expose] public section

set_option maxRecDepth 16384

noncomputable section

namespace Cert.Out

open Cert.KernelOutIdeal Cert.KernelOutIdeal.Gen
open Idealize.ShloMosaic Idealize.ShloMosaic.TcCoe Idealize.ShloMosaic.Tactic

theorem hz : (![0, 0] : Fin 2 → Nat) = fun _ => 0 := funext fun a => by fin_cases a <;> rfl

variable {F : FTy → Type} [FloatOps F]

/-- The stored block is the body's one payload of the loads of the eight input blocks. -/
theorem out_eq (c : Dev nD) (i : grid0.Coords) (a1 : Memref sig .tc .vmem S512x2048 .f32) (h1 : a1.IsWhole)
    (a2 : Memref sig .tc .vmem S512x1024 .bf16) (h2 : a2.IsWhole) (a3 : Memref sig .tc .vmem S16x1024 .bf16) (h3 : a3.IsWhole)
    (a4 : Memref sig .tc .vmem S512x1024 .bf16) (h4 : a4.IsWhole) (a5 : Memref sig .tc .vmem S16x1024 .bf16) (h5 : a5.IsWhole)
    (a6 : Memref sig .tc .vmem S1024x2048 .bf16) (h6 : a6.IsWhole) (a7 : Memref sig .tc .vmem S1024x2048 .bf16) (h7 : a7.IsWhole)
    (a8 : Memref sig .tc .vmem S1x2048 .f32) (h8 : a8.IsWhole) (a9 : Memref sig .tc .vmem S512x2048 .f32) (h9 : a9.IsWhole)
    (x0 : Vec F S512x2048 .f32) (x1 : Vec F S512x1024 .bf16) (x2 : Vec F S16x1024 .bf16) (x3 : Vec F S512x1024 .bf16)
    (x4 : Vec F S16x1024 .bf16) (x5 x6 : Vec F S1024x2048 .bf16) (x7 : Vec F S1x2048 .f32) :
    out0_A_8 c i a1 h1 a2 h2 a3 h3 a4 h4 a5 h5 a6 h6 a7 h7 a8 h8 a9 h9 x0 x1 x2 x3 x4 x5 x6 x7
      = k0_pay1 (View.ld x1 (Rect.unit ![16, 0] ![496, 1024] inb_S512x1024_S496x1024_16_0)) x2
        (View.ld x3 (Rect.unit ![16, 0] ![496, 1024] inb_S512x1024_S496x1024_16_0)) x4 x0 x5 x6 x7 := by
  unfold out0_A_8
  rw [View.read_writes_eq_canon _ _ _ (cover0_A_8 c i a1 h1 a2 h2 a3 h3 a4 h4 a5 h5 a6 h6 a7 h7 a8 h8 a9 h9 x0 x1 x2 x3 x4 x5 x6 x7)]
  unfold kernelRun0_A
  dsimp only
  rw [View.canon_unit_zero hz]
  simp only [View.readAt_eq_ld, h1.read_unread, h2.read_unread, h3.read_unread, h4.read_unread, h5.read_unread, h6.read_unread, h7.read_unread, h8.read_unread,
    View.ld_unit_zero (S := S512x2048) hz, View.ld_unit_zero (S := S1024x2048) hz, View.ld_unit_zero (S := S16x1024) hz, View.ld_unit_zero (S := S1x2048) hz]

/-- A block's rows from the seventeenth on, then the next sixteen rows. -/
def rows (f : Vec Ideal S512x1024 .bf16) (g : Vec Ideal S16x1024 .bf16) (r : Fin 512) (k : Fin 1024) : EReal :=
  if h : r.val < 496 then f (ix2 (n0 := 512) (n1 := 1024) ⟨16 + r.val, by omega⟩ k)
  else g (ix2 (n0 := 16) (n1 := 1024) ⟨r.val - 496, by omega⟩ k)

/-- The residual plus the two projections. -/
def lin (x0 : Vec Ideal S512x2048 .f32) (x1 : Vec Ideal S512x1024 .bf16) (x2 : Vec Ideal S16x1024 .bf16)
    (x3 : Vec Ideal S512x1024 .bf16) (x4 : Vec Ideal S16x1024 .bf16) (x5 x6 : Vec Ideal S1024x2048 .bf16) (r : Fin 512) (j : Fin 2048) : EReal :=
  x0 (ix2 (n0 := 512) (n1 := 2048) r j) + ∑ k : Fin 1024, rows x1 x2 r k * x5 (ix2 (n0 := 1024) (n1 := 2048) k j)
    + ∑ k : Fin 1024, rows x3 x4 r k * x6 (ix2 (n0 := 1024) (n1 := 2048) k j)

/-- An element of a row over the root of its mean square, times the gain. -/
def normed (y : Fin 2048 → EReal) (g : EReal) (j : Fin 2048) : EReal :=
  y j * Ideal.rsqrt (Ideal.div (∑ k, y k * y k) (Ideal.ofBits .f32 0x45000000#32) + Ideal.ofBits .f32 0x358637BD#32) * g

theorem pay_apply (x0 : Vec Ideal S512x2048 .f32) (x1 : Vec Ideal S512x1024 .bf16) (x2 : Vec Ideal S16x1024 .bf16)
    (x3 : Vec Ideal S512x1024 .bf16) (x4 : Vec Ideal S16x1024 .bf16) (x5 x6 : Vec Ideal S1024x2048 .bf16) (x7 : Vec Ideal S1x2048 .f32)
    (r : Fin 512) (j : Fin 2048) :
    k0_pay1 (View.ld x1 (Rect.unit ![16, 0] ![496, 1024] inb_S512x1024_S496x1024_16_0)) x2
        (View.ld x3 (Rect.unit ![16, 0] ![496, 1024] inb_S512x1024_S496x1024_16_0)) x4 x0 x5 x6 x7 (ix2 (n0 := 512) (n1 := 2048) r j)
      = normed (lin x0 x1 x2 x3 x4 x5 x6 r) (x7 (ix2 (n0 := 1) (n1 := 2048) 0 j)) j := by
  unfold k0_pay1
  pointwise
  rfl

end Cert.Out

end
-- ==== Proof.Out.Final.lean ====
/- The output projection's result array: at every row the normed sum of the residual and the two projections. -/
module

public import proofs.«01_k».proof.Proof.Out.Block

@[expose] public section

set_option maxRecDepth 16384

noncomputable section

namespace Cert.Out

open Cert.KernelOutIdeal Cert.KernelOutIdeal.Gen
open Idealize.ShloMosaic Idealize.ShloMosaic.TcCoe Idealize.ShloMosaic.Tactic
open Idealize.ShloMosaic.Pipeline (Dat Cfg Window cellOf)

variable (m : (ℓ : Loc nD τ sig) → Buf (Elt Ideal) ℓ) (c : Dev nD)

abbrev A0 : Vec Ideal S8192x2048 .f32 := m ((c : Thread nD τ).loc main_arg0)
abbrev A1 : Vec Ideal S8320x1024 .bf16 := m ((c : Thread nD τ).loc main_arg1)
abbrev A2 : Vec Ideal S8320x1024 .bf16 := m ((c : Thread nD τ).loc main_arg2)
abbrev A3 : Vec Ideal S2048x2048 .f32 := m ((c : Thread nD τ).loc main_arg3)
abbrev A4 : Vec Ideal S2048 .f32 := m ((c : Thread nD τ).loc main_arg4)

/-- The residual plus the projections of the two mixers' parts, sixteen rows on. -/
def full (x : Vec Ideal S8192x2048 .f32) (f g : Vec Ideal S8320x1024 .bf16) (w : Vec Ideal S2048x2048 .f32) (i : Fin 8192) (j : Fin 2048) : EReal :=
  x (ix2 (n0 := 8192) (n1 := 2048) i j)
    + ∑ k : Fin 1024, f (ix2 (n0 := 8320) (n1 := 1024) ⟨16 + i.val, by omega⟩ k) * w (ix2 (n0 := 2048) (n1 := 2048) ⟨k.val, by omega⟩ j)
    + ∑ k : Fin 1024, g (ix2 (n0 := 8320) (n1 := 1024) ⟨16 + i.val, by omega⟩ k) * w (ix2 (n0 := 2048) (n1 := 2048) ⟨1024 + k.val, by omega⟩ j)

/-- The layer's output rows. -/
def result (x : Vec Ideal S8192x2048 .f32) (f g : Vec Ideal S8320x1024 .bf16) (w : Vec Ideal S2048x2048 .f32) (gain : Vec Ideal S2048 .f32) :
    Vec Ideal S8192x2048 .f32 := fun i =>
  normed (full x f g w (i 0)) (gain (ix1 (n0 := 2048) (i 1))) (i 1)

theorem index_facts : ∀ t : Fin cfg0.N,
    win0_0.index t = ![t.val, 0] ∧ win0_1.index t = ![t.val, 0] ∧ win0_2.index t = ![(t.val + 1) * 32, 0] ∧ win0_3.index t = ![t.val, 0]
    ∧ win0_4.index t = ![(t.val + 1) * 32, 0] ∧ win0_5.index t = ![0, 0] ∧ win0_6.index t = ![0, 0] ∧ win0_7.index t = ![0, 0]
    ∧ win0_8.index t = ![t.val, 0] := by
  decide +kernel

theorem t_lt (t : Fin cfg0.N) : t.val < 16 := lt_of_lt_of_eq t.isLt N_0

theorem iblk_x (t : Fin cfg0.N) (r : Fin 512) (j : Fin 2048) :
    (iblk m c 0 t : Vec Ideal S512x2048 .f32) (ix2 (n0 := 512) (n1 := 2048) r j)
      = A0 m c (ix2 (n0 := 8192) (n1 := 2048) ⟨512 * t.val + r.val, by have := t_lt t; omega⟩ j) := by
  have e := (index_facts t).1
  have h := V_main_arg0 m c
  blk_ext [iblk, h, e]

theorem iblk_f (t : Fin cfg0.N) (r : Fin 16) (k : Fin 1024) :
    (iblk m c 2 t : Vec Ideal S16x1024 .bf16) (ix2 (n0 := 16) (n1 := 1024) r k)
      = A1 m c (ix2 (n0 := 8320) (n1 := 1024) ⟨512 * (t.val + 1) + r.val, by have := t_lt t; omega⟩ k) := by
  have e := (index_facts t).2.2.1
  have h := V_main_arg1 m c
  blk_ext [iblk, h, e]

theorem iblk_w (t : Fin cfg0.N) (r : Fin 1024) (k : Fin 2048) :
    (iblk m c 5 t : Vec Ideal S1024x2048 .bf16) (ix2 (n0 := 1024) (n1 := 2048) r k)
      = A3 m c (ix2 (n0 := 2048) (n1 := 2048) ⟨r.val, by omega⟩ k) := by
  have e := (index_facts t).2.2.2.2.2.1
  unfold iblk
  blk_simp
  entry_read
  pointwise
  blk_ext [e]

theorem fill_f (t : Fin cfg0.N) (r : Fin 512) (k : Fin 1024) :
    (X0_1 m c t : Vec Ideal S512x1024 .bf16) (ix2 (n0 := 512) (n1 := 1024) r k)
      = A1 m c (ix2 (n0 := 8320) (n1 := 1024) ⟨512 * t.val + r.val, by have := t_lt t; omega⟩ k) := by
  have e := (index_facts t).2.1
  have h := V_main_arg1 m c
  unfold X0_1 Pipeline.Window.fill
  rw [dif_pos (moved0_1 t _)]
  blk_ext [iblk, h, e]

theorem fill_g (t : Fin cfg0.N) (r : Fin 512) (k : Fin 1024) :
    (X0_3 m c t : Vec Ideal S512x1024 .bf16) (ix2 (n0 := 512) (n1 := 1024) r k)
      = A2 m c (ix2 (n0 := 8320) (n1 := 1024) ⟨512 * t.val + r.val, by have := t_lt t; omega⟩ k) := by
  have e := (index_facts t).2.2.2.1
  have h := V_main_arg2 m c
  unfold X0_3 Pipeline.Window.fill
  rw [dif_pos (moved0_3 t _)]
  blk_ext [iblk, h, e]

theorem iblk_g (t : Fin cfg0.N) (r : Fin 16) (k : Fin 1024) :
    (iblk m c 4 t : Vec Ideal S16x1024 .bf16) (ix2 (n0 := 16) (n1 := 1024) r k)
      = A2 m c (ix2 (n0 := 8320) (n1 := 1024) ⟨512 * (t.val + 1) + r.val, by have := t_lt t; omega⟩ k) := by
  have e := (index_facts t).2.2.2.2.1
  have h := V_main_arg2 m c
  blk_ext [iblk, h, e]

theorem iblk_wb (t : Fin cfg0.N) (r : Fin 1024) (k : Fin 2048) :
    (iblk m c 6 t : Vec Ideal S1024x2048 .bf16) (ix2 (n0 := 1024) (n1 := 2048) r k)
      = A3 m c (ix2 (n0 := 2048) (n1 := 2048) ⟨1024 + r.val, by omega⟩ k) := by
  have e := (index_facts t).2.2.2.2.2.2.1
  unfold iblk
  blk_simp
  entry_read
  pointwise
  blk_ext [e]

theorem iblk_gain (t : Fin cfg0.N) (k : Fin 2048) :
    (iblk m c 7 t : Vec Ideal S1x2048 .f32) (ix2 (n0 := 1) (n1 := 2048) 0 k) = A4 m c (ix1 (n0 := 2048) k) := by
  have e := (index_facts t).2.2.2.2.2.2.2.1
  unfold iblk
  blk_simp
  entry_read
  pointwise
  blk_ext [e]

/-- The rows a point multiplies are the rows of the whole array sixteen on. -/
theorem rows_eq {f : Vec Ideal S512x1024 .bf16} {g : Vec Ideal S16x1024 .bf16} {A : Vec Ideal S8320x1024 .bf16} {t : ℕ} (ht : t < 16)
    (hf : ∀ (r : Fin 512) (k : Fin 1024), f (ix2 (n0 := 512) (n1 := 1024) r k) = A (ix2 (n0 := 8320) (n1 := 1024) ⟨512 * t + r.val, by omega⟩ k))
    (hg : ∀ (r : Fin 16) (k : Fin 1024), g (ix2 (n0 := 16) (n1 := 1024) r k) = A (ix2 (n0 := 8320) (n1 := 1024) ⟨512 * (t + 1) + r.val, by omega⟩ k))
    (r : Fin 512) (k : Fin 1024) :
    rows f g r k = A (ix2 (n0 := 8320) (n1 := 1024) ⟨16 + (512 * t + r.val), by omega⟩ k) := by
  unfold rows
  split
  · rw [hf]; congr 2; exact Fin.ext (by show 512 * t + (16 + r.val) = 16 + (512 * t + r.val); omega)
  · rw [hg]; congr 2; exact Fin.ext (by show 512 * (t + 1) + (r.val - 496) = 16 + (512 * t + r.val); omega)

theorem lin_eq (t : Fin cfg0.N) (r : Fin 512) (j : Fin 2048) :
    lin (iblk m c 0 t) (X0_1 m c t) (iblk m c 2 t) (X0_3 m c t) (iblk m c 4 t) (iblk m c 5 t) (iblk m c 6 t) r j
      = full (A0 m c) (A1 m c) (A2 m c) (A3 m c) ⟨512 * t.val + r.val, by have := t_lt t; omega⟩ j := by
  have h1 := rows_eq (t_lt t) (fill_f m c t) (iblk_f m c t) r
  have h2 := rows_eq (t_lt t) (fill_g m c t) (iblk_g m c t) r
  unfold lin full
  simp only [h1, h2]
  refine congrArg₂ (· + ·) (congrArg₂ (· + ·) (iblk_x m c t r j) ?_) ?_
  · exact Finset.sum_congr rfl fun k _ => congrArg _ (iblk_w m c t k j)
  · exact Finset.sum_congr rfl fun k _ => congrArg _ (iblk_wb m c t k j)

theorem final8 : (dats m 0 c).arrAt 8 (cfgs 0).N = result (A0 m c) (A1 m c) (A2 m c) (A3 m c) (A4 m c) := by
  refine (dats m 0 c).arrAt_eq_of_covers 8 _ (by decide +kernel) fun t hfl y => ?_
  blk_simp
  rw [after0_8]
  simp only [outsAt0]
  rw [out_eq]
  have e := (index_facts t).2.2.2.2.2.2.2.2
  idx_vars y
  refine (pay_apply _ _ _ _ _ _ _ _ y0 y1).trans ?_
  rw [iblk_gain, funext (lin_eq m c t y0)]
  have e0 : (((cfg0.win 8).blk t).view.emb (ix2 (n0 := 512) (n1 := 2048) y0 y1) 0).val = 512 * t.val + y0.val := by
    blk_simp [e]; omega
  have e1 : (((cfg0.win 8).blk t).view.emb (ix2 (n0 := 512) (n1 := 2048) y0 y1) 1).val = y1.val := by
    blk_simp [e]
  unfold result
  have e1' : y1 = ((cfg0.win 8).blk t).view.emb (ix2 (n0 := 512) (n1 := 2048) y0 y1) 1 := Fin.ext e1.symm
  have e0' : (⟨512 * t.val + y0.val, by have := t_lt t; omega⟩ : Fin 8192) = ((cfg0.win 8).blk t).view.emb (ix2 (n0 := 512) (n1 := 2048) y0 y1) 0 := Fin.ext e0.symm
  rw [← e0', ← e1']

end Cert.Out

end
-- ==== Proof.Out.Reference.lean ====
/- The plain output projection's result at the extended reals: `result` of its arguments. -/
module

public import proofs.«01_k».proof.Proof.Out.Final
public import proofs.«01_k».proof.Proof.Gen.ReferenceOutIdeal.Run
public import proofs.«01_k».proof.Proof.Gen.ReferenceOutIdeal.Read

@[expose] public section

set_option maxRecDepth 16384

noncomputable section

namespace Cert.Out.Plain

open Cert.ReferenceOutIdeal Cert.ReferenceOutIdeal.Gen Cert.ReferenceOutIdeal.Read
open Idealize.ShloMosaic Idealize.ShloMosaic.TcCoe Idealize.ShloMosaic.Tactic

variable (x0 : Vec Ideal S8192x2048 .f32) (x1 x2 : Vec Ideal S8320x1024 .bf16) (x3 : Vec Ideal S2048x2048 .f32) (x4 : Vec Ideal S2048 .f32)

/-- The two mixers' parts side by side, the first in the first half of the columns. -/
theorem v1_left (i : Fin 8320) (k : Fin 1024) :
    val_main_v1 x1 x2 (ix2 (n0 := 8320) (n1 := 2048) i (Fin.castAdd 1024 k)) = x1 (ix2 (n0 := 8320) (n1 := 1024) i k) := by
  unfold val_main_v1 val_main_v0
  pointwise
  exact dif_pos k.isLt

theorem v1_right (i : Fin 8320) (k : Fin 1024) :
    val_main_v1 x1 x2 (ix2 (n0 := 8320) (n1 := 2048) i (Fin.natAdd 1024 k)) = x2 (ix2 (n0 := 8320) (n1 := 1024) i k) := by
  unfold val_main_v1 val_main_v0
  pointwise
  rw [dif_neg (by show ¬(1024 + k.val < 1024); omega)]
  congr 2
  exact Fin.ext (by show 1024 + k.val - 1024 = k.val; omega)

/-- The residual with the projection added. -/
theorem v4_apply (i : Fin 8192) (j : Fin 2048) :
    val_main_v4 x0 x1 x2 x3 (ix2 (n0 := 8192) (n1 := 2048) i j) = full x0 x1 x2 x3 i j := by
  have hl := v1_left x1 x2
  have hr := v1_right x1 x2
  unfold val_main_v4 val_main_v3 val_main_v2
  generalize val_main_v1 x1 x2 = y at hl hr ⊢
  pointwise
  unfold full
  rw [add_assoc]
  refine congrArg _ ((Fin.sum_univ_add (a := 1024) (b := 1024) _).trans ?_)
  refine congrArg₂ (· + ·) (Finset.sum_congr rfl fun k _ => ?_) (Finset.sum_congr rfl fun k _ => ?_)
  · rw [← hl]; rfl
  · rw [← hr]; rfl

theorem v17_eq : val_main_v17 x0 x1 x2 x3 x4 = result x0 x1 x2 x3 x4 := by
  funext i
  obtain ⟨a, b, rfl⟩ : ∃ (a : Fin 8192) (b : Fin 2048), i = ix2 (n0 := 8192) (n1 := 2048) a b := ⟨i 0, i 1, by funext k; fin_cases k <;> rfl⟩
  have h := v4_apply x0 x1 x2 x3 a
  unfold val_main_v17 val_main_v14 val_main_v16 val_main_v15 val_main_v13 val_main_v12 val_main_v11 val_main_v10 val_main_v9 val_main_v8
    val_main_v7 val_main_v6 val_main_v5 val_main_cst val_main_cst_0 val_main_cst_1
  generalize val_main_v4 x0 x1 x2 x3 = y at h ⊢
  pointwise
  simp only [h]
  rfl

end Cert.Out.Plain

end
-- ==== Proof.Out.Algebraic.lean ====
/- The output projection's value claim: the kernel and the plain reference end holding the same array, `result` of the
   arguments. -/
module

public import proofs.«01_k».proof.Proof.Out.Final
public import proofs.«01_k».proof.Proof.Out.Reference
public import proofs.«01_k».proof.Defs
public import Idealize.ShloMosaic.Lib.Claim

@[expose] public section

noncomputable section

namespace Cert.Out

open Idealize.ShloMosaic Idealize.ShloMosaic.TcCoe Idealize.SL.Sem

theorem algebraic : Cert.algebraic_KernelOutIdeal_ReferenceOutIdeal := by
  intro m g m' g' _ hagree
  refine ⟨fun c => result (A0 m c) (A1 m c) (A2 m c) (A3 m c) (A4 m c), ?_, ?_⟩
  · refine θ_run_mono (Cert.KernelOutIdeal.Value.run_blocks m g) fun r h c => ?_
    exact ⟨(h c).1.trans (final8 m c), (h c).2⟩
  · refine θ_run_mono (Cert.ReferenceOutIdeal.Value.run m' g') fun r h c => ?_
    refine ⟨(h c).1.trans ?_, (h c).2⟩
    refine (Cert.ReferenceOutIdeal.Read.val_main_v17_eq _ _ _ _ _).trans ?_
    rw [Plain.v17_eq, (hagree c).1, (hagree c).2.1, (hagree c).2.2.1, (hagree c).2.2.2.1, (hagree c).2.2.2.2]

end Cert.Out

end
-- ==== Proof.OutS.Algebraic.lean ====
/- The samples' output projection: the kernel and the plain reference end holding the same array, the normed rows of the
   residual with the two mixers' parts projected. -/
module

public import proofs.«01_k».proof.Proof.Out.Block
public import proofs.«01_k».proof.Proof.Gen.KernelOutSIdeal.Value
public import proofs.«01_k».proof.Proof.Gen.ReferenceOutSIdeal.Run
public import proofs.«01_k».proof.Proof.Gen.ReferenceOutSIdeal.Read
public import proofs.«01_k».proof.Defs
public import Idealize.ShloMosaic.Lib.Claim

@[expose] public section

set_option maxRecDepth 16384

noncomputable section

namespace Cert.OutS

open Cert.KernelOutSIdeal Cert.KernelOutSIdeal.Gen
open Idealize.ShloMosaic Idealize.ShloMosaic.TcCoe Idealize.ShloMosaic.Tactic Idealize.SL.Sem
open Cert.Out (normed hz)

/-- The residual plus the projections of the two mixers' rows. -/
def full (x : Vec Ideal S32x2048 .f32) (f g : Vec Ideal S32x1024 .f32) (w : Vec Ideal S2048x2048 .f32) (i : Fin 32) (j : Fin 2048) : EReal :=
  x (ix2 (n0 := 32) (n1 := 2048) i j)
    + ∑ k : Fin 1024, f (ix2 (n0 := 32) (n1 := 1024) i k) * w (ix2 (n0 := 2048) (n1 := 2048) ⟨k.val, by omega⟩ j)
    + ∑ k : Fin 1024, g (ix2 (n0 := 32) (n1 := 1024) i k) * w (ix2 (n0 := 2048) (n1 := 2048) ⟨1024 + k.val, by omega⟩ j)

/-- The samples' output rows. -/
def result (x : Vec Ideal S32x2048 .f32) (f g : Vec Ideal S32x1024 .f32) (w : Vec Ideal S2048x2048 .f32) (gain : Vec Ideal S2048 .f32) :
    Vec Ideal S32x2048 .f32 := fun i =>
  normed (full x f g w (i 0)) (gain (ix1 (n0 := 2048) (i 1))) (i 1)

/-- The residual plus the two products, of the blocks as the body holds them. -/
def lin (x0 : Vec Ideal S32x2048 .f32) (x1 x2 : Vec Ideal S32x1024 .f32) (x3 x4 : Vec Ideal S1024x2048 .bf16) (r : Fin 32) (j : Fin 2048) : EReal :=
  x0 (ix2 (n0 := 32) (n1 := 2048) r j) + ∑ k : Fin 1024, x1 (ix2 (n0 := 32) (n1 := 1024) r k) * x3 (ix2 (n0 := 1024) (n1 := 2048) k j)
    + ∑ k : Fin 1024, x2 (ix2 (n0 := 32) (n1 := 1024) r k) * x4 (ix2 (n0 := 1024) (n1 := 2048) k j)

/-- The stored block at an index. -/
theorem out_apply (x0 : Vec Ideal S32x2048 .f32) (x1 x2 : Vec Ideal S32x1024 .f32) (x3 x4 : Vec Ideal S1024x2048 .bf16) (x5 : Vec Ideal S1x2048 .f32)
    (r : Fin 32) (j : Fin 2048) :
    out0_6 x0 x1 x2 x3 x4 x5 (ix2 (n0 := 32) (n1 := 2048) r j)
      = normed (lin x0 x1 x2 x3 x4 r) (x5 (ix2 (n0 := 1) (n1 := 2048) 0 j)) j := by
  unfold out0_6 r0_0 r0_1 r0_2 r0_3
  rw [View.canon_unit_zero hz]
  simp only [View.ld_unit_zero (S := S32x2048) hz, View.ld_unit_zero (S := S32x1024) hz, View.ld_unit_zero (S := S1024x2048) hz, View.ld_unit_zero (S := S1x2048) hz]
  unfold k0_pay1
  pointwise
  rfl

variable (m : (ℓ : Loc nD τ sig) → Buf (Elt Ideal) ℓ) (c : Dev nD)

abbrev A0 : Vec Ideal S32x2048 .f32 := m ((c : Thread nD τ).loc main_arg0)
abbrev A1 : Vec Ideal S32x1024 .f32 := m ((c : Thread nD τ).loc main_arg1)
abbrev A2 : Vec Ideal S32x1024 .f32 := m ((c : Thread nD τ).loc main_arg2)
abbrev A3 : Vec Ideal S2048x2048 .f32 := m ((c : Thread nD τ).loc main_arg3)
abbrev A4 : Vec Ideal S2048 .f32 := m ((c : Thread nD τ).loc main_arg4)

theorem index_facts : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] := by
  decide +kernel

theorem iblk_x (t : Fin cfg0.N) (r : Fin 32) (j : Fin 2048) :
    (iblk m c 0 t : Vec Ideal S32x2048 .f32) (ix2 (n0 := 32) (n1 := 2048) r j) = A0 m c (ix2 (n0 := 32) (n1 := 2048) r j) := by
  have e := (index_facts t).1
  have h := V_main_arg0 m c
  blk_ext [iblk, h, e]

theorem iblk_f (t : Fin cfg0.N) (r : Fin 32) (k : Fin 1024) :
    (iblk m c 1 t : Vec Ideal S32x1024 .f32) (ix2 (n0 := 32) (n1 := 1024) r k) = A1 m c (ix2 (n0 := 32) (n1 := 1024) r k) := by
  have e := (index_facts t).2.1
  have h := V_main_arg1 m c
  blk_ext [iblk, h, e]

theorem iblk_g (t : Fin cfg0.N) (r : Fin 32) (k : Fin 1024) :
    (iblk m c 2 t : Vec Ideal S32x1024 .f32) (ix2 (n0 := 32) (n1 := 1024) r k) = A2 m c (ix2 (n0 := 32) (n1 := 1024) r k) := by
  have e := (index_facts t).2.2.1
  have h := V_main_arg2 m c
  blk_ext [iblk, h, e]

theorem iblk_w (t : Fin cfg0.N) (r : Fin 1024) (k : Fin 2048) :
    (iblk m c 3 t : Vec Ideal S1024x2048 .bf16) (ix2 (n0 := 1024) (n1 := 2048) r k)
      = A3 m c (ix2 (n0 := 2048) (n1 := 2048) ⟨r.val, by omega⟩ k) := by
  have e := (index_facts t).2.2.2.1
  unfold iblk
  blk_simp
  entry_read
  pointwise
  blk_ext [e]

theorem iblk_wb (t : Fin cfg0.N) (r : Fin 1024) (k : Fin 2048) :
    (iblk m c 4 t : Vec Ideal S1024x2048 .bf16) (ix2 (n0 := 1024) (n1 := 2048) r k)
      = A3 m c (ix2 (n0 := 2048) (n1 := 2048) ⟨1024 + r.val, by omega⟩ k) := by
  have e := (index_facts t).2.2.2.2.1
  unfold iblk
  blk_simp
  entry_read
  pointwise
  blk_ext [e]

theorem iblk_gain (t : Fin cfg0.N) (k : Fin 2048) :
    (iblk m c 5 t : Vec Ideal S1x2048 .f32) (ix2 (n0 := 1) (n1 := 2048) 0 k) = A4 m c (ix1 (n0 := 2048) k) := by
  have e := (index_facts t).2.2.2.2.2.1
  unfold iblk
  blk_simp
  entry_read
  pointwise
  blk_ext [e]

theorem lin_eq (t : Fin cfg0.N) (r : Fin 32) (j : Fin 2048) :
    lin (iblk m c 0 t) (iblk m c 1 t) (iblk m c 2 t) (iblk m c 3 t) (iblk m c 4 t) r j
      = full (A0 m c) (A1 m c) (A2 m c) (A3 m c) r j := by
  unfold lin full
  refine congrArg₂ (· + ·) (congrArg₂ (· + ·) (iblk_x m c t r j) ?_) ?_
  · exact Finset.sum_congr rfl fun k _ => congrArg₂ (· * ·) (iblk_f m c t r k) (iblk_w m c t k j)
  · exact Finset.sum_congr rfl fun k _ => congrArg₂ (· * ·) (iblk_g m c t r k) (iblk_wb m c t k j)

theorem final6 : (dats m 0 c).arrAt 6 (cfgs 0).N = result (A0 m c) (A1 m c) (A2 m c) (A3 m c) (A4 m c) := by
  refine (dats m 0 c).arrAt_eq_of_covers 6 _ (by decide +kernel) fun t hfl y => ?_
  blk_simp
  rw [after0_6]
  have e := (index_facts t).2.2.2.2.2.2
  idx_vars y
  refine (out_apply _ _ _ _ _ _ _ _).trans ?_
  rw [iblk_gain, funext (lin_eq m c t y0)]
  have e0 : (((cfg0.win 6).blk t).view.emb (ix2 (n0 := 32) (n1 := 2048) y0 y1) 0).val = y0.val := by
    blk_simp [e]
  have e1 : (((cfg0.win 6).blk t).view.emb (ix2 (n0 := 32) (n1 := 2048) y0 y1) 1).val = y1.val := by
    blk_simp [e]
  unfold result
  have e0' : y0 = ((cfg0.win 6).blk t).view.emb (ix2 (n0 := 32) (n1 := 2048) y0 y1) 0 := Fin.ext e0.symm
  have e1' : y1 = ((cfg0.win 6).blk t).view.emb (ix2 (n0 := 32) (n1 := 2048) y0 y1) 1 := Fin.ext e1.symm
  rw [← e0', ← e1']

namespace Plain

open Cert.ReferenceOutSIdeal.Read

variable (x0 : Vec Ideal S32x2048 .f32) (x1 x2 : Vec Ideal S32x1024 .f32) (x3 : Vec Ideal S2048x2048 .f32) (x4 : Vec Ideal S2048 .f32)

/-- The two mixers' rows side by side, the first in the first half of the columns. -/
theorem v0_left (i : Fin 32) (k : Fin 1024) :
    val_main_v0 x1 x2 (ix2 (n0 := 32) (n1 := 2048) i (Fin.castAdd 1024 k)) = x1 (ix2 (n0 := 32) (n1 := 1024) i k) := by
  unfold val_main_v0
  pointwise
  exact dif_pos k.isLt

theorem v0_right (i : Fin 32) (k : Fin 1024) :
    val_main_v0 x1 x2 (ix2 (n0 := 32) (n1 := 2048) i (Fin.natAdd 1024 k)) = x2 (ix2 (n0 := 32) (n1 := 1024) i k) := by
  unfold val_main_v0
  pointwise
  rw [dif_neg (by show ¬(1024 + k.val < 1024); omega)]
  congr 2
  exact Fin.ext (by show 1024 + k.val - 1024 = k.val; omega)

/-- The residual with the projection added. -/
theorem v2_apply (i : Fin 32) (j : Fin 2048) :
    val_main_v2 x0 x1 x2 x3 (ix2 (n0 := 32) (n1 := 2048) i j) = full x0 x1 x2 x3 i j := by
  have hl := v0_left x1 x2
  have hr := v0_right x1 x2
  unfold val_main_v2 val_main_v1
  generalize val_main_v0 x1 x2 = y at hl hr ⊢
  pointwise
  unfold full
  rw [add_assoc]
  refine congrArg _ ((Fin.sum_univ_add (a := 1024) (b := 1024) _).trans ?_)
  refine congrArg₂ (· + ·) (Finset.sum_congr rfl fun k _ => ?_) (Finset.sum_congr rfl fun k _ => ?_)
  · rw [← hl]; rfl
  · rw [← hr]; rfl

theorem v15_eq : val_main_v15 x0 x1 x2 x3 x4 = result x0 x1 x2 x3 x4 := by
  funext i
  obtain ⟨a, b, rfl⟩ : ∃ (a : Fin 32) (b : Fin 2048), i = ix2 (n0 := 32) (n1 := 2048) a b := ⟨i 0, i 1, by funext k; fin_cases k <;> rfl⟩
  have h := v2_apply x0 x1 x2 x3 a
  unfold val_main_v15 val_main_v14 val_main_v13 val_main_v12 val_main_v11 val_main_v10 val_main_v9 val_main_v8
    val_main_v7 val_main_v6 val_main_v5 val_main_v4 val_main_v3 val_main_cst val_main_cst_0 val_main_cst_1
  generalize val_main_v2 x0 x1 x2 x3 = y at h ⊢
  pointwise
  simp only [h]
  rfl

end Plain

theorem algebraic : Cert.algebraic_KernelOutSIdeal_ReferenceOutSIdeal := by
  intro m g m' g' _ hagree
  refine ⟨fun c => result (A0 m c) (A1 m c) (A2 m c) (A3 m c) (A4 m c), ?_, ?_⟩
  · refine θ_run_mono (Cert.KernelOutSIdeal.Value.run_blocks m g) fun r h c => ?_
    exact ⟨(h c).1.trans (final6 m c), (h c).2⟩
  · refine θ_run_mono (Cert.ReferenceOutSIdeal.Value.run m' g') fun r h c => ?_
    refine ⟨(h c).1.trans ?_, (h c).2⟩
    refine (Cert.ReferenceOutSIdeal.Read.val_main_v15_eq _ _ _ _ _).trans ?_
    rw [Plain.v15_eq, (hagree c).1, (hagree c).2.1, (hagree c).2.2.1, (hagree c).2.2.2.1, (hagree c).2.2.2.2]

end Cert.OutS

end
-- ==== Proof.Step.Cell.lean ====
/- One head of one sequence in the recurrent step: what the body computes from the head's slices of its blocks, and each of
   its results at an index. -/
module

public import proofs.«01_k».proof.Proof.Gen.KernelStepIdeal.Skeleton
public import Idealize.ShloMosaic.Lib.Pipeline.ValueKit
public import Idealize.ShloMosaic.Lib.Pointwise
public import Idealize.ShloMosaic.PureOps.Ideal

@[expose] public section

set_option maxRecDepth 16384

noncomputable section

namespace Cert.Step

open Cert.KernelStepIdeal Cert.KernelStepIdeal.Gen
open Idealize.ShloMosaic Idealize.ShloMosaic.TcCoe Idealize.ShloMosaic.Tactic

/-! ## The body's vectors -/

/-- The new stabilizer, from the input gate's pre-activation, the log forget gate and the old stabilizer. -/
def stabV (gi lf mp : FVec Ideal S1x1 .f32) : FVec Ideal S1x1 .f32 := maximumf (addf lf mp) gi

/-- The new token's weight. -/
def inV (gi lf mp : FVec Ideal S1x1 .f32) : FVec Ideal S1x1 .f32 := exp (subf gi (stabV gi lf mp))

/-- The old state's weight. -/
def oldV (gi lf mp : FVec Ideal S1x1 .f32) : FVec Ideal S1x1 .f32 := exp (subf (addf lf mp) (stabV gi lf mp))

/-- The scaled key. -/
def keyV (k : Vec Ideal S1x128 .f32) : FVec Ideal S1x128 .f32 :=
  mulf k (broadcast S1x128 (Scalar.ofBits .f32 0x3DB504F3#32))

/-- The weight of the new value in the read-out. -/
def scoreV (gi lf mp : FVec Ideal S1x1 .f32) (q k : Vec Ideal S1x128 .f32) : FVec Ideal S1x1 .f32 :=
  mulf (shapeCast S1x1 (multiReduction .add [1] S1 (mulf q (keyV k)) 0x00000000#32 reduces_S1x128_S1 (.inl rfl) rfl) shapeCasts_S1_S1x1)
    (inV gi lf mp)

/-- The read-out's numerator. -/
def numV (gi lf mp : FVec Ideal S1x1 .f32) (q k : Vec Ideal S1x128 .f32) (v : Vec Ideal S1x256 .f32) (C : Vec Ideal S1x1x256x128 .f32) :
    FVec Ideal S1x256 .f32 :=
  addf (mulf (broadcastTo S1x256 (scoreV gi lf mp q k) broadcasts_S1x1_S1x256) v)
    (mulf (broadcastTo S1x256 (oldV gi lf mp) broadcasts_S1x1_S1x256)
      (matmul dot_S1x128_S256x128_S1x256_1_1_0_0_n_n none (truncf .bf16 q bitsLt_bf16_f32)
        (truncf .bf16 (shapeCast S256x128 C shapeCasts_S1x1x256x128_S256x128) bitsLt_bf16_f32) (constant S1x256 .f32 0x00000000#32)))

/-- The read-out's denominator, before its lower bound. -/
def denV (gi lf mp : FVec Ideal S1x1 .f32) (q k : Vec Ideal S1x128 .f32) (n : Vec Ideal S1x1x128 .f32) : FVec Ideal S1x1 .f32 :=
  addf (scoreV gi lf mp q k)
    (mulf (oldV gi lf mp) (shapeCast S1x1 (multiReduction .add [1] S1 (mulf q (shapeCast S1x128 n shapeCasts_S1x1x128_S1x128))
      0x00000000#32 reduces_S1x128_S1 (.inl rfl) rfl) shapeCasts_S1_S1x1))

/-- The read-out. -/
def readV (gi lf mp : FVec Ideal S1x1 .f32) (q k : Vec Ideal S1x128 .f32) (v : Vec Ideal S1x256 .f32) (C : Vec Ideal S1x1x256x128 .f32)
    (n : Vec Ideal S1x1x128 .f32) : FVec Ideal S1x256 .f32 :=
  divf (numV gi lf mp q k v C)
    (broadcastTo S1x256 (maximumf (absf (denV gi lf mp q k n))
      (exp (subf (broadcast S1x1 (Scalar.ofBits .f32 0x00000000#32)) (stabV gi lf mp)))) broadcasts_S1x1_S1x256)

/-- The new matrix memory. -/
def memV (gi lf mp : FVec Ideal S1x1 .f32) (k : Vec Ideal S1x128 .f32) (v : Vec Ideal S1x256 .f32) (C : Vec Ideal S1x1x256x128 .f32) :
    FVec Ideal S1x1x256x128 .f32 :=
  shapeCast S1x1x256x128
    (addf (mulf (broadcastTo S256x128 (oldV gi lf mp) broadcasts_S1x1_S256x128) (shapeCast S256x128 C shapeCasts_S1x1x256x128_S256x128))
      (matmul dot_S128x256_S128x128_S256x128_0_0_1_1_n_n none
        (truncf .bf16 (select (broadcastTo S128x256 (shapeCast S128x1 k0_pay6 shapeCasts_S128x1_S128x1) broadcasts_S128x1_S128x256)
          (broadcastTo S128x256 (shapeCast S1x256 (mulf v (broadcastTo S1x256 (inV gi lf mp) broadcasts_S1x1_S1x256)) shapeCasts_S1x256_S1x256)
            broadcasts_S1x256_S128x256)
          (broadcast S128x256 (Scalar.ofBits .f32 0x00000000#32))) bitsLt_bf16_f32)
        (truncf .bf16 (broadcastTo S128x128 (shapeCast S1x128 (keyV k) shapeCasts_S1x128_S1x128) broadcasts_S1x128_S128x128) bitsLt_bf16_f32)
        (constant S256x128 .f32 0x00000000#32)))
    shapeCasts_S256x128_S1x1x256x128

/-- The new normalizer. -/
def norV (gi lf mp : FVec Ideal S1x1 .f32) (k : Vec Ideal S1x128 .f32) (n : Vec Ideal S1x1x128 .f32) : FVec Ideal S1x1x128 .f32 :=
  shapeCast S1x1x128
    (addf (mulf (broadcastTo S1x128 (oldV gi lf mp) broadcasts_S1x1_S1x128) (shapeCast S1x128 n shapeCasts_S1x1x128_S1x128))
      (mulf (broadcastTo S1x128 (inV gi lf mp) broadcasts_S1x1_S1x128) (keyV k)))
    shapeCasts_S1x128_S1x1x128

/-- The logistic function. -/
def sigV (z : Vec Ideal S1x256 .f32) : FVec Ideal S1x256 .f32 :=
  divf (broadcast S1x256 (Scalar.ofBits .f32 0x3F800000#32))
    (addf (broadcast S1x256 (Scalar.ofBits .f32 0x3F800000#32)) (exp (subf (broadcast S1x256 (Scalar.ofBits .f32 0x00000000#32)) z)))

/-- The head's output: the read-out normed, with its gain, under the two output gates. -/
def outV (h : FVec Ideal S1x256 .f32) (gain z o : Vec Ideal S1x256 .f32) : FVec Ideal S1x256 .f32 :=
  mulf (mulf (mulf z (sigV z)) (sigV o))
    (mulf (mulf h (broadcastTo S1x256 (rsqrt (addf (divf (shapeCast S1x1 (multiReduction .add [1] S1 (mulf h h) 0x00000000#32
        reduces_S1x256_S1 (.inl rfl) rfl) shapeCasts_S1_S1x1) (broadcast S1x1 (Scalar.ofBits .f32 0x43800000#32)))
        (broadcast S1x1 (Scalar.ofBits .f32 0x358637BD#32)))) broadcasts_S1x1_S1x256))
      (shapeCast S1x256 gain shapeCasts_S1x256_S1x256))

end Cert.Step

end
-- ==== Proof.Step.Read.lean ====
/- The recurrent step's mathematics: what one head of one sequence computes, as numbers, and the body's vectors at an index. -/
module

public import proofs.«01_k».proof.Proof.Step.Cell

@[expose] public section

set_option maxRecDepth 16384

noncomputable section

namespace Cert.Step

open Cert.KernelStepIdeal Cert.KernelStepIdeal.Gen
open Idealize.ShloMosaic Idealize.ShloMosaic.TcCoe Idealize.ShloMosaic.Tactic

/-! ## One head as numbers -/

/-- The logarithm of the logistic function. -/
def logSig (x : EReal) : EReal := min x 0 - Ideal.log1p (Ideal.exp (0 - FloatOps.absf (F := Ideal) (φ := .f32) x))

/-- The logistic function. -/
def sigm (x : EReal) : EReal := Ideal.div 1 (1 + Ideal.exp (0 - x))

/-- A number times its logistic. -/
def silu (x : EReal) : EReal := x * sigm x

/-- The new stabilizer, from the input gate's pre-activation, the log forget gate and the old stabilizer. -/
def stab (gi lf mp : EReal) : EReal := max (lf + mp) gi

/-- The new token's weight and the old state's. -/
def wNew (gi lf mp : EReal) : EReal := Ideal.exp (gi - stab gi lf mp)
def wOld (gi lf mp : EReal) : EReal := Ideal.exp (lf + mp - stab gi lf mp)

/-- The scaled key. -/
def key (k : EReal) : EReal := k * Ideal.ofBits FTy.f32 0x3DB504F3#32

/-- The new value's weight in the read-out. -/
def score (gi lf mp : EReal) (q k : Fin 128 → EReal) : EReal := (∑ x, q x * key (k x)) * wNew gi lf mp

/-- The read-out of one component. -/
def readout (gi lf mp : EReal) (q k : Fin 128 → EReal) (v : EReal) (C n : Fin 128 → EReal) : EReal :=
  Ideal.div (score gi lf mp q k * v + wOld gi lf mp * ∑ x, q x * C x)
    (max (FloatOps.absf (F := Ideal) (φ := .f32) (score gi lf mp q k + wOld gi lf mp * ∑ x, q x * n x)) (Ideal.exp (0 - stab gi lf mp)))

/-- The new matrix memory and the new normalizer. -/
def mem (gi lf mp k v C : EReal) : EReal := wOld gi lf mp * C + v * wNew gi lf mp * key k
def nor (gi lf mp k n : EReal) : EReal := wOld gi lf mp * n + wNew gi lf mp * key k

/-- The head's output: the read-out normed, with its gain, under the two output gates. -/
def gated (h : Fin 256 → EReal) (gain z o : EReal) (j : Fin 256) : EReal :=
  silu z * sigm o
    * (h j * Ideal.rsqrt (Ideal.div (∑ x, h x * h x) (Ideal.ofBits FTy.f32 0x43800000#32) + Ideal.ofBits FTy.f32 0x358637BD#32) * gain)

/-! ## The body's vectors at an index -/

theorem stabV_apply (gi lf mp : FVec Ideal S1x1 .f32) :
    stabV gi lf mp (ix2 (n0 := 1) (n1 := 1) 0 0)
      = stab (gi (ix2 (n0 := 1) (n1 := 1) 0 0)) (lf (ix2 (n0 := 1) (n1 := 1) 0 0)) (mp (ix2 (n0 := 1) (n1 := 1) 0 0)) := by
  unfold stabV
  pointwise
  rfl

theorem inV_apply (gi lf mp : FVec Ideal S1x1 .f32) :
    inV gi lf mp (ix2 (n0 := 1) (n1 := 1) 0 0)
      = wNew (gi (ix2 (n0 := 1) (n1 := 1) 0 0)) (lf (ix2 (n0 := 1) (n1 := 1) 0 0)) (mp (ix2 (n0 := 1) (n1 := 1) 0 0)) := by
  unfold inV stabV
  pointwise
  rfl

theorem oldV_apply (gi lf mp : FVec Ideal S1x1 .f32) :
    oldV gi lf mp (ix2 (n0 := 1) (n1 := 1) 0 0)
      = wOld (gi (ix2 (n0 := 1) (n1 := 1) 0 0)) (lf (ix2 (n0 := 1) (n1 := 1) 0 0)) (mp (ix2 (n0 := 1) (n1 := 1) 0 0)) := by
  unfold oldV stabV
  pointwise
  rfl

theorem readV_apply (gi lf mp : FVec Ideal S1x1 .f32) (q k : Vec Ideal S1x128 .f32) (v : Vec Ideal S1x256 .f32) (C : Vec Ideal S1x1x256x128 .f32)
    (n : Vec Ideal S1x1x128 .f32) (j : Fin 256) :
    readV gi lf mp q k v C n (ix2 (n0 := 1) (n1 := 256) 0 j)
      = readout (gi (ix2 (n0 := 1) (n1 := 1) 0 0)) (lf (ix2 (n0 := 1) (n1 := 1) 0 0)) (mp (ix2 (n0 := 1) (n1 := 1) 0 0))
        (fun x => q (ix2 (n0 := 1) (n1 := 128) 0 x)) (fun x => k (ix2 (n0 := 1) (n1 := 128) 0 x)) (v (ix2 (n0 := 1) (n1 := 256) 0 j))
        (fun x => C (ix4 (n0 := 1) (n1 := 1) (n2 := 256) (n3 := 128) 0 0 j x)) (fun x => n (ix3 (n0 := 1) (n1 := 1) (n2 := 128) 0 0 x)) := by
  have ha := stabV_apply gi lf mp
  have hb := inV_apply gi lf mp
  have hc := oldV_apply gi lf mp
  unfold readV numV denV scoreV keyV
  generalize stabV gi lf mp = a at ha ⊢
  generalize inV gi lf mp = b at hb ⊢
  generalize oldV gi lf mp = c at hc ⊢
  pointwise
  rw [ha, hb, hc]
  rfl

/-- Of a sum of which only the first summand is not dropped, the first summand is left. -/
theorem sum_first (t : EReal) :
    (∑ x : Fin 128, Scalar.select (IntOp.cmpi CmpIPredicate.eq (BitVec.ofNat 32 x.val) 0#32) t 0) = t := by
  rw [Finset.sum_eq_single_of_mem (0 : Fin 128) (Finset.mem_univ _)]
  · rfl
  · intro x _ hx
    have h : ∀ x : Fin 128, x ≠ 0 → IntOp.cmpi CmpIPredicate.eq (BitVec.ofNat 32 x.val) 0#32 = 0#1 := by decide
    rw [h x hx]
    rfl

theorem memV_apply (gi lf mp : FVec Ideal S1x1 .f32) (k : Vec Ideal S1x128 .f32) (v : Vec Ideal S1x256 .f32) (C : Vec Ideal S1x1x256x128 .f32)
    (a : Fin 256) (d : Fin 128) :
    memV gi lf mp k v C (ix4 (n0 := 1) (n1 := 1) (n2 := 256) (n3 := 128) 0 0 a d)
      = mem (gi (ix2 (n0 := 1) (n1 := 1) 0 0)) (lf (ix2 (n0 := 1) (n1 := 1) 0 0)) (mp (ix2 (n0 := 1) (n1 := 1) 0 0))
        (k (ix2 (n0 := 1) (n1 := 128) 0 d)) (v (ix2 (n0 := 1) (n1 := 256) 0 a))
        (C (ix4 (n0 := 1) (n1 := 1) (n2 := 256) (n3 := 128) 0 0 a d)) := by
  have hb := inV_apply gi lf mp
  have hc := oldV_apply gi lf mp
  unfold memV keyV k0_pay6
  generalize inV gi lf mp = b at hb ⊢
  generalize oldV gi lf mp = c at hc ⊢
  pointwise
  rw [sum_first, hb, hc]
  rfl

theorem norV_apply (gi lf mp : FVec Ideal S1x1 .f32) (k : Vec Ideal S1x128 .f32) (n : Vec Ideal S1x1x128 .f32) (d : Fin 128) :
    norV gi lf mp k n (ix3 (n0 := 1) (n1 := 1) (n2 := 128) 0 0 d)
      = nor (gi (ix2 (n0 := 1) (n1 := 1) 0 0)) (lf (ix2 (n0 := 1) (n1 := 1) 0 0)) (mp (ix2 (n0 := 1) (n1 := 1) 0 0))
        (k (ix2 (n0 := 1) (n1 := 128) 0 d)) (n (ix3 (n0 := 1) (n1 := 1) (n2 := 128) 0 0 d)) := by
  have hb := inV_apply gi lf mp
  have hc := oldV_apply gi lf mp
  unfold norV keyV
  generalize inV gi lf mp = b at hb ⊢
  generalize oldV gi lf mp = c at hc ⊢
  pointwise
  rw [hb, hc]
  rfl

theorem outV_apply (h : FVec Ideal S1x256 .f32) (gain z o : Vec Ideal S1x256 .f32) (j : Fin 256) :
    outV h gain z o (ix2 (n0 := 1) (n1 := 256) 0 j)
      = gated (fun x => h (ix2 (n0 := 1) (n1 := 256) 0 x)) (gain (ix2 (n0 := 1) (n1 := 256) 0 j)) (z (ix2 (n0 := 1) (n1 := 256) 0 j))
        (o (ix2 (n0 := 1) (n1 := 256) 0 j)) j := by
  unfold outV sigV
  pointwise
  rfl

/-! ## The log forget gates and the other mixer's gated rows -/

theorem lf_apply (v0 : Vec Ideal S8x128 .f32) (v1 : Vec Ideal S1x128 .f32) (r : Fin 8) (j : Fin 128) :
    k0_pay3 v0 v1 (ix2 (n0 := 8) (n1 := 128) r j)
      = logSig (v0 (ix2 (n0 := 8) (n1 := 128) r j) + v1 (ix2 (n0 := 1) (n1 := 128) 0 j)) := by
  unfold k0_pay3 k0_pay2
  pointwise
  rfl

theorem gi_apply (v0 : Vec Ideal S8x128 .f32) (v1 : Vec Ideal S1x128 .f32) (r : Fin 8) (j : Fin 128) :
    k0_pay2 v0 v1 (ix2 (n0 := 8) (n1 := 128) r j) = v0 (ix2 (n0 := 8) (n1 := 128) r j) + v1 (ix2 (n0 := 1) (n1 := 128) 0 j) := by
  unfold k0_pay2
  pointwise

theorem fox_apply (v15 v24 : Vec Ideal S8x1024 .f32) (r : Fin 8) (j : Fin 1024) :
    k0_pay5 v15 v24 (ix2 (n0 := 8) (n1 := 1024) r j)
      = silu (v15 (ix2 (n0 := 8) (n1 := 1024) r j)) * v24 (ix2 (n0 := 8) (n1 := 1024) r j) := by
  unfold k0_pay5
  pointwise
  rfl

end Cert.Step

end
-- ==== Proof.Step.Pieces.lean ====
/- The recurrent step's four tiled results: the thirty-two stores are one family over the sequence and the head. -/
module

public import proofs.«01_k».proof.Proof.Step.Cell
public import proofs.«01_k».proof.Proof.Gen.KernelStepIdeal.Frame

@[expose] public section

set_option maxRecDepth 16384

noncomputable section

namespace Cert.Step

open Cert.KernelStepIdeal Cert.KernelStepIdeal.Gen
open Idealize.ShloMosaic Idealize.ShloMosaic.TcCoe Idealize.ShloMosaic.Tactic

/-- The sequence and the head of a store, the last one first. -/
abbrev sq (i : Fin 32) : Nat := 7 - i.val / 4
abbrev hd (i : Fin 32) : Nat := 3 - i.val % 4

theorem in_q : ∀ (i : Fin 32) (a : Fin 2), (![sq i, 128 * hd i] : Fin 2 → Nat) a + S1x128.size a ≤ S8x1024.size a := by decide
theorem in_k : ∀ (i : Fin 32) (a : Fin 2), (![sq i, 512 + 128 * hd i] : Fin 2 → Nat) a + S1x128.size a ≤ S8x1024.size a := by decide
theorem in_v : ∀ (i : Fin 32) (a : Fin 2), (![sq i, 256 * hd i] : Fin 2 → Nat) a + S1x256.size a ≤ S8x1024.size a := by decide
theorem in_g : ∀ (i : Fin 32) (a : Fin 2), (![0, 256 * hd i] : Fin 2 → Nat) a + S1x256.size a ≤ S1x1024.size a := by decide
theorem in_m : ∀ (i : Fin 32) (a : Fin 2), (![sq i, hd i] : Fin 2 → Nat) a + S1x1.size a ≤ S8x4.size a := by decide
theorem in_C : ∀ (i : Fin 32) (a : Fin 4), (![sq i, hd i, 0, 0] : Fin 4 → Nat) a + S1x1x256x128.size a ≤ S8x4x256x128.size a := by decide
theorem in_n : ∀ (i : Fin 32) (a : Fin 3), (![sq i, hd i, 0] : Fin 3 → Nat) a + S1x1x128.size a ≤ S8x4x128.size a := by decide
theorem sl_i : ∀ i : Fin 32, S8x128.Slices ![sq i, 12 + hd i] S1x1 := by decide
theorem sl_f : ∀ i : Fin 32, S8x128.Slices ![sq i, 8 + hd i] S1x1 := by decide

section

variable (x0 x1 x2 x3 x4 : Vec Ideal S8x1024 .f32) (x5 : Vec Ideal S8x128 .f32) (x6 : Vec Ideal S1x128 .f32) (x7 : Vec Ideal S8x1024 .f32)
  (x8 : Vec Ideal S1x1024 .f32) (x9 : Vec Ideal S8x4x256x128 .f32) (x10 : Vec Ideal S8x4x128 .f32) (x11 : Vec Ideal S8x4 .f32) (i : Fin 32)

/-- The head's slices of the blocks. -/
abbrev giS : FVec Ideal S1x1 .f32 := extractStridedSlice S1x1 ![sq i, 12 + hd i] (k0_pay2 (View.ld x5 r0_0) (View.ld x6 r0_1)) (sl_i i)
abbrev lfS : FVec Ideal S1x1 .f32 := extractStridedSlice S1x1 ![sq i, 8 + hd i] (k0_pay3 (View.ld x5 r0_0) (View.ld x6 r0_1)) (sl_f i)
abbrev mS : Vec Ideal S1x1 .f32 := View.ld x11 (Rect.unit ![sq i, hd i] S1x1.size (in_m i))
abbrev qS : Vec Ideal S1x128 .f32 := View.ld x0 (Rect.unit ![sq i, 128 * hd i] S1x128.size (in_q i))
abbrev kS : Vec Ideal S1x128 .f32 := View.ld x0 (Rect.unit ![sq i, 512 + 128 * hd i] S1x128.size (in_k i))
abbrev vS (x : Vec Ideal S8x1024 .f32) : Vec Ideal S1x256 .f32 := View.ld x (Rect.unit ![sq i, 256 * hd i] S1x256.size (in_v i))
abbrev gS : Vec Ideal S1x256 .f32 := View.ld x8 (Rect.unit ![0, 256 * hd i] S1x256.size (in_g i))
abbrev CS : Vec Ideal S1x1x256x128 .f32 := View.ld x9 (Rect.unit ![sq i, hd i, 0, 0] S1x1x256x128.size (in_C i))
abbrev nS : Vec Ideal S1x1x128 .f32 := View.ld x10 (Rect.unit ![sq i, hd i, 0] S1x1x128.size (in_n i))

theorem out14 : out0_14 x0 x1 x2 x3 x4 x5 x6 x7 x8 x9 x10 x11
    = View.canon (List.ofFn fun i : Fin 32 => (⟨Rect.unit ![sq i, hd i] S1x1.size (in_m i), stabV (giS x5 x6 i) (lfS x5 x6 i) (mS x11 i)⟩ : View.Piece (Elt Ideal) S8x4 .f32)) := by
  rfl

theorem out13 : out0_13 x0 x1 x2 x3 x4 x5 x6 x7 x8 x9 x10 x11
    = View.canon (List.ofFn fun i : Fin 32 => (⟨Rect.unit ![sq i, hd i, 0] S1x1x128.size (in_n i),
        norV (giS x5 x6 i) (lfS x5 x6 i) (mS x11 i) (kS x0 i) (nS x10 i)⟩ : View.Piece (Elt Ideal) S8x4x128 .f32)) := by
  rfl

theorem out12 : out0_12 x0 x1 x2 x3 x4 x5 x6 x7 x8 x9 x10 x11
    = View.canon (List.ofFn fun i : Fin 32 => (⟨Rect.unit ![sq i, hd i, 0, 0] S1x1x256x128.size (in_C i),
        memV (giS x5 x6 i) (lfS x5 x6 i) (mS x11 i) (kS x0 i) (vS i x1) (CS x9 i)⟩ : View.Piece (Elt Ideal) S8x4x256x128 .f32)) := by
  rfl

theorem out17 : out0_17 x0 x1 x2 x3 x4 x5 x6 x7 x8 x9 x10 x11
    = View.canon (List.ofFn fun i : Fin 32 => (⟨Rect.unit ![sq i, 256 * hd i] S1x256.size (in_v i),
        outV (readV (giS x5 x6 i) (lfS x5 x6 i) (mS x11 i) (qS x0 i) (kS x0 i) (vS i x1) (CS x9 i) (nS x10 i)) (gS x8 i) (vS i x3) (vS i x2)⟩
          : View.Piece (Elt Ideal) S8x1024 .f32)) := by
  rfl

end

end Cert.Step

end
-- ==== Proof.Step.Block.lean ====
/- The recurrent step's results of one block of eight sequences, at an index, from the blocks the body reads. -/
module

public import proofs.«01_k».proof.Proof.Step.Read
public import proofs.«01_k».proof.Proof.Step.Pieces

@[expose] public section

set_option maxRecDepth 16384

noncomputable section

namespace Cert.Step

open Cert.KernelStepIdeal Cert.KernelStepIdeal.Gen
open Idealize.ShloMosaic Idealize.ShloMosaic.TcCoe Idealize.ShloMosaic.Tactic

theorem hz : (![0, 0] : Fin 2 → Nat) = fun _ => 0 := funext fun a => by fin_cases a <;> rfl

theorem exists_cell : ∀ (r : Fin 8) (h : Fin 4), ∃ i : Fin 32, sq i = r.val ∧ hd i = h.val := by decide

variable (x0 x1 x2 x3 x4 : Vec Ideal S8x1024 .f32) (x5 : Vec Ideal S8x128 .f32) (x6 : Vec Ideal S1x128 .f32) (x7 : Vec Ideal S8x1024 .f32)
  (x8 : Vec Ideal S1x1024 .f32) (x9 : Vec Ideal S8x4x256x128 .f32) (x10 : Vec Ideal S8x4x128 .f32) (x11 : Vec Ideal S8x4 .f32)

/-- A head's input gate and log forget gate. -/
def giB (r : Fin 8) (h : Fin 4) : EReal :=
  x5 (ix2 (n0 := 8) (n1 := 128) r ⟨12 + h.val, by omega⟩) + x6 (ix2 (n0 := 1) (n1 := 128) 0 ⟨12 + h.val, by omega⟩)
def lfB (r : Fin 8) (h : Fin 4) : EReal :=
  logSig (x5 (ix2 (n0 := 8) (n1 := 128) r ⟨8 + h.val, by omega⟩) + x6 (ix2 (n0 := 1) (n1 := 128) 0 ⟨8 + h.val, by omega⟩))

section

variable {i : Fin 32} {r : Fin 8} {h : Fin 4} (hr : sq i = r.val) (hh : hd i = h.val)
include hr hh

theorem giS_apply : giS x5 x6 i (ix2 (n0 := 1) (n1 := 1) 0 0) = giB x5 x6 r h := by
  refine (extractStridedSlice_apply _ _ (sl_i i) _ (ix2 (n0 := 8) (n1 := 128) r ⟨12 + h.val, by omega⟩) fun a => match a with
    | ⟨0, _⟩ => by show r.val = sq i + 0; omega
    | ⟨1, _⟩ => by show 12 + h.val = 12 + hd i + 0; omega).trans ?_
  rw [gi_apply, View.ld_unit_zero (S := S8x128) hz, View.ld_unit_zero (S := S1x128) hz]
  rfl

theorem lfS_apply : lfS x5 x6 i (ix2 (n0 := 1) (n1 := 1) 0 0) = lfB x5 x6 r h := by
  refine (extractStridedSlice_apply _ _ (sl_f i) _ (ix2 (n0 := 8) (n1 := 128) r ⟨8 + h.val, by omega⟩) fun a => match a with
    | ⟨0, _⟩ => by show r.val = sq i + 0; omega
    | ⟨1, _⟩ => by show 8 + h.val = 8 + hd i + 0; omega).trans ?_
  rw [lf_apply, View.ld_unit_zero (S := S8x128) hz, View.ld_unit_zero (S := S1x128) hz]
  rfl

theorem mS_apply : mS x11 i (ix2 (n0 := 1) (n1 := 1) 0 0) = x11 (ix2 (n0 := 8) (n1 := 4) r h) :=
  View.ld_unit_apply_of _ _ _ _ _ _ fun a => match a with
    | ⟨0, _⟩ => by show r.val = sq i + 0; omega
    | ⟨1, _⟩ => by show h.val = hd i + 0; omega

theorem qS_apply (d : Fin 128) :
    qS x0 i (ix2 (n0 := 1) (n1 := 128) 0 d) = x0 (ix2 (n0 := 8) (n1 := 1024) r ⟨128 * h.val + d.val, by omega⟩) :=
  View.ld_unit_apply_of _ _ _ _ _ _ fun a => match a with
    | ⟨0, _⟩ => by show r.val = sq i + 0; omega
    | ⟨1, _⟩ => by show 128 * h.val + d.val = 128 * hd i + d.val; rw [hh]

theorem kS_apply (d : Fin 128) :
    kS x0 i (ix2 (n0 := 1) (n1 := 128) 0 d) = x0 (ix2 (n0 := 8) (n1 := 1024) r ⟨512 + 128 * h.val + d.val, by omega⟩) :=
  View.ld_unit_apply_of _ _ _ _ _ _ fun a => match a with
    | ⟨0, _⟩ => by show r.val = sq i + 0; omega
    | ⟨1, _⟩ => by show 512 + 128 * h.val + d.val = 512 + 128 * hd i + d.val; rw [hh]

theorem vS_apply (x : Vec Ideal S8x1024 .f32) (a : Fin 256) :
    vS i x (ix2 (n0 := 1) (n1 := 256) 0 a) = x (ix2 (n0 := 8) (n1 := 1024) r ⟨256 * h.val + a.val, by omega⟩) :=
  View.ld_unit_apply_of _ _ _ _ _ _ fun b => match b with
    | ⟨0, _⟩ => by show r.val = sq i + 0; omega
    | ⟨1, _⟩ => by show 256 * h.val + a.val = 256 * hd i + a.val; rw [hh]

theorem gS_apply (a : Fin 256) :
    gS x8 i (ix2 (n0 := 1) (n1 := 256) 0 a) = x8 (ix2 (n0 := 1) (n1 := 1024) 0 ⟨256 * h.val + a.val, by omega⟩) :=
  View.ld_unit_apply_of _ _ _ _ _ _ fun b => match b with
    | ⟨0, _⟩ => rfl
    | ⟨1, _⟩ => by show 256 * h.val + a.val = 256 * hd i + a.val; rw [hh]

theorem CS_apply (a : Fin 256) (d : Fin 128) :
    CS x9 i (ix4 (n0 := 1) (n1 := 1) (n2 := 256) (n3 := 128) 0 0 a d) = x9 (ix4 (n0 := 8) (n1 := 4) (n2 := 256) (n3 := 128) r h a d) :=
  View.ld_unit_apply_of _ _ _ _ _ _ fun b => match b with
    | ⟨0, _⟩ => by show r.val = sq i + 0; omega
    | ⟨1, _⟩ => by show h.val = hd i + 0; omega
    | ⟨2, _⟩ => by show a.val = 0 + a.val; omega
    | ⟨3, _⟩ => by show d.val = 0 + d.val; omega

theorem nS_apply (d : Fin 128) :
    nS x10 i (ix3 (n0 := 1) (n1 := 1) (n2 := 128) 0 0 d) = x10 (ix3 (n0 := 8) (n1 := 4) (n2 := 128) r h d) :=
  View.ld_unit_apply_of _ _ _ _ _ _ fun b => match b with
    | ⟨0, _⟩ => by show r.val = sq i + 0; omega
    | ⟨1, _⟩ => by show h.val = hd i + 0; omega
    | ⟨2, _⟩ => by show d.val = 0 + d.val; omega

end

/-- The block's new stabilizers. -/
theorem out14_apply (r : Fin 8) (h : Fin 4) :
    out0_14 x0 x1 x2 x3 x4 x5 x6 x7 x8 x9 x10 x11 (ix2 (n0 := 8) (n1 := 4) r h)
      = stab (giB x5 x6 r h) (lfB x5 x6 r h) (x11 (ix2 (n0 := 8) (n1 := 4) r h)) := by
  rw [out14]
  refine View.canon_ofFn_unit_eq_of_forall (S := S8x4) (fun i => ![sq i, hd i]) S1x1.size in_m _ _ _ ?_ fun i x hx => ?_
  · obtain ⟨i, hr, hh⟩ := exists_cell r h
    refine ⟨i, fun a => match a with
      | ⟨0, _⟩ => by show sq i ≤ r.val ∧ r.val < sq i + 1; omega
      | ⟨1, _⟩ => by show hd i ≤ h.val ∧ h.val < hd i + 1; omega⟩
  · have h0 : (x 0).val < 1 := (x 0).isLt
    have h1 : (x 1).val < 1 := (x 1).isLt
    have e0 : r.val = sq i + (x 0).val := hx 0
    have e1 : h.val = hd i + (x 1).val := hx 1
    have hr : sq i = r.val := by omega
    have hh : hd i = h.val := by omega
    have e : x = ix2 (n0 := 1) (n1 := 1) 0 0 := by
      funext a; exact Fin.ext (match a with
        | ⟨0, _⟩ => by show (x 0).val = 0; omega
        | ⟨1, _⟩ => by show (x 1).val = 0; omega)
    rw [e, stabV_apply, giS_apply x5 x6 hr hh, lfS_apply x5 x6 hr hh, mS_apply x11 hr hh]

/-- The block's new normalizers. -/
theorem out13_apply (r : Fin 8) (h : Fin 4) (d : Fin 128) :
    out0_13 x0 x1 x2 x3 x4 x5 x6 x7 x8 x9 x10 x11 (ix3 (n0 := 8) (n1 := 4) (n2 := 128) r h d)
      = nor (giB x5 x6 r h) (lfB x5 x6 r h) (x11 (ix2 (n0 := 8) (n1 := 4) r h))
        (x0 (ix2 (n0 := 8) (n1 := 1024) r ⟨512 + 128 * h.val + d.val, by omega⟩)) (x10 (ix3 (n0 := 8) (n1 := 4) (n2 := 128) r h d)) := by
  rw [out13]
  refine View.canon_ofFn_unit_eq_of_forall (S := S8x4x128) (fun i => ![sq i, hd i, 0]) S1x1x128.size in_n _ _ _ ?_ fun i x hx => ?_
  · obtain ⟨i, hr, hh⟩ := exists_cell r h
    refine ⟨i, fun a => match a with
      | ⟨0, _⟩ => by show sq i ≤ r.val ∧ r.val < sq i + 1; omega
      | ⟨1, _⟩ => by show hd i ≤ h.val ∧ h.val < hd i + 1; omega
      | ⟨2, _⟩ => by show 0 ≤ d.val ∧ d.val < 0 + 128; omega⟩
  · have h0 : (x 0).val < 1 := (x 0).isLt
    have h1 : (x 1).val < 1 := (x 1).isLt
    have e0 : r.val = sq i + (x 0).val := hx 0
    have e1 : h.val = hd i + (x 1).val := hx 1
    have e2 : d.val = 0 + (x 2).val := hx 2
    have hr : sq i = r.val := by omega
    have hh : hd i = h.val := by omega
    have e : x = ix3 (n0 := 1) (n1 := 1) (n2 := 128) 0 0 d := by
      funext a; exact Fin.ext (match a with
        | ⟨0, _⟩ => by show (x 0).val = 0; omega
        | ⟨1, _⟩ => by show (x 1).val = 0; omega
        | ⟨2, _⟩ => by show (x 2).val = d.val; omega)
    rw [e, norV_apply, giS_apply x5 x6 hr hh, lfS_apply x5 x6 hr hh, mS_apply x11 hr hh, kS_apply x0 hr hh, nS_apply x10 hr hh]

/-- The block's new matrix memories. -/
theorem out12_apply (r : Fin 8) (h : Fin 4) (a : Fin 256) (d : Fin 128) :
    out0_12 x0 x1 x2 x3 x4 x5 x6 x7 x8 x9 x10 x11 (ix4 (n0 := 8) (n1 := 4) (n2 := 256) (n3 := 128) r h a d)
      = mem (giB x5 x6 r h) (lfB x5 x6 r h) (x11 (ix2 (n0 := 8) (n1 := 4) r h))
        (x0 (ix2 (n0 := 8) (n1 := 1024) r ⟨512 + 128 * h.val + d.val, by omega⟩))
        (x1 (ix2 (n0 := 8) (n1 := 1024) r ⟨256 * h.val + a.val, by omega⟩))
        (x9 (ix4 (n0 := 8) (n1 := 4) (n2 := 256) (n3 := 128) r h a d)) := by
  rw [out12]
  refine View.canon_ofFn_unit_eq_of_forall (S := S8x4x256x128) (fun i => ![sq i, hd i, 0, 0]) S1x1x256x128.size in_C _ _ _ ?_ fun i x hx => ?_
  · obtain ⟨i, hr, hh⟩ := exists_cell r h
    refine ⟨i, fun b => match b with
      | ⟨0, _⟩ => by show sq i ≤ r.val ∧ r.val < sq i + 1; omega
      | ⟨1, _⟩ => by show hd i ≤ h.val ∧ h.val < hd i + 1; omega
      | ⟨2, _⟩ => by show 0 ≤ a.val ∧ a.val < 0 + 256; omega
      | ⟨3, _⟩ => by show 0 ≤ d.val ∧ d.val < 0 + 128; omega⟩
  · have h0 : (x 0).val < 1 := (x 0).isLt
    have h1 : (x 1).val < 1 := (x 1).isLt
    have e0 : r.val = sq i + (x 0).val := hx 0
    have e1 : h.val = hd i + (x 1).val := hx 1
    have e2 : a.val = 0 + (x 2).val := hx 2
    have e3 : d.val = 0 + (x 3).val := hx 3
    have hr : sq i = r.val := by omega
    have hh : hd i = h.val := by omega
    have e : x = ix4 (n0 := 1) (n1 := 1) (n2 := 256) (n3 := 128) 0 0 a d := by
      funext b; exact Fin.ext (match b with
        | ⟨0, _⟩ => by show (x 0).val = 0; omega
        | ⟨1, _⟩ => by show (x 1).val = 0; omega
        | ⟨2, _⟩ => by show (x 2).val = a.val; omega
        | ⟨3, _⟩ => by show (x 3).val = d.val; omega)
    rw [e, memV_apply, giS_apply x5 x6 hr hh, lfS_apply x5 x6 hr hh, mS_apply x11 hr hh, kS_apply x0 hr hh, vS_apply hr hh x1,
      CS_apply x9 hr hh]

/-- A head's read-out, from the blocks. -/
def readB (r : Fin 8) (h : Fin 4) (a : Fin 256) : EReal :=
  readout (giB x5 x6 r h) (lfB x5 x6 r h) (x11 (ix2 (n0 := 8) (n1 := 4) r h))
    (fun d => x0 (ix2 (n0 := 8) (n1 := 1024) r ⟨128 * h.val + d.val, by omega⟩))
    (fun d => x0 (ix2 (n0 := 8) (n1 := 1024) r ⟨512 + 128 * h.val + d.val, by omega⟩))
    (x1 (ix2 (n0 := 8) (n1 := 1024) r ⟨256 * h.val + a.val, by omega⟩))
    (fun d => x9 (ix4 (n0 := 8) (n1 := 4) (n2 := 256) (n3 := 128) r h a d)) (fun d => x10 (ix3 (n0 := 8) (n1 := 4) (n2 := 128) r h d))

/-- The block's gated outputs. -/
theorem out17_apply (r : Fin 8) (h : Fin 4) (a : Fin 256) :
    out0_17 x0 x1 x2 x3 x4 x5 x6 x7 x8 x9 x10 x11 (ix2 (n0 := 8) (n1 := 1024) r ⟨256 * h.val + a.val, by omega⟩)
      = gated (readB x0 x1 x5 x6 x9 x10 x11 r h) (x8 (ix2 (n0 := 1) (n1 := 1024) 0 ⟨256 * h.val + a.val, by omega⟩))
        (x3 (ix2 (n0 := 8) (n1 := 1024) r ⟨256 * h.val + a.val, by omega⟩))
        (x2 (ix2 (n0 := 8) (n1 := 1024) r ⟨256 * h.val + a.val, by omega⟩)) a := by
  rw [out17]
  refine View.canon_ofFn_unit_eq_of_forall (S := S8x1024) (fun i => ![sq i, 256 * hd i]) S1x256.size in_v _ _ _ ?_ fun i x hx => ?_
  · obtain ⟨i, hr, hh⟩ := exists_cell r h
    refine ⟨i, fun b => match b with
      | ⟨0, _⟩ => by show sq i ≤ r.val ∧ r.val < sq i + 1; omega
      | ⟨1, _⟩ => by show 256 * hd i ≤ 256 * h.val + a.val ∧ 256 * h.val + a.val < 256 * hd i + 256; omega⟩
  · have h0 : (x 0).val < 1 := (x 0).isLt
    have h1 : (x 1).val < 256 := (x 1).isLt
    have e0 : r.val = sq i + (x 0).val := hx 0
    have e1 : 256 * h.val + a.val = 256 * hd i + (x 1).val := hx 1
    have hr : sq i = r.val := by omega
    have hh : hd i = h.val := by omega
    have e : x = ix2 (n0 := 1) (n1 := 256) 0 a := by
      funext b; exact Fin.ext (match b with
        | ⟨0, _⟩ => by show (x 0).val = 0; omega
        | ⟨1, _⟩ => by show (x 1).val = a.val; omega)
    rw [e, outV_apply, gS_apply x8 hr hh, vS_apply hr hh x3, vS_apply hr hh x2]
    refine congrArg (fun g => gated g _ _ _ a) (funext fun b => ?_)
    rw [readV_apply, giS_apply x5 x6 hr hh, lfS_apply x5 x6 hr hh, mS_apply x11 hr hh, vS_apply hr hh x1]
    simp only [qS_apply x0 hr hh, kS_apply x0 hr hh, CS_apply x9 hr hh, nS_apply x10 hr hh]
    rfl

/-- The block's log forget gates of the other mixer. -/
theorem out15_apply (r j : Fin 8) :
    out0_15 x0 x1 x2 x3 x4 x5 x6 x7 x8 x9 x10 x11 (ix2 (n0 := 8) (n1 := 8) r j)
      = logSig (x5 (ix2 (n0 := 8) (n1 := 128) r ⟨j.val, by omega⟩) + x6 (ix2 (n0 := 1) (n1 := 128) 0 ⟨j.val, by omega⟩)) := by
  unfold out0_15
  rw [View.canon_unit_zero hz]
  unfold k0_pay4
  refine (extractStridedSlice_apply _ _ _ _ (ix2 (n0 := 8) (n1 := 128) r ⟨j.val, by omega⟩) fun a => match a with
    | ⟨0, _⟩ => by show r.val = 0 + r.val; omega
    | ⟨1, _⟩ => by show j.val = 0 + j.val; omega).trans ?_
  rw [lf_apply, View.ld_unit_zero (S := S8x128) hz, View.ld_unit_zero (S := S1x128) hz]

/-- The block's gated rows of the other mixer. -/
theorem out16_apply (r : Fin 8) (j : Fin 1024) :
    out0_16 x0 x1 x2 x3 x4 x5 x6 x7 x8 x9 x10 x11 (ix2 (n0 := 8) (n1 := 1024) r j)
      = silu (x4 (ix2 (n0 := 8) (n1 := 1024) r j)) * x7 (ix2 (n0 := 8) (n1 := 1024) r j) := by
  unfold out0_16
  rw [View.canon_unit_zero hz, fox_apply, View.ld_unit_zero (S := S8x1024) hz, View.ld_unit_zero (S := S8x1024) hz]

end Cert.Step

end
-- ==== Proof.Step.Final.lean ====
/- The recurrent step's result arrays: every block of eight sequences holds the rows of one array, a function of the arguments. -/
module

public import proofs.«01_k».proof.Proof.Step.Block
public import proofs.«01_k».proof.Proof.Gen.KernelStepIdeal.Value

@[expose] public section

set_option maxRecDepth 16384

noncomputable section

namespace Cert.Step

open Cert.KernelStepIdeal Cert.KernelStepIdeal.Gen
open Idealize.ShloMosaic Idealize.ShloMosaic.TcCoe Idealize.ShloMosaic.Tactic Idealize.SL.Sem

/-! ## The results, as functions of the arguments

`ps` are the projected rows, `gs` the gates' rows, `bx`, `bi`, `bf` the biases of the first mixer's forget gates and of the
second mixer's input and forget gates, `fo` the first mixer's output rows, `g` the norm's gain, `C`, `n`, `m` the state. -/

section results

variable (ps : Vec Ideal S32x8192 .f32) (gs : Vec Ideal S32x128 .f32) (bx : Vec Ideal S8 .f32) (bi bf : Vec Ideal S4 .f32)
  (fo : Vec Ideal S32x1024 .f32) (g : Vec Ideal S1024 .f32) (C : Vec Ideal S32x4x256x128 .f32) (n : Vec Ideal S32x4x128 .f32)
  (m : Vec Ideal S32x4 .f32)

def gateI (b : Fin 32) (h : Fin 4) : EReal := gs (ix2 (n0 := 32) (n1 := 128) b ⟨12 + h.val, by omega⟩) + bi (ix1 (n0 := 4) h)
def gateF (b : Fin 32) (h : Fin 4) : EReal := logSig (gs (ix2 (n0 := 32) (n1 := 128) b ⟨8 + h.val, by omega⟩) + bf (ix1 (n0 := 4) h))
def qAt (b : Fin 32) (h : Fin 4) (d : Fin 128) : EReal := ps (ix2 (n0 := 32) (n1 := 8192) b ⟨4096 + (128 * h.val + d.val), by omega⟩)
def kAt (b : Fin 32) (h : Fin 4) (d : Fin 128) : EReal := ps (ix2 (n0 := 32) (n1 := 8192) b ⟨4608 + (128 * h.val + d.val), by omega⟩)
def vAt (b : Fin 32) (h : Fin 4) (a : Fin 256) : EReal := ps (ix2 (n0 := 32) (n1 := 8192) b ⟨5120 + (256 * h.val + a.val), by omega⟩)

def stabAt (b : Fin 32) (h : Fin 4) : EReal := stab (gateI gs bi b h) (gateF gs bf b h) (m (ix2 (n0 := 32) (n1 := 4) b h))

def norAt (b : Fin 32) (h : Fin 4) (d : Fin 128) : EReal :=
  nor (gateI gs bi b h) (gateF gs bf b h) (m (ix2 (n0 := 32) (n1 := 4) b h)) (kAt ps b h d) (n (ix3 (n0 := 32) (n1 := 4) (n2 := 128) b h d))

def memAt (b : Fin 32) (h : Fin 4) (a : Fin 256) (d : Fin 128) : EReal :=
  mem (gateI gs bi b h) (gateF gs bf b h) (m (ix2 (n0 := 32) (n1 := 4) b h)) (kAt ps b h d) (vAt ps b h a)
    (C (ix4 (n0 := 32) (n1 := 4) (n2 := 256) (n3 := 128) b h a d))

def readAt (b : Fin 32) (h : Fin 4) (a : Fin 256) : EReal :=
  readout (gateI gs bi b h) (gateF gs bf b h) (m (ix2 (n0 := 32) (n1 := 4) b h)) (qAt ps b h) (kAt ps b h) (vAt ps b h a)
    (fun d => C (ix4 (n0 := 32) (n1 := 4) (n2 := 256) (n3 := 128) b h a d)) (fun d => n (ix3 (n0 := 32) (n1 := 4) (n2 := 128) b h d))

def mixAt (b : Fin 32) (h : Fin 4) (a : Fin 256) : EReal :=
  gated (readAt ps gs bi bf C n m b h) (g (ix1 (n0 := 1024) ⟨256 * h.val + a.val, by omega⟩))
    (ps (ix2 (n0 := 32) (n1 := 8192) b ⟨7168 + (256 * h.val + a.val), by omega⟩))
    (ps (ix2 (n0 := 32) (n1 := 8192) b ⟨6144 + (256 * h.val + a.val), by omega⟩)) a

/-- The new matrix memory, normalizer and stabilizer. -/
def resC : Vec Ideal S32x4x256x128 .f32 := fun i => memAt ps gs bi bf C m (i 0) (i 1) (i 2) (i 3)
def resN : Vec Ideal S32x4x128 .f32 := fun i => norAt ps gs bi bf n m (i 0) (i 1) (i 2)
def resM : Vec Ideal S32x4 .f32 := fun i => stabAt gs bi bf m (i 0) (i 1)

/-- The first mixer's log forget gates and its gated rows. -/
def resL : Vec Ideal S32x8 .f32 := fun i =>
  logSig (gs (ix2 (n0 := 32) (n1 := 128) (i 0) ⟨(i 1).val, (i 1).isLt.trans (by decide)⟩) + bx (ix1 (n0 := 8) (i 1)))
def resF : Vec Ideal S32x1024 .f32 := fun i =>
  silu (ps (ix2 (n0 := 32) (n1 := 8192) (i 0) ⟨3072 + (i 1).val, by have h : (i 1).val < 1024 := (i 1).isLt; omega⟩)) * fo (ix2 (n0 := 32) (n1 := 1024) (i 0) (i 1))

/-- The second mixer's gated rows: 256 columns a head. -/
def resX : Vec Ideal S32x1024 .f32 := fun i =>
  mixAt ps gs bi bf g C n m (i 0) ⟨(i 1).val / 256, by have h : (i 1).val < 1024 := (i 1).isLt; omega⟩ ⟨(i 1).val % 256, Nat.mod_lt _ (by decide)⟩

end results

/-! ## The blocks the body reads -/

variable (m : (ℓ : Loc nD τ sig) → Buf (Elt Ideal) ℓ) (c : Dev nD)

abbrev A0 : Vec Ideal S32x8192 .f32 := m ((c : Thread nD τ).loc main_arg0)
abbrev A1 : Vec Ideal S32x128 .f32 := m ((c : Thread nD τ).loc main_arg1)
abbrev A2 : Vec Ideal S8 .f32 := m ((c : Thread nD τ).loc main_arg2)
abbrev A3 : Vec Ideal S4 .f32 := m ((c : Thread nD τ).loc main_arg3)
abbrev A4 : Vec Ideal S4 .f32 := m ((c : Thread nD τ).loc main_arg4)
abbrev A5 : Vec Ideal S32x1024 .f32 := m ((c : Thread nD τ).loc main_arg5)
abbrev A6 : Vec Ideal S1024 .f32 := m ((c : Thread nD τ).loc main_arg6)
abbrev A7 : Vec Ideal S32x4x256x128 .f32 := m ((c : Thread nD τ).loc main_arg7)
abbrev A8 : Vec Ideal S32x4x128 .f32 := m ((c : Thread nD τ).loc main_arg8)
abbrev A9 : Vec Ideal S32x4 .f32 := m ((c : Thread nD τ).loc main_arg9)

theorem t_lt (t : Fin cfg0.N) : t.val < 4 := lt_of_lt_of_eq t.isLt N_0

/-- The sequence of a point's row. -/
abbrev sq8 (t : Fin cfg0.N) (r : Fin 8) : Fin 32 := ⟨8 * t.val + r.val, by have := t_lt t; omega⟩

theorem index_in : ∀ t : Fin cfg0.N,
    win0_0.index t = ![t.val, 4] ∧ win0_1.index t = ![t.val, 5] ∧ win0_2.index t = ![t.val, 6] ∧ win0_3.index t = ![t.val, 7]
    ∧ win0_4.index t = ![t.val, 3] ∧ win0_5.index t = ![t.val, 0] ∧ win0_6.index t = ![0, 0] ∧ win0_7.index t = ![t.val, 0]
    ∧ win0_8.index t = ![0, 0] ∧ win0_9.index t = ![t.val, 0, 0, 0] ∧ win0_10.index t = ![t.val, 0, 0] ∧ win0_11.index t = ![t.val, 0] := by
  decide +kernel

theorem index_out : ∀ t : Fin cfg0.N,
    win0_12.index t = ![t.val, 0, 0, 0] ∧ win0_13.index t = ![t.val, 0, 0] ∧ win0_14.index t = ![t.val, 0] ∧ win0_15.index t = ![t.val, 0]
    ∧ win0_16.index t = ![t.val, 0] ∧ win0_17.index t = ![t.val, 0] := by
  decide +kernel

theorem iblk_qk (t : Fin cfg0.N) (r : Fin 8) (j : Fin 1024) :
    (iblk m c 0 t : Vec Ideal S8x1024 .f32) (ix2 (n0 := 8) (n1 := 1024) r j)
      = A0 m c (ix2 (n0 := 32) (n1 := 8192) (sq8 t r) ⟨4096 + j.val, by omega⟩) := by
  have e := (index_in t).1
  have h := V_main_arg0 m c
  blk_ext [iblk, h, e]

theorem iblk_v (t : Fin cfg0.N) (r : Fin 8) (j : Fin 1024) :
    (iblk m c 1 t : Vec Ideal S8x1024 .f32) (ix2 (n0 := 8) (n1 := 1024) r j)
      = A0 m c (ix2 (n0 := 32) (n1 := 8192) (sq8 t r) ⟨5120 + j.val, by omega⟩) := by
  have e := (index_in t).2.1
  have h := V_main_arg0 m c
  blk_ext [iblk, h, e]

theorem iblk_o (t : Fin cfg0.N) (r : Fin 8) (j : Fin 1024) :
    (iblk m c 2 t : Vec Ideal S8x1024 .f32) (ix2 (n0 := 8) (n1 := 1024) r j)
      = A0 m c (ix2 (n0 := 32) (n1 := 8192) (sq8 t r) ⟨6144 + j.val, by omega⟩) := by
  have e := (index_in t).2.2.1
  have h := V_main_arg0 m c
  blk_ext [iblk, h, e]

theorem iblk_z (t : Fin cfg0.N) (r : Fin 8) (j : Fin 1024) :
    (iblk m c 3 t : Vec Ideal S8x1024 .f32) (ix2 (n0 := 8) (n1 := 1024) r j)
      = A0 m c (ix2 (n0 := 32) (n1 := 8192) (sq8 t r) ⟨7168 + j.val, by omega⟩) := by
  have e := (index_in t).2.2.2.1
  have h := V_main_arg0 m c
  blk_ext [iblk, h, e]

theorem iblk_fz (t : Fin cfg0.N) (r : Fin 8) (j : Fin 1024) :
    (iblk m c 4 t : Vec Ideal S8x1024 .f32) (ix2 (n0 := 8) (n1 := 1024) r j)
      = A0 m c (ix2 (n0 := 32) (n1 := 8192) (sq8 t r) ⟨3072 + j.val, by omega⟩) := by
  have e := (index_in t).2.2.2.2.1
  have h := V_main_arg0 m c
  blk_ext [iblk, h, e]

theorem iblk_gs (t : Fin cfg0.N) (r : Fin 8) (j : Fin 128) :
    (iblk m c 5 t : Vec Ideal S8x128 .f32) (ix2 (n0 := 8) (n1 := 128) r j) = A1 m c (ix2 (n0 := 32) (n1 := 128) (sq8 t r) j) := by
  have e := (index_in t).2.2.2.2.2.1
  have h := V_main_arg1 m c
  blk_ext [iblk, h, e]

theorem iblk_fo (t : Fin cfg0.N) (r : Fin 8) (j : Fin 1024) :
    (iblk m c 7 t : Vec Ideal S8x1024 .f32) (ix2 (n0 := 8) (n1 := 1024) r j) = A5 m c (ix2 (n0 := 32) (n1 := 1024) (sq8 t r) j) := by
  have e := (index_in t).2.2.2.2.2.2.2.1
  have h := V_main_arg5 m c
  blk_ext [iblk, h, e]

theorem iblk_gain (t : Fin cfg0.N) (j : Fin 1024) :
    (iblk m c 8 t : Vec Ideal S1x1024 .f32) (ix2 (n0 := 1) (n1 := 1024) 0 j) = A6 m c (ix1 (n0 := 1024) j) := by
  have e := (index_in t).2.2.2.2.2.2.2.2.1
  unfold iblk
  blk_simp
  entry_read
  pointwise
  blk_ext [e]

theorem iblk_C (t : Fin cfg0.N) (r : Fin 8) (h : Fin 4) (a : Fin 256) (d : Fin 128) :
    (iblk m c 9 t : Vec Ideal S8x4x256x128 .f32) (ix4 (n0 := 8) (n1 := 4) (n2 := 256) (n3 := 128) r h a d)
      = A7 m c (ix4 (n0 := 32) (n1 := 4) (n2 := 256) (n3 := 128) (sq8 t r) h a d) := by
  have e := (index_in t).2.2.2.2.2.2.2.2.2.1
  have h := V_main_arg7 m c
  blk_ext [iblk, h, e]

theorem iblk_n (t : Fin cfg0.N) (r : Fin 8) (h : Fin 4) (d : Fin 128) :
    (iblk m c 10 t : Vec Ideal S8x4x128 .f32) (ix3 (n0 := 8) (n1 := 4) (n2 := 128) r h d)
      = A8 m c (ix3 (n0 := 32) (n1 := 4) (n2 := 128) (sq8 t r) h d) := by
  have e := (index_in t).2.2.2.2.2.2.2.2.2.2.1
  have h := V_main_arg8 m c
  blk_ext [iblk, h, e]

theorem iblk_m (t : Fin cfg0.N) (r : Fin 8) (h : Fin 4) :
    (iblk m c 11 t : Vec Ideal S8x4 .f32) (ix2 (n0 := 8) (n1 := 4) r h) = A9 m c (ix2 (n0 := 32) (n1 := 4) (sq8 t r) h) := by
  have e := (index_in t).2.2.2.2.2.2.2.2.2.2.2
  have h := V_main_arg9 m c
  blk_ext [iblk, h, e]

/-! The biases' row: the first mixer's eight, then the second's four forget gates', then its four input gates'. -/

theorem V_bias : (V m c main_v2 : Vec Ideal S1x128 .f32)
    = broadcastInDim S1x128 ![1] bcast_S128_S1x128_1 (concatenate S128 0 [⟨S8, A2 m c⟩, ⟨S4, A4 m c⟩, ⟨S4, A3 m c⟩,
      ⟨S112, broadcastInDim S112 ![] bcast_S_S112 (constant (F := Ideal) S_ .f32 0x00000000#32)⟩] concatenates_S8_S4_S4_S112_S128_d0) := by
  unfold V
  after_results_simp
  rfl

theorem iblk_bias (t : Fin cfg0.N) (j : Fin 128) :
    (iblk m c 6 t : Vec Ideal S1x128 .f32) (ix2 (n0 := 1) (n1 := 128) 0 j) = (V m c main_v2 : Vec Ideal S1x128 .f32) (ix2 (n0 := 1) (n1 := 128) 0 j) := by
  have e := (index_in t).2.2.2.2.2.2.1
  blk_ext [iblk, e]

theorem iblk_bx (t : Fin cfg0.N) (j : Fin 8) :
    (iblk m c 6 t : Vec Ideal S1x128 .f32) (ix2 (n0 := 1) (n1 := 128) 0 ⟨j.val, by omega⟩) = A2 m c (ix1 (n0 := 8) j) := by
  rw [iblk_bias, V_bias]
  generalize A2 m c = x2
  generalize A3 m c = x3
  generalize A4 m c = x4
  pointwise

theorem iblk_bf (t : Fin cfg0.N) (h : Fin 4) :
    (iblk m c 6 t : Vec Ideal S1x128 .f32) (ix2 (n0 := 1) (n1 := 128) 0 ⟨8 + h.val, by omega⟩) = A4 m c (ix1 (n0 := 4) h) := by
  rw [iblk_bias, V_bias]
  generalize A2 m c = x2
  generalize A3 m c = x3
  generalize A4 m c = x4
  pointwise

theorem iblk_bi (t : Fin cfg0.N) (h : Fin 4) :
    (iblk m c 6 t : Vec Ideal S1x128 .f32) (ix2 (n0 := 1) (n1 := 128) 0 ⟨12 + h.val, by omega⟩) = A3 m c (ix1 (n0 := 4) h) := by
  rw [iblk_bias, V_bias]
  generalize A2 m c = x2
  generalize A3 m c = x3
  generalize A4 m c = x4
  pointwise
  rw [dif_neg (by show ¬ 12 + h.val < 8; omega), dif_neg (by show ¬ 12 + h.val - 8 < 4; omega), dif_pos (by show 12 + h.val - 8 - 4 < 4; omega)]
  congr 2
  exact Fin.ext (by show 12 + h.val - 8 - 4 = h.val; omega)

/-! ## The heads' numbers, from the arguments -/

theorem giB_eq (t : Fin cfg0.N) (r : Fin 8) (h : Fin 4) : giB (iblk m c 5 t) (iblk m c 6 t) r h = gateI (A1 m c) (A3 m c) (sq8 t r) h :=
  congrArg₂ (· + ·) (iblk_gs m c t r _) (iblk_bi m c t h)

theorem lfB_eq (t : Fin cfg0.N) (r : Fin 8) (h : Fin 4) : lfB (iblk m c 5 t) (iblk m c 6 t) r h = gateF (A1 m c) (A4 m c) (sq8 t r) h :=
  congrArg logSig (congrArg₂ (· + ·) (iblk_gs m c t r _) (iblk_bf m c t h))

theorem kB_eq (t : Fin cfg0.N) (r : Fin 8) (h : Fin 4) (d : Fin 128) :
    (iblk m c 0 t : Vec Ideal S8x1024 .f32) (ix2 (n0 := 8) (n1 := 1024) r ⟨512 + 128 * h.val + d.val, by omega⟩) = kAt (A0 m c) (sq8 t r) h d := by
  rw [iblk_qk]
  unfold kAt
  congr 2
  exact Fin.ext (by show 4096 + (512 + 128 * h.val + d.val) = 4608 + (128 * h.val + d.val); omega)

theorem readB_eq (t : Fin cfg0.N) (r : Fin 8) (h : Fin 4) (a : Fin 256) :
    readB (iblk m c 0 t) (iblk m c 1 t) (iblk m c 5 t) (iblk m c 6 t) (iblk m c 9 t) (iblk m c 10 t) (iblk m c 11 t) r h a
      = readAt (A0 m c) (A1 m c) (A3 m c) (A4 m c) (A7 m c) (A8 m c) (A9 m c) (sq8 t r) h a := by
  unfold readB readAt
  rw [giB_eq, lfB_eq, iblk_m, iblk_v]
  simp only [kB_eq]
  simp only [iblk_qk, iblk_C, iblk_n]
  rfl

/-! ## The six result arrays -/

theorem final12 : (dats m 0 c).arrAt 12 (cfgs 0).N = resC (A0 m c) (A1 m c) (A3 m c) (A4 m c) (A7 m c) (A9 m c) := by
  refine (dats m 0 c).arrAt_eq_of_covers 12 _ (by decide +kernel) fun t hfl y => ?_
  blk_simp
  rw [after0_12]
  have e := (index_out t).1
  idx_vars y
  refine (out12_apply _ _ _ _ _ _ _ _ _ _ _ _ y0 y1 y2 y3).trans ?_
  rw [giB_eq, lfB_eq, iblk_m, kB_eq, iblk_v, iblk_C]
  have e0 : (((cfg0.win 12).blk t).view.emb (ix4 (n0 := 8) (n1 := 4) (n2 := 256) (n3 := 128) y0 y1 y2 y3) 0).val = 8 * t.val + y0.val := by
    blk_simp [e]; omega
  have e1 : (((cfg0.win 12).blk t).view.emb (ix4 (n0 := 8) (n1 := 4) (n2 := 256) (n3 := 128) y0 y1 y2 y3) 1).val = y1.val := by
    blk_simp [e]
  have e2 : (((cfg0.win 12).blk t).view.emb (ix4 (n0 := 8) (n1 := 4) (n2 := 256) (n3 := 128) y0 y1 y2 y3) 2).val = y2.val := by
    blk_simp [e]
  have e3 : (((cfg0.win 12).blk t).view.emb (ix4 (n0 := 8) (n1 := 4) (n2 := 256) (n3 := 128) y0 y1 y2 y3) 3).val = y3.val := by
    blk_simp [e]
  unfold resC
  have e0' : sq8 t y0 = ((cfg0.win 12).blk t).view.emb (ix4 (n0 := 8) (n1 := 4) (n2 := 256) (n3 := 128) y0 y1 y2 y3) 0 := Fin.ext e0.symm
  have e1' : y1 = ((cfg0.win 12).blk t).view.emb (ix4 (n0 := 8) (n1 := 4) (n2 := 256) (n3 := 128) y0 y1 y2 y3) 1 := Fin.ext e1.symm
  have e2' : y2 = ((cfg0.win 12).blk t).view.emb (ix4 (n0 := 8) (n1 := 4) (n2 := 256) (n3 := 128) y0 y1 y2 y3) 2 := Fin.ext e2.symm
  have e3' : y3 = ((cfg0.win 12).blk t).view.emb (ix4 (n0 := 8) (n1 := 4) (n2 := 256) (n3 := 128) y0 y1 y2 y3) 3 := Fin.ext e3.symm
  rw [← e0', ← e1', ← e2', ← e3']
  rfl

theorem final13 : (dats m 0 c).arrAt 13 (cfgs 0).N = resN (A0 m c) (A1 m c) (A3 m c) (A4 m c) (A8 m c) (A9 m c) := by
  refine (dats m 0 c).arrAt_eq_of_covers 13 _ (by decide +kernel) fun t hfl y => ?_
  blk_simp
  rw [after0_13]
  have e := (index_out t).2.1
  idx_vars y
  refine (out13_apply _ _ _ _ _ _ _ _ _ _ _ _ y0 y1 y2).trans ?_
  rw [giB_eq, lfB_eq, iblk_m, kB_eq, iblk_n]
  have e0 : (((cfg0.win 13).blk t).view.emb (ix3 (n0 := 8) (n1 := 4) (n2 := 128) y0 y1 y2) 0).val = 8 * t.val + y0.val := by
    blk_simp [e]; omega
  have e1 : (((cfg0.win 13).blk t).view.emb (ix3 (n0 := 8) (n1 := 4) (n2 := 128) y0 y1 y2) 1).val = y1.val := by
    blk_simp [e]
  have e2 : (((cfg0.win 13).blk t).view.emb (ix3 (n0 := 8) (n1 := 4) (n2 := 128) y0 y1 y2) 2).val = y2.val := by
    blk_simp [e]
  unfold resN
  have e0' : sq8 t y0 = ((cfg0.win 13).blk t).view.emb (ix3 (n0 := 8) (n1 := 4) (n2 := 128) y0 y1 y2) 0 := Fin.ext e0.symm
  have e1' : y1 = ((cfg0.win 13).blk t).view.emb (ix3 (n0 := 8) (n1 := 4) (n2 := 128) y0 y1 y2) 1 := Fin.ext e1.symm
  have e2' : y2 = ((cfg0.win 13).blk t).view.emb (ix3 (n0 := 8) (n1 := 4) (n2 := 128) y0 y1 y2) 2 := Fin.ext e2.symm
  rw [← e0', ← e1', ← e2']
  rfl

theorem final14 : (dats m 0 c).arrAt 14 (cfgs 0).N = resM (A1 m c) (A3 m c) (A4 m c) (A9 m c) := by
  refine (dats m 0 c).arrAt_eq_of_covers 14 _ (by decide +kernel) fun t hfl y => ?_
  blk_simp
  rw [after0_14]
  have e := (index_out t).2.2.1
  idx_vars y
  refine (out14_apply _ _ _ _ _ _ _ _ _ _ _ _ y0 y1).trans ?_
  rw [giB_eq, lfB_eq, iblk_m]
  have e0 : (((cfg0.win 14).blk t).view.emb (ix2 (n0 := 8) (n1 := 4) y0 y1) 0).val = 8 * t.val + y0.val := by
    blk_simp [e]; omega
  have e1 : (((cfg0.win 14).blk t).view.emb (ix2 (n0 := 8) (n1 := 4) y0 y1) 1).val = y1.val := by
    blk_simp [e]
  unfold resM
  have e0' : sq8 t y0 = ((cfg0.win 14).blk t).view.emb (ix2 (n0 := 8) (n1 := 4) y0 y1) 0 := Fin.ext e0.symm
  have e1' : y1 = ((cfg0.win 14).blk t).view.emb (ix2 (n0 := 8) (n1 := 4) y0 y1) 1 := Fin.ext e1.symm
  rw [← e0', ← e1']
  rfl

theorem final15 : (dats m 0 c).arrAt 15 (cfgs 0).N = resL (A1 m c) (A2 m c) := by
  refine (dats m 0 c).arrAt_eq_of_covers 15 _ (by decide +kernel) fun t hfl y => ?_
  blk_simp
  rw [after0_15]
  have e := (index_out t).2.2.2.1
  idx_vars y
  refine (out15_apply _ _ _ _ _ _ _ _ _ _ _ _ y0 y1).trans ?_
  rw [iblk_gs, iblk_bx]
  have e0 : (((cfg0.win 15).blk t).view.emb (ix2 (n0 := 8) (n1 := 8) y0 y1) 0).val = 8 * t.val + y0.val := by
    blk_simp [e]; omega
  have e1 : (((cfg0.win 15).blk t).view.emb (ix2 (n0 := 8) (n1 := 8) y0 y1) 1).val = y1.val := by
    blk_simp [e]
  unfold resL
  have e0' : sq8 t y0 = ((cfg0.win 15).blk t).view.emb (ix2 (n0 := 8) (n1 := 8) y0 y1) 0 := Fin.ext e0.symm
  have e1' : y1 = ((cfg0.win 15).blk t).view.emb (ix2 (n0 := 8) (n1 := 8) y0 y1) 1 := Fin.ext e1.symm
  simp only [← e0', ← e1']

theorem final16 : (dats m 0 c).arrAt 16 (cfgs 0).N = resF (A0 m c) (A5 m c) := by
  refine (dats m 0 c).arrAt_eq_of_covers 16 _ (by decide +kernel) fun t hfl y => ?_
  blk_simp
  rw [after0_16]
  have e := (index_out t).2.2.2.2.1
  idx_vars y
  refine (out16_apply _ _ _ _ _ _ _ _ _ _ _ _ y0 y1).trans ?_
  rw [iblk_fz, iblk_fo]
  have e0 : (((cfg0.win 16).blk t).view.emb (ix2 (n0 := 8) (n1 := 1024) y0 y1) 0).val = 8 * t.val + y0.val := by
    blk_simp [e]; omega
  have e1 : (((cfg0.win 16).blk t).view.emb (ix2 (n0 := 8) (n1 := 1024) y0 y1) 1).val = y1.val := by
    blk_simp [e]
  unfold resF
  have e0' : sq8 t y0 = ((cfg0.win 16).blk t).view.emb (ix2 (n0 := 8) (n1 := 1024) y0 y1) 0 := Fin.ext e0.symm
  have e1' : y1 = ((cfg0.win 16).blk t).view.emb (ix2 (n0 := 8) (n1 := 1024) y0 y1) 1 := Fin.ext e1.symm
  simp only [← e0', ← e1']

theorem final17 : (dats m 0 c).arrAt 17 (cfgs 0).N
    = resX (A0 m c) (A1 m c) (A3 m c) (A4 m c) (A6 m c) (A7 m c) (A8 m c) (A9 m c) := by
  refine (dats m 0 c).arrAt_eq_of_covers 17 _ (by decide +kernel) fun t hfl y => ?_
  blk_simp
  rw [after0_17]
  have e := (index_out t).2.2.2.2.2
  idx_vars y
  have e0 : (((cfg0.win 17).blk t).view.emb (ix2 (n0 := 8) (n1 := 1024) y0 y1) 0).val = 8 * t.val + y0.val := by
    blk_simp [e]; omega
  have e1 : (((cfg0.win 17).blk t).view.emb (ix2 (n0 := 8) (n1 := 1024) y0 y1) 1).val = y1.val := by
    blk_simp [e]
  unfold resX
  have e0' : sq8 t y0 = ((cfg0.win 17).blk t).view.emb (ix2 (n0 := 8) (n1 := 1024) y0 y1) 0 := Fin.ext e0.symm
  have e1' : y1 = ((cfg0.win 17).blk t).view.emb (ix2 (n0 := 8) (n1 := 1024) y0 y1) 1 := Fin.ext e1.symm
  simp only [← e0', ← e1']
  have hy : y1 = ⟨256 * (y1.val / 256) + y1.val % 256, by have h : y1.val < 1024 := y1.isLt; omega⟩ := Fin.ext (Nat.div_add_mod _ _).symm
  refine (congrArg (fun z => out0_17 _ _ _ _ _ _ _ _ _ _ _ _ (ix2 (n0 := 8) (n1 := 1024) y0 z)) hy).trans ?_
  refine (out17_apply _ _ _ _ _ _ _ _ _ _ _ _ y0 ⟨y1.val / 256, by have h : y1.val < 1024 := y1.isLt; omega⟩ ⟨y1.val % 256, Nat.mod_lt _ (by decide)⟩).trans ?_
  rw [funext (readB_eq m c t y0 _), iblk_gain, iblk_z, iblk_o]
  rfl

end Cert.Step

end
-- ==== Proof.Step.Gates.lean ====
/- The recurrent step's scalar facts: the two spellings of the logarithm of the logistic function, a forget gate subtracted
   from itself. -/
module

public import proofs.«01_k».proof.Proof.Step.Read

@[expose] public section

set_option maxRecDepth 16384

noncomputable section

namespace Cert.Step

open Idealize.ShloMosaic Idealize.ShloMosaic.TcCoe Idealize.ShloMosaic.Tactic

theorem log1p_exp (s : ℝ) : Ideal.log1p (Ideal.exp (s : EReal)) = ((Real.log (1 + Real.exp s) : ℝ) : EReal) := by
  have h : (1 : EReal) + ((Real.exp s : ℝ) : EReal) = ((1 + Real.exp s : ℝ) : EReal) := by rw [EReal.coe_add, EReal.coe_one]
  show Ideal.log (1 + ((Real.exp s : ℝ) : EReal)) = _
  rw [h]
  show (if 1 + Real.exp s ≤ 0 then (⊥ : EReal) else _) = _
  rw [if_neg (by have := Real.exp_pos s; linarith)]

theorem log1p_exp_bot : Ideal.log1p (Ideal.exp ⊥) = 0 := by
  show Ideal.log (1 + 0) = 0
  rw [add_zero]
  show (if (1 : ℝ) ≤ 0 then (⊥ : EReal) else ((Real.log 1 : ℝ) : EReal)) = 0
  rw [if_neg (by norm_num), Real.log_one, EReal.coe_zero]

theorem max_coe (r : ℝ) : max (r : EReal) (-(r : EReal)) = ((max r (-r) : ℝ) : EReal) := by
  rw [← EReal.coe_neg]
  exact (EReal.coe_strictMono.monotone.map_max (a := r) (b := -r)).symm

theorem logSig_coe (r : ℝ) : logSig (r : EReal) = ((min r 0 - Real.log (1 + Real.exp (-(max r (-r)))) : ℝ) : EReal) := by
  unfold logSig
  show min (r : EReal) 0 - Ideal.log1p (Ideal.exp (0 - max (r : EReal) (-(r : EReal)))) = _
  rw [max_coe, zero_sub, ← EReal.coe_neg, log1p_exp, EReal.coe_sub]
  congr 1

theorem logSig_top : logSig ⊤ = 0 := by
  unfold logSig
  show min (⊤ : EReal) 0 - Ideal.log1p (Ideal.exp (0 - max (⊤ : EReal) (-⊤))) = 0
  rw [max_eq_left le_top, zero_sub, EReal.neg_top, log1p_exp_bot, min_eq_right le_top, sub_zero]

theorem logSig_bot : logSig ⊥ = ⊥ := by
  unfold logSig
  show min (⊥ : EReal) 0 - Ideal.log1p (Ideal.exp (0 - max (⊥ : EReal) (-⊥))) = ⊥
  rw [max_eq_right bot_le, zero_sub, EReal.neg_bot, EReal.neg_top, log1p_exp_bot, min_eq_left bot_le, sub_zero]

/-- Of anything but `⊥` the logarithm of the logistic function is real. -/
theorem logSig_real {x : EReal} (hx : ⊥ < x) : ∃ r : ℝ, logSig x = (r : EReal) := by
  induction x with
  | bot => exact absurd hx (lt_irrefl _)
  | top => exact ⟨0, logSig_top.trans EReal.coe_zero.symm⟩
  | coe r => exact ⟨_, logSig_coe r⟩

/-- The reference's spelling, the negated softplus of the negated argument. -/
theorem neg_softplus (x : EReal) :
    -(max (-x) 0 + Ideal.log1p (Ideal.exp (-(max (-x) (-(-x)))))) = logSig x := by
  induction x with
  | bot =>
    rw [logSig_bot, EReal.neg_bot, EReal.neg_top, max_eq_left le_top, max_eq_left le_top, EReal.neg_top, log1p_exp_bot, add_zero, EReal.neg_top]
  | top =>
    rw [logSig_top, EReal.neg_top, EReal.neg_bot, max_eq_right bot_le, max_eq_right bot_le, EReal.neg_top, log1p_exp_bot, add_zero, neg_zero]
  | coe r =>
    rw [logSig_coe, neg_neg, max_comm (-(r : EReal)) (r : EReal), max_coe, ← EReal.coe_neg, ← EReal.coe_neg, log1p_exp]
    have h : max ((-r : ℝ) : EReal) 0 = ((max (-r) 0 : ℝ) : EReal) := (EReal.coe_strictMono.monotone.map_max (a := -r) (b := 0)).symm
    rw [h, ← EReal.coe_add, ← EReal.coe_neg, EReal.coe_eq_coe_iff]
    have : max (-r) 0 = - min r 0 := by rw [← max_neg_neg, neg_zero]
    rw [this]
    ring

/-- A real number subtracted from itself and something added leaves that. -/
theorem sub_self_add {l : EReal} (hl : ∃ r : ℝ, l = (r : EReal)) (g : EReal) : l - l + g = g := by
  obtain ⟨r, rfl⟩ := hl
  rw [← EReal.coe_sub, sub_self, EReal.coe_zero, zero_add]

end Cert.Step

end
-- ==== Proof.Step.Reference.lean ====
/- The plain reference's recurrent step, value by value, at an index: the gates, the weights, the read-out and the results. -/
module

public import proofs.«01_k».proof.Proof.Step.Final
public import proofs.«01_k».proof.Proof.Step.Gates
public import proofs.«01_k».proof.Proof.Fox.Pointwise
public import proofs.«01_k».proof.Proof.Gen.ReferenceStepIdeal.Read

@[expose] public section

set_option maxRecDepth 16384

noncomputable section

namespace Cert.Step.Plain

open Cert.ReferenceStepIdeal Cert.ReferenceStepIdeal.Gen Cert.ReferenceStepIdeal.Read
open Idealize.ShloMosaic Idealize.ShloMosaic.TcCoe Idealize.ShloMosaic.Tactic

variable (x0 : Vec Ideal S32x8192 .f32) (x1 : Vec Ideal S32x128 .f32) (x2 : Vec Ideal S8 .f32) (x3 x4 : Vec Ideal S4 .f32)
  (x5 : Vec Ideal S32x1024 .f32) (x6 : Vec Ideal S1024 .f32) (x7 : Vec Ideal S32x4x256x128 .f32) (x8 : Vec Ideal S32x4x128 .f32)
  (x9 : Vec Ideal S32x4 .f32)

/-! ## The gates -/

theorem v12_apply (b : Fin 32) (j : Fin 8) :
    val_main_v12 x1 x2 (ix3 (n0 := 32) (n1 := 1) (n2 := 8) b 0 j)
      = x1 (ix2 (n0 := 32) (n1 := 128) b ⟨j.val, by omega⟩) + x2 (ix1 (n0 := 8) j) := by
  unfold val_main_v12 val_main_v11 val_main_v10 val_main_v9 val_main_v8
  pointwise

theorem v13_apply (b : Fin 32) (j : Fin 8) :
    val_main_v13 x1 x2 (ix3 (n0 := 32) (n1 := 1) (n2 := 8) b 0 j)
      = logSig (x1 (ix2 (n0 := 32) (n1 := 128) b ⟨j.val, by omega⟩) + x2 (ix1 (n0 := 8) j)) := by
  have h := v12_apply x1 x2 b j
  unfold val_main_v13 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3
    val_main_call0_call0_v2 val_main_call0_call0_v1 val_main_call0_call0_v0 val_main_call0_call0_cst val_main_call0_v0
  generalize val_main_v12 x1 x2 = y at h ⊢
  pointwise
  rw [h, if_neg (not_not.mpr rfl)]
  exact neg_softplus _

theorem v17_apply (b : Fin 32) (h : Fin 4) :
    val_main_v17 x1 x4 (ix3 (n0 := 32) (n1 := 1) (n2 := 4) b 0 h)
      = x1 (ix2 (n0 := 32) (n1 := 128) b ⟨8 + h.val, by omega⟩) + x4 (ix1 (n0 := 4) h) := by
  unfold val_main_v17 val_main_v16 val_main_v15 val_main_v14 val_main_v8
  pointwise

theorem v18_apply (b : Fin 32) (h : Fin 4) :
    val_main_v18 x1 x4 (ix3 (n0 := 32) (n1 := 1) (n2 := 4) b 0 h) = gateF x1 x4 b h := by
  have h := v17_apply x1 x4 b h
  unfold val_main_v18 val_main_call1_v1 val_main_call1_call0_v11 val_main_call1_call0_v10 val_main_call1_call0_v9 val_main_call1_call0_v8
    val_main_call1_call0_v7 val_main_call1_call0_v6 val_main_call1_call0_v5 val_main_call1_call0_v4 val_main_call1_call0_v3
    val_main_call1_call0_v2 val_main_call1_call0_v1 val_main_call1_call0_v0 val_main_call1_call0_cst val_main_call1_v0
  generalize val_main_v17 x1 x4 = y at h ⊢
  pointwise
  rw [h, if_neg (not_not.mpr rfl)]
  exact neg_softplus _

theorem v22_apply (b : Fin 32) (h : Fin 4) :
    val_main_v22 x1 x3 (ix3 (n0 := 32) (n1 := 1) (n2 := 4) b 0 h) = gateI x1 x3 b h := by
  unfold val_main_v22 val_main_v21 val_main_v20 val_main_v19 val_main_v8
  pointwise
  rfl

/-- A sum over a window of one position is the initial value and that position's element. -/
theorem window_apply (y : FVec Ideal S32x1x4 .f32) (z : FVec Ideal S_ .f32) (b : Fin 32) (h : Fin 4) :
    Host.reduceWindowAdd (F := Ideal) (φ := .f32) (s := S32x1x4) (t := S32x1x4) (u := S_) ![1, 1, 1] ![1, 1, 1] ![0, 0, 0] ![0, 0, 0] y z
        reduceWindows_S32x1x4_S32x1x4_w1s1p0_0_w1s1p0_0_w1s1p0_0 h_S_ (ix3 (n0 := 32) (n1 := 1) (n2 := 4) b 0 h)
      = z (Shape.Idx.first h_S_) + y (ix3 (n0 := 32) (n1 := 1) (n2 := 4) b 0 h) := by
  have w0 : ∀ (n : Fin (⟨3, ![1, 1, 1]⟩ : Shape).numel) (a : Fin 3), ((⟨3, ![1, 1, 1]⟩ : Shape).rowMajor.symm n a).val = 0 := by
    intro n a
    have := ((⟨3, ![1, 1, 1]⟩ : Shape).rowMajor.symm n a).isLt
    have hs : (⟨3, ![1, 1, 1]⟩ : Shape).size a = 1 := by fin_cases a <;> rfl
    omega
  have hl : List.finRange (⟨3, ![1, 1, 1]⟩ : Shape).numel = [⟨0, by decide⟩] := by decide
  show Host.reduceWindow (α := EReal) (s := S32x1x4) (t := S32x1x4) (u := ⟨0, ![]⟩) (· + ·) ![1, 1, 1] ![1, 1, 1] ![0, 0, 0] ![0, 0, 0] y
    (fun _ => z (Shape.Idx.first h_S_)) reduceWindows_S32x1x4_S32x1x4_w1s1p0_0_w1s1p0_0_w1s1p0_0 (by decide) _ = _
  unfold Host.reduceWindow
  dsimp only
  rw [hl, List.foldl_cons, List.foldl_nil, dif_pos ?_]
  · congr 2
    funext a
    refine Fin.ext ?_
    show _ * _ + _ - _ = _
    rw [w0]
    fin_cases a
    · show b.val * 1 + 0 - 0 = b.val; omega
    · rfl
    · show h.val * 1 + 0 - 0 = h.val; omega
  · intro a
    rw [w0]
    fin_cases a
    · exact ⟨Nat.zero_le _, by show b.val * 1 + 0 - 0 < 32; omega⟩
    · exact ⟨Nat.zero_le _, Nat.one_pos⟩
    · exact ⟨Nat.zero_le _, by show h.val * 1 + 0 - 0 < 4; omega⟩

theorem v28_apply (b : Fin 32) (h : Fin 4) :
    val_main_v28 x1 x4 (ix3 (n0 := 32) (n1 := 1) (n2 := 4) b 0 h) = gateF x1 x4 b h := by
  unfold val_main_v28
  rw [window_apply, v18_apply]
  unfold val_main_call2_call0_v0 val_main_call2_call0_cst
  pointwise

theorem v29_apply (b : Fin 32) (h : Fin 4) :
    val_main_v29 x1 x4 (ix3 (n0 := 32) (n1 := 4) (n2 := 1) b h 0) = gateF x1 x4 b h := by
  have e := v28_apply x1 x4 b h
  unfold val_main_v29
  generalize val_main_v28 x1 x4 = y at e ⊢
  pointwise
  exact e

theorem v30_apply (b : Fin 32) (h : Fin 4) :
    val_main_v30 x1 x3 (ix3 (n0 := 32) (n1 := 4) (n2 := 1) b h 0) = gateI x1 x3 b h := by
  have e := v22_apply x1 x3 b h
  unfold val_main_v30
  generalize val_main_v22 x1 x3 = y at e ⊢
  pointwise
  exact e

theorem v32_apply : (val_main_v32 : (⟨S1x1, .i1⟩ : BufTy).Contents (Elt Ideal)) (ix2 (n0 := 1) (n1 := 1) 0 0) = 1#1 := by
  unfold val_main_v32 val_main_call3_v5 val_main_call3_c_0 val_main_call3_v4 val_main_call3_v3 val_main_call3_v2 val_main_call3_v1 val_main_call3_c
    val_main_call3_v0 val_main_v31 val_main_c
  pointwise
  rfl

variable {x1 x4} in
theorem gateF_real {b : Fin 32} {h : Fin 4} (hf : ⊥ < x1 (ix2 (n0 := 32) (n1 := 128) b ⟨8 + h.val, by omega⟩) + x4 (ix1 (n0 := 4) h)) :
    ∃ r : ℝ, gateF x1 x4 b h = (r : EReal) := logSig_real hf

/-! ## The projected rows -/

theorem v23_apply (b : Fin 32) (h : Fin 4) (d : Fin 128) :
    val_main_v23 x0 (ix4 (n0 := 32) (n1 := 1) (n2 := 4) (n3 := 128) b 0 h d) = qAt x0 b h d := by
  unfold val_main_v23 val_main_v3 val_main_v1 val_main_v0
  pointwise
  unfold qAt
  congr 2
  exact Fin.ext (by show 3072 + (1024 + (h.val * 128 + d.val)) = 4096 + (128 * h.val + d.val); omega)

theorem v26_apply (b : Fin 32) (h : Fin 4) (d : Fin 128) :
    val_main_v26 x0 (ix4 (n0 := 32) (n1 := 1) (n2 := 4) (n3 := 128) b 0 h d) = key (kAt x0 b h d) := by
  unfold val_main_v26 val_main_v25 val_main_cst val_main_v24 val_main_v4 val_main_v1 val_main_v0
  pointwise
  unfold key kAt
  congr 3
  exact Fin.ext (by show 3072 + (1536 + (h.val * 128 + d.val)) = 4608 + (128 * h.val + d.val); omega)

theorem v27_apply (b : Fin 32) (h : Fin 4) (a : Fin 256) :
    val_main_v27 x0 (ix4 (n0 := 32) (n1 := 1) (n2 := 4) (n3 := 256) b 0 h a) = vAt x0 b h a := by
  unfold val_main_v27 val_main_v5 val_main_v1 val_main_v0
  pointwise
  unfold vAt
  congr 2
  exact Fin.ext (by show 3072 + (2048 + (h.val * 256 + a.val)) = 5120 + (256 * h.val + a.val); omega)

section open_

variable {x1 x4} (hf : ∀ (b : Fin 32) (h : Fin 4), ⊥ < x1 (ix2 (n0 := 32) (n1 := 128) b ⟨8 + h.val, by omega⟩) + x4 (ix1 (n0 := 4) h))
include hf

theorem v38_apply (b : Fin 32) (h : Fin 4) :
    val_main_v38 x1 x3 x4 (ix4 (n0 := 32) (n1 := 4) (n2 := 1) (n3 := 1) b h 0 0) = gateI x1 x3 b h := by
  have ef := v29_apply x1 x4 b h
  have ei := v30_apply x1 x3 b h
  have ec := v32_apply
  unfold val_main_v38 val_main_call4_v2 val_main_call4_v1 val_main_call4_v0 val_main_cst_0 val_main_v37 val_main_v36 val_main_v35 val_main_v34 val_main_v33
  generalize val_main_v29 x1 x4 = y at ef ⊢
  generalize val_main_v30 x1 x3 = z at ei ⊢
  generalize (val_main_v32 : (⟨S1x1, .i1⟩ : BufTy).Contents (Elt Ideal)) = w at ec ⊢
  pointwise
  rw [ec, ef, ei, sub_self_add (gateF_real (hf b h))]
  rfl

theorem v41_apply (b : Fin 32) (h : Fin 4) :
    val_main_v41 x1 x3 x4 (ix3 (n0 := 32) (n1 := 4) (n2 := 1) b h 0) = gateI x1 x3 b h := by
  have e := v38_apply x3 hf b h
  unfold val_main_v41 val_main_cst_1
  generalize val_main_v38 x1 x3 x4 = y at e ⊢
  pointwise
  rw [Finset.univ_unique, Finset.fold_singleton, Cert.Fox.ofBits_neg_inf, max_eq_left bot_le]
  exact e

theorem v42_apply (b : Fin 32) (h : Fin 4) :
    val_main_v42 x1 x3 x4 x9 (ix3 (n0 := 32) (n1 := 4) (n2 := 1) b h 0) = stabAt x1 x3 x4 x9 b h := by
  have e := v41_apply x3 hf b h
  have ef := v29_apply x1 x4 b h
  unfold val_main_v42 val_main_v40 val_main_v39
  generalize val_main_v29 x1 x4 = z at ef ⊢
  generalize val_main_v41 x1 x3 x4 = y at e ⊢
  pointwise
  rw [e, ef]
  rfl

theorem v45_apply (b : Fin 32) (h : Fin 4) :
    val_main_v45 x1 x3 x4 x9 (ix4 (n0 := 32) (n1 := 4) (n2 := 1) (n3 := 1) b h 0 0)
      = wNew (gateI x1 x3 b h) (gateF x1 x4 b h) (x9 (ix2 (n0 := 32) (n1 := 4) b h)) := by
  have e := v38_apply x3 hf b h
  have em := v42_apply x3 x9 hf b h
  unfold val_main_v45 val_main_v44 val_main_v43
  generalize val_main_v38 x1 x3 x4 = z at e ⊢
  generalize val_main_v42 x1 x3 x4 x9 = y at em ⊢
  pointwise
  rw [e, em]
  rfl

theorem v47_apply (b : Fin 32) (h : Fin 4) :
    val_main_v47 x1 x3 x4 x9 (ix3 (n0 := 32) (n1 := 4) (n2 := 1) b h 0)
      = wOld (gateI x1 x3 b h) (gateF x1 x4 b h) (x9 (ix2 (n0 := 32) (n1 := 4) b h)) := by
  have e := v29_apply x1 x4 b h
  have em := v42_apply x3 x9 hf b h
  unfold val_main_v47 val_main_v46 val_main_v40 val_main_v39
  generalize val_main_v29 x1 x4 = z at e ⊢
  generalize val_main_v42 x1 x3 x4 x9 = y at em ⊢
  pointwise
  rw [e, em]
  rfl

theorem v67_apply (b : Fin 32) (h : Fin 4) :
    val_main_v67 x1 x3 x4 x9 (ix2 (n0 := 32) (n1 := 4) b h) = stabAt x1 x3 x4 x9 b h := by
  have em := v42_apply x3 x9 hf b h
  unfold val_main_v67
  generalize val_main_v42 x1 x3 x4 x9 = y at em ⊢
  pointwise
  exact em

theorem v72_apply (b : Fin 32) (h : Fin 4) :
    val_main_v72 x1 x3 x4 x9 (ix3 (n0 := 32) (n1 := 4) (n2 := 1) b h 0)
      = wNew (gateI x1 x3 b h) (gateF x1 x4 b h) (x9 (ix2 (n0 := 32) (n1 := 4) b h)) := by
  have ef := v29_apply x1 x4 b h
  have ei := v30_apply x1 x3 b h
  have em := v67_apply x3 x9 hf b h
  unfold val_main_v72 val_main_v71 val_main_v70 val_main_v69 val_main_v68
  generalize val_main_v29 x1 x4 = z at ef ⊢
  generalize val_main_v30 x1 x3 = w at ei ⊢
  generalize val_main_v67 x1 x3 x4 x9 = y at em ⊢
  pointwise
  rw [ef, ei, em, sub_self_add (gateF_real (hf b h))]
  rfl

theorem v75_apply (b : Fin 32) (h : Fin 4) :
    val_main_v75 x1 x3 x4 x9 (ix2 (n0 := 32) (n1 := 4) b h)
      = wOld (gateI x1 x3 b h) (gateF x1 x4 b h) (x9 (ix2 (n0 := 32) (n1 := 4) b h)) := by
  have ef := v29_apply x1 x4 b h
  have em := v67_apply x3 x9 hf b h
  unfold val_main_v75 val_main_v74 val_main_v73 val_main_v40 val_main_v39
  generalize val_main_v29 x1 x4 = z at ef ⊢
  generalize val_main_v67 x1 x3 x4 x9 = y at em ⊢
  pointwise
  rw [ef, em]
  rfl

/-! ## The state -/

theorem v84_apply (b : Fin 32) (h : Fin 4) (a : Fin 256) (d : Fin 128) :
    val_main_v84 x0 x1 x3 x4 x7 x9 (ix4 (n0 := 32) (n1 := 4) (n2 := 256) (n3 := 128) b h a d) = memAt x0 x1 x3 x4 x7 x9 b h a d := by
  have en := v72_apply x3 x9 hf b h
  have eo := v75_apply x3 x9 hf b h
  have ek := v26_apply x0 b h d
  have ev := v27_apply x0 b h a
  unfold val_main_v84 val_main_v83 val_main_v82 val_main_v81 val_main_v80 val_main_v79 val_main_v78 val_main_v77 val_main_v76
  generalize val_main_v72 x1 x3 x4 x9 = z at en ⊢
  generalize val_main_v75 x1 x3 x4 x9 = y at eo ⊢
  generalize val_main_v26 x0 = k at ek ⊢
  generalize val_main_v27 x0 = v at ev ⊢
  pointwise
  rw [Finset.univ_unique, Finset.sum_singleton]
  refine congrArg₂ (· + ·) (congrArg₂ (· * ·) eo rfl) ((congrArg₂ (· * ·) (congrArg₂ (· * ·) en ev) ek).trans ?_)
  rw [mul_comm (wNew _ _ _)]

theorem v89_apply (b : Fin 32) (h : Fin 4) (d : Fin 128) :
    val_main_v89 x0 x1 x3 x4 x8 x9 (ix3 (n0 := 32) (n1 := 4) (n2 := 128) b h d) = norAt x0 x1 x3 x4 x8 x9 b h d := by
  have en := v72_apply x3 x9 hf b h
  have eo := v75_apply x3 x9 hf b h
  have ek := v26_apply x0 b h d
  unfold val_main_v89 val_main_v88 val_main_v87 val_main_v86 val_main_v85
  generalize val_main_v72 x1 x3 x4 x9 = z at en ⊢
  generalize val_main_v75 x1 x3 x4 x9 = y at eo ⊢
  generalize val_main_v26 x0 = k at ek ⊢
  pointwise
  rw [Finset.univ_unique, Finset.sum_singleton]
  exact congrArg₂ (· + ·) (congrArg₂ (· * ·) eo rfl) (congrArg₂ (· * ·) en ek)

/-! ## The read-out -/

theorem v49_apply (b : Fin 32) (h : Fin 4) :
    val_main_v49 x0 x1 x3 x4 x9 (ix4 (n0 := 32) (n1 := 4) (n2 := 1) (n3 := 1) b h 0 0)
      = score (gateI x1 x3 b h) (gateF x1 x4 b h) (x9 (ix2 (n0 := 32) (n1 := 4) b h)) (qAt x0 b h) (kAt x0 b h) := by
  have en := v45_apply x3 x9 hf b h
  have ek := v26_apply x0 b h
  have eq := v23_apply x0 b h
  unfold val_main_v49 val_main_v48
  generalize val_main_v45 x1 x3 x4 x9 = z at en ⊢
  generalize val_main_v26 x0 = k at ek ⊢
  generalize val_main_v23 x0 = q at eq ⊢
  pointwise
  simp only [en, ek, eq]
  rfl

theorem v66_apply (b : Fin 32) (h : Fin 4) (a : Fin 256) :
    val_main_v66 x0 x1 x3 x4 x7 x8 x9 (ix4 (n0 := 32) (n1 := 4) (n2 := 1) (n3 := 256) b h 0 a) = readAt x0 x1 x3 x4 x7 x8 x9 b h a := by
  have es := v49_apply x0 x3 x9 hf b h
  have eo := v47_apply x3 x9 hf b h
  have em := v42_apply x3 x9 hf b h
  have eq := v23_apply x0 b h
  have ev := v27_apply x0 b h a
  unfold val_main_v66 val_main_v65 val_main_v64 val_main_v63 val_main_v62 val_main_v61 val_main_v60 val_main_v59 val_main_v58 val_main_v57
    val_main_v56 val_main_v55 val_main_v54 val_main_v53 val_main_v52 val_main_v51 val_main_v50 val_main_cst_2
  generalize val_main_v49 x0 x1 x3 x4 x9 = s at es ⊢
  generalize val_main_v47 x1 x3 x4 x9 = z at eo ⊢
  generalize val_main_v42 x1 x3 x4 x9 = y at em ⊢
  generalize val_main_v23 x0 = q at eq ⊢
  generalize val_main_v27 x0 = v at ev ⊢
  pointwise
  have es' : ∑ x : Fin 1, s (ix4 (n0 := 32) (n1 := 4) (n2 := 1) (n3 := 1) b h 0 x) = s (ix4 (n0 := 32) (n1 := 4) (n2 := 1) (n3 := 1) b h 0 0) :=
    Fin.sum_univ_one _
  rw [es', Fin.sum_univ_one, es, eo, em, ev]
  simp only [eq]
  unfold readAt readout
  rw [zero_sub]
  simp only [mul_comm (x8 _)]
  rfl

end open_

/-! ## The first mixer's part, and the second's -/

theorem v93_apply (b : Fin 32) (j : Fin 1024) :
    val_main_v93 x0 x5 (ix3 (n0 := 32) (n1 := 1) (n2 := 1024) b 0 j)
      = silu (x0 (ix2 (n0 := 32) (n1 := 8192) b ⟨3072 + j.val, by omega⟩)) * x5 (ix2 (n0 := 32) (n1 := 1024) b j) := by
  unfold val_main_v93 val_main_v92 val_main_v91 val_main_call5_v5 val_main_call5_v4 val_main_call5_cst_0 val_main_call5_v3 val_main_call5_v2
    val_main_call5_cst val_main_call5_v1 val_main_call5_v0 val_main_v2 val_main_v1 val_main_v0
  pointwise
  unfold silu sigm
  rw [zero_sub]

theorem v115_apply (b : Fin 32) (j : Fin 1024) :
    val_main_v115 x0 (ix3 (n0 := 32) (n1 := 1) (n2 := 1024) b 0 j)
      = silu (x0 (ix2 (n0 := 32) (n1 := 8192) b ⟨7168 + j.val, by omega⟩)) * sigm (x0 (ix2 (n0 := 32) (n1 := 8192) b ⟨6144 + j.val, by omega⟩)) := by
  unfold val_main_v115 val_main_v114 val_main_v113 val_main_cst_7 val_main_v112 val_main_v111 val_main_cst_6 val_main_v110 val_main_v109
    val_main_v108 val_main_call6_v5 val_main_call6_v4 val_main_call6_cst_0 val_main_call6_v3 val_main_call6_v2
    val_main_call6_cst val_main_call6_v1 val_main_call6_v0 val_main_v7 val_main_v6 val_main_v1 val_main_v0
  pointwise
  unfold silu sigm
  rw [zero_sub, zero_sub]
  have e1 : (⟨3072 + (4096 + j.val), by omega⟩ : Fin 8192) = ⟨7168 + j.val, by omega⟩ :=
    Fin.ext (by show 3072 + (4096 + j.val) = 7168 + j.val; omega)
  have e2 : (⟨3072 + (3072 + j.val), by omega⟩ : Fin 8192) = ⟨6144 + j.val, by omega⟩ :=
    Fin.ext (by show 3072 + (3072 + j.val) = 6144 + j.val; omega)
  simp only [e1, e2]

/-- A column of the rows of four heads, 256 each. -/
theorem v104_apply (b : Fin 32) (h : Fin 4) (a : Fin 256) :
    val_main_v104 x0 x1 x3 x4 x7 x8 x9 (ix3 (n0 := 32) (n1 := 1) (n2 := 1024) b 0 ⟨256 * h.val + a.val, by omega⟩)
      = val_main_v103 x0 x1 x3 x4 x7 x8 x9 (ix4 (n0 := 32) (n1 := 1) (n2 := 4) (n3 := 256) b 0 h a) := by
  unfold val_main_v104
  generalize val_main_v103 x0 x1 x3 x4 x7 x8 x9 = y
  pointwise

variable {x1 x4} in
theorem v103_apply (hf : ∀ (b : Fin 32) (h : Fin 4), ⊥ < x1 (ix2 (n0 := 32) (n1 := 128) b ⟨8 + h.val, by omega⟩) + x4 (ix1 (n0 := 4) h))
    (b : Fin 32) (h : Fin 4) (a : Fin 256) :
    val_main_v103 x0 x1 x3 x4 x7 x8 x9 (ix4 (n0 := 32) (n1 := 1) (n2 := 4) (n3 := 256) b 0 h a)
      = readAt x0 x1 x3 x4 x7 x8 x9 b h a
        * Ideal.rsqrt (Ideal.div (∑ x, readAt x0 x1 x3 x4 x7 x8 x9 b h x * readAt x0 x1 x3 x4 x7 x8 x9 b h x) (Ideal.ofBits FTy.f32 0x43800000#32)
          + Ideal.ofBits FTy.f32 0x358637BD#32) := by
  have er := v66_apply x0 x3 x7 x8 x9 hf b h
  unfold val_main_v103 val_main_v102 val_main_v101 val_main_v100 val_main_v99 val_main_cst_5 val_main_v98 val_main_v97 val_main_cst_4
    val_main_v96 val_main_v95 val_main_cst_3 val_main_v94 val_main_v90
  generalize val_main_v66 x0 x1 x3 x4 x7 x8 x9 = y at er ⊢
  pointwise
  simp only [er]

variable {x1 x4} in
theorem v116_apply (hf : ∀ (b : Fin 32) (h : Fin 4), ⊥ < x1 (ix2 (n0 := 32) (n1 := 128) b ⟨8 + h.val, by omega⟩) + x4 (ix1 (n0 := 4) h))
    (b : Fin 32) (h : Fin 4) (a : Fin 256) :
    val_main_v116 x0 x1 x3 x4 x6 x7 x8 x9 (ix3 (n0 := 32) (n1 := 1) (n2 := 1024) b 0 ⟨256 * h.val + a.val, by omega⟩)
      = mixAt x0 x1 x3 x4 x6 x7 x8 x9 b h a := by
  have ez := v115_apply x0 b ⟨256 * h.val + a.val, by omega⟩
  have en := (v104_apply x0 x1 x3 x4 x7 x8 x9 b h a).trans (v103_apply x0 x3 x7 x8 x9 hf b h a)
  unfold val_main_v116 val_main_v107 val_main_v106 val_main_v105
  generalize val_main_v115 x0 = y at ez ⊢
  generalize val_main_v104 x0 x1 x3 x4 x7 x8 x9 = z at en ⊢
  pointwise
  rw [ez, en]
  rfl

/-! ## The six results -/

theorem v117_eq : val_main_v117 x1 x2 = resL x1 x2 := by
  funext i
  obtain ⟨a, b, rfl⟩ : ∃ (a : Fin 32) (b : Fin 8), i = ix2 (n0 := 32) (n1 := 8) a b := ⟨i 0, i 1, by funext k; fin_cases k <;> rfl⟩
  have e := v13_apply x1 x2 a b
  unfold val_main_v117
  generalize val_main_v13 x1 x2 = y at e ⊢
  pointwise
  exact e

theorem v118_eq : val_main_v118 x0 x5 = resF x0 x5 := by
  funext i
  obtain ⟨a, b, rfl⟩ : ∃ (a : Fin 32) (b : Fin 1024), i = ix2 (n0 := 32) (n1 := 1024) a b := ⟨i 0, i 1, by funext k; fin_cases k <;> rfl⟩
  have e := v93_apply x0 x5 a b
  unfold val_main_v118
  generalize val_main_v93 x0 x5 = y at e ⊢
  pointwise
  exact e

section open_

variable {x1 x4} (hf : ∀ (b : Fin 32) (h : Fin 4), ⊥ < x1 (ix2 (n0 := 32) (n1 := 128) b ⟨8 + h.val, by omega⟩) + x4 (ix1 (n0 := 4) h))
include hf

theorem v119_eq : val_main_v119 x0 x1 x3 x4 x6 x7 x8 x9 = resX x0 x1 x3 x4 x6 x7 x8 x9 := by
  funext i
  obtain ⟨a, b, rfl⟩ : ∃ (a : Fin 32) (b : Fin 1024), i = ix2 (n0 := 32) (n1 := 1024) a b := ⟨i 0, i 1, by funext k; fin_cases k <;> rfl⟩
  have e := v116_apply x0 x3 x6 x7 x8 x9 hf a ⟨b.val / 256, by omega⟩ ⟨b.val % 256, Nat.mod_lt _ (by decide)⟩
  have hb : (⟨256 * (b.val / 256) + b.val % 256, by omega⟩ : Fin 1024) = b := Fin.ext (Nat.div_add_mod _ _)
  simp only [hb] at e
  unfold val_main_v119
  generalize val_main_v116 x0 x1 x3 x4 x6 x7 x8 x9 = y at e ⊢
  pointwise
  exact e

theorem v84_eq : val_main_v84 x0 x1 x3 x4 x7 x9 = resC x0 x1 x3 x4 x7 x9 := by
  funext i
  obtain ⟨a, b, c, d, rfl⟩ : ∃ (a : Fin 32) (b : Fin 4) (c : Fin 256) (d : Fin 128), i = ix4 (n0 := 32) (n1 := 4) (n2 := 256) (n3 := 128) a b c d :=
    ⟨i 0, i 1, i 2, i 3, by funext k; fin_cases k <;> rfl⟩
  exact v84_apply x0 x3 x7 x9 hf a b c d

theorem v89_eq : val_main_v89 x0 x1 x3 x4 x8 x9 = resN x0 x1 x3 x4 x8 x9 := by
  funext i
  obtain ⟨a, b, d, rfl⟩ : ∃ (a : Fin 32) (b : Fin 4) (d : Fin 128), i = ix3 (n0 := 32) (n1 := 4) (n2 := 128) a b d :=
    ⟨i 0, i 1, i 2, by funext k; fin_cases k <;> rfl⟩
  exact v89_apply x0 x3 x8 x9 hf a b d

theorem v67_eq : val_main_v67 x1 x3 x4 x9 = resM x1 x3 x4 x9 := by
  funext i
  obtain ⟨a, b, rfl⟩ : ∃ (a : Fin 32) (b : Fin 4), i = ix2 (n0 := 32) (n1 := 4) a b := ⟨i 0, i 1, by funext k; fin_cases k <;> rfl⟩
  exact v67_apply x3 x9 hf a b

end open_

end Cert.Step.Plain

end
-- ==== Proof.Step.Pre.lean ====
/- The precondition read: no forget gate of the second mixer is `⊥` before its logistic. -/
module

public import proofs.«01_k».proof.Proof.Fox.Pointwise
public import proofs.«01_k».proof.Pre_forget_open
public import Idealize.ShloMosaic.Lib.Decide

@[expose] public section

set_option maxRecDepth 16384

noncomputable section

namespace Cert.Step.Pre

open Cert.Pre_forget_open
open Idealize.ShloMosaic Idealize.ShloMosaic.TcCoe Idealize.ShloMosaic.Tactic

/-- The side conditions of the precondition's operations. -/
instance facts : Cert.Pre_forget_open.Facts where
  slices_S32x128_S32x4_0_8 := by decide
  bcast_S4_S1x4_1 := by decide
  bcast_S1x4_S32x4_0_1 := by decide
  bcast_S_S32x4 := by decide

theorem bit_true : ∀ {b : Bool}, BitVec.ofBool b = 1#1 → b = true := by
  decide

theorem opened (x0 : Vec Ideal S32x8192 .f32) (x1 : Vec Ideal S32x128 .f32) (x2 : Vec Ideal S8 .f32) (x3 x4 : Vec Ideal S4 .f32)
    (x5 : Vec Ideal S32x1024 .f32) (x6 : Vec Ideal S1024 .f32) (x7 : Vec Ideal S32x4x256x128 .f32) (x8 : Vec Ideal S32x4x128 .f32)
    (x9 : Vec Ideal S32x4 .f32) (h : Cert.Pre_forget_open.fn (F := Ideal) x0 x1 x2 x3 x4 x5 x6 x7 x8 x9 = fun _ => 1#1) (b : Fin 32) (k : Fin 4) :
    ⊥ < x1 (ix2 (n0 := 32) (n1 := 128) b ⟨8 + k.val, by omega⟩) + x4 (ix1 (n0 := 4) k) := by
  have h1 := congrFun h (ix2 (n0 := 32) (n1 := 4) b k)
  unfold Cert.Pre_forget_open.fn at h1
  pointwise at h1
  rw [Cert.Fox.ofBits_neg_inf] at h1
  exact of_decide_eq_true (bit_true h1)

end Cert.Step.Pre

end
-- ==== Proof.Step.Algebraic.lean ====
/- The recurrent step's value claim: where no forget gate is `⊥` before its logistic, the kernel and the plain reference end
   holding the same six arrays. -/
module

public import proofs.«01_k».proof.Proof.Step.Reference
public import proofs.«01_k».proof.Proof.Step.Pre
public import proofs.«01_k».proof.Proof.Gen.ReferenceStepIdeal.Run
public import proofs.«01_k».proof.Defs
public import Idealize.ShloMosaic.Lib.Claim

@[expose] public section

noncomputable section

namespace Cert.Step

open Idealize.ShloMosaic Idealize.ShloMosaic.TcCoe Idealize.SL.Sem

theorem algebraic : Cert.algebraic_KernelStepIdeal_ReferenceStepIdeal_pre_forget_open (hPre_forget_open := Pre.facts) := by
  intro m g m' g' hpre hagree
  refine ⟨fun c => resC (A0 m c) (A1 m c) (A3 m c) (A4 m c) (A7 m c) (A9 m c), fun c => resN (A0 m c) (A1 m c) (A3 m c) (A4 m c) (A8 m c) (A9 m c),
    fun c => resM (A1 m c) (A3 m c) (A4 m c) (A9 m c), fun c => resL (A1 m c) (A2 m c), fun c => resF (A0 m c) (A5 m c),
    fun c => resX (A0 m c) (A1 m c) (A3 m c) (A4 m c) (A6 m c) (A7 m c) (A8 m c) (A9 m c), ?_, ?_⟩
  · refine θ_run_mono (Cert.KernelStepIdeal.Value.run_blocks m g) fun r h c => ?_
    obtain ⟨h0, h1, h2, h3, h4, h5, h6⟩ := h c
    exact ⟨h0.trans (final12 m c), h1.trans (final13 m c), h2.trans (final14 m c), h3.trans (final15 m c), h4.trans (final16 m c),
      h5.trans (final17 m c), h6⟩
  · refine θ_run_mono (Cert.ReferenceStepIdeal.Value.run m' g') fun r h c => ?_
    obtain ⟨h0, h1, h2, h3, h4, h5, h6⟩ := h c
    obtain ⟨a0, a1, a2, a3, a4, a5, a6, a7, a8, a9⟩ := hagree c
    have hf := Pre.opened _ _ _ _ _ _ _ _ _ _ (hpre c)
    rw [← a1, ← a4] at hf
    refine ⟨h0.trans ((Cert.ReferenceStepIdeal.Read.val_main_v84_eq _).trans ?_), h1.trans ((Cert.ReferenceStepIdeal.Read.val_main_v89_eq _).trans ?_),
      h2.trans ((Cert.ReferenceStepIdeal.Read.val_main_v67_eq _).trans ?_), h3.trans ((Cert.ReferenceStepIdeal.Read.val_main_v117_eq _).trans ?_),
      h4.trans ((Cert.ReferenceStepIdeal.Read.val_main_v118_eq _).trans ?_), h5.trans ((Cert.ReferenceStepIdeal.Read.val_main_v119_eq _).trans ?_), h6⟩
    · refine (Plain.v84_eq (m' ((c.tc : Thread _ _).loc Cert.ReferenceStepIdeal.main_arg0)) (m' ((c.tc : Thread _ _).loc Cert.ReferenceStepIdeal.main_arg3)) (m' ((c.tc : Thread _ _).loc Cert.ReferenceStepIdeal.main_arg7)) (m' ((c.tc : Thread _ _).loc Cert.ReferenceStepIdeal.main_arg9)) hf).trans ?_
      rw [a0, a1, a3, a4, a7, a9]
    · refine (Plain.v89_eq (m' ((c.tc : Thread _ _).loc Cert.ReferenceStepIdeal.main_arg0)) (m' ((c.tc : Thread _ _).loc Cert.ReferenceStepIdeal.main_arg3)) (m' ((c.tc : Thread _ _).loc Cert.ReferenceStepIdeal.main_arg8)) (m' ((c.tc : Thread _ _).loc Cert.ReferenceStepIdeal.main_arg9)) hf).trans ?_
      rw [a0, a1, a3, a4, a8, a9]
    · refine (Plain.v67_eq (m' ((c.tc : Thread _ _).loc Cert.ReferenceStepIdeal.main_arg3)) (m' ((c.tc : Thread _ _).loc Cert.ReferenceStepIdeal.main_arg9)) hf).trans ?_
      rw [a1, a3, a4, a9]
    · refine (Plain.v117_eq (m' ((c.tc : Thread _ _).loc Cert.ReferenceStepIdeal.main_arg1)) (m' ((c.tc : Thread _ _).loc Cert.ReferenceStepIdeal.main_arg2))).trans ?_
      rw [a1, a2]
    · refine (Plain.v118_eq (m' ((c.tc : Thread _ _).loc Cert.ReferenceStepIdeal.main_arg0)) (m' ((c.tc : Thread _ _).loc Cert.ReferenceStepIdeal.main_arg5))).trans ?_
      rw [a0, a5]
    · refine (Plain.v119_eq (m' ((c.tc : Thread _ _).loc Cert.ReferenceStepIdeal.main_arg0)) (m' ((c.tc : Thread _ _).loc Cert.ReferenceStepIdeal.main_arg3)) (m' ((c.tc : Thread _ _).loc Cert.ReferenceStepIdeal.main_arg6)) (m' ((c.tc : Thread _ _).loc Cert.ReferenceStepIdeal.main_arg7)) (m' ((c.tc : Thread _ _).loc Cert.ReferenceStepIdeal.main_arg8)) (m' ((c.tc : Thread _ _).loc Cert.ReferenceStepIdeal.main_arg9)) hf).trans ?_
      rw [a0, a1, a3, a4, a6, a7, a8, a9]

end Cert.Step

end
-- ==== Proof.Gates.Final.lean ====
/- The prompt's log forget gates: every block of 128 rows the kernel stores holds the rows of one array, a function of the arguments. -/
module

public import proofs.«01_k».proof.Proof.Step.Gates
public import proofs.«01_k».proof.Proof.Gen.KernelGatesIdeal.Value
public import Idealize.ShloMosaic.Lib.Pipeline.ValueKit
public import Idealize.ShloMosaic.Lib.Pointwise
public import Idealize.ShloMosaic.PureOps.Ideal

@[expose] public section

set_option maxRecDepth 16384

noncomputable section

namespace Cert.Gates

open Cert.KernelGatesIdeal Cert.KernelGatesIdeal.Gen
open Idealize.ShloMosaic Idealize.ShloMosaic.TcCoe Idealize.ShloMosaic.Tactic Idealize.SL.Sem
open Cert.Step (logSig)

theorem hz : (![0, 0] : Fin 2 → Nat) = fun _ => 0 := funext fun a => by fin_cases a <;> rfl

section
variable {F : FTy → Type} [FloatOps F]

/-- The block stored at the first point is the payload of the two loads. -/
theorem outA_eq (c : Dev nD) (i : grid0.Coords) (a1 : Memref sig .tc .vmem S128x128 .f32) (h1 : a1.IsWhole)
    (a2 : Memref sig .tc .vmem S1x128 .f32) (h2 : a2.IsWhole) (a3 : Memref sig .tc .vmem S128x128 .bf16) (h3 : a3.IsWhole)
    (a4 : Memref sig .tc .vmem S128x128 .f32) (h4 : a4.IsWhole) (a5 : Memref sig .tc .vmem S16x128 .f32) (h5 : a5.IsWhole)
    (a6 : Memref sig .tc .vmem S128x8 .f32) (h6 : a6.IsWhole) (a7 : Memref sig .tc .vmem S1x128 .f32) (h7 : a7.IsWhole) (hc)
    (x0 : Vec F S128x128 .f32) (x1 : Vec F S1x128 .f32) (x2 : Vec F S128x128 .bf16) :
    out0_A_5 c i a1 h1 a2 h2 a3 h3 a4 h4 a5 h5 a6 h6 a7 h7 hc x0 x1 x2 = k0_pay4 (k0_pay9 x0 x1) := by
  unfold out0_A_5
  rw [View.read_writes_eq_canon _ _ _ (cover0_A_5 c i a1 h1 a2 h2 a3 h3 a4 h4 a5 h5 a6 h6 a7 h7 hc x0 x1 x2)]
  unfold kernelRun0_A
  dsimp only
  rw [View.canon_unit_zero hz]
  unfold kernelRun0_A.sl.r_1
  simp only [View.readAt_eq_ld, h1.read_unread, h2.read_unread, View.ld_unit_zero (S := S128x128) hz, View.ld_unit_zero (S := S1x128) hz]

/-- So is the block stored at a later point. -/
theorem outB_eq (c : Dev nD) (i : grid0.Coords) (a1 : Memref sig .tc .vmem S128x128 .f32) (h1 : a1.IsWhole)
    (a2 : Memref sig .tc .vmem S1x128 .f32) (h2 : a2.IsWhole) (a3 : Memref sig .tc .vmem S128x128 .bf16) (h3 : a3.IsWhole)
    (a4 : Memref sig .tc .vmem S128x128 .f32) (h4 : a4.IsWhole) (a5 : Memref sig .tc .vmem S16x128 .f32) (h5 : a5.IsWhole)
    (a6 : Memref sig .tc .vmem S128x8 .f32) (h6 : a6.IsWhole) (a7 : Memref sig .tc .vmem S1x128 .f32) (h7 : a7.IsWhole) (hc)
    (x0 : Vec F S128x128 .f32) (x1 : Vec F S1x128 .f32) (x2 : Vec F S128x128 .bf16) (xs : Vec F S1x128 .f32) :
    out0_B_5 c i a1 h1 a2 h2 a3 h3 a4 h4 a5 h5 a6 h6 a7 h7 hc x0 x1 x2 xs = k0_pay4 (k0_pay9 x0 x1) := by
  unfold out0_B_5
  rw [View.read_writes_eq_canon _ _ _ (cover0_B_5 c i a1 h1 a2 h2 a3 h3 a4 h4 a5 h5 a6 h6 a7 h7 hc x0 x1 x2 xs)]
  unfold kernelRun0_B
  dsimp only
  rw [View.canon_unit_zero hz]
  unfold kernelRun0_B.sl.r_1
  simp only [View.readAt_eq_ld, h1.read_unread, h2.read_unread, View.ld_unit_zero (S := S128x128) hz, View.ld_unit_zero (S := S1x128) hz]

end

/-- The payload at an index. -/
theorem pay_apply (x0 : Vec Ideal S128x128 .f32) (x1 : Vec Ideal S1x128 .f32) (r : Fin 128) (j : Fin 8) :
    k0_pay4 (k0_pay9 x0 x1) (ix2 (n0 := 128) (n1 := 8) r j)
      = logSig (x0 (ix2 (n0 := 128) (n1 := 128) r ⟨j.val, by omega⟩) + x1 (ix2 (n0 := 1) (n1 := 128) 0 ⟨j.val, by omega⟩)) := by
  unfold k0_pay4
  refine (extractStridedSlice_apply _ _ _ _ (ix2 (n0 := 128) (n1 := 128) r ⟨j.val, by omega⟩) fun a => match a with
    | ⟨0, _⟩ => by show r.val = 0 + r.val; omega
    | ⟨1, _⟩ => by show j.val = 0 + j.val; omega).trans ?_
  unfold k0_pay9 k0_pay7
  pointwise
  rfl

variable (m : (ℓ : Loc nD τ sig) → Buf (Elt Ideal) ℓ) (c : Dev nD)

abbrev A0 : Vec Ideal S8320x128 .f32 := m ((c : Thread nD τ).loc main_arg0)
abbrev A1 : Vec Ideal S8 .f32 := m ((c : Thread nD τ).loc main_arg1)
abbrev A2 : Vec Ideal S4 .f32 := m ((c : Thread nD τ).loc main_arg2)
abbrev A3 : Vec Ideal S4 .f32 := m ((c : Thread nD τ).loc main_arg3)

/-- The log forget gates of the real rows, from the gates' columns and the biases. -/
def resL (x0 : Vec Ideal S8320x128 .f32) (x1 : Vec Ideal S8 .f32) : Vec Ideal S8208x8 .f32 := fun i =>
  logSig (x0 (ix2 (n0 := 8320) (n1 := 128) ⟨(i 0).val, (i 0).isLt.trans (by decide)⟩ ⟨(i 1).val, (i 1).isLt.trans (by decide)⟩)
    + x1 (ix1 (n0 := 8) (i 1)))

theorem t_lt (t : Fin cfg0.N) : t.val < 65 := lt_of_lt_of_eq t.isLt N_0

theorem index_all : ∀ t : Fin cfg0.N, win0_0.index t = ![t.val, 0] ∧ win0_1.index t = ![0, 0] ∧ win0_5.index t = ![t.val, 0] := by
  decide +kernel

theorem iblk_g (t : Fin cfg0.N) (r : Fin 128) (j : Fin 128) :
    (iblk m c 0 t : Vec Ideal S128x128 .f32) (ix2 (n0 := 128) (n1 := 128) r j)
      = A0 m c (ix2 (n0 := 8320) (n1 := 128) ⟨128 * t.val + r.val, by have := t_lt t; omega⟩ j) := by
  have e := (index_all t).1
  have h := V_main_arg0 m c
  blk_ext [iblk, h, e]

theorem V_bias : (V m c main_v2 : Vec Ideal S1x128 .f32)
    = broadcastInDim S1x128 ![1] bcast_S128_S1x128_1 (concatenate S128 0 [⟨S8, A1 m c⟩, ⟨S4, A3 m c⟩, ⟨S4, A2 m c⟩,
      ⟨S112, broadcastInDim S112 ![] bcast_S_S112 (constant (F := Ideal) S_ .f32 0x00000000#32)⟩] concatenates_S8_S4_S4_S112_S128_d0) := by
  unfold V
  after_results_simp
  rfl

theorem iblk_bias (t : Fin cfg0.N) (j : Fin 128) :
    (iblk m c 1 t : Vec Ideal S1x128 .f32) (ix2 (n0 := 1) (n1 := 128) 0 j) = (V m c main_v2 : Vec Ideal S1x128 .f32) (ix2 (n0 := 1) (n1 := 128) 0 j) := by
  have e := (index_all t).2.1
  blk_ext [iblk, e]

theorem iblk_b (t : Fin cfg0.N) (j : Fin 8) :
    (iblk m c 1 t : Vec Ideal S1x128 .f32) (ix2 (n0 := 1) (n1 := 128) 0 ⟨j.val, by omega⟩) = A1 m c (ix1 (n0 := 8) j) := by
  rw [iblk_bias, V_bias]
  generalize A1 m c = x1
  generalize A2 m c = x2
  generalize A3 m c = x3
  pointwise

/-- The block after a point. -/
theorem after_apply (t : Fin cfg0.N) (r : Fin 128) (j : Fin 8) :
    ((dats m 0 c).after 5 t : Vec Ideal S128x8 .f32) (ix2 (n0 := 128) (n1 := 8) r j)
      = logSig (A0 m c (ix2 (n0 := 8320) (n1 := 128) ⟨128 * t.val + r.val, by have := t_lt t; omega⟩ ⟨j.val, by omega⟩) + A1 m c (ix1 (n0 := 8) j)) := by
  rw [after0_5]
  by_cases h0 : t.val % 65 = 0
  · rw [outsAt0_A m c t h0]
    dsimp only
    rw [outA_eq, pay_apply, iblk_g, iblk_b]
  · rw [outsAt0_B m c t h0]
    dsimp only
    rw [outB_eq, pay_apply, iblk_g, iblk_b]

theorem final5 : (dats m 0 c).arrAt 5 (cfgs 0).N = resL (A0 m c) (A1 m c) := by
  refine (dats m 0 c).arrAt_eq_of_covers 5 _ (by decide +kernel) fun t hfl y => ?_
  have e := (index_all t).2.2
  have h0 : (((cfg0.win 5).blk t).view.emb y 0).val = win0_5.index t 0 * 128 + (y 0).val := Pipeline.Window.rect_emb_val win0_5 t y 0 rfl
  have h1 : (((cfg0.win 5).blk t).view.emb y 1).val = win0_5.index t 1 * 8 + (y 1).val := Pipeline.Window.rect_emb_val win0_5 t y 1 rfl
  rw [e] at h0 h1
  obtain ⟨r, j, hx⟩ : ∃ (r : Fin 128) (j : Fin 8), (cfg0.win 5).xinj (cfg0.grid.coords t) y = ix2 (n0 := 128) (n1 := 8) r j :=
    ⟨(cfg0.win 5).xinj (cfg0.grid.coords t) y 0, (cfg0.win 5).xinj (cfg0.grid.coords t) y 1, by funext k; fin_cases k <;> rfl⟩
  have hr : (y 0).val = r.val := congrArg Fin.val (congrFun hx 0)
  have hj : (y 1).val = j.val := congrArg Fin.val (congrFun hx 1)
  blk_simp
  rw [hx]
  refine (after_apply m c t r j).trans ?_
  have e0 : (((cfg0.win 5).blk t).view.emb y 0).val = 128 * t.val + r.val := by
    rw [h0]; show t.val * 128 + (y 0).val = _; omega
  have e1 : (((cfg0.win 5).blk t).view.emb y 1).val = j.val := by
    rw [h1]; show 0 * 8 + (y 1).val = _; omega
  have e1' : (((cfg0.win 5).blk t).view.emb y 1) = j := Fin.ext e1
  unfold resL
  simp only [e0, e1, e1']

end Cert.Gates

end
-- ==== Proof.Gates.Algebraic.lean ====
/- The value claim of the prompt's log forget gates: the kernel and the plain reference end holding the same array. -/
module

public import proofs.«01_k».proof.Proof.Gates.Final
public import proofs.«01_k».proof.Proof.Gen.ReferenceGatesIdeal.Run
public import proofs.«01_k».proof.Proof.Gen.ReferenceGatesIdeal.Read
public import proofs.«01_k».proof.Defs
public import Idealize.ShloMosaic.Lib.Claim

@[expose] public section

set_option maxRecDepth 16384

noncomputable section

namespace Cert.Gates

open Idealize.ShloMosaic Idealize.ShloMosaic.TcCoe Idealize.ShloMosaic.Tactic Idealize.SL.Sem

namespace Plain

open Cert.ReferenceGatesIdeal Cert.ReferenceGatesIdeal.Read

variable (x0 : Vec Ideal S8320x128 .f32) (x1 : Vec Ideal S8 .f32)

theorem v3_apply (r : Fin 8208) (j : Fin 8) :
    val_main_v3 x0 x1 (ix2 (n0 := 8208) (n1 := 8) r j)
      = x0 (ix2 (n0 := 8320) (n1 := 128) ⟨r.val, by omega⟩ ⟨j.val, by omega⟩) + x1 (ix1 (n0 := 8) j) := by
  unfold val_main_v3 val_main_v2 val_main_v1 val_main_v0
  pointwise

theorem v4_eq : val_main_v4 x0 x1 = resL x0 x1 := by
  funext i
  obtain ⟨r, j, rfl⟩ : ∃ (r : Fin 8208) (j : Fin 8), i = ix2 (n0 := 8208) (n1 := 8) r j := ⟨i 0, i 1, by funext k; fin_cases k <;> rfl⟩
  have h := v3_apply x0 x1 r j
  unfold val_main_v4 val_main_call0_v1 val_main_call0_call0_v11 val_main_call0_call0_v10 val_main_call0_call0_v9 val_main_call0_call0_v8
    val_main_call0_call0_v7 val_main_call0_call0_v6 val_main_call0_call0_v5 val_main_call0_call0_v4 val_main_call0_call0_v3
    val_main_call0_call0_v2 val_main_call0_call0_v1 val_main_call0_call0_v0 val_main_call0_call0_cst val_main_call0_v0
  generalize val_main_v3 x0 x1 = y at h ⊢
  pointwise
  rw [h, if_neg (not_not.mpr rfl)]
  exact Cert.Step.neg_softplus _

end Plain

theorem algebraic : Cert.algebraic_KernelGatesIdeal_ReferenceGatesIdeal := by
  intro m g m' g' _ hagree
  refine ⟨fun c => resL (A0 m c) (A1 m c), ?_, ?_⟩
  · refine θ_run_mono (Cert.KernelGatesIdeal.Value.run_blocks m g) fun r h c => ?_
    obtain ⟨h0, h1, h2, h3⟩ := h c
    exact ⟨h2.trans (final5 m c), h3⟩
  · refine θ_run_mono (Cert.ReferenceGatesIdeal.Value.run m' g') fun r h c => ?_
    obtain ⟨h0, h1⟩ := h c
    obtain ⟨a0, a1, a2, a3⟩ := hagree c
    refine ⟨h0.trans ((Cert.ReferenceGatesIdeal.Read.val_main_v4_eq _ _).trans ?_), h1⟩
    refine (Plain.v4_eq (m' ((c.tc : Thread _ _).loc Cert.ReferenceGatesIdeal.main_arg0)) (m' ((c.tc : Thread _ _).loc Cert.ReferenceGatesIdeal.main_arg1))).trans ?_
    rw [a0, a1]

end Cert.Gates

end
-- ==== Proof.Mem.Cell.lean ====
/- One head of one chunk of the matrix memory: what the body computes from the head's slices of its blocks and the state it
   carries, and each of its results at an index. -/
module

public import proofs.«01_k».proof.Proof.Gen.KernelMemIdeal.Skeleton
public import Idealize.ShloMosaic.Lib.Pipeline.ValueKit
public import Idealize.ShloMosaic.Lib.Pointwise
public import Idealize.ShloMosaic.PureOps.Ideal
public import proofs.«01_k».proof.Proof.Fox.Row

@[expose] public section

set_option maxRecDepth 16384

noncomputable section

namespace Cert.Mem

open Cert.KernelMemIdeal Cert.KernelMemIdeal.Gen
open Idealize.ShloMosaic Idealize.ShloMosaic.TcCoe Idealize.ShloMosaic.Tactic

/-- The rows' stabilizers, from the accumulated log forget gates as a column and as a row, the input gates as a row and the
    stabilizer carried. -/
abbrev mtV (bc : Vec Ideal S128x1 .f32) (br ir : Vec Ideal S1x128 .f32) (ms : Vec Ideal S1x1x128 .f32) : FVec Ideal S128x1 .f32 :=
  k0_pay10 bc br ir ms

/-- The new stabilizer, along a row. -/
def stabV (bc : Vec Ideal S128x1 .f32) (br ir : Vec Ideal S1x128 .f32) (ms : Vec Ideal S1x1x128 .f32) : FVec Ideal S1x1x128 .f32 :=
  k0_pay26 (k0_pay18 (mtV bc br ir ms))

/-- The new matrix memory. -/
def memV (k : Vec Ideal S128x128 .f32) (v : Vec Ideal S128x256 .f32) (bc ic : Vec Ideal S128x1 .f32) (br ir : Vec Ideal S1x128 .f32)
    (ms : Vec Ideal S1x1x128 .f32) (C : Vec Ideal S1x256x128 .f32) : FVec Ideal S1x256x128 .f32 :=
  k0_pay24 (k0_pay22 bc (k0_pay7 ms) (mtV bc br ir ms) C) (k0_pay23 (k0_pay6 k) v bc ic (mtV bc br ir ms))

/-- The new normalizer. -/
def norV (k : Vec Ideal S128x128 .f32) (bc ic : Vec Ideal S128x1 .f32) (br ir : Vec Ideal S1x128 .f32)
    (ms : Vec Ideal S1x1x128 .f32) (n : Vec Ideal S1x1x128 .f32) : FVec Ideal S1x1x128 .f32 :=
  k0_pay25 (k0_pay6 k) (shapeCast S1x128 n shapeCasts_S1x1x128_S1x128) (k0_pay20 bc ic (mtV bc br ir ms)) (k0_pay21 bc (k0_pay7 ms) (mtV bc br ir ms))

/-- The new stabilizer as a number. -/
def stab (bl mp : EReal) (bt it : Fin 128 → EReal) : EReal :=
  max (bl + mp) (Finset.univ.sup fun s => bl - bt s + it s)

/-- The weight of a row and that of the state carried. -/
def wRow (bl bc ic m : EReal) : EReal := Ideal.exp (bl - bc + ic - m)
def wOld (bl mp m : EReal) : EReal := Ideal.exp (bl + mp - m)

/-- The scaled key. -/
def key (k : EReal) : EReal := k * Ideal.ofBits FTy.f32 0x3DB504F3#32

/-- Of the last row no column is masked. -/
theorem last_row : ∀ x : Fin 128, IntOp.cmpi CmpIPredicate.sge (127#32) (BitVec.ofNat 32 x.val) = 1#1 := by decide

theorem mtV_apply (bc : Vec Ideal S128x1 .f32) (br ir : Vec Ideal S1x128 .f32) (ms : Vec Ideal S1x1x128 .f32) :
    mtV bc br ir ms (ix2 (n0 := 128) (n1 := 1) 127 0)
      = stab (bc (ix2 (n0 := 128) (n1 := 1) 127 0)) (ms (ix3 (n0 := 1) (n1 := 1) (n2 := 128) 0 0 0))
        (fun s => br (ix2 (n0 := 1) (n1 := 128) 0 s)) (fun s => ir (ix2 (n0 := 1) (n1 := 128) 0 s)) := by
  unfold mtV k0_pay10 k0_pay9 k0_pay8 k0_pay7 k0_pay5
  pointwise
  unfold stab
  rw [Cert.Fox.ofBits_neg_inf]
  simp only [last_row]
  rfl

theorem stabV_apply (bc : Vec Ideal S128x1 .f32) (br ir : Vec Ideal S1x128 .f32) (ms : Vec Ideal S1x1x128 .f32) (d : Fin 128) :
    stabV bc br ir ms (ix3 (n0 := 1) (n1 := 1) (n2 := 128) 0 0 d)
      = stab (bc (ix2 (n0 := 128) (n1 := 1) 127 0)) (ms (ix3 (n0 := 1) (n1 := 1) (n2 := 128) 0 0 0))
        (fun s => br (ix2 (n0 := 1) (n1 := 128) 0 s)) (fun s => ir (ix2 (n0 := 1) (n1 := 128) 0 s)) := by
  unfold stabV k0_pay26 k0_pay18
  have h := mtV_apply bc br ir ms
  generalize mtV bc br ir ms = b at h ⊢
  pointwise
  exact h

theorem memV_apply (k : Vec Ideal S128x128 .f32) (v : Vec Ideal S128x256 .f32) (bc ic : Vec Ideal S128x1 .f32) (br ir : Vec Ideal S1x128 .f32)
    (ms : Vec Ideal S1x1x128 .f32) (C : Vec Ideal S1x256x128 .f32) (a : Fin 256) (d : Fin 128) :
    memV k v bc ic br ir ms C (ix3 (n0 := 1) (n1 := 256) (n2 := 128) 0 a d)
      = wOld (bc (ix2 (n0 := 128) (n1 := 1) 127 0)) (ms (ix3 (n0 := 1) (n1 := 1) (n2 := 128) 0 0 0)) (mtV bc br ir ms (ix2 (n0 := 128) (n1 := 1) 127 0))
          * C (ix3 (n0 := 1) (n1 := 256) (n2 := 128) 0 a d)
        + ∑ x : Fin 128, v (ix2 (n0 := 128) (n1 := 256) x a)
            * wRow (bc (ix2 (n0 := 128) (n1 := 1) 127 0)) (bc (ix2 (n0 := 128) (n1 := 1) x 0)) (ic (ix2 (n0 := 128) (n1 := 1) x 0))
              (mtV bc br ir ms (ix2 (n0 := 128) (n1 := 1) 127 0)) * key (k (ix2 (n0 := 128) (n1 := 128) x d)) := by
  unfold memV k0_pay24 k0_pay22 k0_pay21 k0_pay23 k0_pay20 k0_pay19 k0_pay18 k0_pay6 k0_pay7 k0_pay14 k0_pay15
  generalize mtV bc br ir ms = b
  pointwise
  rfl

theorem norV_apply (k : Vec Ideal S128x128 .f32) (bc ic : Vec Ideal S128x1 .f32) (br ir : Vec Ideal S1x128 .f32)
    (ms : Vec Ideal S1x1x128 .f32) (n : Vec Ideal S1x1x128 .f32) (d : Fin 128) :
    norV k bc ic br ir ms n (ix3 (n0 := 1) (n1 := 1) (n2 := 128) 0 0 d)
      = wOld (bc (ix2 (n0 := 128) (n1 := 1) 127 0)) (ms (ix3 (n0 := 1) (n1 := 1) (n2 := 128) 0 0 0)) (mtV bc br ir ms (ix2 (n0 := 128) (n1 := 1) 127 0))
          * n (ix3 (n0 := 1) (n1 := 1) (n2 := 128) 0 0 d)
        + ∑ x : Fin 128, wRow (bc (ix2 (n0 := 128) (n1 := 1) 127 0)) (bc (ix2 (n0 := 128) (n1 := 1) x 0)) (ic (ix2 (n0 := 128) (n1 := 1) x 0))
              (mtV bc br ir ms (ix2 (n0 := 128) (n1 := 1) 127 0)) * key (k (ix2 (n0 := 128) (n1 := 128) x d)) := by
  unfold norV k0_pay25 k0_pay21 k0_pay20 k0_pay19 k0_pay18 k0_pay6 k0_pay7
  generalize mtV bc br ir ms = b
  pointwise
  rfl

end Cert.Mem

end
-- ==== Proof.Mem.Pieces.lean ====
/- The matrix memory's four heads: what a point of the grid leaves in the carried state, the normalizer and the stabilizer is
   one family of stores over the heads. -/
module

public import proofs.«01_k».proof.Proof.Mem.Cell
public import proofs.«01_k».proof.Proof.Gen.KernelMemIdeal.Frame
public import Idealize.ShloMosaic.Lib.Pipeline.ReadBack

@[expose] public section

set_option maxRecDepth 16384

noncomputable section

namespace Cert.Mem

open Cert.KernelMemIdeal Cert.KernelMemIdeal.Gen
open Idealize.ShloMosaic Idealize.ShloMosaic.TcCoe Idealize.ShloMosaic.Tactic

/-- The head of a store, the last one first. -/
abbrev hd (i : Fin 4) : Nat := 3 - i.val

theorem in_k : ∀ (i : Fin 4) (a : Fin 2), (![0, 512 + 128 * hd i] : Fin 2 → Nat) a + S128x128.size a ≤ S128x1024.size a := by decide
theorem in_v : ∀ (i : Fin 4) (a : Fin 2), (![0, 256 * hd i] : Fin 2 → Nat) a + S128x256.size a ≤ S128x1024.size a := by decide
theorem in_bc : ∀ (i : Fin 4) (a : Fin 2), (![0, 8 + hd i] : Fin 2 → Nat) a + S128x1.size a ≤ S128x128.size a := by decide
theorem in_ic : ∀ (i : Fin 4) (a : Fin 2), (![0, 12 + hd i] : Fin 2 → Nat) a + S128x1.size a ≤ S128x128.size a := by decide
theorem in_br : ∀ (i : Fin 4) (a : Fin 2), (![8 + hd i, 0] : Fin 2 → Nat) a + S1x128.size a ≤ S16x128.size a := by decide
theorem in_ir : ∀ (i : Fin 4) (a : Fin 2), (![12 + hd i, 0] : Fin 2 → Nat) a + S1x128.size a ≤ S16x128.size a := by decide
theorem in_C : ∀ (i : Fin 4) (a : Fin 3), (![hd i, 0, 0] : Fin 3 → Nat) a + S1x256x128.size a ≤ S4x256x128.size a := by decide
theorem in_n : ∀ (i : Fin 4) (a : Fin 3), (![hd i, 0, 0] : Fin 3 → Nat) a + S1x1x128.size a ≤ S4x1x128.size a := by decide

/-- The head's slices of the blocks and of the state. -/
abbrev kS (x0 : Vec Ideal S128x1024 .f32) (i : Fin 4) : Vec Ideal S128x128 .f32 := View.ld x0 (Rect.unit ![0, 512 + 128 * hd i] S128x128.size (in_k i))
abbrev vS (x1 : Vec Ideal S128x1024 .f32) (i : Fin 4) : Vec Ideal S128x256 .f32 := View.ld x1 (Rect.unit ![0, 256 * hd i] S128x256.size (in_v i))
abbrev bcS (x4 : Vec Ideal S128x128 .f32) (i : Fin 4) : Vec Ideal S128x1 .f32 := View.ld x4 (Rect.unit ![0, 8 + hd i] S128x1.size (in_bc i))
abbrev icS (x4 : Vec Ideal S128x128 .f32) (i : Fin 4) : Vec Ideal S128x1 .f32 := View.ld x4 (Rect.unit ![0, 12 + hd i] S128x1.size (in_ic i))
abbrev brS (x5 : Vec Ideal S16x128 .f32) (i : Fin 4) : Vec Ideal S1x128 .f32 := View.ld x5 (Rect.unit ![8 + hd i, 0] S1x128.size (in_br i))
abbrev irS (x5 : Vec Ideal S16x128 .f32) (i : Fin 4) : Vec Ideal S1x128 .f32 := View.ld x5 (Rect.unit ![12 + hd i, 0] S1x128.size (in_ir i))
abbrev CS (C : Vec Ideal S4x256x128 .f32) (i : Fin 4) : Vec Ideal S1x256x128 .f32 := View.ld C (Rect.unit ![hd i, 0, 0] S1x256x128.size (in_C i))
abbrev nS (n : Vec Ideal S4x1x128 .f32) (i : Fin 4) : Vec Ideal S1x1x128 .f32 := View.ld n (Rect.unit ![hd i, 0, 0] S1x1x128.size (in_n i))

/-- The four stores of the stabilizers, of the normalizers and of the matrices. -/
def storesM (x4 : Vec Ideal S128x128 .f32) (x5 : Vec Ideal S16x128 .f32) (ms : Vec Ideal S4x1x128 .f32) : List (View.Piece (Elt Ideal) S4x1x128 .f32) :=
  List.ofFn fun i : Fin 4 => ⟨Rect.unit ![hd i, 0, 0] S1x1x128.size (in_n i), stabV (bcS x4 i) (brS x5 i) (irS x5 i) (nS ms i)⟩

def storesN (x0 : Vec Ideal S128x1024 .f32) (x4 : Vec Ideal S128x128 .f32) (x5 : Vec Ideal S16x128 .f32) (n ms : Vec Ideal S4x1x128 .f32) :
    List (View.Piece (Elt Ideal) S4x1x128 .f32) :=
  List.ofFn fun i : Fin 4 => ⟨Rect.unit ![hd i, 0, 0] S1x1x128.size (in_n i),
    norV (kS x0 i) (bcS x4 i) (icS x4 i) (brS x5 i) (irS x5 i) (nS ms i) (nS n i)⟩

def storesC (x0 x1 : Vec Ideal S128x1024 .f32) (x4 : Vec Ideal S128x128 .f32) (x5 : Vec Ideal S16x128 .f32) (C : Vec Ideal S4x256x128 .f32)
    (ms : Vec Ideal S4x1x128 .f32) : List (View.Piece (Elt Ideal) S4x256x128 .f32) :=
  List.ofFn fun i : Fin 4 => ⟨Rect.unit ![hd i, 0, 0] S1x256x128.size (in_C i),
    memV (kS x0 i) (vS x1 i) (bcS x4 i) (icS x4 i) (brS x5 i) (irS x5 i) (nS ms i) (CS C i)⟩

variable (m : (ℓ : Loc nD τ sig) → Buf (Elt Ideal) ℓ) (c : Dev nD)

/-- The state before a point's stores. -/
abbrev prevC (t : Fin cfg0.N) : Vec Ideal S4x256x128 .f32 := (outsAt0 m c (t.val - 1) (Nat.lt_of_le_of_lt (Nat.sub_le _ _) t.isLt)).2.2.2.2.1
abbrev prevN (t : Fin cfg0.N) : Vec Ideal S4x1x128 .f32 := (outsAt0 m c (t.val - 1) (Nat.lt_of_le_of_lt (Nat.sub_le _ _) t.isLt)).2.2.2.2.2.1
abbrev prevM (t : Fin cfg0.N) : Vec Ideal S4x1x128 .f32 := (outsAt0 m c (t.val - 1) (Nat.lt_of_le_of_lt (Nat.sub_le _ _) t.isLt)).2.2.2.2.2.2

/-- A first point's stores, over the state set to zero. -/
theorem first (t : Fin cfg0.N) (h0 : t.val % 65 = 0) (h1 : ¬t.val % 65 = 64) :
    ∃ LC LN LM, (outsAt0 m c t.val t.isLt).2.2.2.2.1 = View.canon (storesC (iblk m c 0 t) (iblk m c 1 t) (iblk m c 4 t) (iblk m c 5 t) (k0_pay2 (F := Ideal)) (k0_pay4 (F := Ideal)) ++ LC)
      ∧ (outsAt0 m c t.val t.isLt).2.2.2.2.2.1 = View.canon (storesN (iblk m c 0 t) (iblk m c 4 t) (iblk m c 5 t) (k0_pay3 (F := Ideal)) (k0_pay4 (F := Ideal)) ++ LN)
      ∧ (outsAt0 m c t.val t.isLt).2.2.2.2.2.2 = View.canon (storesM (iblk m c 4 t) (iblk m c 5 t) (k0_pay4 (F := Ideal)) ++ LM) := by
  refine ⟨[⟨Rect.unit ![0, 0, 0] S4x256x128.size inb_S4x256x128_S4x256x128_0_0_0, k0_pay2 (F := Ideal)⟩],
    [⟨Rect.unit ![0, 0, 0] S4x1x128.size inb_S4x1x128_S4x1x128_0_0_0, k0_pay3 (F := Ideal)⟩],
    [⟨Rect.unit ![0, 0, 0] S4x1x128.size inb_S4x1x128_S4x1x128_0_0_0, k0_pay4 (F := Ideal)⟩], ?_, ?_, ?_⟩
  all_goals
    rw [outsAt0_A m c t h0 h1]
    frame_open
    simp (disch := decide) only [↓ View.readCov_skip, ↓ View.readCov_cons_toLoadRect, ↓ View.readCov_fill]
    frame_out
    rfl

/-- A middle point's stores, over the state of the point before. -/
theorem middle (t : Fin cfg0.N) (h0 : ¬t.val % 65 = 0) (h1 : ¬t.val % 65 = 64) :
    (outsAt0 m c t.val t.isLt).2.2.2.2.1
        = View.canon (storesC (iblk m c 0 t) (iblk m c 1 t) (iblk m c 4 t) (iblk m c 5 t) (prevC m c t) (prevM m c t))
      ∧ (outsAt0 m c t.val t.isLt).2.2.2.2.2.1
        = View.canon (storesN (iblk m c 0 t) (iblk m c 4 t) (iblk m c 5 t) (prevN m c t) (prevM m c t))
      ∧ (outsAt0 m c t.val t.isLt).2.2.2.2.2.2 = View.canon (storesM (iblk m c 4 t) (iblk m c 5 t) (prevM m c t)) := by
  refine ⟨?_, ?_, ?_⟩
  all_goals
    rw [outsAt0_B m c t h0 h1]
    frame_out
    simp only [read_unread_whole]
    rfl

/-- The last point's results are the stores' values, over the state of the point before. -/
theorem last (t : Fin cfg0.N) (h0 : ¬t.val % 65 = 0) (h1 : t.val % 65 = 64) :
    (outsAt0 m c t.val t.isLt).2.1
        = View.canon (storesC (iblk m c 0 t) (iblk m c 1 t) (iblk m c 4 t) (iblk m c 5 t) (prevC m c t) (prevM m c t))
      ∧ (outsAt0 m c t.val t.isLt).2.2.1
        = View.canon (storesN (iblk m c 0 t) (iblk m c 4 t) (iblk m c 5 t) (prevN m c t) (prevM m c t))
      ∧ (outsAt0 m c t.val t.isLt).2.2.2.1 = View.canon (storesM (iblk m c 4 t) (iblk m c 5 t) (prevM m c t)) := by
  refine ⟨?_, ?_, ?_⟩
  all_goals
    rw [outsAt0_C m c t h0 h1]
    frame_out
    simp only [read_unread_whole]
    rw [View.readCov_eq_canon']
  · exact Eq.trans (by rfl) (View.ld_unit_lit (S := S4x256x128) inb_S4x256x128_S4x256x128_0_0_0 _ (by decide))
  · exact Eq.trans (by rfl) (View.ld_unit_lit (S := S4x1x128) inb_S4x1x128_S4x1x128_0_0_0 _ (by decide))
  · exact Eq.trans (by rfl) (View.ld_unit_lit (S := S4x1x128) inb_S4x1x128_S4x1x128_0_0_0 _ (by decide))

end Cert.Mem

end
-- ==== Proof.Mem.Block.lean ====
/- The matrix memory's state after a point, at an index, from the blocks the body reads and the state before. -/
module

public import proofs.«01_k».proof.Proof.Mem.Pieces
public import proofs.«01_k».proof.Proof.Step.Block
public import Idealize.ShloMosaic.Lib.Pipeline.CanonAppend

@[expose] public section

set_option maxRecDepth 16384

noncomputable section

namespace Cert.Mem

open Cert.KernelMemIdeal Cert.KernelMemIdeal.Gen
open Idealize.ShloMosaic Idealize.ShloMosaic.TcCoe Idealize.ShloMosaic.Tactic

theorem exists_head : ∀ h : Fin 4, ∃ i : Fin 4, hd i = h.val := by decide

/-- Four stores, a head each, read at an index: what they were made over does not matter. -/
theorem canon_heads (A : Nat) (P : Fin 4 → (⟨3, ![1, A, 128]⟩ : Shape).Idx → EReal)
    (inb : ∀ (i : Fin 4) (a : Fin 3), (![hd i, 0, 0] : Fin 3 → Nat) a + (![1, A, 128] : Fin 3 → Nat) a ≤ (⟨3, ![4, A, 128]⟩ : Shape).size a)
    (G : Fin 4 → Fin A → Fin 128 → EReal)
    (hG : ∀ (i h : Fin 4), hd i = h.val → ∀ a d, P i (ix3 (n0 := 1) (n1 := A) (n2 := 128) 0 a d) = G h a d)
    (L : List (View.Piece (Elt Ideal) (⟨3, ![4, A, 128]⟩ : Shape) .f32)) (h : Fin 4) (a : Fin A) (d : Fin 128) :
    View.canon ((List.ofFn fun i : Fin 4 => (⟨Rect.unit ![hd i, 0, 0] ![1, A, 128] (inb i), P i⟩
        : View.Piece (Elt Ideal) (⟨3, ![4, A, 128]⟩ : Shape) .f32)) ++ L) (ix3 (n0 := 4) (n1 := A) (n2 := 128) h a d) = G h a d := by
  refine (View.canon_append_of_pieces (fun y : (⟨3, ![4, A, 128]⟩ : Shape).Idx => G (y 0) (y 1) (y 2)) L _ ?_ _ ?_).trans rfl
  · intro p hp x
    obtain ⟨i, rfl⟩ := List.mem_ofFn.mp hp
    have h0 : (x 0).val < 1 := (x 0).isLt
    have e : x = ix3 (n0 := 1) (n1 := A) (n2 := 128) 0 (x 1) (x 2) := by
      funext b; exact Fin.ext (match b with
        | ⟨0, _⟩ => by show (x 0).val = 0; omega
        | ⟨1, _⟩ => rfl
        | ⟨2, _⟩ => rfl)
    have hh : hd i = (((Rect.unit (s := (⟨3, ![4, A, 128]⟩ : Shape)) ![hd i, 0, 0] ![1, A, 128] (inb i)).emb x) 0).val := by
      rw [Rect.emb_apply]; show hd i = hd i + 1 * (x 0).val; omega
    refine (congrArg (P i) e).trans ((hG i _ hh (x 1) (x 2)).trans ?_)
    congr 1 <;> apply Fin.ext <;> rw [Rect.emb_apply]
    · show (x 1).val = 0 + 1 * (x 1).val; omega
    · show (x 2).val = 0 + 1 * (x 2).val; omega
  · obtain ⟨i, hi⟩ := exists_head h
    have hm : (ix3 (n0 := 4) (n1 := A) (n2 := 128) h a d : (⟨3, ![4, A, 128]⟩ : Shape).Idx)
        ∈ (Rect.unit (s := (⟨3, ![4, A, 128]⟩ : Shape)) ![hd i, 0, 0] ![1, A, 128] (inb i)).set := by
      rw [Rect.mem_set_unit]
      intro b
      match b with
      | ⟨0, _⟩ => show hd i ≤ h.val ∧ h.val < hd i + 1; omega
      | ⟨1, _⟩ => show 0 ≤ a.val ∧ a.val < 0 + A; omega
      | ⟨2, _⟩ => show 0 ≤ d.val ∧ d.val < 0 + 128; omega
    exact ⟨⟨Rect.unit ![hd i, 0, 0] ![1, A, 128] (inb i), P i⟩, List.mem_ofFn.mpr ⟨i, rfl⟩, hm⟩

section

variable {i h : Fin 4} (hh : hd i = h.val)
include hh

theorem kS_apply (x0 : Vec Ideal S128x1024 .f32) (r d : Fin 128) :
    kS x0 i (ix2 (n0 := 128) (n1 := 128) r d) = x0 (ix2 (n0 := 128) (n1 := 1024) r ⟨512 + (128 * h.val + d.val), by omega⟩) :=
  View.ld_unit_apply_of _ _ _ _ _ _ fun a => match a with
    | ⟨0, _⟩ => by show r.val = 0 + r.val; omega
    | ⟨1, _⟩ => by show 512 + (128 * h.val + d.val) = 512 + 128 * hd i + d.val; omega

theorem vS_apply (x1 : Vec Ideal S128x1024 .f32) (r : Fin 128) (a : Fin 256) :
    vS x1 i (ix2 (n0 := 128) (n1 := 256) r a) = x1 (ix2 (n0 := 128) (n1 := 1024) r ⟨256 * h.val + a.val, by omega⟩) :=
  View.ld_unit_apply_of _ _ _ _ _ _ fun b => match b with
    | ⟨0, _⟩ => by show r.val = 0 + r.val; omega
    | ⟨1, _⟩ => by show 256 * h.val + a.val = 256 * hd i + a.val; omega

theorem bcS_apply (x4 : Vec Ideal S128x128 .f32) (r : Fin 128) :
    bcS x4 i (ix2 (n0 := 128) (n1 := 1) r 0) = x4 (ix2 (n0 := 128) (n1 := 128) r ⟨8 + h.val, by omega⟩) :=
  View.ld_unit_apply_of _ _ _ _ _ _ fun b => match b with
    | ⟨0, _⟩ => by show r.val = 0 + r.val; omega
    | ⟨1, _⟩ => by show 8 + h.val = 8 + hd i + 0; omega

theorem icS_apply (x4 : Vec Ideal S128x128 .f32) (r : Fin 128) :
    icS x4 i (ix2 (n0 := 128) (n1 := 1) r 0) = x4 (ix2 (n0 := 128) (n1 := 128) r ⟨12 + h.val, by omega⟩) :=
  View.ld_unit_apply_of _ _ _ _ _ _ fun b => match b with
    | ⟨0, _⟩ => by show r.val = 0 + r.val; omega
    | ⟨1, _⟩ => by show 12 + h.val = 12 + hd i + 0; omega

theorem brS_apply (x5 : Vec Ideal S16x128 .f32) (s : Fin 128) :
    brS x5 i (ix2 (n0 := 1) (n1 := 128) 0 s) = x5 (ix2 (n0 := 16) (n1 := 128) ⟨8 + h.val, by omega⟩ s) :=
  View.ld_unit_apply_of _ _ _ _ _ _ fun b => match b with
    | ⟨0, _⟩ => by show 8 + h.val = 8 + hd i + 0; omega
    | ⟨1, _⟩ => by show s.val = 0 + s.val; omega

theorem irS_apply (x5 : Vec Ideal S16x128 .f32) (s : Fin 128) :
    irS x5 i (ix2 (n0 := 1) (n1 := 128) 0 s) = x5 (ix2 (n0 := 16) (n1 := 128) ⟨12 + h.val, by omega⟩ s) :=
  View.ld_unit_apply_of _ _ _ _ _ _ fun b => match b with
    | ⟨0, _⟩ => by show 12 + h.val = 12 + hd i + 0; omega
    | ⟨1, _⟩ => by show s.val = 0 + s.val; omega

theorem CS_apply (C : Vec Ideal S4x256x128 .f32) (a : Fin 256) (d : Fin 128) :
    CS C i (ix3 (n0 := 1) (n1 := 256) (n2 := 128) 0 a d) = C (ix3 (n0 := 4) (n1 := 256) (n2 := 128) h a d) :=
  View.ld_unit_apply_of _ _ _ _ _ _ fun b => match b with
    | ⟨0, _⟩ => by show h.val = hd i + 0; omega
    | ⟨1, _⟩ => by show a.val = 0 + a.val; omega
    | ⟨2, _⟩ => by show d.val = 0 + d.val; omega

theorem nS_apply (n : Vec Ideal S4x1x128 .f32) (d : Fin 128) :
    nS n i (ix3 (n0 := 1) (n1 := 1) (n2 := 128) 0 0 d) = n (ix3 (n0 := 4) (n1 := 1) (n2 := 128) h 0 d) :=
  View.ld_unit_apply_of _ _ _ _ _ _ fun b => match b with
    | ⟨0, _⟩ => by show h.val = hd i + 0; omega
    | ⟨1, _⟩ => by show 0 = 0 + 0; omega
    | ⟨2, _⟩ => by show d.val = 0 + d.val; omega

end

variable (x0 x1 : Vec Ideal S128x1024 .f32) (x4 : Vec Ideal S128x128 .f32) (x5 : Vec Ideal S16x128 .f32)
  (C : Vec Ideal S4x256x128 .f32) (n ms : Vec Ideal S4x1x128 .f32)

/-- A head's new stabilizer, and the weights over it. -/
def stabB (h : Fin 4) : EReal :=
  stab (x4 (ix2 (n0 := 128) (n1 := 128) 127 ⟨8 + h.val, by omega⟩)) (ms (ix3 (n0 := 4) (n1 := 1) (n2 := 128) h 0 0))
    (fun s => x5 (ix2 (n0 := 16) (n1 := 128) ⟨8 + h.val, by omega⟩ s)) (fun s => x5 (ix2 (n0 := 16) (n1 := 128) ⟨12 + h.val, by omega⟩ s))

def oldB (h : Fin 4) : EReal :=
  wOld (x4 (ix2 (n0 := 128) (n1 := 128) 127 ⟨8 + h.val, by omega⟩)) (ms (ix3 (n0 := 4) (n1 := 1) (n2 := 128) h 0 0)) (stabB x4 x5 ms h)

def rowB (h : Fin 4) (r : Fin 128) : EReal :=
  wRow (x4 (ix2 (n0 := 128) (n1 := 128) 127 ⟨8 + h.val, by omega⟩)) (x4 (ix2 (n0 := 128) (n1 := 128) r ⟨8 + h.val, by omega⟩))
    (x4 (ix2 (n0 := 128) (n1 := 128) r ⟨12 + h.val, by omega⟩)) (stabB x4 x5 ms h)

theorem mt_head {i h : Fin 4} (hh : hd i = h.val) :
    mtV (bcS x4 i) (brS x5 i) (irS x5 i) (nS ms i) (ix2 (n0 := 128) (n1 := 1) 127 0) = stabB x4 x5 ms h := by
  rw [mtV_apply, bcS_apply hh, nS_apply hh, funext fun s => brS_apply hh x5 s, funext fun s => irS_apply hh x5 s]
  rfl

theorem canonM (L : List (View.Piece (Elt Ideal) S4x1x128 .f32)) (h : Fin 4) (d : Fin 128) :
    View.canon (storesM x4 x5 ms ++ L) (ix3 (n0 := 4) (n1 := 1) (n2 := 128) h 0 d) = stabB x4 x5 ms h := by
  refine canon_heads 1 _ in_n (fun h _ _ => stabB x4 x5 ms h) (fun i h hh a d => ?_) L h 0 d
  obtain rfl : a = 0 := Subsingleton.elim _ _
  rw [stabV_apply, ← mtV_apply, mt_head x4 x5 ms hh]

theorem canonN (L : List (View.Piece (Elt Ideal) S4x1x128 .f32)) (h : Fin 4) (d : Fin 128) :
    View.canon (storesN x0 x4 x5 n ms ++ L) (ix3 (n0 := 4) (n1 := 1) (n2 := 128) h 0 d)
      = oldB x4 x5 ms h * n (ix3 (n0 := 4) (n1 := 1) (n2 := 128) h 0 d)
        + ∑ r : Fin 128, rowB x4 x5 ms h r * key (x0 (ix2 (n0 := 128) (n1 := 1024) r ⟨512 + (128 * h.val + d.val), by omega⟩)) := by
  refine canon_heads 1 _ in_n (fun h _ d => oldB x4 x5 ms h * n (ix3 (n0 := 4) (n1 := 1) (n2 := 128) h 0 d)
        + ∑ r : Fin 128, rowB x4 x5 ms h r * key (x0 (ix2 (n0 := 128) (n1 := 1024) r ⟨512 + (128 * h.val + d.val), by omega⟩)))
    (fun i h hh a d => ?_) L h 0 d
  obtain rfl : a = 0 := Subsingleton.elim _ _
  rw [norV_apply, mt_head x4 x5 ms hh, nS_apply hh, nS_apply hh]
  rw [bcS_apply hh]
  exact congrArg _ (Finset.sum_congr rfl fun r _ => by rw [bcS_apply hh, icS_apply hh, kS_apply hh]; rfl)

theorem canonC (L : List (View.Piece (Elt Ideal) S4x256x128 .f32)) (h : Fin 4) (a : Fin 256) (d : Fin 128) :
    View.canon (storesC x0 x1 x4 x5 C ms ++ L) (ix3 (n0 := 4) (n1 := 256) (n2 := 128) h a d)
      = oldB x4 x5 ms h * C (ix3 (n0 := 4) (n1 := 256) (n2 := 128) h a d)
        + ∑ r : Fin 128, x1 (ix2 (n0 := 128) (n1 := 1024) r ⟨256 * h.val + a.val, by omega⟩) * rowB x4 x5 ms h r
            * key (x0 (ix2 (n0 := 128) (n1 := 1024) r ⟨512 + (128 * h.val + d.val), by omega⟩)) := by
  refine canon_heads 256 _ in_C (fun h a d => oldB x4 x5 ms h * C (ix3 (n0 := 4) (n1 := 256) (n2 := 128) h a d)
        + ∑ r : Fin 128, x1 (ix2 (n0 := 128) (n1 := 1024) r ⟨256 * h.val + a.val, by omega⟩) * rowB x4 x5 ms h r
            * key (x0 (ix2 (n0 := 128) (n1 := 1024) r ⟨512 + (128 * h.val + d.val), by omega⟩)))
    (fun i h hh a d => ?_) L h a d
  rw [memV_apply, mt_head x4 x5 ms hh, nS_apply hh, CS_apply hh]
  rw [bcS_apply hh]
  exact congrArg _ (Finset.sum_congr rfl fun r _ => by rw [bcS_apply hh, icS_apply hh, kS_apply hh, vS_apply hh]; rfl)

end Cert.Mem

end
-- ==== Proof.Mem.Math.lean ====
/- The matrix memory's mathematics: the state carried from chunk to chunk, rescaled whenever its stabilizer grows, is the
   weighted sum over all the rows seen so far. The stabilizer is counted without the accumulated log forget gates. -/
module

public import proofs.«01_k».proof.Proof.Fox.Math
public import proofs.«01_k».proof.Proof.Mem.Cell

@[expose] public section

noncomputable section

namespace Cert.Mem

open Idealize.ShloMosaic

/-- The greatest of zero and the first `n` scores. -/
def mu (w : ℕ → ℝ) (n : ℕ) : EReal := max 0 ((Finset.range n).sup fun j => (w j : EReal))

theorem mu_zero (w : ℕ → ℝ) : mu w 0 = 0 := by simp [mu]

theorem mu_real (w : ℕ → ℝ) (n : ℕ) : ∃ r : ℝ, mu w n = r := by
  have h1 : mu w n ≠ ⊤ := by
    unfold mu
    rw [← lt_top_iff_ne_top, max_lt_iff]
    exact ⟨EReal.zero_lt_top, lt_top_iff_ne_top.mpr (Cert.Fox.sup_ne_top (fun j => EReal.coe_ne_top _) n)⟩
  have h2 : mu w n ≠ ⊥ := ne_bot_of_le_ne_bot EReal.zero_ne_bot (le_max_left _ _)
  exact ⟨(mu w n).toReal, (EReal.coe_toReal h1 h2).symm⟩

theorem mu_block (w : ℕ → ℝ) (n B : ℕ) :
    mu w (n + B) = max (mu w n) (Finset.univ.sup fun b : Fin B => (w (n + b.val) : EReal)) := by
  unfold mu
  rw [Cert.Fox.sup_block, max_assoc]

/-- The weighted sum of the first `n` terms over their stabilizer. -/
def acc (w u : ℕ → ℝ) (x : ℕ → EReal) (n : ℕ) : EReal :=
  ∑ j ∈ Finset.range n, Ideal.exp ((u j : EReal) - mu w n) * x j

theorem acc_zero (w u : ℕ → ℝ) (x : ℕ → EReal) : acc w u x 0 = 0 := by simp [acc]

theorem acc_block (w u : ℕ → ℝ) (x : ℕ → EReal) (n B : ℕ) :
    Ideal.exp (mu w n - mu w (n + B)) * acc w u x n
        + ∑ b : Fin B, Ideal.exp ((u (n + b.val) : EReal) - mu w (n + B)) * x (n + b.val)
      = acc w u x (n + B) := by
  obtain ⟨p, hp⟩ := mu_real w n
  obtain ⟨q, hq⟩ := mu_real w (n + B)
  unfold acc
  rw [Cert.Fox.sum_block, hp, hq, Cert.Fox.mul_sum_of _ (Cert.Fox.exp_nonneg _)
    (by rw [← EReal.coe_sub, Cert.Fox.exp_coe]; exact EReal.coe_ne_top _)]
  congr 1
  refine Finset.sum_congr rfl fun j _ => ?_
  rw [← mul_assoc]
  congr 1
  rw [← EReal.coe_sub, ← EReal.coe_sub, ← EReal.coe_sub, Cert.Fox.exp_coe, Cert.Fox.exp_coe, Cert.Fox.exp_coe,
    ← EReal.coe_mul, ← Real.exp_add]
  congr 2; ring

/-- A chunk's new stabilizer: `s` is what the log forget gates of the chunks before add up to, `l` the chunk's own. -/
theorem stab_step (w : ℕ → ℝ) (n : ℕ) (s l : ℝ) (bt it : Fin 128 → ℝ) (hw : ∀ b : Fin 128, w (n + b.val) = it b - (bt b + s)) :
    stab (l : EReal) (mu w n + (s : EReal)) (fun b => (bt b : EReal)) (fun b => (it b : EReal)) = mu w (n + 128) + ((s + l : ℝ) : EReal) := by
  unfold stab
  rw [mu_block, ← max_add_add_right, ← Cert.Fox.sup_add_coe]
  congr 1
  · obtain ⟨p, hp⟩ := mu_real w n
    rw [hp, ← EReal.coe_add, ← EReal.coe_add, ← EReal.coe_add]
    congr 1; ring
  · refine Finset.sup_congr rfl fun b _ => ?_
    rw [hw, ← EReal.coe_sub, ← EReal.coe_add, ← EReal.coe_add]
    congr 1; ring

/-- The old state's weight. -/
theorem wOld_step (w : ℕ → ℝ) (n N : ℕ) (s l : ℝ) :
    wOld (l : EReal) (mu w n + (s : EReal)) (mu w N + ((s + l : ℝ) : EReal)) = Ideal.exp (mu w n - mu w N) := by
  obtain ⟨p, hp⟩ := mu_real w n
  obtain ⟨q, hq⟩ := mu_real w N
  unfold wOld
  rw [hp, hq, ← EReal.coe_add, ← EReal.coe_add, ← EReal.coe_add, ← EReal.coe_sub, ← EReal.coe_sub]
  congr 2; ring

/-- A row's weight. -/
theorem wRow_step (w : ℕ → ℝ) (N : ℕ) (s l b i u : ℝ) (hu : u = i - (b + s)) :
    wRow (l : EReal) (b : EReal) (i : EReal) (mu w N + ((s + l : ℝ) : EReal)) = Ideal.exp ((u : EReal) - mu w N) := by
  obtain ⟨q, hq⟩ := mu_real w N
  unfold wRow
  rw [hq, hu, ← EReal.coe_sub, ← EReal.coe_add, ← EReal.coe_add, ← EReal.coe_sub, ← EReal.coe_sub]
  congr 2; ring

end Cert.Mem

end
-- ==== Proof.Mem.Pre.lean ====
/- The precondition read: the accumulated gates of the matrix memory are real numbers, in both layouts. -/
module

public import proofs.«01_k».proof.Proof.Fox.Finite
public import proofs.«01_k».proof.Pre_gates_finite
public import Idealize.ShloMosaic.Lib.Decide

@[expose] public section

set_option maxRecDepth 16384

noncomputable section

namespace Cert.Mem

open Cert.Pre_gates_finite
open Idealize.ShloMosaic Idealize.ShloMosaic.TcCoe Idealize.ShloMosaic.Tactic

/-- The gates' columns and rows are real. -/
structure Finite (gc : Vec Ideal S8320x128 .f32) (ct : Vec Ideal S16x8320 .f32) : Prop where
  col : ∀ (i : Fin 8320) (j : Fin 8), ∃ r : ℝ, gc (ix2 (n0 := 8320) (n1 := 128) i ⟨8 + j.val, by omega⟩) = (r : EReal)
  row : ∀ (j : Fin 8) (i : Fin 8320), ∃ r : ℝ, ct (ix2 (n0 := 16) (n1 := 8320) ⟨8 + j.val, by omega⟩ i) = (r : EReal)

namespace Pre

/-- The side conditions of the precondition's operations. -/
instance facts : Cert.Pre_gates_finite.Facts where
  slices_S8320x128_S8320x8_0_8 := by decide
  slices_S16x8320_S8x8320_8_0 := by decide
  transposes_S8x8320_S8320x8_1_0 := by decide
  concatenates_S8320x8_S8320x8_S8320x16_d1 := by decide
  bcast_S_S8320x16 := by decide

theorem finite (x0 : Vec Ideal S8320x5120 .f32) (x1 : Vec Ideal S8320x128 .f32) (x2 : Vec Ideal S16x8320 .f32) (x3 : Vec Ideal S1024 .f32)
    (h : Cert.Pre_gates_finite.fn (F := Ideal) x0 x1 x2 x3 = fun _ => 1#1) : Finite x1 x2 := by
  have key : ∀ (i : Fin 8320) (j : Fin 16), (if h : j.val < 8 then x1 (ix2 (n0 := 8320) (n1 := 128) i ⟨8 + j.val, by omega⟩)
      else x2 (ix2 (n0 := 16) (n1 := 8320) ⟨8 + (j.val - 8), by omega⟩ i) : EReal) ∈ Set.range ((↑) : ℝ → EReal) := fun i j => by
    have h1 := congrFun h (ix2 (n0 := 8320) (n1 := 16) i j)
    unfold Cert.Pre_gates_finite.fn at h1
    pointwise at h1
    rw [Cert.Fox.ofBits_pos_inf] at h1
    obtain ⟨r, hr⟩ := Cert.Fox.Pre.real_of_abs (of_decide_eq_true (Cert.Fox.Pre.bit_true h1))
    exact ⟨r, hr.symm⟩
  refine ⟨fun i j => ?_, fun j i => ?_⟩
  · obtain ⟨r, hr⟩ := key i ⟨j.val, by omega⟩
    rw [dif_pos j.isLt] at hr
    exact ⟨r, hr.symm⟩
  · obtain ⟨r, hr⟩ := key i ⟨8 + j.val, by omega⟩
    have e : 8 + j.val - 8 = j.val := by omega
    rw [dif_neg (by show ¬ 8 + j.val < 8; omega)] at hr
    simp only [e] at hr
    exact ⟨r, hr.symm⟩

end Pre

end Cert.Mem

end
-- ==== Proof.Mem.Final.lean ====
/- The matrix memory's result arrays: the state carried through the grid is, after every chunk, the weighted sum over all the
   rows up to the chunk's end, and the last point's is that of the whole prompt. -/
module

public import proofs.«01_k».proof.Proof.Mem.Block
public import proofs.«01_k».proof.Proof.Mem.Math
public import proofs.«01_k».proof.Proof.Mem.Pre
public import proofs.«01_k».proof.Proof.Gen.KernelMemIdeal.Value

@[expose] public section

set_option maxRecDepth 16384

noncomputable section

namespace Cert.Mem

open Cert.KernelMemIdeal Cert.KernelMemIdeal.Gen
open Idealize.ShloMosaic Idealize.ShloMosaic.TcCoe Idealize.ShloMosaic.Tactic Idealize.SL.Sem

/-! ## The results, as functions of the arguments

`p` are the projected rows, `gc` and `ct` the accumulated gates as columns and as rows. -/

section results

variable (p : Vec Ideal S8320x5120 .f32) (gc : Vec Ideal S8320x128 .f32) (ct : Vec Ideal S16x8320 .f32) (h : Fin 4)

/-- A row's log forget gate accumulated within its chunk and its input gate, from the columns and from the rows. -/
def bCol (n : ℕ) : ℝ := if hn : n < 8320 then (gc (ix2 (n0 := 8320) (n1 := 128) ⟨n, hn⟩ ⟨8 + h.val, by omega⟩) : EReal).toReal else 0
def iCol (n : ℕ) : ℝ := if hn : n < 8320 then (gc (ix2 (n0 := 8320) (n1 := 128) ⟨n, hn⟩ ⟨12 + h.val, by omega⟩) : EReal).toReal else 0
def bRow (n : ℕ) : ℝ := if hn : n < 8320 then (ct (ix2 (n0 := 16) (n1 := 8320) ⟨8 + h.val, by omega⟩ ⟨n, hn⟩) : EReal).toReal else 0
def iRow (n : ℕ) : ℝ := if hn : n < 8320 then (ct (ix2 (n0 := 16) (n1 := 8320) ⟨12 + h.val, by omega⟩ ⟨n, hn⟩) : EReal).toReal else 0

/-- What the log forget gates of the first `I` chunks add up to. -/
def before (I : ℕ) : ℝ := ∑ J ∈ Finset.range I, bCol gc h (128 * J + 127)

/-- A row's score, from the rows and from the columns: its input gate less the accumulated log forget gates. -/
def sRow (n : ℕ) : ℝ := iRow ct h n - (bRow ct h n + before gc h (n / 128))
def sCol (n : ℕ) : ℝ := iCol gc h n - (bCol gc h n + before gc h (n / 128))

/-- A row's scaled key and its value. -/
def keyAt (d : Fin 128) (n : ℕ) : EReal := if hn : n < 8320 then key (p (ix2 (n0 := 8320) (n1 := 5120) ⟨n, hn⟩ ⟨1536 + (128 * h.val + d.val), by omega⟩)) else 0
def valAt (a : Fin 256) (n : ℕ) : EReal := if hn : n < 8320 then p (ix2 (n0 := 8320) (n1 := 5120) ⟨n, hn⟩ ⟨2048 + (256 * h.val + a.val), by omega⟩) else 0

/-- The stabilizer, the normalizer and the matrix after the first `I` chunks. -/
def mAt (I : ℕ) : EReal := mu (sRow gc ct h) (128 * I) + (before gc h I : EReal)
def nAt (d : Fin 128) (I : ℕ) : EReal := acc (sRow gc ct h) (sCol gc h) (keyAt p h d) (128 * I)
def CAt (a : Fin 256) (d : Fin 128) (I : ℕ) : EReal := acc (sRow gc ct h) (sCol gc h) (fun n => valAt p h a n * keyAt p h d n) (128 * I)

end results

def resC (p : Vec Ideal S8320x5120 .f32) (gc : Vec Ideal S8320x128 .f32) (ct : Vec Ideal S16x8320 .f32) : Vec Ideal S4x256x128 .f32 :=
  fun i => CAt p gc ct (i 0) (i 1) (i 2) 65
def resN (p : Vec Ideal S8320x5120 .f32) (gc : Vec Ideal S8320x128 .f32) (ct : Vec Ideal S16x8320 .f32) : Vec Ideal S4x1x128 .f32 :=
  fun i => nAt p gc ct (i 0) (i 2) 65
def resM (gc : Vec Ideal S8320x128 .f32) (ct : Vec Ideal S16x8320 .f32) : Vec Ideal S4x1x128 .f32 :=
  fun i => mAt gc ct (i 0) 65

/-! ## The gates are real -/

section real

variable {gc : Vec Ideal S8320x128 .f32} {ct : Vec Ideal S16x8320 .f32} (hf : Finite gc ct) (h : Fin 4) (n : Fin 8320)
include hf

theorem bCol_eq : gc (ix2 (n0 := 8320) (n1 := 128) n ⟨8 + h.val, by omega⟩) = (bCol gc h n.val : EReal) := by
  obtain ⟨r, hr⟩ := hf.col n ⟨h.val, by omega⟩
  unfold bCol
  rw [dif_pos n.isLt]
  exact hr.trans (congrArg (fun x : EReal => ((x.toReal : ℝ) : EReal)) hr).symm

theorem iCol_eq : gc (ix2 (n0 := 8320) (n1 := 128) n ⟨12 + h.val, by omega⟩) = (iCol gc h n.val : EReal) := by
  obtain ⟨r, hr⟩ := hf.col n ⟨4 + h.val, by omega⟩
  simp only [← Nat.add_assoc, Nat.reduceAdd] at hr
  unfold iCol
  rw [dif_pos n.isLt]
  exact hr.trans (congrArg (fun x : EReal => ((x.toReal : ℝ) : EReal)) hr).symm

theorem bRow_eq : ct (ix2 (n0 := 16) (n1 := 8320) ⟨8 + h.val, by omega⟩ n) = (bRow ct h n.val : EReal) := by
  obtain ⟨r, hr⟩ := hf.row ⟨h.val, by omega⟩ n
  unfold bRow
  rw [dif_pos n.isLt]
  exact hr.trans (congrArg (fun x : EReal => ((x.toReal : ℝ) : EReal)) hr).symm

theorem iRow_eq : ct (ix2 (n0 := 16) (n1 := 8320) ⟨12 + h.val, by omega⟩ n) = (iRow ct h n.val : EReal) := by
  obtain ⟨r, hr⟩ := hf.row ⟨4 + h.val, by omega⟩ n
  simp only [← Nat.add_assoc, Nat.reduceAdd] at hr
  unfold iRow
  rw [dif_pos n.isLt]
  exact hr.trans (congrArg (fun x : EReal => ((x.toReal : ℝ) : EReal)) hr).symm

end real

theorem keyAt_eq (p : Vec Ideal S8320x5120 .f32) (h : Fin 4) (d : Fin 128) (n : Fin 8320) :
    keyAt p h d n.val = key (p (ix2 (n0 := 8320) (n1 := 5120) n ⟨1536 + (128 * h.val + d.val), by omega⟩)) := dif_pos n.isLt
theorem valAt_eq (p : Vec Ideal S8320x5120 .f32) (h : Fin 4) (a : Fin 256) (n : Fin 8320) :
    valAt p h a n.val = p (ix2 (n0 := 8320) (n1 := 5120) n ⟨2048 + (256 * h.val + a.val), by omega⟩) := dif_pos n.isLt

/-! ## The blocks the body reads -/

variable (m : (ℓ : Loc nD τ sig) → Buf (Elt Ideal) ℓ) (c : Dev nD)

abbrev A0 : Vec Ideal S8320x5120 .f32 := m ((c : Thread nD τ).loc main_arg0)
abbrev A1 : Vec Ideal S8320x128 .f32 := m ((c : Thread nD τ).loc main_arg1)
abbrev A2 : Vec Ideal S16x8320 .f32 := m ((c : Thread nD τ).loc main_arg2)

theorem t_lt (t : Fin cfg0.N) : t.val < 65 := lt_of_lt_of_eq t.isLt N_0

/-- The row of a point's block. -/
abbrev row (t : Fin cfg0.N) (r : Fin 128) : Fin 8320 := ⟨128 * t.val + r.val, by have := t_lt t; omega⟩

theorem index_in : ∀ t : Fin cfg0.N,
    win0_0.index t = ![t.val, 1] ∧ win0_1.index t = ![t.val, 2] ∧ win0_4.index t = ![t.val, 0] ∧ win0_5.index t = ![0, t.val] := by
  decide +kernel

theorem iblk_k (t : Fin cfg0.N) (r : Fin 128) (j : Fin 1024) :
    (iblk m c 0 t : Vec Ideal S128x1024 .f32) (ix2 (n0 := 128) (n1 := 1024) r j)
      = A0 m c (ix2 (n0 := 8320) (n1 := 5120) (row t r) ⟨1024 + j.val, by omega⟩) := by
  have e := (index_in t).1
  have h := V_main_arg0 m c
  blk_ext [iblk, h, e]

theorem iblk_v (t : Fin cfg0.N) (r : Fin 128) (j : Fin 1024) :
    (iblk m c 1 t : Vec Ideal S128x1024 .f32) (ix2 (n0 := 128) (n1 := 1024) r j)
      = A0 m c (ix2 (n0 := 8320) (n1 := 5120) (row t r) ⟨2048 + j.val, by omega⟩) := by
  have e := (index_in t).2.1
  have h := V_main_arg0 m c
  blk_ext [iblk, h, e]

theorem iblk_gc (t : Fin cfg0.N) (r j : Fin 128) :
    (iblk m c 4 t : Vec Ideal S128x128 .f32) (ix2 (n0 := 128) (n1 := 128) r j) = A1 m c (ix2 (n0 := 8320) (n1 := 128) (row t r) j) := by
  have e := (index_in t).2.2.1
  have h := V_main_arg1 m c
  blk_ext [iblk, h, e]

theorem iblk_ct (t : Fin cfg0.N) (j : Fin 16) (r : Fin 128) :
    (iblk m c 5 t : Vec Ideal S16x128 .f32) (ix2 (n0 := 16) (n1 := 128) j r) = A2 m c (ix2 (n0 := 16) (n1 := 8320) j (row t r)) := by
  have e := (index_in t).2.2.2
  have h := V_main_arg2 m c
  blk_ext [iblk, h, e]

/-! ## One chunk -/

section chunk

variable {m c} (hf : Finite (A1 m c) (A2 m c)) (t : Fin cfg0.N) (ms : Vec Ideal S4x1x128 .f32) (h : Fin 4)
  (hm : ms (ix3 (n0 := 4) (n1 := 1) (n2 := 128) h 0 0) = mAt (A1 m c) (A2 m c) h t.val)
include hf hm

theorem stab_chunk : stabB (iblk m c 4 t) (iblk m c 5 t) ms h = mAt (A1 m c) (A2 m c) h (t.val + 1) := by
  unfold stabB
  rw [hm, iblk_gc, bCol_eq hf, funext fun s => (iblk_ct m c t ⟨8 + h.val, by omega⟩ s).trans (bRow_eq hf h _),
    funext fun s => (iblk_ct m c t ⟨12 + h.val, by omega⟩ s).trans (iRow_eq hf h _)]
  refine (stab_step _ _ _ _ _ _ fun b => ?_).trans ?_
  · have e : (128 * t.val + b.val) / 128 = t.val := by omega
    show sRow (A1 m c) (A2 m c) h (128 * t.val + b.val) = _
    unfold sRow
    rw [e]
  · unfold mAt
    rw [show before (A1 m c) h (t.val + 1) = before (A1 m c) h t.val + bCol (A1 m c) h (128 * t.val + 127) from Finset.sum_range_succ _ _]
    rfl

theorem old_chunk : oldB (iblk m c 4 t) (iblk m c 5 t) ms h
    = Ideal.exp (mu (sRow (A1 m c) (A2 m c) h) (128 * t.val) - mu (sRow (A1 m c) (A2 m c) h) (128 * t.val + 128)) := by
  unfold oldB
  rw [stab_chunk hf t ms h hm, hm, iblk_gc, bCol_eq hf]
  unfold mAt
  rw [show before (A1 m c) h (t.val + 1) = before (A1 m c) h t.val + bCol (A1 m c) h (128 * t.val + 127) from Finset.sum_range_succ _ _]
  exact wOld_step _ _ _ _ _

theorem row_chunk (r : Fin 128) : rowB (iblk m c 4 t) (iblk m c 5 t) ms h r
    = Ideal.exp ((sCol (A1 m c) h (128 * t.val + r.val) : EReal) - mu (sRow (A1 m c) (A2 m c) h) (128 * t.val + 128)) := by
  unfold rowB
  rw [stab_chunk hf t ms h hm, iblk_gc, bCol_eq hf, iblk_gc, bCol_eq hf, iblk_gc, iCol_eq hf]
  unfold mAt
  rw [show before (A1 m c) h (t.val + 1) = before (A1 m c) h t.val + bCol (A1 m c) h (128 * t.val + 127) from Finset.sum_range_succ _ _]
  refine wRow_step _ _ _ _ _ _ _ ?_
  have e : (128 * t.val + r.val) / 128 = t.val := by omega
  unfold sCol
  rw [e]

theorem nor_chunk (n : Vec Ideal S4x1x128 .f32) (d : Fin 128)
    (hn : n (ix3 (n0 := 4) (n1 := 1) (n2 := 128) h 0 d) = nAt (A0 m c) (A1 m c) (A2 m c) h d t.val) (L : List (View.Piece (Elt Ideal) S4x1x128 .f32)) :
    View.canon (storesN (iblk m c 0 t) (iblk m c 4 t) (iblk m c 5 t) n ms ++ L) (ix3 (n0 := 4) (n1 := 1) (n2 := 128) h 0 d)
      = nAt (A0 m c) (A1 m c) (A2 m c) h d (t.val + 1) := by
  rw [canonN, hn, old_chunk hf t ms h hm]
  refine Eq.trans (congrArg _ (Finset.sum_congr rfl fun r _ => ?_)) (acc_block _ _ _ _ _)
  rw [row_chunk hf t ms h hm, iblk_k]
  congr 1
  refine Eq.trans ?_ (keyAt_eq (A0 m c) h d (row t r)).symm
  congr 3
  exact Fin.ext (by show 1024 + (512 + (128 * h.val + d.val)) = 1536 + (128 * h.val + d.val); omega)

theorem mem_chunk (C : Vec Ideal S4x256x128 .f32) (a : Fin 256) (d : Fin 128)
    (hC : C (ix3 (n0 := 4) (n1 := 256) (n2 := 128) h a d) = CAt (A0 m c) (A1 m c) (A2 m c) h a d t.val) (L : List (View.Piece (Elt Ideal) S4x256x128 .f32)) :
    View.canon (storesC (iblk m c 0 t) (iblk m c 1 t) (iblk m c 4 t) (iblk m c 5 t) C ms ++ L) (ix3 (n0 := 4) (n1 := 256) (n2 := 128) h a d)
      = CAt (A0 m c) (A1 m c) (A2 m c) h a d (t.val + 1) := by
  rw [canonC, hC, old_chunk hf t ms h hm]
  refine Eq.trans (congrArg _ (Finset.sum_congr rfl fun r _ => ?_)) (acc_block _ _ _ _ _)
  rw [row_chunk hf t ms h hm, iblk_k, iblk_v, mul_comm (A0 m c _) _, mul_assoc]
  congr 1
  refine congrArg₂ _ (Eq.trans ?_ (valAt_eq (A0 m c) h a (row t r)).symm) (Eq.trans ?_ (keyAt_eq (A0 m c) h d (row t r)).symm)
  · rfl
  · congr 3
    exact Fin.ext (by show 1024 + (512 + (128 * h.val + d.val)) = 1536 + (128 * h.val + d.val); omega)

end chunk

/-! ## All chunks -/

theorem lt64 : 64 < cfg0.N := lt_of_lt_of_eq (by decide) N_0.symm

theorem zeroC (i : S4x256x128.Idx) : (k0_pay2 (F := Ideal)) i = 0 := by
  idx_vars i
  unfold k0_pay2
  pointwise

theorem zeroN (i : S4x1x128.Idx) : (k0_pay3 (F := Ideal)) i = 0 := by
  idx_vars i
  unfold k0_pay3
  pointwise

theorem zeroM (i : S4x1x128.Idx) : (k0_pay4 (F := Ideal)) i = 0 := by
  idx_vars i
  unfold k0_pay4
  pointwise

variable {m c} (hf : Finite (A1 m c) (A2 m c))
include hf

/-- The state after a point before the last. -/
theorem state (t : ℕ) (ht : t < 64) (hN : t < cfg0.N) (h : Fin 4) :
    (∀ a d, (outsAt0 m c t hN).2.2.2.2.1 (ix3 (n0 := 4) (n1 := 256) (n2 := 128) h a d) = CAt (A0 m c) (A1 m c) (A2 m c) h a d (t + 1))
      ∧ (∀ d, (outsAt0 m c t hN).2.2.2.2.2.1 (ix3 (n0 := 4) (n1 := 1) (n2 := 128) h 0 d) = nAt (A0 m c) (A1 m c) (A2 m c) h d (t + 1))
      ∧ (∀ d, (outsAt0 m c t hN).2.2.2.2.2.2 (ix3 (n0 := 4) (n1 := 1) (n2 := 128) h 0 d) = mAt (A1 m c) (A2 m c) h (t + 1)) := by
  induction t with
  | zero =>
    obtain ⟨LC, LN, LM, eC, eN, eM⟩ := first m c ⟨0, hN⟩ rfl (by show ¬ 0 % 65 = 64; omega)
    have hm : (k0_pay4 (F := Ideal)) (ix3 (n0 := 4) (n1 := 1) (n2 := 128) h 0 0) = mAt (A1 m c) (A2 m c) h 0 := by
      rw [zeroM]; unfold mAt before
      rw [mu_zero, Finset.range_zero, Finset.sum_empty, EReal.coe_zero, add_zero]
    refine ⟨fun a d => (congrFun eC _).trans (mem_chunk hf ⟨0, hN⟩ _ h hm _ a d ?_ LC),
      fun d => (congrFun eN _).trans (nor_chunk hf ⟨0, hN⟩ _ h hm _ d ?_ LN),
      fun d => (congrFun eM _).trans ((canonM _ _ _ LM h d).trans (stab_chunk hf ⟨0, hN⟩ _ h hm))⟩
    · exact (zeroC _).trans (acc_zero _ _ _).symm
    · exact (zeroN _).trans (acc_zero _ _ _).symm
  | succ t ih =>
    obtain ⟨iC, iN, iM⟩ := ih (by omega) (by omega)
    obtain ⟨eC, eN, eM⟩ := middle m c ⟨t + 1, hN⟩ (by show ¬ (t + 1) % 65 = 0; omega) (by show ¬ (t + 1) % 65 = 64; omega)
    rw [← List.append_nil (storesC _ _ _ _ _ _)] at eC
    rw [← List.append_nil (storesN _ _ _ _ _)] at eN
    rw [← List.append_nil (storesM _ _ _)] at eM
    exact ⟨fun a d => (congrFun eC _).trans (mem_chunk hf ⟨t + 1, hN⟩ _ h (iM 0) _ a d (iC a d) []),
      fun d => (congrFun eN _).trans (nor_chunk hf ⟨t + 1, hN⟩ _ h (iM 0) _ d (iN d) []),
      fun d => (congrFun eM _).trans ((canonM _ _ _ [] h d).trans (stab_chunk hf ⟨t + 1, hN⟩ _ h (iM 0)))⟩

/-- The results of the last point. -/
theorem results (t : ℕ) (ht : t = 63) (hN : t + 1 < cfg0.N) (h : Fin 4) :
    (∀ a d, (outsAt0 m c (t + 1) hN).2.1 (ix3 (n0 := 4) (n1 := 256) (n2 := 128) h a d) = CAt (A0 m c) (A1 m c) (A2 m c) h a d (t + 1 + 1))
      ∧ (∀ d, (outsAt0 m c (t + 1) hN).2.2.1 (ix3 (n0 := 4) (n1 := 1) (n2 := 128) h 0 d) = nAt (A0 m c) (A1 m c) (A2 m c) h d (t + 1 + 1))
      ∧ (∀ d, (outsAt0 m c (t + 1) hN).2.2.2.1 (ix3 (n0 := 4) (n1 := 1) (n2 := 128) h 0 d) = mAt (A1 m c) (A2 m c) h (t + 1 + 1)) := by
  obtain ⟨iC, iN, iM⟩ := state hf t (by omega) (by omega) h
  obtain ⟨eC, eN, eM⟩ := last m c ⟨t + 1, hN⟩ (by show ¬ (t + 1) % 65 = 0; omega) (by show (t + 1) % 65 = 64; omega)
  rw [← List.append_nil (storesC _ _ _ _ _ _)] at eC
  rw [← List.append_nil (storesN _ _ _ _ _)] at eN
  rw [← List.append_nil (storesM _ _ _)] at eM
  exact ⟨fun a d => (congrFun eC _).trans (mem_chunk hf ⟨t + 1, hN⟩ _ h (iM 0) _ a d (iC a d) []),
    fun d => (congrFun eN _).trans (nor_chunk hf ⟨t + 1, hN⟩ _ h (iM 0) _ d (iN d) []),
    fun d => (congrFun eM _).trans ((canonM _ _ _ [] h d).trans (stab_chunk hf ⟨t + 1, hN⟩ _ h (iM 0)))⟩

/-- The same at the last point's number. -/
theorem results_last (n : ℕ) (hn : n = 64) (hN : n < cfg0.N) (h : Fin 4) :
    (∀ a d, (outsAt0 m c n hN).2.1 (ix3 (n0 := 4) (n1 := 256) (n2 := 128) h a d) = CAt (A0 m c) (A1 m c) (A2 m c) h a d (n + 1))
      ∧ (∀ d, (outsAt0 m c n hN).2.2.1 (ix3 (n0 := 4) (n1 := 1) (n2 := 128) h 0 d) = nAt (A0 m c) (A1 m c) (A2 m c) h d (n + 1))
      ∧ (∀ d, (outsAt0 m c n hN).2.2.2.1 (ix3 (n0 := 4) (n1 := 1) (n2 := 128) h 0 d) = mAt (A1 m c) (A2 m c) h (n + 1)) := by
  cases n with
  | zero => exact absurd hn (by decide)
  | succ t => exact results hf t (by omega) hN h

/-- The folded state after the last point. -/
theorem folded (n : ℕ) (hn : n = 64) (hN : n < cfg0.N) (o : _) (ho : o = outsAt0 m c n hN) (h : Fin 4) :
    (∀ a d, o.2.1 (ix3 (n0 := 4) (n1 := 256) (n2 := 128) h a d) = CAt (A0 m c) (A1 m c) (A2 m c) h a d 65)
      ∧ (∀ d, o.2.2.1 (ix3 (n0 := 4) (n1 := 1) (n2 := 128) h 0 d) = nAt (A0 m c) (A1 m c) (A2 m c) h d 65)
      ∧ (∀ d, o.2.2.2.1 (ix3 (n0 := 4) (n1 := 1) (n2 := 128) h 0 d) = mAt (A1 m c) (A2 m c) h 65) := by
  have key := results_last hf n hn hN h
  have e : n + 1 = 65 := by omega
  rw [← ho, e] at key
  exact key

theorem final8 : Cert.KernelMemIdeal.Value.G8 m c = resC (A0 m c) (A1 m c) (A2 m c) := by
  refine (Cert.KernelMemIdeal.Value.G8_last m c).trans ?_
  have key := folded hf 64 rfl lt64 _ (Cert.KernelMemIdeal.Value.outsAt0_sweep m c 64 lt64).symm
  revert key
  generalize Pipeline.accAt _ _ _ _ _ = o
  intro key
  funext i
  idx_vars i
  exact (key _).1 _ _

theorem final9 : Cert.KernelMemIdeal.Value.G9 m c = resN (A0 m c) (A1 m c) (A2 m c) := by
  refine (Cert.KernelMemIdeal.Value.G9_last m c).trans ?_
  have key := folded hf 64 rfl lt64 _ (Cert.KernelMemIdeal.Value.outsAt0_sweep m c 64 lt64).symm
  revert key
  generalize Pipeline.accAt _ _ _ _ _ = o
  intro key
  funext i
  idx_vars i
  rw [show i1 = 0 from Subsingleton.elim _ _]
  exact (key _).2.1 _

theorem final10 : Cert.KernelMemIdeal.Value.G10 m c = resM (A1 m c) (A2 m c) := by
  refine (Cert.KernelMemIdeal.Value.G10_last m c).trans ?_
  have key := folded hf 64 rfl lt64 _ (Cert.KernelMemIdeal.Value.outsAt0_sweep m c 64 lt64).symm
  revert key
  generalize Pipeline.accAt _ _ _ _ _ = o
  intro key
  funext i
  idx_vars i
  rw [show i1 = 0 from Subsingleton.elim _ _]
  exact (key _).2.2 _

end Cert.Mem

end
-- ==== Proof.Mem.Reference.lean ====
/- The plain reference's matrix memory, value by value, at an index: the gates accumulated over the whole prompt, the stabilizer,
   the weights and the sums over all rows. -/
module

public import proofs.«01_k».proof.Proof.Mem.Final
public import proofs.«01_k».proof.Proof.Fox.Pointwise
public import proofs.«01_k».proof.Proof.Gen.ReferenceMemIdeal.Read

@[expose] public section

set_option maxRecDepth 16384

noncomputable section

namespace Cert.Mem.Plain

open Cert.ReferenceMemIdeal Cert.ReferenceMemIdeal.Gen Cert.ReferenceMemIdeal.Read
open Idealize.ShloMosaic Idealize.ShloMosaic.TcCoe Idealize.ShloMosaic.Tactic

variable (x0 : Vec Ideal S8320x5120 .f32) (x1 : Vec Ideal S8320x128 .f32) (x2 : Vec Ideal S16x8320 .f32)

/-- The stabilizer and the sums, over rows counted as indices. -/
theorem mu_fin (w : ℕ → ℝ) (n N : ℕ) (h : n = N) : mu w n = max 0 (Finset.univ.sup fun j : Fin N => (w j.val : EReal)) := by
  subst h
  have e := mu_block w 0 n
  simp only [zero_add, mu_zero] at e
  exact e

theorem acc_fin (w u : ℕ → ℝ) (x : ℕ → EReal) (n N : ℕ) (h : n = N) :
    acc w u x n = ∑ j : Fin N, Ideal.exp ((u j.val : EReal) - mu w n) * x j.val := by
  subst h
  exact Finset.sum_range _

/-! ## The projected rows and the gates -/

theorem v3_apply (n : Fin 8320) (h : Fin 4) (d : Fin 128) :
    val_main_v3 (F := Ideal) x0 (ix3 (n0 := 8320) (n1 := 4) (n2 := 128) n h d) = keyAt x0 h d n.val := by
  rw [keyAt_eq]
  unfold val_main_v3 val_main_v2 val_main_v1 val_main_v0 val_main_cst
  pointwise
  simp only [Nat.mul_comm 128]
  rfl

theorem v5_apply (n : Fin 8320) (h : Fin 4) (a : Fin 256) :
    val_main_v5 (F := Ideal) x0 (ix3 (n0 := 8320) (n1 := 4) (n2 := 256) n h a) = valAt x0 h a n.val := by
  rw [valAt_eq]
  unfold val_main_v5 val_main_v4
  pointwise
  simp only [Nat.mul_comm 256]

theorem v6_apply (n : Fin 8320) (h : Fin 4) :
    val_main_v6 (F := Ideal) x1 (ix2 (n0 := 8320) (n1 := 4) n h) = x1 (ix2 (n0 := 8320) (n1 := 128) n ⟨8 + h.val, by omega⟩) := by
  unfold val_main_v6
  pointwise

theorem v7_apply (I : Fin 65) (r : Fin 128) (h : Fin 4) :
    val_main_v7 (F := Ideal) x1 (ix3 (n0 := 65) (n1 := 128) (n2 := 4) I r h)
      = x1 (ix2 (n0 := 8320) (n1 := 128) ⟨128 * I.val + r.val, by omega⟩ ⟨8 + h.val, by omega⟩) := by
  have e : idx_main_v7 (ix3 (n0 := 65) (n1 := 128) (n2 := 4) I r h) = ix2 (n0 := 8320) (n1 := 4) ⟨128 * I.val + r.val, by omega⟩ h := by
    funext a
    exact Fin.ext (match a with
      | ⟨0, _⟩ => by show ((I.val * 128 + r.val) * 4 + h.val) / 4 = 128 * I.val + r.val; omega
      | ⟨1, _⟩ => by show ((I.val * 128 + r.val) * 4 + h.val) % 4 = h.val; omega)
  rw [val_main_v7_apply, e, v6_apply]

theorem v16_apply (J : Fin 65) (h : Fin 4) :
    val_main_v16 (F := Ideal) x1 (ix2 (n0 := 65) (n1 := 4) J h)
      = x1 (ix2 (n0 := 8320) (n1 := 128) ⟨128 * J.val + 127, by omega⟩ ⟨8 + h.val, by omega⟩) := by
  have e := v7_apply x1 J 127 h
  unfold val_main_v16 val_main_v15
  generalize val_main_v7 (F := Ideal) x1 = y at e ⊢
  pointwise
  exact e

/-- The mask: a chunk before another. -/
theorem v13_apply (I J : Fin 65) :
    val_main_v13 (F := Ideal) (ix2 (n0 := 65) (n1 := 65) I J) = if J.val < I.val then 1#1 else 0#1 := by
  revert I J
  decide +kernel

theorem v18_apply (I J : Fin 65) (h : Fin 4) :
    val_main_v18 (F := Ideal) x1 (ix3 (n0 := 65) (n1 := 65) (n2 := 4) I J h)
      = if J.val < I.val then x1 (ix2 (n0 := 8320) (n1 := 128) ⟨128 * J.val + 127, by omega⟩ ⟨8 + h.val, by omega⟩) else 0 := by
  have e := v16_apply x1 J h
  have e13 := v13_apply I J
  unfold val_main_v18 val_main_call0_v1 val_main_call0_v2 val_main_call0_v3 val_main_call0_v0 val_main_cst_0 val_main_v17 val_main_v14
  generalize val_main_v16 (F := Ideal) x1 = y at e ⊢
  generalize val_main_v13 (F := Ideal) = z at e13 ⊢
  pointwise
  rw [e13, e]
  split
  · rfl
  · show (constant (F := Ideal) S_ .f32 0x00000000#32) ix0 = 0
    pointwise

variable {x1 x2} (hf : Finite x1 x2)
include hf

theorem v19_apply (I : Fin 65) (h : Fin 4) :
    val_main_v19 (F := Ideal) x1 (ix2 (n0 := 65) (n1 := 4) I h) = (before x1 h I.val : EReal) := by
  have e : ∀ k : Fin 65, idx_main_v19 (ix2 (n0 := 65) (n1 := 4) I h) k = ix3 (n0 := 65) (n1 := 65) (n2 := 4) I k h := fun k => by
    funext a
    exact match a with
      | ⟨0, _⟩ => rfl
      | ⟨1, _⟩ => rfl
      | ⟨2, _⟩ => rfl
  have z : (val_main_cst_1 (F := Ideal)) (Shape.Idx.first h_S_) = 0 := by
    unfold val_main_cst_1
    pointwise
  rw [val_main_v19_apply, z, zero_add, Finset.sum_congr rfl fun k _ => (congrArg _ (e k)).trans ((v18_apply x1 I k h).trans
    (show _ = ((if k.val < I.val then bCol x1 h (128 * k.val + 127) else 0 : ℝ) : EReal) by
      rw [bCol_eq hf]; split <;> rfl)), ← Cert.Fox.coe_sum_real]
  refine congrArg _ ?_
  rw [← Finset.sum_range (fun k => if k < I.val then bCol x1 h (128 * k + 127) else 0), ← Finset.sum_filter]
  unfold before
  refine Finset.sum_congr ?_ fun _ _ => rfl
  ext k
  simp only [Finset.mem_filter, Finset.mem_range]
  omega

theorem v22_apply (I : Fin 65) (r : Fin 128) (h : Fin 4) :
    val_main_v22 (F := Ideal) x1 (ix3 (n0 := 65) (n1 := 128) (n2 := 4) I r h)
      = ((bCol x1 h (128 * I.val + r.val) + before x1 h I.val : ℝ) : EReal) := by
  have e := v7_apply x1 I r h
  have e19 := v19_apply hf I h
  unfold val_main_v22 val_main_v21 val_main_v20
  generalize val_main_v7 (F := Ideal) x1 = y at e ⊢
  generalize val_main_v19 (F := Ideal) x1 = z at e19 ⊢
  pointwise
  rw [e, e19, bCol_eq hf, EReal.coe_add]

/-- The log forget gates accumulated over the whole prompt, as columns. -/
theorem v23_apply (n : Fin 8320) (h : Fin 4) :
    val_main_v23 (F := Ideal) x1 (ix2 (n0 := 8320) (n1 := 4) n h) = ((bCol x1 h n.val + before x1 h (n.val / 128) : ℝ) : EReal) := by
  have e : idx_main_v23 (ix2 (n0 := 8320) (n1 := 4) n h)
      = ix3 (n0 := 65) (n1 := 128) (n2 := 4) ⟨n.val / 128, by omega⟩ ⟨n.val % 128, by omega⟩ h := by
    funext a
    exact Fin.ext (match a with
      | ⟨0, _⟩ => by show (n.val * 4 + h.val) / 512 = n.val / 128; omega
      | ⟨1, _⟩ => by show (n.val * 4 + h.val) / 4 % 128 = n.val % 128; omega
      | ⟨2, _⟩ => by show (n.val * 4 + h.val) % 4 = h.val; omega)
  have en : 128 * (n.val / 128) + n.val % 128 = n.val := by omega
  rw [val_main_v23_apply, e, v22_apply hf]
  simp only [en]

/-- The same as rows. -/
theorem v29_apply (h : Fin 4) (I : Fin 65) (r : Fin 128) :
    val_main_v29 (F := Ideal) x1 x2 (ix3 (n0 := 4) (n1 := 65) (n2 := 128) h I r)
      = ((bRow x2 h (128 * I.val + r.val) + before x1 h I.val : ℝ) : EReal) := by
  have e19 := v19_apply hf I h
  have e := bRow_eq hf h ⟨128 * I.val + r.val, by omega⟩
  unfold val_main_v29 val_main_v28 val_main_v27 val_main_v26 val_main_v25 val_main_v24
  generalize val_main_v19 (F := Ideal) x1 = z at e19 ⊢
  pointwise
  rw [e19, EReal.coe_add, ← e]
  simp only [Nat.mul_comm 128]

theorem v30_apply (h : Fin 4) (n : Fin 8320) :
    val_main_v30 (F := Ideal) x1 x2 (ix2 (n0 := 4) (n1 := 8320) h n) = ((bRow x2 h n.val + before x1 h (n.val / 128) : ℝ) : EReal) := by
  have e : idx_main_v30 (ix2 (n0 := 4) (n1 := 8320) h n)
      = ix3 (n0 := 4) (n1 := 65) (n2 := 128) h ⟨n.val / 128, by omega⟩ ⟨n.val % 128, by omega⟩ := by
    funext a
    exact Fin.ext (match a with
      | ⟨0, _⟩ => by show (h.val * 8320 + n.val) / 8320 = h.val; omega
      | ⟨1, _⟩ => by show (h.val * 8320 + n.val) / 128 % 65 = n.val / 128; omega
      | ⟨2, _⟩ => by show (h.val * 8320 + n.val) % 128 = n.val % 128; omega)
  have en : 128 * (n.val / 128) + n.val % 128 = n.val := by omega
  rw [val_main_v30_apply, e, v29_apply hf]
  simp only [en]

/-! ## The stabilizer -/

theorem v32_apply (h : Fin 4) : val_main_v32 (F := Ideal) x1 (ix1 (n0 := 4) h) = (before x1 h 65 : EReal) := by
  have e := v23_apply hf 8319 h
  unfold val_main_v32 val_main_v31
  generalize val_main_v23 (F := Ideal) x1 = y at e ⊢
  pointwise
  refine e.trans (congrArg _ ?_)
  show bCol x1 h 8319 + before x1 h 64 = before x1 h 65
  rw [show before x1 h 65 = before x1 h 64 + bCol x1 h (128 * 64 + 127) from Finset.sum_range_succ _ _, add_comm]

theorem v37_apply (h : Fin 4) (n : Fin 8320) :
    val_main_v37 (F := Ideal) x1 x2 (ix2 (n0 := 4) (n1 := 8320) h n) = (sRow x1 x2 h n.val : EReal) + (before x1 h 65 : EReal) := by
  have e30 := v30_apply hf h n
  have e32 := v32_apply hf h
  have e := iRow_eq hf h n
  unfold val_main_v37 val_main_v36 val_main_v35 val_main_v34 val_main_v33
  generalize val_main_v30 (F := Ideal) x1 x2 = y at e30 ⊢
  generalize val_main_v32 (F := Ideal) x1 = z at e32 ⊢
  pointwise
  rw [e30, e32, e, ← EReal.coe_sub, ← EReal.coe_add, ← EReal.coe_add]
  congr 1
  unfold sRow
  ring

theorem v38_apply (h : Fin 4) :
    val_main_v38 (F := Ideal) x1 x2 (ix1 (n0 := 4) h)
      = (Finset.univ.sup fun n : Fin 8320 => (sRow x1 x2 h n.val : EReal)) + (before x1 h 65 : EReal) := by
  have e := v37_apply hf h
  unfold val_main_v38 val_main_cst_2
  generalize val_main_v37 (F := Ideal) x1 x2 = y at e ⊢
  pointwise
  rw [Cert.Fox.ofBits_neg_inf, ← Cert.Fox.sup_add_coe]
  exact Finset.sup_congr rfl fun n _ => e n

theorem v39_apply (h : Fin 4) : val_main_v39 (F := Ideal) x1 x2 (ix1 (n0 := 4) h) = mAt x1 x2 h 65 := by
  have e32 := v32_apply hf h
  have e38 := v38_apply hf h
  unfold val_main_v39
  generalize val_main_v32 (F := Ideal) x1 = y at e32 ⊢
  generalize val_main_v38 (F := Ideal) x1 x2 = z at e38 ⊢
  pointwise
  rw [e32, e38]
  unfold mAt
  rw [mu_fin _ (128 * 65) 8320 (by norm_num), ← max_add_add_right, zero_add]

/-! ## The weights -/

theorem v48_apply (n : Fin 8320) (h : Fin 4) :
    val_main_v48 (F := Ideal) x1 x2 (ix2 (n0 := 8320) (n1 := 4) n h)
      = Ideal.exp ((sCol x1 h n.val : EReal) - mu (sRow x1 x2 h) (128 * 65)) := by
  have e23 := v23_apply hf n h
  have e32 := v32_apply hf h
  have e39 := v39_apply hf h
  have e := iCol_eq hf h n
  unfold val_main_v48 val_main_v47 val_main_v46 val_main_v45 val_main_v44 val_main_v43 val_main_v42 val_main_v41 val_main_v40
  generalize val_main_v23 (F := Ideal) x1 = y at e23 ⊢
  generalize val_main_v32 (F := Ideal) x1 = z at e32 ⊢
  generalize val_main_v39 (F := Ideal) x1 x2 = w at e39 ⊢
  pointwise
  rw [e23, e32, e39, e]
  unfold mAt
  obtain ⟨q, hq⟩ := mu_real (sRow x1 x2 h) (128 * 65)
  rw [hq, ← EReal.coe_sub, ← EReal.coe_add, ← EReal.coe_add, ← EReal.coe_sub, ← EReal.coe_sub]
  unfold sCol
  refine congrArg (fun r : ℝ => Ideal.exp (r : EReal)) ?_
  generalize before x1 h 65 = S
  ring

/-! ## The results -/

theorem v56_eq : val_main_v56 (F := Ideal) x1 x2 = resM x1 x2 := by
  funext i
  idx_vars i
  rw [show i1 = 0 from Subsingleton.elim _ _]
  have e := v39_apply hf i0
  unfold val_main_v56 val_main_v55
  generalize val_main_v39 (F := Ideal) x1 x2 = y at e ⊢
  pointwise
  exact e

theorem v53_apply (h : Fin 4) (d : Fin 128) :
    val_main_v53 (F := Ideal) x0 x1 x2 (ix2 (n0 := 4) (n1 := 128) h d) = nAt x0 x1 x2 h d 65 := by
  rw [val_main_v53_apply]
  unfold nAt
  rw [acc_fin _ _ _ (128 * 65) 8320 (by norm_num)]
  refine Finset.sum_congr rfl fun n _ => ?_
  refine congrArg₂ (· * ·) (Eq.trans (congrArg _ ?_) (v48_apply hf n h)) (Eq.trans (congrArg _ ?_) (v3_apply x0 n h d))
  · funext a
    exact match a with
      | ⟨0, _⟩ => rfl
      | ⟨1, _⟩ => rfl
  · funext a
    exact match a with
      | ⟨0, _⟩ => rfl
      | ⟨1, _⟩ => rfl
      | ⟨2, _⟩ => rfl

theorem v54_eq : val_main_v54 (F := Ideal) x0 x1 x2 = resN x0 x1 x2 := by
  funext i
  idx_vars i
  rw [show i1 = 0 from Subsingleton.elim _ _]
  have e := v53_apply x0 hf i0 i2
  unfold val_main_v54
  generalize val_main_v53 (F := Ideal) x0 x1 x2 = y at e ⊢
  pointwise
  exact e

theorem v51_apply (n : Fin 8320) (h : Fin 4) (a : Fin 256) :
    val_main_v51 (F := Ideal) x0 x1 x2 (ix3 (n0 := 8320) (n1 := 4) (n2 := 256) n h a)
      = Ideal.exp ((sCol x1 h n.val : EReal) - mu (sRow x1 x2 h) (128 * 65)) * valAt x0 h a n.val := by
  have e48 := v48_apply hf n h
  have e5 := v5_apply x0 n h a
  unfold val_main_v51 val_main_v50 val_main_v49
  generalize val_main_v48 (F := Ideal) x1 x2 = y at e48 ⊢
  generalize val_main_v5 (F := Ideal) x0 = z at e5 ⊢
  pointwise
  rw [e48, e5]

theorem v52_eq : val_main_v52 (F := Ideal) x0 x1 x2 = resC x0 x1 x2 := by
  funext i
  idx_vars i
  rw [val_main_v52_apply]
  show _ = CAt x0 x1 x2 i0 i1 i2 65
  unfold CAt
  rw [acc_fin _ _ _ (128 * 65) 8320 (by norm_num)]
  refine Finset.sum_congr rfl fun n _ => ?_
  refine (congrArg₂ (· * ·) (Eq.trans (congrArg _ ?_) (v51_apply x0 hf n i0 i1)) (Eq.trans (congrArg _ ?_) (v3_apply x0 n i0 i2))).trans (mul_assoc _ _ _)
  · funext a
    exact match a with
      | ⟨0, _⟩ => rfl
      | ⟨1, _⟩ => rfl
      | ⟨2, _⟩ => rfl
  · funext a
    exact match a with
      | ⟨0, _⟩ => rfl
      | ⟨1, _⟩ => rfl
      | ⟨2, _⟩ => rfl

end Cert.Mem.Plain

end
-- ==== Proof.Mem.Algebraic.lean ====
/- The matrix memory's value claim: where the accumulated gates are real numbers, the kernel and the plain reference end holding
   the same three arrays. -/
module

public import proofs.«01_k».proof.Proof.Mem.Reference
public import proofs.«01_k».proof.Proof.Gen.ReferenceMemIdeal.Run
public import proofs.«01_k».proof.Defs
public import Idealize.ShloMosaic.Lib.Claim

@[expose] public section

noncomputable section

namespace Cert.Mem

open Idealize.ShloMosaic Idealize.ShloMosaic.TcCoe Idealize.SL.Sem

theorem algebraic : Cert.algebraic_KernelMemIdeal_ReferenceMemIdeal_pre_gates_finite (hPre_gates_finite := Pre.facts) := by
  intro m g m' g' hpre hagree
  refine ⟨fun c => resC (A0 m c) (A1 m c) (A2 m c), fun c => resN (A0 m c) (A1 m c) (A2 m c), fun c => resM (A1 m c) (A2 m c), ?_, ?_⟩
  · refine θ_run_mono (Cert.KernelMemIdeal.Value.run m g) fun r h c => ?_
    obtain ⟨h0, h1, h2, h3, h4⟩ := h c
    have hf := Pre.finite _ _ _ _ (hpre c)
    exact ⟨h1.trans (final8 hf), h2.trans (final9 hf), h3.trans (final10 hf), h4⟩
  · refine θ_run_mono (Cert.ReferenceMemIdeal.Value.run m' g') fun r h c => ?_
    obtain ⟨h0, h1, h2, h3⟩ := h c
    obtain ⟨a0, a1, a2, a3⟩ := hagree c
    have hf := Pre.finite _ _ _ _ (hpre c)
    rw [← a1, ← a2] at hf
    refine ⟨h0.trans ((Cert.ReferenceMemIdeal.Read.val_main_v52_eq _ _).trans ?_), h1.trans ((Cert.ReferenceMemIdeal.Read.val_main_v54_eq _ _).trans ?_),
      h2.trans ((Cert.ReferenceMemIdeal.Read.val_main_v56_eq _ _).trans ?_), h3⟩
    · refine (Plain.v52_eq (m' ((c.tc : Thread _ _).loc Cert.ReferenceMemIdeal.main_arg0)) hf).trans ?_
      rw [a0, a1, a2]
    · refine (Plain.v54_eq (m' ((c.tc : Thread _ _).loc Cert.ReferenceMemIdeal.main_arg0)) hf).trans ?_
      rw [a0, a1, a2]
    · refine (Plain.v56_eq hf).trans ?_
      rw [a1, a2]

end Cert.Mem

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal.Run
public import proofs.«01_k».proof.Proof.Gen.ReferenceInIdeal.Read
public import proofs.«01_k».proof.Proof.Gen.KernelOutS
public import proofs.«01_k».proof.Proof.Gen.KernelOutS.Skeleton
public import proofs.«01_k».proof.Proof.Gen.KernelOutS.Launch
public import proofs.«01_k».proof.Proof.Gen.KernelOutS.Points
public import proofs.«01_k».proof.Proof.Gen.KernelOutS.Frame
public import proofs.«01_k».proof.Proof.Gen.KernelOutSIdeal
public import proofs.«01_k».proof.Proof.Gen.KernelOutSIdeal.Skeleton
public import proofs.«01_k».proof.Proof.Gen.KernelOutSIdeal.Launch
public import proofs.«01_k».proof.Proof.Gen.KernelOutSIdeal.Points
public import proofs.«01_k».proof.Proof.Gen.KernelOutSIdeal.Frame
public import proofs.«01_k».proof.Proof.Gen.KernelOutSIdeal.Value
public import proofs.«01_k».proof.Proof.Gen.ReferenceOutSIdeal.Run
public import proofs.«01_k».proof.Proof.Gen.ReferenceOutSIdeal.Read
public import proofs.«01_k».proof.Proof.Gen.KernelStep
public import proofs.«01_k».proof.Proof.Gen.KernelStep.Skeleton
public import proofs.«01_k».proof.Proof.Gen.KernelStep.Launch
public import proofs.«01_k».proof.Proof.Gen.KernelStep.Points
public import proofs.«01_k».proof.Proof.Gen.KernelStep.Frame
public import proofs.«01_k».proof.Proof.Gen.KernelStepIdeal
public import proofs.«01_k».proof.Proof.Gen.KernelStepIdeal.Skeleton
public import proofs.«01_k».proof.Proof.Gen.KernelStepIdeal.Launch
public import proofs.«01_k».proof.Proof.Gen.KernelStepIdeal.Points
public import proofs.«01_k».proof.Proof.Gen.KernelStepIdeal.Frame
public import proofs.«01_k».proof.Proof.Gen.KernelStepIdeal.Value
public import proofs.«01_k».proof.Proof.Gen.ReferenceStepIdeal.Run
public import proofs.«01_k».proof.Proof.Gen.ReferenceStepIdeal.Read
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.Gen.ReferenceGatesIdeal.Read
public import proofs.«01_k».proof.Proof.Gen.KernelMem
public import proofs.«01_k».proof.Proof.Gen.KernelMem.Skeleton
public import proofs.«01_k».proof.Proof.Gen.KernelMem.Launch
public import proofs.«01_k».proof.Proof.Gen.KernelMem.Points
public import proofs.«01_k».proof.Proof.Gen.KernelMem.Frame
public import proofs.«01_k».proof.Proof.Gen.KernelMemIdeal
public import proofs.«01_k».proof.Proof.Gen.KernelMemIdeal.Skeleton
public import proofs.«01_k».proof.Proof.Gen.KernelMemIdeal.Launch
public import proofs.«01_k».proof.Proof.Gen.KernelMemIdeal.Points
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.Fox.Algebraic
public import proofs.«01_k».proof.Proof.Fox.Twin
public import proofs.«01_k».proof.Proof.In.Algebraic
public import proofs.«01_k».proof.Proof.In.Twin
public import proofs.«01_k».proof.Proof.Out.Algebraic
public import proofs.«01_k».proof.Proof.OutS.Algebraic
public import proofs.«01_k».proof.Proof.Step.Algebraic
public import proofs.«01_k».proof.Proof.Gates.Algebraic
public import proofs.«01_k».proof.Proof.Mem.Algebraic
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run read at the arguments; it declares no semaphore. -/
theorem frame_reference : Cert.quiescent_ReferenceIdeal := fun m ρ _ =>
  θ_run_mono (Cert.ReferenceIdeal.Value.run m ρ) fun r h => ⟨fun c => (h c).2, sem_eq_zero_of_no_sems (by decide) r.2⟩

/-- The input projections' reference: likewise. -/
theorem frame_reference_in : Cert.quiescent_ReferenceInIdeal := fun m ρ _ =>
  θ_run_mono (Cert.ReferenceInIdeal.Value.run m ρ) fun r h =>
    ⟨fun c => (h c).2.2.2.2.2.2.2.2.2, sem_eq_zero_of_no_sems (by decide) r.2⟩

/-- The output projection's reference: likewise. -/
theorem frame_reference_out : Cert.quiescent_ReferenceOutIdeal := fun m ρ _ =>
  θ_run_mono (Cert.ReferenceOutIdeal.Value.run m ρ) fun r h => ⟨fun c => (h c).2, sem_eq_zero_of_no_sems (by decide) r.2⟩

/-- The samples' output projection's reference: likewise. -/
theorem frame_reference_outs : Cert.quiescent_ReferenceOutSIdeal := fun m ρ _ =>
  θ_run_mono (Cert.ReferenceOutSIdeal.Value.run m ρ) fun r h => ⟨fun c => (h c).2, sem_eq_zero_of_no_sems (by decide) r.2⟩

/-- The recurrent step's reference: likewise. -/
theorem frame_reference_step : Cert.quiescent_ReferenceStepIdeal := fun m ρ _ =>
  θ_run_mono (Cert.ReferenceStepIdeal.Value.run m ρ) fun r h => ⟨fun c => (h c).2.2.2.2.2.2, sem_eq_zero_of_no_sems (by decide) r.2⟩

/-- The log forget gates' reference: likewise. -/
theorem frame_reference_gates : Cert.quiescent_ReferenceGatesIdeal := fun m ρ _ =>
  θ_run_mono (Cert.ReferenceGatesIdeal.Value.run m ρ) fun r h => ⟨fun c => (h c).2, sem_eq_zero_of_no_sems (by decide) r.2⟩

/-- The matrix memory's reference: likewise. -/
theorem frame_reference_mem : Cert.quiescent_ReferenceMemIdeal := fun m ρ _ =>
  θ_run_mono (Cert.ReferenceMemIdeal.Value.run m ρ) fun r h => ⟨fun c => (h c).2.2.2, sem_eq_zero_of_no_sems (by decide) r.2⟩

theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelOutS.Gen.facts, Cert.KernelOutSIdeal.Gen.facts, Cert.ReferenceOutSIdeal.Gen.facts,
  Cert.KernelStep.Gen.facts, Cert.KernelStepIdeal.Gen.facts, Cert.ReferenceStepIdeal.Gen.facts,
  Cert.KernelGates.Gen.facts, Cert.KernelGatesIdeal.Gen.facts, Cert.ReferenceGatesIdeal.Gen.facts,
  Cert.KernelMem.Gen.facts, Cert.KernelMemIdeal.Gen.facts, Cert.ReferenceMemIdeal.Gen.facts,
  Cert.Fox.Pre.facts, Cert.Step.Pre.facts, Cert.Mem.Pre.facts,
  Cert.Fox.frame_printed, fun m ρ _ => Cert.Fox.frame m ρ, fun m ρ _ => Cert.Fox.frame m ρ, frame_reference,
  fun m ρ _ => frame_reference m ρ trivial,
  Cert.In.frame_printed, fun m ρ _ => Cert.In.frame m ρ, frame_reference_in,
  fun m ρ _ => Cert.KernelOut.Gen.frame m ρ, fun m ρ _ => Cert.KernelOutIdeal.Gen.frame m ρ, frame_reference_out,
  fun m ρ _ => Cert.KernelOutS.Gen.frame m ρ, fun m ρ _ => Cert.KernelOutSIdeal.Gen.frame m ρ, frame_reference_outs,
  fun m ρ _ => Cert.KernelStep.Gen.frame m ρ, fun m ρ _ => Cert.KernelStepIdeal.Gen.frame m ρ, fun m ρ _ => Cert.KernelStepIdeal.Gen.frame m ρ,
  frame_reference_step, fun m ρ _ => frame_reference_step m ρ trivial,
  fun m ρ _ => Cert.KernelGates.Gen.frame m ρ, fun m ρ _ => Cert.KernelGatesIdeal.Gen.frame m ρ, frame_reference_gates,
  fun m ρ _ => Cert.KernelMem.Gen.frame m ρ, fun m ρ _ => Cert.KernelMemIdeal.Gen.frame m ρ, fun m ρ _ => Cert.KernelMemIdeal.Gen.frame m ρ,
  frame_reference_mem, fun m ρ _ => frame_reference_mem m ρ trivial,
  trivial, Cert.Fox.algebraic, trivial, Cert.In.algebraic, trivial, Cert.Out.algebraic,
  trivial, Cert.OutS.algebraic, trivial, Cert.Step.algebraic, trivial, Cert.Gates.algebraic,
  trivial, Cert.Mem.algebraic⟩

end Cert.Proof

end
